-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_arguments [hPre_finite_arguments : Cert.Pre_finite_arguments.Facts] (m : (ℓ : Loc Cert.KernelIdeal.nD Cert.KernelIdeal.τ Cert.KernelIdeal.sig) → Buf (Elt Ideal) ℓ) : Prop :=
  ∀ c : Dev Cert.KernelIdeal.nD,
    (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_arguments [hPre_finite_arguments : Cert.Pre_finite_arguments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_arguments [hKernelIdeal : Cert.KernelIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_arguments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_arguments [hReferenceIdeal : Cert.ReferenceIdeal.Facts] [hPre_finite_arguments : Cert.Pre_finite_arguments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_arguments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_arguments [hKernelIdeal : Cert.KernelIdeal.Facts] [hReferenceIdeal : Cert.ReferenceIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_arguments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)) (v1 : (c : Dev Cert.KernelIdeal.nD) → Buf (Elt Ideal) ((c.tc : Thread Cert.KernelIdeal.nD Cert.KernelIdeal.τ).loc Cert.KernelIdeal.main_v63)) (v2 : (c : Dev Cert.KernelIdeal.nD) → Buf (Elt Ideal) ((c.tc : Thread Cert.KernelIdeal.nD Cert.KernelIdeal.τ).loc Cert.KernelIdeal.main_v64)) (v3 : (c : Dev Cert.KernelIdeal.nD) → Buf (Elt Ideal) ((c.tc : Thread Cert.KernelIdeal.nD Cert.KernelIdeal.τ).loc Cert.KernelIdeal.main_v66)) (v4 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_v63) = v1 c
          ∧ r.2.mem ((c.tc : Thread Cert.KernelIdeal.nD Cert.KernelIdeal.τ).loc Cert.KernelIdeal.main_v64) = v2 c
          ∧ r.2.mem ((c.tc : Thread Cert.KernelIdeal.nD Cert.KernelIdeal.τ).loc Cert.KernelIdeal.main_v66) = v3 c
          ∧ r.2.mem ((c.tc : Thread Cert.KernelIdeal.nD Cert.KernelIdeal.τ).loc Cert.KernelIdeal.main_v68) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_v65) = v3 c
          ∧ r.2.mem ((c.tc : Thread Cert.ReferenceIdeal.nD Cert.ReferenceIdeal.τ).loc Cert.ReferenceIdeal.main_v47) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v22)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v22) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v2) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v12)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v11)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v11) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v1) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite_arguments : Cert.Pre_finite_arguments.Facts),
    quiescent_Kernel (hKernel := hKernel)
    ∧ quiescent_KernelIdeal (hKernelIdeal := hKernelIdeal)
    ∧ quiescent_KernelIdeal_pre_finite_arguments (hKernelIdeal := hKernelIdeal) (hPre_finite_arguments := hPre_finite_arguments)
    ∧ quiescent_ReferenceIdeal (hReferenceIdeal := hReferenceIdeal)
    ∧ quiescent_ReferenceIdeal_pre_finite_arguments (hReferenceIdeal := hReferenceIdeal) (hPre_finite_arguments := hPre_finite_arguments)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal_pre_finite_arguments (hKernelIdeal := hKernelIdeal) (hReferenceIdeal := hReferenceIdeal) (hPre_finite_arguments := hPre_finite_arguments)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_finite_arguments.lean ====
abbrev S8192x16x128 : Shape := ⟨3, ![8192, 16, 128]⟩
abbrev S8192x16x64 : Shape := ⟨3, ![8192, 16, 64]⟩
abbrev S8192x64 : Shape := ⟨2, ![8192, 64]⟩
abbrev S_ : Shape := ⟨0, ![]⟩

class Facts : Prop where
  bcast_S_S8192x16x128 : S_.BroadcastsInDim S8192x16x128 (![] : Fin 0 → Fin S8192x16x128.rank)
  bcast_S_S8192x16x64 : S_.BroadcastsInDim S8192x16x64 (![] : Fin 0 → Fin S8192x16x64.rank)
  bcast_S_S8192x64 : S_.BroadcastsInDim S8192x64 (![] : Fin 0 → Fin S8192x64.rank)

variable [Facts]

def fn {F : FTy → Type} [FloatOps F] (main_arg0 : FVec F S8192x16x128 .f32) (main_arg1 : FVec F S8192x16x64 .f32) (main_arg2 : FVec F S8192x16x128 .f32) (main_arg3 : FVec F S8192x64 .f32) (main_arg4 : FVec F S8192x16x128 .f32) (main_arg5 : FVec F S8192x16x128 .f32) : IVec S8192x16x128 1 × IVec S8192x16x64 1 × IVec S8192x16x128 1 × IVec S8192x64 1 × IVec S8192x16x128 1 × IVec S8192x16x128 1 :=
  let main_v0 : FVec F S8192x16x128 .f32 := Host.absf main_arg0
  let main_cst : FVec F S_ .f32 := constant S_ .f32 0x7F800000#32
  let main_v1 : FVec F S8192x16x128 .f32 := broadcastInDim S8192x16x128 ![] bcast_S_S8192x16x128 main_cst
  let main_v2 : IVec S8192x16x128 1 := cmpf .olt main_v0 main_v1
  let main_v3 : FVec F S8192x16x64 .f32 := Host.absf main_arg1
  let main_cst_0 : FVec F S_ .f32 := constant S_ .f32 0x7F800000#32
  let main_v4 : FVec F S8192x16x64 .f32 := broadcastInDim S8192x16x64 ![] bcast_S_S8192x16x64 main_cst_0
  let main_v5 : IVec S8192x16x64 1 := cmpf .olt main_v3 main_v4
  let main_v6 : FVec F S8192x16x128 .f32 := Host.absf main_arg2
  let main_cst_1 : FVec F S_ .f32 := constant S_ .f32 0x7F800000#32
  let main_v7 : FVec F S8192x16x128 .f32 := broadcastInDim S8192x16x128 ![] bcast_S_S8192x16x128 main_cst_1
  let main_v8 : IVec S8192x16x128 1 := cmpf .olt main_v6 main_v7
  let main_v9 : FVec F S8192x64 .f32 := Host.absf main_arg3
  let main_cst_2 : FVec F S_ .f32 := constant S_ .f32 0x7F800000#32
  let main_v10 : FVec F S8192x64 .f32 := broadcastInDim S8192x64 ![] bcast_S_S8192x64 main_cst_2
  let main_v11 : IVec S8192x64 1 := cmpf .olt main_v9 main_v10
  let main_v12 : FVec F S8192x16x128 .f32 := Host.absf main_arg4
  let main_cst_3 : FVec F S_ .f32 := constant S_ .f32 0x7F800000#32
  let main_v13 : FVec F S8192x16x128 .f32 := broadcastInDim S8192x16x128 ![] bcast_S_S8192x16x128 main_cst_3
  let main_v14 : IVec S8192x16x128 1 := cmpf .olt main_v12 main_v13
  let main_v15 : FVec F S8192x16x128 .f32 := Host.absf main_arg5
  let main_cst_4 : FVec F S_ .f32 := constant S_ .f32 0x7F800000#32
  let main_v16 : FVec F S8192x16x128 .f32 := broadcastInDim S8192x16x128 ![] bcast_S_S8192x16x128 main_cst_4
  let main_v17 : IVec S8192x16x128 1 := cmpf .olt main_v15 main_v16
  (main_v2, main_v5, main_v8, main_v11, main_v14, main_v17)
-- ==== Kernel.lean ====
abbrev S8192x16x128 : Shape := ⟨3, ![8192, 16, 128]⟩
abbrev S8192x16x64 : Shape := ⟨3, ![8192, 16, 64]⟩
abbrev S8192x64 : Shape := ⟨2, ![8192, 64]⟩
abbrev S_ : Shape := ⟨0, ![]⟩
abbrev S16x8192x8192 : Shape := ⟨3, ![16, 8192, 8192]⟩
abbrev S8192x8192x16 : Shape := ⟨3, ![8192, 8192, 16]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x8192 : Shape := ⟨2, ![16, 8192]⟩
abbrev S16x8192x1 : Shape := ⟨3, ![16, 8192, 1]⟩
abbrev S16x128x8192 : Shape := ⟨3, ![16, 128, 8192]⟩
abbrev S8192x2048 : Shape := ⟨2, ![8192, 2048]⟩
abbrev S16x8192x128 : Shape := ⟨3, ![16, 8192, 128]⟩
abbrev S8192x16x192 : Shape := ⟨3, ![8192, 16, 192]⟩
abbrev S16x8192x192 : Shape := ⟨3, ![16, 8192, 192]⟩
abbrev S16x8192x256 : Shape := ⟨3, ![16, 8192, 256]⟩
abbrev S8192x1x64 : Shape := ⟨3, ![8192, 1, 64]⟩
abbrev S8192x16x256 : Shape := ⟨3, ![8192, 16, 256]⟩
abbrev S8192x4096 : Shape := ⟨2, ![8192, 4096]⟩
abbrev S1x1024x256 : Shape := ⟨3, ![1, 1024, 256]⟩
abbrev S1x8192x256 : Shape := ⟨3, ![1, 8192, 256]⟩
abbrev S8192x128 : Shape := ⟨2, ![8192, 128]⟩
abbrev S1024x128 : Shape := ⟨2, ![1024, 128]⟩
abbrev S1x1024x128 : Shape := ⟨3, ![1, 1024, 128]⟩
abbrev S1x8192x128 : Shape := ⟨3, ![1, 8192, 128]⟩
abbrev S1024x256 : Shape := ⟨2, ![1024, 256]⟩
abbrev S8192x256 : Shape := ⟨2, ![8192, 256]⟩
abbrev S1024 : Shape := ⟨1, ![1024]⟩
abbrev S1024x1 : Shape := ⟨2, ![1024, 1]⟩
abbrev S1x512x256 : Shape := ⟨3, ![1, 512, 256]⟩
abbrev S512x256 : Shape := ⟨2, ![512, 256]⟩
abbrev S1024x512 : Shape := ⟨2, ![1024, 512]⟩
abbrev S512x128 : Shape := ⟨2, ![512, 128]⟩
abbrev S512x512 : Shape := ⟨2, ![512, 512]⟩
abbrev S1x512x128 : Shape := ⟨3, ![1, 512, 128]⟩

abbrev nBuf : Space → Nat
  | .hbm => 110
  | .vmem => 22
  | .smem => 0
  | _ => 0

abbrev bufTy : (tb : Table) → Fin (tcTables nBuf tb) → BufTy
  | .hbm, ⟨0, _⟩ => ⟨S8192x16x128, .f32⟩
  | .hbm, ⟨1, _⟩ => ⟨S8192x16x64, .f32⟩
  | .hbm, ⟨2, _⟩ => ⟨S8192x16x128, .f32⟩
  | .hbm, ⟨3, _⟩ => ⟨S8192x64, .f32⟩
  | .hbm, ⟨4, _⟩ => ⟨S8192x16x128, .f32⟩
  | .hbm, ⟨5, _⟩ => ⟨S8192x16x128, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S16x8192x8192, .f32⟩
  | .hbm, ⟨11, _⟩ => ⟨S8192x8192x16, .f32⟩
  | .hbm, ⟨12, _⟩ => ⟨S16x8192x8192, .f32⟩
  | .hbm, ⟨13, _⟩ => ⟨S16x8192x8192, .f32⟩
  | .hbm, ⟨14, _⟩ => ⟨S8192, .i32⟩
  | .hbm, ⟨15, _⟩ => ⟨S_, .i32⟩
  | .hbm, ⟨16, _⟩ => ⟨S_, .i32⟩
  | .hbm, ⟨17, _⟩ => ⟨S8192, .i32⟩
  | .hbm, ⟨18, _⟩ => ⟨S8192, .i32⟩
  | .hbm, ⟨19, _⟩ => ⟨S8192, .i32⟩
  | .hbm, ⟨20, _⟩ => ⟨S_, .i32⟩
  | .hbm, ⟨21, _⟩ => ⟨S8192, .i32⟩
  | .hbm, ⟨22, _⟩ => ⟨S8192, .i1⟩
  | .hbm, ⟨23, _⟩ => ⟨S8192, .i32⟩
  | .hbm, ⟨24, _⟩ => ⟨S8192, .i32⟩
  | .hbm, ⟨25, _⟩ => ⟨S_, .i32⟩
  | .hbm, ⟨26, _⟩ => ⟨S8192, .i32⟩
  | .hbm, ⟨27, _⟩ => ⟨S8192, .i1⟩
  | .hbm, ⟨28, _⟩ => ⟨S8192, .i1⟩
  | .hbm, ⟨29, _⟩ => ⟨S_, .i32⟩
  | .hbm, ⟨30, _⟩ => ⟨S8192, .i32⟩
  | .hbm, ⟨31, _⟩ => ⟨S8192, .i32⟩
  | .hbm, ⟨32, _⟩ => ⟨S8192, .i32⟩
  | .hbm, ⟨33, _⟩ => ⟨S1x8192, .i32⟩
  | .hbm, ⟨34, _⟩ => ⟨S8192x1, .i32⟩
  | .hbm, ⟨35, _⟩ => ⟨S8192x8192, .i32⟩
  | .hbm, ⟨36, _⟩ => ⟨S8192x8192, .i32⟩
  | .hbm, ⟨37, _⟩ => ⟨S8192x8192, .i1⟩
  | .hbm, ⟨38, _⟩ => ⟨S_, .f32⟩
  | .hbm, ⟨39, _⟩ => ⟨S16x8192x8192, .f32⟩
  | .hbm, ⟨40, _⟩ => ⟨S16x8192x8192, .f32⟩
  | .hbm, ⟨41, _⟩ => ⟨S_, .f32⟩
  | .hbm, ⟨42, _⟩ => ⟨S_, .f32⟩
  | .hbm, ⟨43, _⟩ => ⟨S16x8192x8192, .i1⟩
  | .hbm, ⟨44, _⟩ => ⟨S16x8192x8192, .f32⟩
  | .hbm, ⟨45, _⟩ => ⟨S16x8192x8192, .f32⟩
  | .hbm, ⟨46, _⟩ => ⟨S_, .f32⟩
  | .hbm, ⟨47, _⟩ => ⟨S16x8192, .f32⟩
  | .hbm, ⟨48, _⟩ => ⟨S16x8192x1, .f32⟩
  | .hbm, ⟨49, _⟩ => ⟨S16x8192x8192, .f32⟩
  | .hbm, ⟨50, _⟩ => ⟨S16x8192x8192, .f32⟩
  | .hbm, ⟨51, _⟩ => ⟨S16x8192x8192, .f32⟩
  | .hbm, ⟨52, _⟩ => ⟨S_, .f32⟩
  | .hbm, ⟨53, _⟩ => ⟨S16x8192, .f32⟩
  | .hbm, ⟨54, _⟩ => ⟨S16x8192x1, .f32⟩
  | .hbm, ⟨55, _⟩ => ⟨S16x8192x8192, .f32⟩
  | .hbm, ⟨56, _⟩ => ⟨S16x8192x8192, .f32⟩
  | .hbm, ⟨57, _⟩ => ⟨S16x128x8192, .f32⟩
  | .hbm, ⟨58, _⟩ => ⟨S8192x16x128, .f32⟩
  | .hbm, ⟨59, _⟩ => ⟨S8192x2048, .f32⟩
  | .hbm, ⟨60, _⟩ => ⟨S16x8192x1, .f32⟩
  | .hbm, ⟨61, _⟩ => ⟨S16x8192x1, .f32⟩
  | .hbm, ⟨62, _⟩ => ⟨S16x8192x1, .f32⟩
  | .hbm, ⟨63, _⟩ => ⟨S16x8192x1, .f32⟩
  | .hbm, ⟨64, _⟩ => ⟨S16x8192x128, .f32⟩
  | .hbm, ⟨65, _⟩ => ⟨S8192x16x192, .f32⟩
  | .hbm, ⟨66, _⟩ => ⟨S_, .f32⟩
  | .hbm, ⟨67, _⟩ => ⟨S8192x16x192, .f32⟩
  | .hbm, ⟨68, _⟩ => ⟨S8192x16x192, .f32⟩
  | .hbm, ⟨69, _⟩ => ⟨S8192x16x192, .f32⟩
  | .hbm, ⟨70, _⟩ => ⟨S8192x16x192, .f32⟩
  | .hbm, ⟨71, _⟩ => ⟨S16x8192x192, .f32⟩
  | .hbm, ⟨72, _⟩ => ⟨S_, .i32⟩
  | .hbm, ⟨73, _⟩ => ⟨S_, .f32⟩
  | .hbm, ⟨74, _⟩ => ⟨S16x8192x256, .f32⟩
  | .hbm, ⟨75, _⟩ => ⟨S16x8192x256, .bf16⟩
  | .hbm, ⟨76, _⟩ => ⟨S8192x1x64, .f32⟩
  | .hbm, ⟨77, _⟩ => ⟨S8192x16x64, .f32⟩
  | .hbm, ⟨78, _⟩ => ⟨S8192x16x192, .f32⟩
  | .hbm, ⟨79, _⟩ => ⟨S16x8192x192, .f32⟩
  | .hbm, ⟨80, _⟩ => ⟨S_, .i32⟩
  | .hbm, ⟨81, _⟩ => ⟨S_, .f32⟩
  | .hbm, ⟨82, _⟩ => ⟨S16x8192x256, .f32⟩
  | .hbm, ⟨83, _⟩ => ⟨S16x8192x256, .bf16⟩
  | .hbm, ⟨84, _⟩ => ⟨S8192x16x256, .f32⟩
  | .hbm, ⟨85, _⟩ => ⟨S8192x4096, .f32⟩
  | .hbm, ⟨86, _⟩ => ⟨S8192x4096, .bf16⟩
  | .hbm, ⟨87, _⟩ => ⟨S8192x2048, .bf16⟩
  | .hbm, ⟨88, _⟩ => ⟨S8192x2048, .f32⟩
  | .hbm, ⟨89, _⟩ => ⟨S8192x2048, .bf16⟩
  | .hbm, ⟨90, _⟩ => ⟨S16x8192x256, .bf16⟩
  | .hbm, ⟨91, _⟩ => ⟨S16x8192x256, .bf16⟩
  | .hbm, ⟨92, _⟩ => ⟨S16x8192x128, .bf16⟩
  | .hbm, ⟨93, _⟩ => ⟨S8192x16x256, .bf16⟩
  | .hbm, ⟨94, _⟩ => ⟨S8192x16x256, .f32⟩
  | .hbm, ⟨95, _⟩ => ⟨S_, .f32⟩
  | .hbm, ⟨96, _⟩ => ⟨S8192x16x256, .f32⟩
  | .hbm, ⟨97, _⟩ => ⟨S8192x16x256, .f32⟩
  | .hbm, ⟨98, _⟩ => ⟨S8192x16x256, .bf16⟩
  | .hbm, ⟨99, _⟩ => ⟨S8192x16x256, .f32⟩
  | .hbm, ⟨100, _⟩ => ⟨S8192x16x256, .f32⟩
  | .hbm, ⟨101, _⟩ => ⟨S8192x16x256, .f32⟩
  | .hbm, ⟨102, _⟩ => ⟨S8192x16x128, .f32⟩
  | .hbm, ⟨103, _⟩ => ⟨S8192x16x64, .f32⟩
  | .hbm, ⟨104, _⟩ => ⟨S8192x16x128, .f32⟩
  | .hbm, ⟨105, _⟩ => ⟨S8192x16x64, .f32⟩
  | .hbm, ⟨106, _⟩ => ⟨S_, .f32⟩
  | .hbm, ⟨107, _⟩ => ⟨S8192x64, .f32⟩
  | .hbm, ⟨108, _⟩ => ⟨S8192x16x128, .bf16⟩
  | .hbm, ⟨109, _⟩ => ⟨S8192x16x128, .f32⟩
  | .local _ .vmem, ⟨0, _⟩ => ⟨S1x1024x256, .bf16⟩
  | .local _ .vmem, ⟨1, _⟩ => ⟨S1x1024x256, .bf16⟩
  | .local _ .vmem, ⟨2, _⟩ => ⟨S1x8192x256, .bf16⟩
  | .local _ .vmem, ⟨3, _⟩ => ⟨S1x8192x256, .bf16⟩
  | .local _ .vmem, ⟨4, _⟩ => ⟨S8192x128, .bf16⟩
  | .local _ .vmem, ⟨5, _⟩ => ⟨S8192x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .bf16⟩
  | .local _ .vmem, ⟨9, _⟩ => ⟨S1024x128, .bf16⟩
  | .local _ .vmem, ⟨10, _⟩ => ⟨S1x1024x128, .f32⟩
  | .local _ .vmem, ⟨11, _⟩ => ⟨S1x1024x128, .f32⟩
  | .local _ .vmem, ⟨12, _⟩ => ⟨S1x1024x256, .bf16⟩
  | .local _ .vmem, ⟨13, _⟩ => ⟨S1x1024x256, .bf16⟩
  | .local _ .vmem, ⟨14, _⟩ => ⟨S1x8192x256, .bf16⟩
  | .local _ .vmem, ⟨15, _⟩ => ⟨S1x8192x256, .bf16⟩
  | .local _ .vmem, ⟨16, _⟩ => ⟨S1x8192x128, .bf16⟩
  | .local _ .vmem, ⟨17, _⟩ => ⟨S1x8192x128, .bf16⟩
  | .local _ .vmem, ⟨18, _⟩ => ⟨S1024x256, .f32⟩
  | .local _ .vmem, ⟨19, _⟩ => ⟨S1024x128, .f32⟩
  | .local _ .vmem, ⟨20, _⟩ => ⟨S8192x256, .f32⟩
  | .local _ .vmem, ⟨21, _⟩ => ⟨S8192x128, .f32⟩
  | _, _ => ⟨S8192x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_cst_1 : Ref sig .tc := ⟨.hbm, 38, rfl⟩
abbrev main_v13 : Ref sig .tc := ⟨.hbm, 39, rfl⟩
abbrev main_v14 : Ref sig .tc := ⟨.hbm, 40, rfl⟩
abbrev main_cst_2 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v15 : Ref sig .tc := ⟨.hbm, 45, rfl⟩
abbrev main_cst_3 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_cst_4 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_cst_5 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_c_6 : Ref sig .tc := ⟨.hbm, 72, rfl⟩
abbrev main_call2_v0 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_c_7 : Ref sig .tc := ⟨.hbm, 80, rfl⟩
abbrev main_call3_v0 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53_0 : Ref sig .tc := ⟨.hbm, 90, rfl⟩
abbrev main_v53_1 : Ref sig .tc := ⟨.hbm, 91, rfl⟩
abbrev main_v53_2 : Ref sig .tc := ⟨.hbm, 92, rfl⟩
abbrev main_v54 : Ref sig .tc := ⟨.hbm, 93, rfl⟩
abbrev main_v55 : Ref sig .tc := ⟨.hbm, 94, rfl⟩
abbrev main_cst_8 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_cst_9 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 8], ![false, false]⟩

@[reducible] def k0_t1_loop (i : grid0.Coords) : Scf.Loop 32 :=
  let c0_i32_13 : BitVec 32 := 0#32
  let c2_i32 : BitVec 32 := 2#32
  let arg1 : BitVec 32 := BitVec.ofNat 32 (i 1).val
  let v18 : BitVec 32 := Scalar.muli c2_i32 arg1
  let c0_i32 : BitVec 32 := 0#32
  let v20 : BitVec 1 := Scalar.cmpi .sgt v18 c0_i32
  let v21 : BitVec 32 := Scalar.extui v20
  let c0_i32_8 : BitVec 32 := 0#32
  let v22 : BitVec 1 := Scalar.cmpi .slt v18 c0_i32_8
  let v23 : BitVec 32 := Scalar.extui v22
  let v24 : BitVec 32 := Scalar.subi v21 v23
  let c6_i32 : BitVec 32 := 6#32
  let c0_i32_9 : BitVec 32 := 0#32
  let v25 : BitVec 1 := Scalar.cmpi .sgt c6_i32 c0_i32_9
  let v26 : BitVec 32 := Scalar.extui v25
  let c0_i32_10 : BitVec 32 := 0#32
  let v27 : BitVec 1 := Scalar.cmpi .slt c6_i32 c0_i32_10
  let v28 : BitVec 32 := Scalar.extui v27
  let v29 : BitVec 32 := Scalar.subi v26 v28
  let v30 : BitVec 1 := Scalar.cmpi .ne v24 v29
  let v31 : BitVec 32 := Scalar.remsi v18 c6_i32
  let c0_i32_11 : BitVec 32 := 0#32
  let v32 : BitVec 1 := Scalar.cmpi .ne v31 c0_i32_11
  let v33 : BitVec 1 := Scalar.andi v30 v32
  let v19 : BitVec 32 := Scalar.divsi v18 c6_i32
  let c1_i32 : BitVec 32 := 1#32
  let v34 : BitVec 32 := Scalar.subi v19 c1_i32
  let v35 : BitVec 32 := Scalar.select v33 v34 v19
  let v36 : BitVec 32 := Scalar.subi v35 c0_i32_13
  let c1_i32_14 : BitVec 32 := 1#32
  let v38 : BitVec 32 := Scalar.divsi v36 c1_i32_14
  let v39 : BitVec 32 := Scalar.muli v38 c1_i32_14
  let v40 : BitVec 32 := Scalar.addi c0_i32_13 v39
  let c1_i32_15 : BitVec 32 := 1#32
  ⟨c0_i32_13, v40, c1_i32_15⟩
def k0_mult1 (i : grid0.Coords) (k0_t1 : Fin (k0_t1_loop i).trips) : BitVec 32 :=
  let c6_i32_46 : BitVec 32 := 6#32
  let c0_i32_13 : BitVec 32 := 0#32
  let c1_i32_15 : BitVec 32 := 1#32
  let arg15 : BitVec 32 := Scf.iv c0_i32_13 c1_i32_15 k0_t1
  let v88 : BitVec 32 := Scalar.muli c6_i32_46 arg15
  let c0_i32_47 : BitVec 32 := 0#32
  let v89 : BitVec 32 := Scalar.addi v88 c0_i32_47
  let c512_i32 : BitVec 32 := 512#32
  let v90 : BitVec 32 := Scalar.muli v89 c512_i32
  v90
def k0_off1 (i : grid0.Coords) (k0_t1 : Fin (k0_t1_loop i).trips) (c0_i32_47 : BitVec 32) : Fin 3 → Nat :=
  let c0_53 : Index := 0#32
  let c6_i32_46 : BitVec 32 := 6#32
  let c0_i32_13 : BitVec 32 := 0#32
  let c1_i32_15 : BitVec 32 := 1#32
  let arg15 : BitVec 32 := Scf.iv c0_i32_13 c1_i32_15 k0_t1
  let v88 : BitVec 32 := Scalar.muli c6_i32_46 arg15
  let v89 : BitVec 32 := Scalar.addi v88 c0_i32_47
  let c512_i32 : BitVec 32 := 512#32
  let v90 : BitVec 32 := Scalar.muli v89 c512_i32
  let v91 : BitVec 32 := v90
  let v96 : Index := Scalar.indexCast v91
  let c0_54 : Index := 0#32
  ![0, v96.toNat, 0]
def k0_off2 (i : grid0.Coords) (k0_t1 : Fin (k0_t1_loop i).trips) (c0_i32_47 : BitVec 32) : Fin 2 → Nat :=
  let c6_i32_46 : BitVec 32 := 6#32
  let c0_i32_13 : BitVec 32 := 0#32
  let c1_i32_15 : BitVec 32 := 1#32
  let arg15 : BitVec 32 := Scf.iv c0_i32_13 c1_i32_15 k0_t1
  let v88 : BitVec 32 := Scalar.muli c6_i32_46 arg15
  let v89 : BitVec 32 := Scalar.addi v88 c0_i32_47
  let c512_i32 : BitVec 32 := 512#32
  let v90 : BitVec 32 := Scalar.muli v89 c512_i32
  let v91 : BitVec 32 := v90
  let v100 : Index := Scalar.indexCast v91
  let c0_56 : Index := 0#32
  ![v100.toNat, 0]
def k0_off3 (i : grid0.Coords) (k0_t1 : Fin (k0_t1_loop i).trips) (c0_i32_47 : BitVec 32) : Fin 2 → Nat :=
  let c6_i32_46 : BitVec 32 := 6#32
  let c0_i32_13 : BitVec 32 := 0#32
  let c1_i32_15 : BitVec 32 := 1#32
  let arg15 : BitVec 32 := Scf.iv c0_i32_13 c1_i32_15 k0_t1
  let v88 : BitVec 32 := Scalar.muli c6_i32_46 arg15
  let v89 : BitVec 32 := Scalar.addi v88 c0_i32_47
  let c512_i32 : BitVec 32 := 512#32
  let v90 : BitVec 32 := Scalar.muli v89 c512_i32
  let v91 : BitVec 32 := v90
  let v143 : Index := Scalar.indexCast v91
  let c0_65 : Index := 0#32
  ![v143.toNat, 0]
def k0_mult2 (i : grid0.Coords) (k0_t1 : Fin (k0_t1_loop i).trips) : BitVec 32 :=
  let c6_i32_46 : BitVec 32 := 6#32
  let c0_i32_13 : BitVec 32 := 0#32
  let c1_i32_15 : BitVec 32 := 1#32
  let arg15 : BitVec 32 := Scf.iv c0_i32_13 c1_i32_15 k0_t1
  let v88 : BitVec 32 := Scalar.muli c6_i32_46 arg15
  let c1_i32_74 : BitVec 32 := 1#32
  let v163 : BitVec 32 := Scalar.addi v88 c1_i32_74
  let c512_i32_75 : BitVec 32 := 512#32
  let v164 : BitVec 32 := Scalar.muli v163 c512_i32_75
  v164
def k0_mult3 (i : grid0.Coords) (k0_t1 : Fin (k0_t1_loop i).trips) : BitVec 32 :=
  let c6_i32_46 : BitVec 32 := 6#32
  let c0_i32_13 : BitVec 32 := 0#32
  let c1_i32_15 : BitVec 32 := 1#32
  let arg15 : BitVec 32 := Scf.iv c0_i32_13 c1_i32_15 k0_t1
  let v88 : BitVec 32 := Scalar.muli c6_i32_46 arg15
  let c2_i32_102 : BitVec 32 := 2#32
  let v237 : BitVec 32 := Scalar.addi v88 c2_i32_102
  let c512_i32_103 : BitVec 32 := 512#32
  let v238 : BitVec 32 := Scalar.muli v237 c512_i32_103
  v238
def k0_mult4 (i : grid0.Coords) (k0_t1 : Fin (k0_t1_loop i).trips) : BitVec 32 :=
  let c6_i32_46 : BitVec 32 := 6#32
  let c0_i32_13 : BitVec 32 := 0#32
  let c1_i32_15 : BitVec 32 := 1#32
  let arg15 : BitVec 32 := Scf.iv c0_i32_13 c1_i32_15 k0_t1
  let v88 : BitVec 32 := Scalar.muli c6_i32_46 arg15
  let c3_i32 : BitVec 32 := 3#32
  let v311 : BitVec 32 := Scalar.addi v88 c3_i32
  let c512_i32_130 : BitVec 32 := 512#32
  let v312 : BitVec 32 := Scalar.muli v311 c512_i32_130
  v312
def k0_mult5 (i : grid0.Coords) (k0_t1 : Fin (k0_t1_loop i).trips) : BitVec 32 :=
  let c6_i32_46 : BitVec 32 := 6#32
  let c0_i32_13 : BitVec 32 := 0#32
  let c1_i32_15 : BitVec 32 := 1#32
  let arg15 : BitVec 32 := Scf.iv c0_i32_13 c1_i32_15 k0_t1
  let v88 : BitVec 32 := Scalar.muli c6_i32_46 arg15
  let c4_i32_157 : BitVec 32 := 4#32
  let v385 : BitVec 32 := Scalar.addi v88 c4_i32_157
  let c512_i32_158 : BitVec 32 := 512#32
  let v386 : BitVec 32 := Scalar.muli v385 c512_i32_158
  v386
def k0_mult6 (i : grid0.Coords) (k0_t1 : Fin (k0_t1_loop i).trips) : BitVec 32 :=
  let c6_i32_46 : BitVec 32 := 6#32
  let c0_i32_13 : BitVec 32 := 0#32
  let c1_i32_15 : BitVec 32 := 1#32
  let arg15 : BitVec 32 := Scf.iv c0_i32_13 c1_i32_15 k0_t1
  let v88 : BitVec 32 := Scalar.muli c6_i32_46 arg15
  let c5_i32 : BitVec 32 := 5#32
  let v459 : BitVec 32 := Scalar.addi v88 c5_i32
  let c512_i32_185 : BitVec 32 := 512#32
  let v460 : BitVec 32 := Scalar.muli v459 c512_i32_185
  v460
@[reducible] def k0_t2_loop (i : grid0.Coords) : Scf.Loop 32 :=
  let c0_i32_13 : BitVec 32 := 0#32
  let c2_i32 : BitVec 32 := 2#32
  let arg1 : BitVec 32 := BitVec.ofNat 32 (i 1).val
  let v18 : BitVec 32 := Scalar.muli c2_i32 arg1
  let c0_i32 : BitVec 32 := 0#32
  let v20 : BitVec 1 := Scalar.cmpi .sgt v18 c0_i32
  let v21 : BitVec 32 := Scalar.extui v20
  let c0_i32_8 : BitVec 32 := 0#32
  let v22 : BitVec 1 := Scalar.cmpi .slt v18 c0_i32_8
  let v23 : BitVec 32 := Scalar.extui v22
  let v24 : BitVec 32 := Scalar.subi v21 v23
  let c6_i32 : BitVec 32 := 6#32
  let c0_i32_9 : BitVec 32 := 0#32
  let v25 : BitVec 1 := Scalar.cmpi .sgt c6_i32 c0_i32_9
  let v26 : BitVec 32 := Scalar.extui v25
  let c0_i32_10 : BitVec 32 := 0#32
  let v27 : BitVec 1 := Scalar.cmpi .slt c6_i32 c0_i32_10
  let v28 : BitVec 32 := Scalar.extui v27
  let v29 : BitVec 32 := Scalar.subi v26 v28
  let v30 : BitVec 1 := Scalar.cmpi .ne v24 v29
  let v31 : BitVec 32 := Scalar.remsi v18 c6_i32
  let c0_i32_11 : BitVec 32 := 0#32
  let v32 : BitVec 1 := Scalar.cmpi .ne v31 c0_i32_11
  let v33 : BitVec 1 := Scalar.andi v30 v32
  let v19 : BitVec 32 := Scalar.divsi v18 c6_i32
  let c1_i32 : BitVec 32 := 1#32
  let v34 : BitVec 32 := Scalar.subi v19 c1_i32
  let v35 : BitVec 32 := Scalar.select v33 v34 v19
  let v36 : BitVec 32 := Scalar.subi v35 c0_i32_13
  let c1_i32_14 : BitVec 32 := 1#32
  let v38 : BitVec 32 := Scalar.divsi v36 c1_i32_14
  let v39 : BitVec 32 := Scalar.muli v38 c1_i32_14
  let v40 : BitVec 32 := Scalar.addi c0_i32_13 v39
  let v37 : BitVec 32 := Scalar.addi c0_i32_13 v36
  let c1_i32_16 : BitVec 32 := 1#32
  ⟨v40, v37, c1_i32_16⟩
def k0_mult7 (i : grid0.Coords) (k0_t2 : Fin (k0_t2_loop i).trips) : BitVec 32 :=
  let c6_i32_46 : BitVec 32 := 6#32
  let c0_i32_13 : BitVec 32 := 0#32
  let c2_i32 : BitVec 32 := 2#32
  let arg1 : BitVec 32 := BitVec.ofNat 32 (i 1).val
  let v18 : BitVec 32 := Scalar.muli c2_i32 arg1
  let c0_i32 : BitVec 32 := 0#32
  let v20 : BitVec 1 := Scalar.cmpi .sgt v18 c0_i32
  let v21 : BitVec 32 := Scalar.extui v20
  let c0_i32_8 : BitVec 32 := 0#32
  let v22 : BitVec 1 := Scalar.cmpi .slt v18 c0_i32_8
  let v23 : BitVec 32 := Scalar.extui v22
  let v24 : BitVec 32 := Scalar.subi v21 v23
  let c6_i32 : BitVec 32 := 6#32
  let c0_i32_9 : BitVec 32 := 0#32
  let v25 : BitVec 1 := Scalar.cmpi .sgt c6_i32 c0_i32_9
  let v26 : BitVec 32 := Scalar.extui v25
  let c0_i32_10 : BitVec 32 := 0#32
  let v27 : BitVec 1 := Scalar.cmpi .slt c6_i32 c0_i32_10
  let v28 : BitVec 32 := Scalar.extui v27
  let v29 : BitVec 32 := Scalar.subi v26 v28
  let v30 : BitVec 1 := Scalar.cmpi .ne v24 v29
  let v31 : BitVec 32 := Scalar.remsi v18 c6_i32
  let c0_i32_11 : BitVec 32 := 0#32
  let v32 : BitVec 1 := Scalar.cmpi .ne v31 c0_i32_11
  let v33 : BitVec 1 := Scalar.andi v30 v32
  let v19 : BitVec 32 := Scalar.divsi v18 c6_i32
  let c1_i32 : BitVec 32 := 1#32
  let v34 : BitVec 32 := Scalar.subi v19 c1_i32
  let v35 : BitVec 32 := Scalar.select v33 v34 v19
  let v36 : BitVec 32 := Scalar.subi v35 c0_i32_13
  let c1_i32_14 : BitVec 32 := 1#32
  let v38 : BitVec 32 := Scalar.divsi v36 c1_i32_14
  let v39 : BitVec 32 := Scalar.muli v38 c1_i32_14
  let v40 : BitVec 32 := Scalar.addi c0_i32_13 v39
  let c1_i32_16 : BitVec 32 := 1#32
  let arg15 : BitVec 32 := Scf.iv v40 c1_i32_16 k0_t2
  let v88 : BitVec 32 := Scalar.muli c6_i32_46 arg15
  let c0_i32_47 : BitVec 32 := 0#32
  let v89 : BitVec 32 := Scalar.addi v88 c0_i32_47
  let c512_i32 : BitVec 32 := 512#32
  let v90 : BitVec 32 := Scalar.muli v89 c512_i32
  v90
def k0_off4 (i : grid0.Coords) (k0_t2 : Fin (k0_t2_loop i).trips) (c0_i32_47 : BitVec 32) : Fin 3 → Nat :=
  let c0_53 : Index := 0#32
  let c6_i32_46 : BitVec 32 := 6#32
  let c0_i32_13 : BitVec 32 := 0#32
  let c2_i32 : BitVec 32 := 2#32
  let arg1 : BitVec 32 := BitVec.ofNat 32 (i 1).val
  let v18 : BitVec 32 := Scalar.muli c2_i32 arg1
  let c0_i32 : BitVec 32 := 0#32
  let v20 : BitVec 1 := Scalar.cmpi .sgt v18 c0_i32
  let v21 : BitVec 32 := Scalar.extui v20
  let c0_i32_8 : BitVec 32 := 0#32
  let v22 : BitVec 1 := Scalar.cmpi .slt v18 c0_i32_8
  let v23 : BitVec 32 := Scalar.extui v22
  let v24 : BitVec 32 := Scalar.subi v21 v23
  let c6_i32 : BitVec 32 := 6#32
  let c0_i32_9 : BitVec 32 := 0#32
  let v25 : BitVec 1 := Scalar.cmpi .sgt c6_i32 c0_i32_9
  let v26 : BitVec 32 := Scalar.extui v25
  let c0_i32_10 : BitVec 32 := 0#32
  let v27 : BitVec 1 := Scalar.cmpi .slt c6_i32 c0_i32_10
  let v28 : BitVec 32 := Scalar.extui v27
  let v29 : BitVec 32 := Scalar.subi v26 v28
  let v30 : BitVec 1 := Scalar.cmpi .ne v24 v29
  let v31 : BitVec 32 := Scalar.remsi v18 c6_i32
  let c0_i32_11 : BitVec 32 := 0#32
  let v32 : BitVec 1 := Scalar.cmpi .ne v31 c0_i32_11
  let v33 : BitVec 1 := Scalar.andi v30 v32
  let v19 : BitVec 32 := Scalar.divsi v18 c6_i32
  let c1_i32 : BitVec 32 := 1#32
  let v34 : BitVec 32 := Scalar.subi v19 c1_i32
  let v35 : BitVec 32 := Scalar.select v33 v34 v19
  let v36 : BitVec 32 := Scalar.subi v35 c0_i32_13
  let c1_i32_14 : BitVec 32 := 1#32
  let v38 : BitVec 32 := Scalar.divsi v36 c1_i32_14
  let v39 : BitVec 32 := Scalar.muli v38 c1_i32_14
  let v40 : BitVec 32 := Scalar.addi c0_i32_13 v39
  let c1_i32_16 : BitVec 32 := 1#32
  let arg15 : BitVec 32 := Scf.iv v40 c1_i32_16 k0_t2
  let v88 : BitVec 32 := Scalar.muli c6_i32_46 arg15
  let v89 : BitVec 32 := Scalar.addi v88 c0_i32_47
  let c512_i32 : BitVec 32 := 512#32
  let v90 : BitVec 32 := Scalar.muli v89 c512_i32
  let v91 : BitVec 32 := v90
  let v96 : Index := Scalar.indexCast v91
  let c0_54 : Index := 0#32
  ![0, v96.toNat, 0]
def k0_off5 (i : grid0.Coords) (k0_t2 : Fin (k0_t2_loop i).trips) (c0_i32_47 : BitVec 32) : Fin 2 → Nat :=
  let c6_i32_46 : BitVec 32 := 6#32
  let c0_i32_13 : BitVec 32 := 0#32
  let c2_i32 : BitVec 32 := 2#32
  let arg1 : BitVec 32 := BitVec.ofNat 32 (i 1).val
  let v18 : BitVec 32 := Scalar.muli c2_i32 arg1
  let c0_i32 : BitVec 32 := 0#32
  let v20 : BitVec 1 := Scalar.cmpi .sgt v18 c0_i32
  let v21 : BitVec 32 := Scalar.extui v20
  let c0_i32_8 : BitVec 32 := 0#32
  let v22 : BitVec 1 := Scalar.cmpi .slt v18 c0_i32_8
  let v23 : BitVec 32 := Scalar.extui v22
  let v24 : BitVec 32 := Scalar.subi v21 v23
  let c6_i32 : BitVec 32 := 6#32
  let c0_i32_9 : BitVec 32 := 0#32
  let v25 : BitVec 1 := Scalar.cmpi .sgt c6_i32 c0_i32_9
  let v26 : BitVec 32 := Scalar.extui v25
  let c0_i32_10 : BitVec 32 := 0#32
  let v27 : BitVec 1 := Scalar.cmpi .slt c6_i32 c0_i32_10
  let v28 : BitVec 32 := Scalar.extui v27
  let v29 : BitVec 32 := Scalar.subi v26 v28
  let v30 : BitVec 1 := Scalar.cmpi .ne v24 v29
  let v31 : BitVec 32 := Scalar.remsi v18 c6_i32
  let c0_i32_11 : BitVec 32 := 0#32
  let v32 : BitVec 1 := Scalar.cmpi .ne v31 c0_i32_11
  let v33 : BitVec 1 := Scalar.andi v30 v32
  let v19 : BitVec 32 := Scalar.divsi v18 c6_i32
  let c1_i32 : BitVec 32 := 1#32
  let v34 : BitVec 32 := Scalar.subi v19 c1_i32
  let v35 : BitVec 32 := Scalar.select v33 v34 v19
  let v36 : BitVec 32 := Scalar.subi v35 c0_i32_13
  let c1_i32_14 : BitVec 32 := 1#32
  let v38 : BitVec 32 := Scalar.divsi v36 c1_i32_14
  let v39 : BitVec 32 := Scalar.muli v38 c1_i32_14
  let v40 : BitVec 32 := Scalar.addi c0_i32_13 v39
  let c1_i32_16 : BitVec 32 := 1#32
  let arg15 : BitVec 32 := Scf.iv v40 c1_i32_16 k0_t2
  let v88 : BitVec 32 := Scalar.muli c6_i32_46 arg15
  let v89 : BitVec 32 := Scalar.addi v88 c0_i32_47
  let c512_i32 : BitVec 32 := 512#32
  let v90 : BitVec 32 := Scalar.muli v89 c512_i32
  let v91 : BitVec 32 := v90
  let v100 : Index := Scalar.indexCast v91
  let c0_56 : Index := 0#32
  ![v100.toNat, 0]
def k0_off6 (i : grid0.Coords) (k0_t2 : Fin (k0_t2_loop i).trips) (c0_i32_47 : BitVec 32) : Fin 2 → Nat :=
  let c6_i32_46 : BitVec 32 := 6#32
  let c0_i32_13 : BitVec 32 := 0#32
  let c2_i32 : BitVec 32 := 2#32
  let arg1 : BitVec 32 := BitVec.ofNat 32 (i 1).val
  let v18 : BitVec 32 := Scalar.muli c2_i32 arg1
  let c0_i32 : BitVec 32 := 0#32
  let v20 : BitVec 1 := Scalar.cmpi .sgt v18 c0_i32
  let v21 : BitVec 32 := Scalar.extui v20
  let c0_i32_8 : BitVec 32 := 0#32
  let v22 : BitVec 1 := Scalar.cmpi .slt v18 c0_i32_8
  let v23 : BitVec 32 := Scalar.extui v22
  let v24 : BitVec 32 := Scalar.subi v21 v23
  let c6_i32 : BitVec 32 := 6#32
  let c0_i32_9 : BitVec 32 := 0#32
  let v25 : BitVec 1 := Scalar.cmpi .sgt c6_i32 c0_i32_9
  let v26 : BitVec 32 := Scalar.extui v25
  let c0_i32_10 : BitVec 32 := 0#32
  let v27 : BitVec 1 := Scalar.cmpi .slt c6_i32 c0_i32_10
  let v28 : BitVec 32 := Scalar.extui v27
  let v29 : BitVec 32 := Scalar.subi v26 v28
  let v30 : BitVec 1 := Scalar.cmpi .ne v24 v29
  let v31 : BitVec 32 := Scalar.remsi v18 c6_i32
  let c0_i32_11 : BitVec 32 := 0#32
  let v32 : BitVec 1 := Scalar.cmpi .ne v31 c0_i32_11
  let v33 : BitVec 1 := Scalar.andi v30 v32
  let v19 : BitVec 32 := Scalar.divsi v18 c6_i32
  let c1_i32 : BitVec 32 := 1#32
  let v34 : BitVec 32 := Scalar.subi v19 c1_i32
  let v35 : BitVec 32 := Scalar.select v33 v34 v19
  let v36 : BitVec 32 := Scalar.subi v35 c0_i32_13
  let c1_i32_14 : BitVec 32 := 1#32
  let v38 : BitVec 32 := Scalar.divsi v36 c1_i32_14
  let v39 : BitVec 32 := Scalar.muli v38 c1_i32_14
  let v40 : BitVec 32 := Scalar.addi c0_i32_13 v39
  let c1_i32_16 : BitVec 32 := 1#32
  let arg15 : BitVec 32 := Scf.iv v40 c1_i32_16 k0_t2
  let v88 : BitVec 32 := Scalar.muli c6_i32_46 arg15
  let v89 : BitVec 32 := Scalar.addi v88 c0_i32_47
  let c512_i32 : BitVec 32 := 512#32
  let v90 : BitVec 32 := Scalar.muli v89 c512_i32
  let v91 : BitVec 32 := v90
  let v143 : Index := Scalar.indexCast v91
  let c0_65 : Index := 0#32
  ![v143.toNat, 0]
def k0_mult8 (i : grid0.Coords) (k0_t2 : Fin (k0_t2_loop i).trips) : BitVec 32 :=
  let c6_i32_46 : BitVec 32 := 6#32
  let c0_i32_13 : BitVec 32 := 0#32
  let c2_i32 : BitVec 32 := 2#32
  let arg1 : BitVec 32 := BitVec.ofNat 32 (i 1).val
  let v18 : BitVec 32 := Scalar.muli c2_i32 arg1
  let c0_i32 : BitVec 32 := 0#32
  let v20 : BitVec 1 := Scalar.cmpi .sgt v18 c0_i32
  let v21 : BitVec 32 := Scalar.extui v20
  let c0_i32_8 : BitVec 32 := 0#32
  let v22 : BitVec 1 := Scalar.cmpi .slt v18 c0_i32_8
  let v23 : BitVec 32 := Scalar.extui v22
  let v24 : BitVec 32 := Scalar.subi v21 v23
  let c6_i32 : BitVec 32 := 6#32
  let c0_i32_9 : BitVec 32 := 0#32
  let v25 : BitVec 1 := Scalar.cmpi .sgt c6_i32 c0_i32_9
  let v26 : BitVec 32 := Scalar.extui v25
  let c0_i32_10 : BitVec 32 := 0#32
  let v27 : BitVec 1 := Scalar.cmpi .slt c6_i32 c0_i32_10
  let v28 : BitVec 32 := Scalar.extui v27
  let v29 : BitVec 32 := Scalar.subi v26 v28
  let v30 : BitVec 1 := Scalar.cmpi .ne v24 v29
  let v31 : BitVec 32 := Scalar.remsi v18 c6_i32
  let c0_i32_11 : BitVec 32 := 0#32
  let v32 : BitVec 1 := Scalar.cmpi .ne v31 c0_i32_11
  let v33 : BitVec 1 := Scalar.andi v30 v32
  let v19 : BitVec 32 := Scalar.divsi v18 c6_i32
  let c1_i32 : BitVec 32 := 1#32
  let v34 : BitVec 32 := Scalar.subi v19 c1_i32
  let v35 : BitVec 32 := Scalar.select v33 v34 v19
  let v36 : BitVec 32 := Scalar.subi v35 c0_i32_13
  let c1_i32_14 : BitVec 32 := 1#32
  let v38 : BitVec 32 := Scalar.divsi v36 c1_i32_14
  let v39 : BitVec 32 := Scalar.muli v38 c1_i32_14
  let v40 : BitVec 32 := Scalar.addi c0_i32_13 v39
  let c1_i32_16 : BitVec 32 := 1#32
  let arg15 : BitVec 32 := Scf.iv v40 c1_i32_16 k0_t2
  let v88 : BitVec 32 := Scalar.muli c6_i32_46 arg15
  let c1_i32_74 : BitVec 32 := 1#32
  let v163 : BitVec 32 := Scalar.addi v88 c1_i32_74
  let c512_i32_75 : BitVec 32 := 512#32
  let v164 : BitVec 32 := Scalar.muli v163 c512_i32_75
  v164
def k0_mult9 (i : grid0.Coords) (k0_t2 : Fin (k0_t2_loop i).trips) : BitVec 32 :=
  let c6_i32_46 : BitVec 32 := 6#32
  let c0_i32_13 : BitVec 32 := 0#32
  let c2_i32 : BitVec 32 := 2#32
  let arg1 : BitVec 32 := BitVec.ofNat 32 (i 1).val
  let v18 : BitVec 32 := Scalar.muli c2_i32 arg1
  let c0_i32 : BitVec 32 := 0#32
  let v20 : BitVec 1 := Scalar.cmpi .sgt v18 c0_i32
  let v21 : BitVec 32 := Scalar.extui v20
  let c0_i32_8 : BitVec 32 := 0#32
  let v22 : BitVec 1 := Scalar.cmpi .slt v18 c0_i32_8
  let v23 : BitVec 32 := Scalar.extui v22
  let v24 : BitVec 32 := Scalar.subi v21 v23
  let c6_i32 : BitVec 32 := 6#32
  let c0_i32_9 : BitVec 32 := 0#32
  let v25 : BitVec 1 := Scalar.cmpi .sgt c6_i32 c0_i32_9
  let v26 : BitVec 32 := Scalar.extui v25
  let c0_i32_10 : BitVec 32 := 0#32
  let v27 : BitVec 1 := Scalar.cmpi .slt c6_i32 c0_i32_10
  let v28 : BitVec 32 := Scalar.extui v27
  let v29 : BitVec 32 := Scalar.subi v26 v28
  let v30 : BitVec 1 := Scalar.cmpi .ne v24 v29
  let v31 : BitVec 32 := Scalar.remsi v18 c6_i32
  let c0_i32_11 : BitVec 32 := 0#32
  let v32 : BitVec 1 := Scalar.cmpi .ne v31 c0_i32_11
  let v33 : BitVec 1 := Scalar.andi v30 v32
  let v19 : BitVec 32 := Scalar.divsi v18 c6_i32
  let c1_i32 : BitVec 32 := 1#32
  let v34 : BitVec 32 := Scalar.subi v19 c1_i32
  let v35 : BitVec 32 := Scalar.select v33 v34 v19
  let v36 : BitVec 32 := Scalar.subi v35 c0_i32_13
  let c1_i32_14 : BitVec 32 := 1#32
  let v38 : BitVec 32 := Scalar.divsi v36 c1_i32_14
  let v39 : BitVec 32 := Scalar.muli v38 c1_i32_14
  let v40 : BitVec 32 := Scalar.addi c0_i32_13 v39
  let c1_i32_16 : BitVec 32 := 1#32
  let arg15 : BitVec 32 := Scf.iv v40 c1_i32_16 k0_t2
  let v88 : BitVec 32 := Scalar.muli c6_i32_46 arg15
  let c2_i32_102 : BitVec 32 := 2#32
  let v237 : BitVec 32 := Scalar.addi v88 c2_i32_102
  let c512_i32_103 : BitVec 32 := 512#32
  let v238 : BitVec 32 := Scalar.muli v237 c512_i32_103
  v238
def k0_mult10 (i : grid0.Coords) (k0_t2 : Fin (k0_t2_loop i).trips) : BitVec 32 :=
  let c6_i32_46 : BitVec 32 := 6#32
  let c0_i32_13 : BitVec 32 := 0#32
  let c2_i32 : BitVec 32 := 2#32
  let arg1 : BitVec 32 := BitVec.ofNat 32 (i 1).val
  let v18 : BitVec 32 := Scalar.muli c2_i32 arg1
  let c0_i32 : BitVec 32 := 0#32
  let v20 : BitVec 1 := Scalar.cmpi .sgt v18 c0_i32
  let v21 : BitVec 32 := Scalar.extui v20
  let c0_i32_8 : BitVec 32 := 0#32
  let v22 : BitVec 1 := Scalar.cmpi .slt v18 c0_i32_8
  let v23 : BitVec 32 := Scalar.extui v22
  let v24 : BitVec 32 := Scalar.subi v21 v23
  let c6_i32 : BitVec 32 := 6#32
  let c0_i32_9 : BitVec 32 := 0#32
  let v25 : BitVec 1 := Scalar.cmpi .sgt c6_i32 c0_i32_9
  let v26 : BitVec 32 := Scalar.extui v25
  let c0_i32_10 : BitVec 32 := 0#32
  let v27 : BitVec 1 := Scalar.cmpi .slt c6_i32 c0_i32_10
  let v28 : BitVec 32 := Scalar.extui v27
  let v29 : BitVec 32 := Scalar.subi v26 v28
  let v30 : BitVec 1 := Scalar.cmpi .ne v24 v29
  let v31 : BitVec 32 := Scalar.remsi v18 c6_i32
  let c0_i32_11 : BitVec 32 := 0#32
  let v32 : BitVec 1 := Scalar.cmpi .ne v31 c0_i32_11
  let v33 : BitVec 1 := Scalar.andi v30 v32
  let v19 : BitVec 32 := Scalar.divsi v18 c6_i32
  let c1_i32 : BitVec 32 := 1#32
  let v34 : BitVec 32 := Scalar.subi v19 c1_i32
  let v35 : BitVec 32 := Scalar.select v33 v34 v19
  let v36 : BitVec 32 := Scalar.subi v35 c0_i32_13
  let c1_i32_14 : BitVec 32 := 1#32
  let v38 : BitVec 32 := Scalar.divsi v36 c1_i32_14
  let v39 : BitVec 32 := Scalar.muli v38 c1_i32_14
  let v40 : BitVec 32 := Scalar.addi c0_i32_13 v39
  let c1_i32_16 : BitVec 32 := 1#32
  let arg15 : BitVec 32 := Scf.iv v40 c1_i32_16 k0_t2
  let v88 : BitVec 32 := Scalar.muli c6_i32_46 arg15
  let c3_i32 : BitVec 32 := 3#32
  let v311 : BitVec 32 := Scalar.addi v88 c3_i32
  let c512_i32_130 : BitVec 32 := 512#32
  let v312 : BitVec 32 := Scalar.muli v311 c512_i32_130
  v312
def k0_mult11 (i : grid0.Coords) (k0_t2 : Fin (k0_t2_loop i).trips) : BitVec 32 :=
  let c6_i32_46 : BitVec 32 := 6#32
  let c0_i32_13 : BitVec 32 := 0#32
  let c2_i32 : BitVec 32 := 2#32
  let arg1 : BitVec 32 := BitVec.ofNat 32 (i 1).val
  let v18 : BitVec 32 := Scalar.muli c2_i32 arg1
  let c0_i32 : BitVec 32 := 0#32
  let v20 : BitVec 1 := Scalar.cmpi .sgt v18 c0_i32
  let v21 : BitVec 32 := Scalar.extui v20
  let c0_i32_8 : BitVec 32 := 0#32
  let v22 : BitVec 1 := Scalar.cmpi .slt v18 c0_i32_8
  let v23 : BitVec 32 := Scalar.extui v22
  let v24 : BitVec 32 := Scalar.subi v21 v23
  let c6_i32 : BitVec 32 := 6#32
  let c0_i32_9 : BitVec 32 := 0#32
  let v25 : BitVec 1 := Scalar.cmpi .sgt c6_i32 c0_i32_9
  let v26 : BitVec 32 := Scalar.extui v25
  let c0_i32_10 : BitVec 32 := 0#32
  let v27 : BitVec 1 := Scalar.cmpi .slt c6_i32 c0_i32_10
  let v28 : BitVec 32 := Scalar.extui v27
  let v29 : BitVec 32 := Scalar.subi v26 v28
  let v30 : BitVec 1 := Scalar.cmpi .ne v24 v29
  let v31 : BitVec 32 := Scalar.remsi v18 c6_i32
  let c0_i32_11 : BitVec 32 := 0#32
  let v32 : BitVec 1 := Scalar.cmpi .ne v31 c0_i32_11
  let v33 : BitVec 1 := Scalar.andi v30 v32
  let v19 : BitVec 32 := Scalar.divsi v18 c6_i32
  let c1_i32 : BitVec 32 := 1#32
  let v34 : BitVec 32 := Scalar.subi v19 c1_i32
  let v35 : BitVec 32 := Scalar.select v33 v34 v19
  let v36 : BitVec 32 := Scalar.subi v35 c0_i32_13
  let c1_i32_14 : BitVec 32 := 1#32
  let v38 : BitVec 32 := Scalar.divsi v36 c1_i32_14
  let v39 : BitVec 32 := Scalar.muli v38 c1_i32_14
  let v40 : BitVec 32 := Scalar.addi c0_i32_13 v39
  let c1_i32_16 : BitVec 32 := 1#32
  let arg15 : BitVec 32 := Scf.iv v40 c1_i32_16 k0_t2
  let v88 : BitVec 32 := Scalar.muli c6_i32_46 arg15
  let c4_i32_157 : BitVec 32 := 4#32
  let v385 : BitVec 32 := Scalar.addi v88 c4_i32_157
  let c512_i32_158 : BitVec 32 := 512#32
  let v386 : BitVec 32 := Scalar.muli v385 c512_i32_158
  v386
def k0_mult12 (i : grid0.Coords) (k0_t2 : Fin (k0_t2_loop i).trips) : BitVec 32 :=
  let c6_i32_46 : BitVec 32 := 6#32
  let c0_i32_13 : BitVec 32 := 0#32
  let c2_i32 : BitVec 32 := 2#32
  let arg1 : BitVec 32 := BitVec.ofNat 32 (i 1).val
  let v18 : BitVec 32 := Scalar.muli c2_i32 arg1
  let c0_i32 : BitVec 32 := 0#32
  let v20 : BitVec 1 := Scalar.cmpi .sgt v18 c0_i32
  let v21 : BitVec 32 := Scalar.extui v20
  let c0_i32_8 : BitVec 32 := 0#32
  let v22 : BitVec 1 := Scalar.cmpi .slt v18 c0_i32_8
  let v23 : BitVec 32 := Scalar.extui v22
  let v24 : BitVec 32 := Scalar.subi v21 v23
  let c6_i32 : BitVec 32 := 6#32
  let c0_i32_9 : BitVec 32 := 0#32
  let v25 : BitVec 1 := Scalar.cmpi .sgt c6_i32 c0_i32_9
  let v26 : BitVec 32 := Scalar.extui v25
  let c0_i32_10 : BitVec 32 := 0#32
  let v27 : BitVec 1 := Scalar.cmpi .slt c6_i32 c0_i32_10
  let v28 : BitVec 32 := Scalar.extui v27
  let v29 : BitVec 32 := Scalar.subi v26 v28
  let v30 : BitVec 1 := Scalar.cmpi .ne v24 v29
  let v31 : BitVec 32 := Scalar.remsi v18 c6_i32
  let c0_i32_11 : BitVec 32 := 0#32
  let v32 : BitVec 1 := Scalar.cmpi .ne v31 c0_i32_11
  let v33 : BitVec 1 := Scalar.andi v30 v32
  let v19 : BitVec 32 := Scalar.divsi v18 c6_i32
  let c1_i32 : BitVec 32 := 1#32
  let v34 : BitVec 32 := Scalar.subi v19 c1_i32
  let v35 : BitVec 32 := Scalar.select v33 v34 v19
  let v36 : BitVec 32 := Scalar.subi v35 c0_i32_13
  let c1_i32_14 : BitVec 32 := 1#32
  let v38 : BitVec 32 := Scalar.divsi v36 c1_i32_14
  let v39 : BitVec 32 := Scalar.muli v38 c1_i32_14
  let v40 : BitVec 32 := Scalar.addi c0_i32_13 v39
  let c1_i32_16 : BitVec 32 := 1#32
  let arg15 : BitVec 32 := Scf.iv v40 c1_i32_16 k0_t2
  let v88 : BitVec 32 := Scalar.muli c6_i32_46 arg15
  let c5_i32 : BitVec 32 := 5#32
  let v459 : BitVec 32 := Scalar.addi v88 c5_i32
  let c512_i32_185 : BitVec 32 := 512#32
  let v460 : BitVec 32 := Scalar.muli v459 c512_i32_185
  v460
def k0_cond1 (i : grid0.Coords) : BitVec 1 :=
  let c2_i32 : BitVec 32 := 2#32
  let arg1 : BitVec 32 := BitVec.ofNat 32 (i 1).val
  let v18 : BitVec 32 := Scalar.muli c2_i32 arg1
  let c6_i32_17 : BitVec 32 := 6#32
  let c0_i32_18 : BitVec 32 := 0#32
  let v41 : BitVec 1 := Scalar.cmpi .eq c6_i32_17 c0_i32_18
  let c1_i32_19 : BitVec 32 := 1#32
  let v42 : BitVec 32 := Scalar.select v41 c1_i32_19 c6_i32_17
  let v43 : BitVec 32 := Scalar.remsi v18 v42
  let c0_i32_21 : BitVec 32 := 0#32
  let v45 : BitVec 1 := Scalar.cmpi .slt v43 c0_i32_21
  let c0_i32_22 : BitVec 32 := 0#32
  let v46 : BitVec 1 := Scalar.cmpi .slt v42 c0_i32_22
  let v47 : BitVec 1 := Scalar.xori v45 v46
  let c0_i32_20 : BitVec 32 := 0#32
  let v44 : BitVec 1 := Scalar.cmpi .ne v43 c0_i32_20
  let v48 : BitVec 1 := Scalar.andi v47 v44
  let v49 : BitVec 32 := Scalar.addi v43 v42
  let v50 : BitVec 32 := Scalar.select v48 v49 v43
  let c0_i32_23 : BitVec 32 := 0#32
  let v51 : BitVec 1 := Scalar.cmpi .eq v50 c0_i32_23
  let v52 : BitVec 32 := Scalar.extui v51
  let c0_i32_24 : BitVec 32 := 0#32
  let v53 : BitVec 1 := Scalar.cmpi .ne v52 c0_i32_24
  v53

def k0_mult13 (i : grid0.Coords) : BitVec 32 :=
  let c2_i32 : BitVec 32 := 2#32
  let arg1 : BitVec 32 := BitVec.ofNat 32 (i 1).val
  let v18 : BitVec 32 := Scalar.muli c2_i32 arg1
  let c0_i32_46 : BitVec 32 := 0#32
  let v88 : BitVec 32 := Scalar.subi v18 c0_i32_46
  let c0_i32_47 : BitVec 32 := 0#32
  let v89 : BitVec 32 := Scalar.addi v88 c0_i32_47
  let c512_i32 : BitVec 32 := 512#32
  let v90 : BitVec 32 := Scalar.muli v89 c512_i32
  v90
def k0_off7 (i : grid0.Coords) (c0_i32_47 : BitVec 32) : Fin 3 → Nat :=
  let c0_53 : Index := 0#32
  let c2_i32 : BitVec 32 := 2#32
  let arg1 : BitVec 32 := BitVec.ofNat 32 (i 1).val
  let v18 : BitVec 32 := Scalar.muli c2_i32 arg1
  let c0_i32_46 : BitVec 32 := 0#32
  let v88 : BitVec 32 := Scalar.subi v18 c0_i32_46
  let v89 : BitVec 32 := Scalar.addi v88 c0_i32_47
  let c512_i32 : BitVec 32 := 512#32
  let v90 : BitVec 32 := Scalar.muli v89 c512_i32
  let v91 : BitVec 32 := v90
  let v96 : Index := Scalar.indexCast v91
  let c0_54 : Index := 0#32
  ![0, v96.toNat, 0]
def k0_off8 (i : grid0.Coords) (c0_i32_47 : BitVec 32) : Fin 2 → Nat :=
  let c2_i32 : BitVec 32 := 2#32
  let arg1 : BitVec 32 := BitVec.ofNat 32 (i 1).val
  let v18 : BitVec 32 := Scalar.muli c2_i32 arg1
  let c0_i32_46 : BitVec 32 := 0#32
  let v88 : BitVec 32 := Scalar.subi v18 c0_i32_46
  let v89 : BitVec 32 := Scalar.addi v88 c0_i32_47
  let c512_i32 : BitVec 32 := 512#32
  let v90 : BitVec 32 := Scalar.muli v89 c512_i32
  let v91 : BitVec 32 := v90
  let v109 : Index := Scalar.indexCast v91
  let c0_59 : Index := 0#32
  ![v109.toNat, 0]
def k0_off9 (i : grid0.Coords) (c0_i32_47 : BitVec 32) : Fin 2 → Nat :=
  let c2_i32 : BitVec 32 := 2#32
  let arg1 : BitVec 32 := BitVec.ofNat 32 (i 1).val
  let v18 : BitVec 32 := Scalar.muli c2_i32 arg1
  let c0_i32_46 : BitVec 32 := 0#32
  let v88 : BitVec 32 := Scalar.subi v18 c0_i32_46
  let v89 : BitVec 32 := Scalar.addi v88 c0_i32_47
  let c512_i32 : BitVec 32 := 512#32
  let v90 : BitVec 32 := Scalar.muli v89 c512_i32
  let v91 : BitVec 32 := v90
  let v152 : Index := Scalar.indexCast v91
  let c0_68 : Index := 0#32
  ![v152.toNat, 0]
def k0_mult14 (i : grid0.Coords) : BitVec 32 :=
  let c2_i32 : BitVec 32 := 2#32
  let arg1 : BitVec 32 := BitVec.ofNat 32 (i 1).val
  let v18 : BitVec 32 := Scalar.muli c2_i32 arg1
  let c0_i32_46 : BitVec 32 := 0#32
  let v88 : BitVec 32 := Scalar.subi v18 c0_i32_46
  let c1_i32_75 : BitVec 32 := 1#32
  let v166 : BitVec 32 := Scalar.addi v88 c1_i32_75
  let c512_i32_76 : BitVec 32 := 512#32
  let v167 : BitVec 32 := Scalar.muli v166 c512_i32_76
  v167
def k0_cond2 (i : grid0.Coords) : BitVec 1 :=
  let c2_i32 : BitVec 32 := 2#32
  let arg1 : BitVec 32 := BitVec.ofNat 32 (i 1).val
  let v18 : BitVec 32 := Scalar.muli c2_i32 arg1
  let c6_i32_25 : BitVec 32 := 6#32
  let c0_i32_26 : BitVec 32 := 0#32
  let v54 : BitVec 1 := Scalar.cmpi .eq c6_i32_25 c0_i32_26
  let c1_i32_27 : BitVec 32 := 1#32
  let v55 : BitVec 32 := Scalar.select v54 c1_i32_27 c6_i32_25
  let v56 : BitVec 32 := Scalar.remsi v18 v55
  let c0_i32_29 : BitVec 32 := 0#32
  let v58 : BitVec 1 := Scalar.cmpi .slt v56 c0_i32_29
  let c0_i32_30 : BitVec 32 := 0#32
  let v59 : BitVec 1 := Scalar.cmpi .slt v55 c0_i32_30
  let v60 : BitVec 1 := Scalar.xori v58 v59
  let c0_i32_28 : BitVec 32 := 0#32
  let v57 : BitVec 1 := Scalar.cmpi .ne v56 c0_i32_28
  let v61 : BitVec 1 := Scalar.andi v60 v57
  let v62 : BitVec 32 := Scalar.addi v56 v55
  let v63 : BitVec 32 := Scalar.select v61 v62 v56
  let c2_i32_31 : BitVec 32 := 2#32
  let v64 : BitVec 1 := Scalar.cmpi .eq v63 c2_i32_31
  let v65 : BitVec 32 := Scalar.extui v64
  let c0_i32_32 : BitVec 32 := 0#32
  let v66 : BitVec 1 := Scalar.cmpi .ne v65 c0_i32_32
  v66

def k0_mult15 (i : grid0.Coords) : BitVec 32 :=
  let c2_i32 : BitVec 32 := 2#32
  let arg1 : BitVec 32 := BitVec.ofNat 32 (i 1).val
  let v18 : BitVec 32 := Scalar.muli c2_i32 arg1
  let c2_i32_46 : BitVec 32 := 2#32
  let v88 : BitVec 32 := Scalar.subi v18 c2_i32_46
  let c0_i32_47 : BitVec 32 := 0#32
  let v89 : BitVec 32 := Scalar.addi v88 c0_i32_47
  let c512_i32 : BitVec 32 := 512#32
  let v90 : BitVec 32 := Scalar.muli v89 c512_i32
  v90
def k0_off10 (i : grid0.Coords) (c0_i32_47 : BitVec 32) : Fin 3 → Nat :=
  let c0_53 : Index := 0#32
  let c2_i32 : BitVec 32 := 2#32
  let arg1 : BitVec 32 := BitVec.ofNat 32 (i 1).val
  let v18 : BitVec 32 := Scalar.muli c2_i32 arg1
  let c2_i32_46 : BitVec 32 := 2#32
  let v88 : BitVec 32 := Scalar.subi v18 c2_i32_46
  let v89 : BitVec 32 := Scalar.addi v88 c0_i32_47
  let c512_i32 : BitVec 32 := 512#32
  let v90 : BitVec 32 := Scalar.muli v89 c512_i32
  let v91 : BitVec 32 := v90
  let v96 : Index := Scalar.indexCast v91
  let c0_54 : Index := 0#32
  ![0, v96.toNat, 0]
def k0_off11 (i : grid0.Coords) (c0_i32_47 : BitVec 32) : Fin 2 → Nat :=
  let c2_i32 : BitVec 32 := 2#32
  let arg1 : BitVec 32 := BitVec.ofNat 32 (i 1).val
  let v18 : BitVec 32 := Scalar.muli c2_i32 arg1
  let c2_i32_46 : BitVec 32 := 2#32
  let v88 : BitVec 32 := Scalar.subi v18 c2_i32_46
  let v89 : BitVec 32 := Scalar.addi v88 c0_i32_47
  let c512_i32 : BitVec 32 := 512#32
  let v90 : BitVec 32 := Scalar.muli v89 c512_i32
  let v91 : BitVec 32 := v90
  let v100 : Index := Scalar.indexCast v91
  let c0_56 : Index := 0#32
  ![v100.toNat, 0]
def k0_off12 (i : grid0.Coords) (c0_i32_47 : BitVec 32) : Fin 2 → Nat :=
  let c2_i32 : BitVec 32 := 2#32
  let arg1 : BitVec 32 := BitVec.ofNat 32 (i 1).val
  let v18 : BitVec 32 := Scalar.muli c2_i32 arg1
  let c2_i32_46 : BitVec 32 := 2#32
  let v88 : BitVec 32 := Scalar.subi v18 c2_i32_46
  let v89 : BitVec 32 := Scalar.addi v88 c0_i32_47
  let c512_i32 : BitVec 32 := 512#32
  let v90 : BitVec 32 := Scalar.muli v89 c512_i32
  let v91 : BitVec 32 := v90
  let v143 : Index := Scalar.indexCast v91
  let c0_65 : Index := 0#32
  ![v143.toNat, 0]
def k0_mult16 (i : grid0.Coords) : BitVec 32 :=
  let c2_i32 : BitVec 32 := 2#32
  let arg1 : BitVec 32 := BitVec.ofNat 32 (i 1).val
  let v18 : BitVec 32 := Scalar.muli c2_i32 arg1
  let c2_i32_46 : BitVec 32 := 2#32
  let v88 : BitVec 32 := Scalar.subi v18 c2_i32_46
  let c1_i32_74 : BitVec 32 := 1#32
  let v163 : BitVec 32 := Scalar.addi v88 c1_i32_74
  let c512_i32_75 : BitVec 32 := 512#32
  let v164 : BitVec 32 := Scalar.muli v163 c512_i32_75
  v164
def k0_mult17 (i : grid0.Coords) : BitVec 32 :=
  let c2_i32 : BitVec 32 := 2#32
  let arg1 : BitVec 32 := BitVec.ofNat 32 (i 1).val
  let v18 : BitVec 32 := Scalar.muli c2_i32 arg1
  let c2_i32_46 : BitVec 32 := 2#32
  let v88 : BitVec 32 := Scalar.subi v18 c2_i32_46
  let c2_i32_102 : BitVec 32 := 2#32
  let v237 : BitVec 32 := Scalar.addi v88 c2_i32_102
  let c512_i32_103 : BitVec 32 := 512#32
  let v238 : BitVec 32 := Scalar.muli v237 c512_i32_103
  v238
def k0_mult18 (i : grid0.Coords) : BitVec 32 :=
  let c2_i32 : BitVec 32 := 2#32
  let arg1 : BitVec 32 := BitVec.ofNat 32 (i 1).val
  let v18 : BitVec 32 := Scalar.muli c2_i32 arg1
  let c2_i32_46 : BitVec 32 := 2#32
  let v88 : BitVec 32 := Scalar.subi v18 c2_i32_46
  let c3_i32 : BitVec 32 := 3#32
  let v314 : BitVec 32 := Scalar.addi v88 c3_i32
  let c512_i32_131 : BitVec 32 := 512#32
  let v315 : BitVec 32 := Scalar.muli v314 c512_i32_131
  v315
def k0_cond3 (i : grid0.Coords) : BitVec 1 :=
  let c2_i32 : BitVec 32 := 2#32
  let arg1 : BitVec 32 := BitVec.ofNat 32 (i 1).val
  let v18 : BitVec 32 := Scalar.muli c2_i32 arg1
  let c6_i32_33 : BitVec 32 := 6#32
  let c0_i32_34 : BitVec 32 := 0#32
  let v67 : BitVec 1 := Scalar.cmpi .eq c6_i32_33 c0_i32_34
  let c1_i32_35 : BitVec 32 := 1#32
  let v68 : BitVec 32 := Scalar.select v67 c1_i32_35 c6_i32_33
  let v69 : BitVec 32 := Scalar.remsi v18 v68
  let c0_i32_37 : BitVec 32 := 0#32
  let v71 : BitVec 1 := Scalar.cmpi .slt v69 c0_i32_37
  let c0_i32_38 : BitVec 32 := 0#32
  let v72 : BitVec 1 := Scalar.cmpi .slt v68 c0_i32_38
  let v73 : BitVec 1 := Scalar.xori v71 v72
  let c0_i32_36 : BitVec 32 := 0#32
  let v70 : BitVec 1 := Scalar.cmpi .ne v69 c0_i32_36
  let v74 : BitVec 1 := Scalar.andi v73 v70
  let v75 : BitVec 32 := Scalar.addi v69 v68
  let v76 : BitVec 32 := Scalar.select v74 v75 v69
  let c4_i32 : BitVec 32 := 4#32
  let v77 : BitVec 1 := Scalar.cmpi .eq v76 c4_i32
  let v78 : BitVec 32 := Scalar.extui v77
  let c0_i32_39 : BitVec 32 := 0#32
  let v79 : BitVec 1 := Scalar.cmpi .ne v78 c0_i32_39
  v79

def k0_mult19 (i : grid0.Coords) : BitVec 32 :=
  let c2_i32 : BitVec 32 := 2#32
  let arg1 : BitVec 32 := BitVec.ofNat 32 (i 1).val
  let v18 : BitVec 32 := Scalar.muli c2_i32 arg1
  let c4_i32_46 : BitVec 32 := 4#32
  let v88 : BitVec 32 := Scalar.subi v18 c4_i32_46
  let c0_i32_47 : BitVec 32 := 0#32
  let v89 : BitVec 32 := Scalar.addi v88 c0_i32_47
  let c512_i32 : BitVec 32 := 512#32
  let v90 : BitVec 32 := Scalar.muli v89 c512_i32
  v90
def k0_off13 (i : grid0.Coords) (c0_i32_47 : BitVec 32) : Fin 3 → Nat :=
  let c0_53 : Index := 0#32
  let c2_i32 : BitVec 32 := 2#32
  let arg1 : BitVec 32 := BitVec.ofNat 32 (i 1).val
  let v18 : BitVec 32 := Scalar.muli c2_i32 arg1
  let c4_i32_46 : BitVec 32 := 4#32
  let v88 : BitVec 32 := Scalar.subi v18 c4_i32_46
  let v89 : BitVec 32 := Scalar.addi v88 c0_i32_47
  let c512_i32 : BitVec 32 := 512#32
  let v90 : BitVec 32 := Scalar.muli v89 c512_i32
  let v91 : BitVec 32 := v90
  let v96 : Index := Scalar.indexCast v91
  let c0_54 : Index := 0#32
  ![0, v96.toNat, 0]
def k0_off14 (i : grid0.Coords) (c0_i32_47 : BitVec 32) : Fin 2 → Nat :=
  let c2_i32 : BitVec 32 := 2#32
  let arg1 : BitVec 32 := BitVec.ofNat 32 (i 1).val
  let v18 : BitVec 32 := Scalar.muli c2_i32 arg1
  let c4_i32_46 : BitVec 32 := 4#32
  let v88 : BitVec 32 := Scalar.subi v18 c4_i32_46
  let v89 : BitVec 32 := Scalar.addi v88 c0_i32_47
  let c512_i32 : BitVec 32 := 512#32
  let v90 : BitVec 32 := Scalar.muli v89 c512_i32
  let v91 : BitVec 32 := v90
  let v100 : Index := Scalar.indexCast v91
  let c0_56 : Index := 0#32
  ![v100.toNat, 0]
def k0_off15 (i : grid0.Coords) (c0_i32_47 : BitVec 32) : Fin 2 → Nat :=
  let c2_i32 : BitVec 32 := 2#32
  let arg1 : BitVec 32 := BitVec.ofNat 32 (i 1).val
  let v18 : BitVec 32 := Scalar.muli c2_i32 arg1
  let c4_i32_46 : BitVec 32 := 4#32
  let v88 : BitVec 32 := Scalar.subi v18 c4_i32_46
  let v89 : BitVec 32 := Scalar.addi v88 c0_i32_47
  let c512_i32 : BitVec 32 := 512#32
  let v90 : BitVec 32 := Scalar.muli v89 c512_i32
  let v91 : BitVec 32 := v90
  let v143 : Index := Scalar.indexCast v91
  let c0_65 : Index := 0#32
  ![v143.toNat, 0]
def k0_mult20 (i : grid0.Coords) : BitVec 32 :=
  let c2_i32 : BitVec 32 := 2#32
  let arg1 : BitVec 32 := BitVec.ofNat 32 (i 1).val
  let v18 : BitVec 32 := Scalar.muli c2_i32 arg1
  let c4_i32_46 : BitVec 32 := 4#32
  let v88 : BitVec 32 := Scalar.subi v18 c4_i32_46
  let c1_i32_74 : BitVec 32 := 1#32
  let v163 : BitVec 32 := Scalar.addi v88 c1_i32_74
  let c512_i32_75 : BitVec 32 := 512#32
  let v164 : BitVec 32 := Scalar.muli v163 c512_i32_75
  v164
def k0_mult21 (i : grid0.Coords) : BitVec 32 :=
  let c2_i32 : BitVec 32 := 2#32
  let arg1 : BitVec 32 := BitVec.ofNat 32 (i 1).val
  let v18 : BitVec 32 := Scalar.muli c2_i32 arg1
  let c4_i32_46 : BitVec 32 := 4#32
  let v88 : BitVec 32 := Scalar.subi v18 c4_i32_46
  let c2_i32_102 : BitVec 32 := 2#32
  let v237 : BitVec 32 := Scalar.addi v88 c2_i32_102
  let c512_i32_103 : BitVec 32 := 512#32
  let v238 : BitVec 32 := Scalar.muli v237 c512_i32_103
  v238
def k0_mult22 (i : grid0.Coords) : BitVec 32 :=
  let c2_i32 : BitVec 32 := 2#32
  let arg1 : BitVec 32 := BitVec.ofNat 32 (i 1).val
  let v18 : BitVec 32 := Scalar.muli c2_i32 arg1
  let c4_i32_46 : BitVec 32 := 4#32
  let v88 : BitVec 32 := Scalar.subi v18 c4_i32_46
  let c3_i32 : BitVec 32 := 3#32
  let v311 : BitVec 32 := Scalar.addi v88 c3_i32
  let c512_i32_130 : BitVec 32 := 512#32
  let v312 : BitVec 32 := Scalar.muli v311 c512_i32_130
  v312
def k0_mult23 (i : grid0.Coords) : BitVec 32 :=
  let c2_i32 : BitVec 32 := 2#32
  let arg1 : BitVec 32 := BitVec.ofNat 32 (i 1).val
  let v18 : BitVec 32 := Scalar.muli c2_i32 arg1
  let c4_i32_46 : BitVec 32 := 4#32
  let v88 : BitVec 32 := Scalar.subi v18 c4_i32_46
  let c4_i32_157 : BitVec 32 := 4#32
  let v385 : BitVec 32 := Scalar.addi v88 c4_i32_157
  let c512_i32_158 : BitVec 32 := 512#32
  let v386 : BitVec 32 := Scalar.muli v385 c512_i32_158
  v386
def k0_mult24 (i : grid0.Coords) : BitVec 32 :=
  let c2_i32 : BitVec 32 := 2#32
  let arg1 : BitVec 32 := BitVec.ofNat 32 (i 1).val
  let v18 : BitVec 32 := Scalar.muli c2_i32 arg1
  let c4_i32_46 : BitVec 32 := 4#32
  let v88 : BitVec 32 := Scalar.subi v18 c4_i32_46
  let c5_i32 : BitVec 32 := 5#32
  let v462 : BitVec 32 := Scalar.addi v88 c5_i32
  let c512_i32_186 : BitVec 32 := 512#32
  let v463 : BitVec 32 := Scalar.muli v462 c512_i32_186
  v463
def k0_cond4 (i : grid0.Coords) : BitVec 1 :=
  let arg1 : BitVec 32 := BitVec.ofNat 32 (i 1).val
  let c7_i32 : BitVec 32 := 7#32
  let v85 : BitVec 1 := Scalar.cmpi .eq arg1 c7_i32
  let v86 : BitVec 32 := Scalar.extui v85
  let c0_i32_45 : BitVec 32 := 0#32
  let v87 : BitVec 1 := Scalar.cmpi .ne v86 c0_i32_45
  v87

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8192x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x8192x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S8192x16x128 : Shape := ⟨3, ![8192, 16, 128]⟩
abbrev S8192x16x64 : Shape := ⟨3, ![8192, 16, 64]⟩
abbrev S8192x64 : Shape := ⟨2, ![8192, 64]⟩
abbrev S16x8192x8192 : Shape := ⟨3, ![16, 8192, 8192]⟩
abbrev S8192x8192x16 : Shape := ⟨3, ![8192, 8192, 16]⟩
abbrev S8192 : Shape := ⟨1, ![8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S16x8192 : Shape := ⟨2, ![16, 8192]⟩
abbrev S16x8192x1 : Shape := ⟨3, ![16, 8192, 1]⟩
abbrev S16x128x8192 : Shape := ⟨3, ![16, 128, 8192]⟩
abbrev S16x8192x128 : Shape := ⟨3, ![16, 8192, 128]⟩

abbrev nBuf : Space → Nat
  | .hbm => 115
  | .vmem => 0
  | .smem => 0
  | _ => 0

abbrev bufTy : (tb : Table) → Fin (tcTables nBuf tb) → BufTy
  | .hbm, ⟨0, _⟩ => ⟨S8192x16x128, .f32⟩
  | .hbm, ⟨1, _⟩ => ⟨S8192x16x64, .f32⟩
  | .hbm, ⟨2, _⟩ => ⟨S8192x16x128, .f32⟩
  | .hbm, ⟨3, _⟩ => ⟨S8192x64, .f32⟩
  | .hbm, ⟨4, _⟩ => ⟨S8192x16x128, .f32⟩
  | .hbm, ⟨5, _⟩ => ⟨S8192x16x128, .f32⟩
  | .hbm, ⟨6, _⟩ => ⟨S16x8192x8192, .f32⟩
  | .hbm, ⟨7, _⟩ => ⟨S8192x8192x16, .f32⟩
  | .hbm, ⟨8, _⟩ => ⟨S16x8192x8192, .f32⟩
  | .hbm, ⟨9, _⟩ => ⟨S16x8192x8192, .f32⟩
  | .hbm, ⟨10, _⟩ => ⟨S8192, .i32⟩
  | .hbm, ⟨11, _⟩ => ⟨S_, .i32⟩
  | .hbm, ⟨12, _⟩ => ⟨S_, .i32⟩
  | .hbm, ⟨13, _⟩ => ⟨S8192, .i32⟩
  | .hbm, ⟨14, _⟩ => ⟨S8192, .i32⟩
  | .hbm, ⟨15, _⟩ => ⟨S8192, .i32⟩
  | .hbm, ⟨16, _⟩ => ⟨S_, .i32⟩
  | .hbm, ⟨17, _⟩ => ⟨S8192, .i32⟩
  | .hbm, ⟨18, _⟩ => ⟨S8192, .i1⟩
  | .hbm, ⟨19, _⟩ => ⟨S8192, .i32⟩
  | .hbm, ⟨20, _⟩ => ⟨S8192, .i32⟩
  | .hbm, ⟨21, _⟩ => ⟨S_, .i32⟩
  | .hbm, ⟨22, _⟩ => ⟨S8192, .i32⟩
  | .hbm, ⟨23, _⟩ => ⟨S8192, .i1⟩
  | .hbm, ⟨24, _⟩ => ⟨S8192, .i1⟩
  | .hbm, ⟨25, _⟩ => ⟨S_, .i32⟩
  | .hbm, ⟨26, _⟩ => ⟨S8192, .i32⟩
  | .hbm, ⟨27, _⟩ => ⟨S8192, .i32⟩
  | .hbm, ⟨28, _⟩ => ⟨S8192, .i32⟩
  | .hbm, ⟨29, _⟩ => ⟨S1x8192, .i32⟩
  | .hbm, ⟨30, _⟩ => ⟨S8192x1, .i32⟩
  | .hbm, ⟨31, _⟩ => ⟨S8192x8192, .i32⟩
  | .hbm, ⟨32, _⟩ => ⟨S8192x8192, .i32⟩
  | .hbm, ⟨33, _⟩ => ⟨S8192x8192, .i1⟩
  | .hbm, ⟨34, _⟩ => ⟨S_, .f32⟩
  | .hbm, ⟨35, _⟩ => ⟨S16x8192x8192, .f32⟩
  | .hbm, ⟨36, _⟩ => ⟨S16x8192x8192, .f32⟩
  | .hbm, ⟨37, _⟩ => ⟨S_, .f32⟩
  | .hbm, ⟨38, _⟩ => ⟨S_, .f32⟩
  | .hbm, ⟨39, _⟩ => ⟨S16x8192x8192, .i1⟩
  | .hbm, ⟨40, _⟩ => ⟨S16x8192x8192, .f32⟩
  | .hbm, ⟨41, _⟩ => ⟨S16x8192x8192, .f32⟩
  | .hbm, ⟨42, _⟩ => ⟨S_, .f32⟩
  | .hbm, ⟨43, _⟩ => ⟨S16x8192x8192, .f32⟩
  | .hbm, ⟨44, _⟩ => ⟨S_, .f32⟩
  | .hbm, ⟨45, _⟩ => ⟨S16x8192, .f32⟩
  | .hbm, ⟨46, _⟩ => ⟨S16x8192x1, .f32⟩
  | .hbm, ⟨47, _⟩ => ⟨S16x8192x8192, .f32⟩
  | .hbm, ⟨48, _⟩ => ⟨S16x8192x8192, .i1⟩
  | .hbm, ⟨49, _⟩ => ⟨S16x8192x8192, .f32⟩
  | .hbm, ⟨50, _⟩ => ⟨S_, .f32⟩
  | .hbm, ⟨51, _⟩ => ⟨S16x8192, .f32⟩
  | .hbm, ⟨52, _⟩ => ⟨S_, .f32⟩
  | .hbm, ⟨53, _⟩ => ⟨S16x8192, .f32⟩
  | .hbm, ⟨54, _⟩ => ⟨S16x8192, .f32⟩
  | .hbm, ⟨55, _⟩ => ⟨S_, .f32⟩
  | .hbm, ⟨56, _⟩ => ⟨S16x8192, .f32⟩
  | .hbm, ⟨57, _⟩ => ⟨S16x8192, .i1⟩
  | .hbm, ⟨58, _⟩ => ⟨S_, .f32⟩
  | .hbm, ⟨59, _⟩ => ⟨S16x8192, .f32⟩
  | .hbm, ⟨60, _⟩ => ⟨S16x8192, .i1⟩
  | .hbm, ⟨61, _⟩ => ⟨S_, .f32⟩
  | .hbm, ⟨62, _⟩ => ⟨S16x8192, .f32⟩
  | .hbm, ⟨63, _⟩ => ⟨S_, .f32⟩
  | .hbm, ⟨64, _⟩ => ⟨S16x8192, .f32⟩
  | .hbm, ⟨65, _⟩ => ⟨S_, .f32⟩
  | .hbm, ⟨66, _⟩ => ⟨S16x8192, .f32⟩
  | .hbm, ⟨67, _⟩ => ⟨S16x8192, .f32⟩
  | .hbm, ⟨68, _⟩ => ⟨S16x8192, .f32⟩
  | .hbm, ⟨69, _⟩ => ⟨S16x8192x1, .f32⟩
  | .hbm, ⟨70, _⟩ => ⟨S16x8192x8192, .f32⟩
  | .hbm, ⟨71, _⟩ => ⟨S16x8192x8192, .f32⟩
  | .hbm, ⟨72, _⟩ => ⟨S16x8192x8192, .f32⟩
  | .hbm, ⟨73, _⟩ => ⟨S_, .f32⟩
  | .hbm, ⟨74, _⟩ => ⟨S16x8192, .f32⟩
  | .hbm, ⟨75, _⟩ => ⟨S16x8192x1, .f32⟩
  | .hbm, ⟨76, _⟩ => ⟨S16x8192x8192, .f32⟩
  | .hbm, ⟨77, _⟩ => ⟨S16x8192x8192, .f32⟩
  | .hbm, ⟨78, _⟩ => ⟨S16x8192x1, .f32⟩
  | .hbm, ⟨79, _⟩ => ⟨S_, .f32⟩
  | .hbm, ⟨80, _⟩ => ⟨S16x8192x1, .f32⟩
  | .hbm, ⟨81, _⟩ => ⟨S16x8192x1, .f32⟩
  | .hbm, ⟨82, _⟩ => ⟨S16x128x8192, .f32⟩
  | .hbm, ⟨83, _⟩ => ⟨S8192x16x128, .f32⟩
  | .hbm, ⟨84, _⟩ => ⟨S16x128x8192, .f32⟩
  | .hbm, ⟨85, _⟩ => ⟨S16x8192x8192, .f32⟩
  | .hbm, ⟨86, _⟩ => ⟨S16x128x8192, .f32⟩
  | .hbm, ⟨87, _⟩ => ⟨S8192x16x128, .f32⟩
  | .hbm, ⟨88, _⟩ => ⟨S16x8192x8192, .f32⟩
  | .hbm, ⟨89, _⟩ => ⟨S16x8192x8192, .f32⟩
  | .hbm, ⟨90, _⟩ => ⟨S16x8192x8192, .f32⟩
  | .hbm, ⟨91, _⟩ => ⟨S_, .f32⟩
  | .hbm, ⟨92, _⟩ => ⟨S16x8192, .f32⟩
  | .hbm, ⟨93, _⟩ => ⟨S16x8192x1, .f32⟩
  | .hbm, ⟨94, _⟩ => ⟨S16x8192x1, .f32⟩
  | .hbm, ⟨95, _⟩ => ⟨S16x8192x8192, .f32⟩
  | .hbm, ⟨96, _⟩ => ⟨S16x8192x8192, .f32⟩
  | .hbm, ⟨97, _⟩ => ⟨S_, .f32⟩
  | .hbm, ⟨98, _⟩ => ⟨S16x8192, .f32⟩
  | .hbm, ⟨99, _⟩ => ⟨S16x8192x8192, .f32⟩
  | .hbm, ⟨100, _⟩ => ⟨S16x8192x8192, .f32⟩
  | .hbm, ⟨101, _⟩ => ⟨S16x8192x8192, .f32⟩
  | .hbm, ⟨102, _⟩ => ⟨S_, .f32⟩
  | .hbm, ⟨103, _⟩ => ⟨S16x8192x8192, .f32⟩
  | .hbm, ⟨104, _⟩ => ⟨S16x8192x8192, .f32⟩
  | .hbm, ⟨105, _⟩ => ⟨S_, .f32⟩
  | .hbm, ⟨106, _⟩ => ⟨S16x8192x8192, .f32⟩
  | .hbm, ⟨107, _⟩ => ⟨S16x8192x8192, .f32⟩
  | .hbm, ⟨108, _⟩ => ⟨S8192x8192x16, .f32⟩
  | .hbm, ⟨109, _⟩ => ⟨S8192x16x64, .f32⟩
  | .hbm, ⟨110, _⟩ => ⟨S8192x64, .f32⟩
  | .hbm, ⟨111, _⟩ => ⟨S16x8192x128, .f32⟩
  | .hbm, ⟨112, _⟩ => ⟨S8192x16x128, .f32⟩
  | .hbm, ⟨113, _⟩ => ⟨S16x8192x128, .f32⟩
  | .hbm, ⟨114, _⟩ => ⟨S8192x16x128, .f32⟩
  | _, _ => ⟨S8192x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst : Ref sig .tc := ⟨.hbm, 34, rfl⟩
abbrev main_v11 : Ref sig .tc := ⟨.hbm, 35, rfl⟩
abbrev main_v12 : Ref sig .tc := ⟨.hbm, 36, rfl⟩
abbrev main_cst_0 : Ref sig .tc := ⟨.hbm, 37, rfl⟩
abbrev main_call1_v0 : Ref sig .tc := ⟨.hbm, 38, rfl⟩
abbrev main_v13_1 : Ref sig .tc := ⟨.hbm, 39, rfl⟩
abbrev main_call1_v2 : Ref sig .tc := ⟨.hbm, 40, rfl⟩
abbrev main_v13_0 : Ref sig .tc := ⟨.hbm, 41, rfl⟩
abbrev main_call1_cst : Ref sig .tc := ⟨.hbm, 42, rfl⟩
abbrev main_v13_2 : Ref sig .tc := ⟨.hbm, 43, rfl⟩
abbrev main_cst_1 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_cst_2 : Ref sig .tc := ⟨.hbm, 50, rfl⟩
abbrev main_v19 : Ref sig .tc := ⟨.hbm, 51, rfl⟩
abbrev main_cst_3 : Ref sig .tc := ⟨.hbm, 52, rfl⟩
abbrev main_v20 : Ref sig .tc := ⟨.hbm, 53, rfl⟩
abbrev main_v21 : Ref sig .tc := ⟨.hbm, 54, rfl⟩
abbrev main_cst_4 : Ref sig .tc := ⟨.hbm, 55, rfl⟩
abbrev main_v22 : Ref sig .tc := ⟨.hbm, 56, rfl⟩
abbrev main_v23 : Ref sig .tc := ⟨.hbm, 57, rfl⟩
abbrev main_cst_5 : Ref sig .tc := ⟨.hbm, 58, rfl⟩
abbrev main_v24 : Ref sig .tc := ⟨.hbm, 59, rfl⟩
abbrev main_v25 : Ref sig .tc := ⟨.hbm, 60, rfl⟩
abbrev main_cst_6 : Ref sig .tc := ⟨.hbm, 61, rfl⟩
abbrev main_v26 : Ref sig .tc := ⟨.hbm, 62, rfl⟩
abbrev main_cst_7 : Ref sig .tc := ⟨.hbm, 63, rfl⟩
abbrev main_v27 : Ref sig .tc := ⟨.hbm, 64, rfl⟩
abbrev main_cst_8 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_cst_9 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_cst_10 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_cst_11 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_cst_12 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_call2_cst : Ref sig .tc := ⟨.hbm, 102, rfl⟩
abbrev main_call2_v0 : Ref sig .tc := ⟨.hbm, 103, rfl⟩
abbrev main_v60 : Ref sig .tc := ⟨.hbm, 104, rfl⟩
abbrev main_cst_13 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩

abbrev nD : Nat := 1
abbrev τ : Topo := Topo.v7x

variable {F : FTy → Type} [FloatOps F]
-- ==== Kernel2.lean ====
abbrev S2048x15424 : Shape := ⟨2, ![2048, 15424]⟩
abbrev S8192x15424 : Shape := ⟨2, ![8192, 15424]⟩
abbrev S2048x4096 : Shape := ⟨2, ![2048, 4096]⟩
abbrev S2048x2048 : Shape := ⟨2, ![2048, 2048]⟩
abbrev S2048x6144 : Shape := ⟨2, ![2048, 6144]⟩
abbrev S2048x1024 : Shape := ⟨2, ![2048, 1024]⟩
abbrev S2048x15360 : Shape := ⟨2, ![2048, 15360]⟩
abbrev S2048x64 : Shape := ⟨2, ![2048, 64]⟩
abbrev S_ : Shape := ⟨0, ![]⟩
abbrev S2048x128 : Shape := ⟨2, ![2048, 128]⟩
abbrev S8192x4096 : Shape := ⟨2, ![8192, 4096]⟩
abbrev S8192x2048 : Shape := ⟨2, ![8192, 2048]⟩
abbrev S8192x6144 : Shape := ⟨2, ![8192, 6144]⟩
abbrev S8192x1024 : Shape := ⟨2, ![8192, 1024]⟩
abbrev S8192x15360 : Shape := ⟨2, ![8192, 15360]⟩
abbrev S8192x64 : Shape := ⟨2, ![8192, 64]⟩
abbrev S8192x128 : Shape := ⟨2, ![8192, 128]⟩
abbrev S15360x2048 : Shape := ⟨2, ![15360, 2048]⟩
abbrev S128x2048 : Shape := ⟨2, ![128, 2048]⟩
abbrev S1024x3072 : Shape := ⟨2, ![1024, 3072]⟩
abbrev S3072x1024 : Shape := ⟨2, ![3072, 1024]⟩
abbrev S1024x128 : Shape := ⟨2, ![1024, 128]⟩
abbrev S128x1024 : Shape := ⟨2, ![128, 1024]⟩
abbrev S1024x1024 : Shape := ⟨2, ![1024, 1024]⟩

abbrev nBuf : Space → Nat
  | .hbm => 27
  | .vmem => 10
  | .smem => 0
  | _ => 0

abbrev bufTy : (tb : Table) → Fin (tcTables nBuf tb) → BufTy
  | .hbm, ⟨0, _⟩ => ⟨S2048x15424, .f32⟩
  | .hbm, ⟨1, _⟩ => ⟨S8192x15424, .f32⟩
  | .hbm, ⟨2, _⟩ => ⟨S2048x15424, .bf16⟩
  | .hbm, ⟨3, _⟩ => ⟨S2048x4096, .bf16⟩
  | .hbm, ⟨4, _⟩ => ⟨S2048x2048, .bf16⟩
  | .hbm, ⟨5, _⟩ => ⟨S2048x6144, .bf16⟩
  | .hbm, ⟨6, _⟩ => ⟨S2048x2048, .bf16⟩
  | .hbm, ⟨7, _⟩ => ⟨S2048x1024, .bf16⟩
  | .hbm, ⟨8, _⟩ => ⟨S2048x15360, .bf16⟩
  | .hbm, ⟨9, _⟩ => ⟨S2048x64, .bf16⟩
  | .hbm, ⟨10, _⟩ => ⟨S_, .bf16⟩
  | .hbm, ⟨11, _⟩ => ⟨S2048x64, .bf16⟩
  | .hbm, ⟨12, _⟩ => ⟨S2048x128, .bf16⟩
  | .hbm, ⟨13, _⟩ => ⟨S8192x15424, .bf16⟩
  | .hbm, ⟨14, _⟩ => ⟨S8192x4096, .bf16⟩
  | .hbm, ⟨15, _⟩ => ⟨S8192x2048, .bf16⟩
  | .hbm, ⟨16, _⟩ => ⟨S8192x6144, .bf16⟩
  | .hbm, ⟨17, _⟩ => ⟨S8192x2048, .bf16⟩
  | .hbm, ⟨18, _⟩ => ⟨S8192x1024, .bf16⟩
  | .hbm, ⟨19, _⟩ => ⟨S8192x15360, .bf16⟩
  | .hbm, ⟨20, _⟩ => ⟨S8192x64, .bf16⟩
  | .hbm, ⟨21, _⟩ => ⟨S_, .bf16⟩
  | .hbm, ⟨22, _⟩ => ⟨S8192x64, .bf16⟩
  | .hbm, ⟨23, _⟩ => ⟨S8192x128, .bf16⟩
  | .hbm, ⟨24, _⟩ => ⟨S15360x2048, .bf16⟩
  | .hbm, ⟨25, _⟩ => ⟨S128x2048, .bf16⟩
  | .hbm, ⟨26, _⟩ => ⟨S8192x2048, .f32⟩
  | .local _ .vmem, ⟨0, _⟩ => ⟨S1024x3072, .bf16⟩
  | .local _ .vmem, ⟨1, _⟩ => ⟨S1024x3072, .bf16⟩
  | .local _ .vmem, ⟨2, _⟩ => ⟨S3072x1024, .bf16⟩
  | .local _ .vmem, ⟨3, _⟩ => ⟨S3072x1024, .bf16⟩
  | .local _ .vmem, ⟨4, _⟩ => ⟨S1024x128, .bf16⟩
  | .local _ .vmem, ⟨5, _⟩ => ⟨S1024x128, .bf16⟩
  | .local _ .vmem, ⟨6, _⟩ => ⟨S128x1024, .bf16⟩
  | .local _ .vmem, ⟨7, _⟩ => ⟨S128x1024, .bf16⟩
  | .local _ .vmem, ⟨8, _⟩ => ⟨S1024x1024, .f32⟩
  | .local _ .vmem, ⟨9, _⟩ => ⟨S1024x1024, .f32⟩
  | _, _ => ⟨S2048x15424, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst_0 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 5], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S3072x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference2Ideal.lean ====
abbrev S2048x15424 : Shape := ⟨2, ![2048, 15424]⟩
abbrev S8192x15424 : Shape := ⟨2, ![8192, 15424]⟩
abbrev S_ : Shape := ⟨0, ![]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x15424, .f32⟩
  | .hbm, ⟨1, _⟩ => ⟨S8192x15424, .f32⟩
  | .hbm, ⟨2, _⟩ => ⟨S_, .f32⟩
  | .hbm, ⟨3, _⟩ => ⟨S8192x2048, .f32⟩
  | .hbm, ⟨4, _⟩ => ⟨S8192x15424, .f32⟩
  | .hbm, ⟨5, _⟩ => ⟨S8192x2048, .f32⟩
  | _, _ => ⟨S2048x15424, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel3.lean ====
abbrev S8192x2048 : Shape := ⟨2, ![8192, 2048]⟩
abbrev S2048x15424 : Shape := ⟨2, ![2048, 15424]⟩
abbrev S2048x4096 : Shape := ⟨2, ![2048, 4096]⟩
abbrev S2048x2048 : Shape := ⟨2, ![2048, 2048]⟩
abbrev S2048x6144 : Shape := ⟨2, ![2048, 6144]⟩
abbrev S2048x1024 : Shape := ⟨2, ![2048, 1024]⟩
abbrev S2048x15360 : Shape := ⟨2, ![2048, 15360]⟩
abbrev S2048x64 : Shape := ⟨2, ![2048, 64]⟩
abbrev S_ : Shape := ⟨0, ![]⟩
abbrev S2048x128 : Shape := ⟨2, ![2048, 128]⟩
abbrev S15360x2048 : Shape := ⟨2, ![15360, 2048]⟩
abbrev S8192x15360 : Shape := ⟨2, ![8192, 15360]⟩
abbrev S1024x2048 : Shape := ⟨2, ![1024, 2048]⟩
abbrev S1024x1024 : Shape := ⟨2, ![1024, 1024]⟩

abbrev nBuf : Space → Nat
  | .hbm => 16
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x15424, .f32⟩
  | .hbm, ⟨2, _⟩ => ⟨S8192x2048, .bf16⟩
  | .hbm, ⟨3, _⟩ => ⟨S2048x15424, .bf16⟩
  | .hbm, ⟨4, _⟩ => ⟨S2048x4096, .bf16⟩
  | .hbm, ⟨5, _⟩ => ⟨S2048x2048, .bf16⟩
  | .hbm, ⟨6, _⟩ => ⟨S2048x6144, .bf16⟩
  | .hbm, ⟨7, _⟩ => ⟨S2048x2048, .bf16⟩
  | .hbm, ⟨8, _⟩ => ⟨S2048x1024, .bf16⟩
  | .hbm, ⟨9, _⟩ => ⟨S2048x15360, .bf16⟩
  | .hbm, ⟨10, _⟩ => ⟨S2048x64, .bf16⟩
  | .hbm, ⟨11, _⟩ => ⟨S_, .bf16⟩
  | .hbm, ⟨12, _⟩ => ⟨S2048x64, .bf16⟩
  | .hbm, ⟨13, _⟩ => ⟨S2048x128, .bf16⟩
  | .hbm, ⟨14, _⟩ => ⟨S15360x2048, .bf16⟩
  | .hbm, ⟨15, _⟩ => ⟨S8192x15360, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 15, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x2048 : Shape := ⟨2, ![8192, 2048]⟩
abbrev S2048x15424 : Shape := ⟨2, ![2048, 15424]⟩
abbrev S8192x15424 : Shape := ⟨2, ![8192, 15424]⟩
abbrev S8192x4096 : Shape := ⟨2, ![8192, 4096]⟩
abbrev S8192x6144 : Shape := ⟨2, ![8192, 6144]⟩
abbrev S8192x1024 : Shape := ⟨2, ![8192, 1024]⟩
abbrev S8192x15360 : Shape := ⟨2, ![8192, 15360]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x15424, .f32⟩
  | .hbm, ⟨2, _⟩ => ⟨S8192x15424, .f32⟩
  | .hbm, ⟨3, _⟩ => ⟨S8192x4096, .f32⟩
  | .hbm, ⟨4, _⟩ => ⟨S8192x2048, .f32⟩
  | .hbm, ⟨5, _⟩ => ⟨S8192x6144, .f32⟩
  | .hbm, ⟨6, _⟩ => ⟨S8192x2048, .f32⟩
  | .hbm, ⟨7, _⟩ => ⟨S8192x1024, .f32⟩
  | .hbm, ⟨8, _⟩ => ⟨S8192x15360, .f32⟩
  | .hbm, ⟨9, _⟩ => ⟨S8192x15360, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Kernel4.lean ====
abbrev S8192x2048 : Shape := ⟨2, ![8192, 2048]⟩
abbrev S8192x15424 : Shape := ⟨2, ![8192, 15424]⟩
abbrev S8192x4096 : Shape := ⟨2, ![8192, 4096]⟩
abbrev S8192x6144 : Shape := ⟨2, ![8192, 6144]⟩
abbrev S8192x1024 : Shape := ⟨2, ![8192, 1024]⟩
abbrev S8192x15360 : Shape := ⟨2, ![8192, 15360]⟩
abbrev S8192x64 : Shape := ⟨2, ![8192, 64]⟩
abbrev S_ : Shape := ⟨0, ![]⟩
abbrev S8192x128 : Shape := ⟨2, ![8192, 128]⟩
abbrev S2048x15360 : Shape := ⟨2, ![2048, 15360]⟩
abbrev S4096x1024 : Shape := ⟨2, ![4096, 1024]⟩
abbrev S1024x1024 : Shape := ⟨2, ![1024, 1024]⟩

abbrev nBuf : Space → Nat
  | .hbm => 15
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x15424, .f32⟩
  | .hbm, ⟨2, _⟩ => ⟨S8192x2048, .bf16⟩
  | .hbm, ⟨3, _⟩ => ⟨S8192x15424, .bf16⟩
  | .hbm, ⟨4, _⟩ => ⟨S8192x4096, .bf16⟩
  | .hbm, ⟨5, _⟩ => ⟨S8192x2048, .bf16⟩
  | .hbm, ⟨6, _⟩ => ⟨S8192x6144, .bf16⟩
  | .hbm, ⟨7, _⟩ => ⟨S8192x2048, .bf16⟩
  | .hbm, ⟨8, _⟩ => ⟨S8192x1024, .bf16⟩
  | .hbm, ⟨9, _⟩ => ⟨S8192x15360, .bf16⟩
  | .hbm, ⟨10, _⟩ => ⟨S8192x64, .bf16⟩
  | .hbm, ⟨11, _⟩ => ⟨S_, .bf16⟩
  | .hbm, ⟨12, _⟩ => ⟨S8192x64, .bf16⟩
  | .hbm, ⟨13, _⟩ => ⟨S8192x128, .bf16⟩
  | .hbm, ⟨14, _⟩ => ⟨S2048x15360, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 15, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2048 : Shape := ⟨2, ![8192, 2048]⟩
abbrev S8192x15424 : Shape := ⟨2, ![8192, 15424]⟩
abbrev S_ : Shape := ⟨0, ![]⟩
abbrev S2048x15424 : Shape := ⟨2, ![2048, 15424]⟩
abbrev S15424x2048 : Shape := ⟨2, ![15424, 2048]⟩
abbrev S2048x4096 : Shape := ⟨2, ![2048, 4096]⟩
abbrev S2048x2048 : Shape := ⟨2, ![2048, 2048]⟩
abbrev S2048x6144 : Shape := ⟨2, ![2048, 6144]⟩
abbrev S2048x1024 : Shape := ⟨2, ![2048, 1024]⟩
abbrev S2048x15360 : Shape := ⟨2, ![2048, 15360]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x15424, .f32⟩
  | .hbm, ⟨2, _⟩ => ⟨S_, .f32⟩
  | .hbm, ⟨3, _⟩ => ⟨S2048x15424, .f32⟩
  | .hbm, ⟨4, _⟩ => ⟨S8192x15424, .f32⟩
  | .hbm, ⟨5, _⟩ => ⟨S15424x2048, .f32⟩
  | .hbm, ⟨6, _⟩ => ⟨S2048x15424, .f32⟩
  | .hbm, ⟨7, _⟩ => ⟨S2048x4096, .f32⟩
  | .hbm, ⟨8, _⟩ => ⟨S2048x2048, .f32⟩
  | .hbm, ⟨9, _⟩ => ⟨S2048x6144, .f32⟩
  | .hbm, ⟨10, _⟩ => ⟨S2048x2048, .f32⟩
  | .hbm, ⟨11, _⟩ => ⟨S2048x1024, .f32⟩
  | .hbm, ⟨12, _⟩ => ⟨S2048x15360, .f32⟩
  | .hbm, ⟨13, _⟩ => ⟨S2048x15360, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel5.lean ====
abbrev S8192x1024 : Shape := ⟨2, ![8192, 1024]⟩
abbrev S1024x2048 : Shape := ⟨2, ![1024, 2048]⟩
abbrev S2048x1024 : Shape := ⟨2, ![2048, 1024]⟩
abbrev S8192x2048 : Shape := ⟨2, ![8192, 2048]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x1024, .bf16⟩
  | .hbm, ⟨3, _⟩ => ⟨S1024x2048, .bf16⟩
  | .hbm, ⟨4, _⟩ => ⟨S2048x1024, .bf16⟩
  | .hbm, ⟨5, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | .hbm, ⟨3, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel6.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .bf16⟩
  | .hbm, ⟨3, _⟩ => ⟨S2048x2048, .bf16⟩
  | .hbm, ⟨4, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x2048 : Shape := ⟨2, ![8192, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel7.lean ====
abbrev S2048x2048 : Shape := ⟨2, ![2048, 2048]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S8192x2048, .f32⟩
  | .hbm, ⟨2, _⟩ => ⟨S8192x2048, .bf16⟩
  | .hbm, ⟨3, _⟩ => ⟨S2048x2048, .bf16⟩
  | .hbm, ⟨4, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2048x2048 : Shape := ⟨2, ![2048, 2048]⟩
abbrev S8192x2048 : Shape := ⟨2, ![8192, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S8192x2048, .f32⟩
  | .hbm, ⟨2, _⟩ => ⟨S_, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S8192x2048 : Shape := ⟨2, ![8192, 2048]⟩
abbrev S2048x2048 : Shape := ⟨2, ![2048, 2048]⟩
abbrev S4096x1024 : Shape := ⟨2, ![4096, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .bf16⟩
  | .hbm, ⟨3, _⟩ => ⟨S8192x2048, .bf16⟩
  | .hbm, ⟨4, _⟩ => ⟨S2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S8192x1024 : Shape := ⟨2, ![8192, 1024]⟩
abbrev S8192x2048 : Shape := ⟨2, ![8192, 2048]⟩
abbrev S1024x2048 : Shape := ⟨2, ![1024, 2048]⟩
abbrev S4096x1024 : Shape := ⟨2, ![4096, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x1024, .bf16⟩
  | .hbm, ⟨3, _⟩ => ⟨S8192x2048, .bf16⟩
  | .hbm, ⟨4, _⟩ => ⟨S1024x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S_, .f32⟩
  | .hbm, ⟨3, _⟩ => ⟨S1024x2048, .f32⟩
  | .hbm, ⟨4, _⟩ => ⟨S8192x2048, .f32⟩
  | .hbm, ⟨5, _⟩ => ⟨S2048x1024, .f32⟩
  | .hbm, ⟨6, _⟩ => ⟨S1024x2048, .f32⟩
  | .hbm, ⟨7, _⟩ => ⟨S1024x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S1024x2048 : Shape := ⟨2, ![1024, 2048]⟩
abbrev S8192x2048 : Shape := ⟨2, ![8192, 2048]⟩
abbrev S2048x1024 : Shape := ⟨2, ![2048, 1024]⟩
abbrev S8192x1024 : Shape := ⟨2, ![8192, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S1024x2048, .f32⟩
  | .hbm, ⟨1, _⟩ => ⟨S8192x2048, .f32⟩
  | .hbm, ⟨2, _⟩ => ⟨S8192x2048, .bf16⟩
  | .hbm, ⟨3, _⟩ => ⟨S1024x2048, .bf16⟩
  | .hbm, ⟨4, _⟩ => ⟨S2048x1024, .bf16⟩
  | .hbm, ⟨5, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S1024x2048 : Shape := ⟨2, ![1024, 2048]⟩
abbrev S8192x2048 : Shape := ⟨2, ![8192, 2048]⟩
abbrev S_ : Shape := ⟨0, ![]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S8192x2048, .f32⟩
  | .hbm, ⟨2, _⟩ => ⟨S_, .f32⟩
  | .hbm, ⟨3, _⟩ => ⟨S8192x1024, .f32⟩
  | .hbm, ⟨4, _⟩ => ⟨S8192x2048, .f32⟩
  | .hbm, ⟨5, _⟩ => ⟨S8192x1024, .f32⟩
  | .hbm, ⟨6, _⟩ => ⟨S8192x1024, .bf16⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel11.lean ====
abbrev S8192x512 : Shape := ⟨2, ![8192, 512]⟩
abbrev S512x4096 : Shape := ⟨2, ![512, 4096]⟩
abbrev S4096x512 : Shape := ⟨2, ![4096, 512]⟩
abbrev S8192x4096 : Shape := ⟨2, ![8192, 4096]⟩
abbrev S1024x512 : Shape := ⟨2, ![1024, 512]⟩
abbrev S2048x512 : Shape := ⟨2, ![2048, 512]⟩
abbrev S1024x2048 : Shape := ⟨2, ![1024, 2048]⟩

abbrev nBuf : Space → Nat
  | .hbm => 6
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S512x4096, .f32⟩
  | .hbm, ⟨2, _⟩ => ⟨S8192x512, .bf16⟩
  | .hbm, ⟨3, _⟩ => ⟨S512x4096, .bf16⟩
  | .hbm, ⟨4, _⟩ => ⟨S4096x512, .bf16⟩
  | .hbm, ⟨5, _⟩ => ⟨S8192x4096, .bf16⟩
  | .local _ .vmem, ⟨0, _⟩ => ⟨S1024x512, .bf16⟩
  | .local _ .vmem, ⟨1, _⟩ => ⟨S1024x512, .bf16⟩
  | .local _ .vmem, ⟨2, _⟩ => ⟨S2048x512, .bf16⟩
  | .local _ .vmem, ⟨3, _⟩ => ⟨S2048x512, .bf16⟩
  | .local _ .vmem, ⟨4, _⟩ => ⟨S1024x2048, .bf16⟩
  | .local _ .vmem, ⟨5, _⟩ => ⟨S1024x2048, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x512 : Shape := ⟨2, ![8192, 512]⟩
abbrev S512x4096 : Shape := ⟨2, ![512, 4096]⟩
abbrev S8192x4096 : Shape := ⟨2, ![8192, 4096]⟩

abbrev nBuf : Space → Nat
  | .hbm => 4
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x4096, .f32⟩
  | .hbm, ⟨2, _⟩ => ⟨S8192x4096, .f32⟩
  | .hbm, ⟨3, _⟩ => ⟨S8192x4096, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel12.lean ====
abbrev S8192x512 : Shape := ⟨2, ![8192, 512]⟩
abbrev S8192x4096 : Shape := ⟨2, ![8192, 4096]⟩
abbrev S512x4096 : Shape := ⟨2, ![512, 4096]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S8192x4096, .f32⟩
  | .hbm, ⟨2, _⟩ => ⟨S8192x512, .bf16⟩
  | .hbm, ⟨3, _⟩ => ⟨S8192x4096, .bf16⟩
  | .hbm, ⟨4, _⟩ => ⟨S512x4096, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x512 : Shape := ⟨2, ![8192, 512]⟩
abbrev S8192x4096 : Shape := ⟨2, ![8192, 4096]⟩
abbrev S_ : Shape := ⟨0, ![]⟩
abbrev S512x4096 : Shape := ⟨2, ![512, 4096]⟩
abbrev S4096x512 : Shape := ⟨2, ![4096, 512]⟩

abbrev nBuf : Space → Nat
  | .hbm => 8
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x4096, .f32⟩
  | .hbm, ⟨2, _⟩ => ⟨S_, .f32⟩
  | .hbm, ⟨3, _⟩ => ⟨S512x4096, .f32⟩
  | .hbm, ⟨4, _⟩ => ⟨S8192x4096, .f32⟩
  | .hbm, ⟨5, _⟩ => ⟨S4096x512, .f32⟩
  | .hbm, ⟨6, _⟩ => ⟨S512x4096, .f32⟩
  | .hbm, ⟨7, _⟩ => ⟨S512x4096, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S512x4096 : Shape := ⟨2, ![512, 4096]⟩
abbrev S8192x4096 : Shape := ⟨2, ![8192, 4096]⟩
abbrev S4096x512 : Shape := ⟨2, ![4096, 512]⟩
abbrev S8192x512 : Shape := ⟨2, ![8192, 512]⟩
abbrev S1024x4096 : Shape := ⟨2, ![1024, 4096]⟩
abbrev S1024x512 : Shape := ⟨2, ![1024, 512]⟩

abbrev nBuf : Space → Nat
  | .hbm => 6
  | .vmem => 5
  | .smem => 0
  | _ => 0

abbrev bufTy : (tb : Table) → Fin (tcTables nBuf tb) → BufTy
  | .hbm, ⟨0, _⟩ => ⟨S512x4096, .f32⟩
  | .hbm, ⟨1, _⟩ => ⟨S8192x4096, .f32⟩
  | .hbm, ⟨2, _⟩ => ⟨S8192x4096, .bf16⟩
  | .hbm, ⟨3, _⟩ => ⟨S512x4096, .bf16⟩
  | .hbm, ⟨4, _⟩ => ⟨S4096x512, .bf16⟩
  | .hbm, ⟨5, _⟩ => ⟨S8192x512, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S1024x512, .f32⟩
  | .local _ .vmem, ⟨4, _⟩ => ⟨S1024x512, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S512x4096 : Shape := ⟨2, ![512, 4096]⟩
abbrev S8192x4096 : Shape := ⟨2, ![8192, 4096]⟩
abbrev S_ : Shape := ⟨0, ![]⟩
abbrev S8192x512 : Shape := ⟨2, ![8192, 512]⟩

abbrev nBuf : Space → Nat
  | .hbm => 6
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S8192x4096, .f32⟩
  | .hbm, ⟨2, _⟩ => ⟨S_, .f32⟩
  | .hbm, ⟨3, _⟩ => ⟨S8192x512, .f32⟩
  | .hbm, ⟨4, _⟩ => ⟨S8192x4096, .f32⟩
  | .hbm, ⟨5, _⟩ => ⟨S8192x512, .f32⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Spec.lean ====
module

public import proofs.«01_k».proof.Proof.Gen.KernelIdeal.Frame
public import proofs.«01_k».proof.Proof.Gen.KernelIdeal.Loops
public import Idealize.ShloMosaic.Lib.VecWindow

/-! What one grid point of the backward call does, as plain functions of the vectors it reads: the step of a key block below the
    diagonal, the two steps on the diagonal, and their composition over the key blocks that a query block sees. -/

@[expose] public section

noncomputable section

namespace Cert.KernelIdeal.Attn

open Cert.KernelIdeal
open Idealize.ShloMosaic Idealize.ShloMosaic.TcCoe

variable {F : FTy → Type} [FloatOps F] [Named F]

/-- The keys of a block as a matrix. -/
def kM (k : Vec F S1x512x256 .bf16) : FVec F S512x256 .bf16 := shapeCast S512x256 k Gen.shapeCasts_S1x512x256_S512x256

/-! ### One key block against all 1024 rows of a query block -/

/-- The query rows as a matrix. -/
def qB (q : Vec F S1x1024x256 .bf16) : FVec F S1024x256 .bf16 := shapeCast S1024x256 q Gen.shapeCasts_S1x1024x256_S1024x256

/-- The output gradient's rows. -/
def gB (g : Vec F S1024x128 .bf16) : FVec F S1024x128 .bf16 := shapeCast S1024x128 g Gen.shapeCasts_S1024x128_S1024x128

/-- The scores of the rows against the keys. -/
def scB (q : Vec F S1x1024x256 .bf16) (k : Vec F S1x512x256 .bf16) : FVec F S1024x512 .f32 :=
  matmul dot_S1024x256_S512x256_S1024x512_1_1_0_0_n_n none (qB q) (kM k) (constant S1024x512 .f32 0x00000000#32)

/-- The scores with the keys of later chunks masked. -/
def maskB (s : FVec F S1024x512 .f32) : FVec F S1024x512 .f32 :=
  select (cmpi .sle (shrsi (iota .tc S1024x512 32 [1] Gen.iota_S1024x512_d1_w32) (broadcast S1024x512 6#32))
      (shrsi (iota .tc S1024x512 32 [0] Gen.iota_S1024x512_d0_w32) (broadcast S1024x512 6#32))) s
    (broadcast S1024x512 (Named.named κ "mask" 0xF149F2CA#32 : F .f32))

/-- The products of the output's gradient with the values. -/
def gvB (g : Vec F S1024x128 .bf16) (v : Vec F S512x128 .bf16) : FVec F S1024x512 .f32 :=
  matmul dot_S1024x128_S512x128_S1024x512_1_1_0_0_n_n none (gB g)
    (shapeCast S512x128 v Gen.shapeCasts_S512x128_S512x128 : FVec F S512x128 .bf16) (constant S1024x512 .f32 0x00000000#32)

/-- The weights of 128 keys: two to the power of score less log-sum. -/
def wB (o : Fin 2 → ℕ) (h : S1024x512.Slices o S1024x128) (s : FVec F S1024x512 .f32) (l : Vec F S1x1024x128 .f32) : FVec F S1024x128 .f32 :=
  exp2 (subf (extractStridedSlice S1024x128 o s h) (shapeCast S1024x128 l Gen.shapeCasts_S1x1024x128_S1024x128 : FVec F S1024x128 .f32))

/-- The gradient of the scores of 128 keys: weight times (gradient of the weight less the row's delta). -/
def uB (o : Fin 2 → ℕ) (h : S1024x512.Slices o S1024x128) (s d : FVec F S1024x512 .f32) (l : Vec F S1x1024x128 .f32) (dl : Vec F S1024x128 .f32) :
    FVec F S1024x128 .f32 :=
  mulf (wB o h s l) (subf (extractStridedSlice S1024x128 o d h) dl)

/-- The weights of the block, in the products' type. -/
def pB (s : FVec F S1024x512 .f32) (l : Vec F S1x1024x128 .f32) : FVec F S1024x512 .bf16 :=
  concatenate S1024x512 1 [⟨S1024x128, (truncf .bf16 (wB ![0, 0] Gen.slices_S1024x512_o0_0_S1024x128 s l) Gen.bitsLt_bf16_f32 : FVec F S1024x128 .bf16)⟩,
    ⟨S1024x128, (truncf .bf16 (wB ![0, 128] Gen.slices_S1024x512_o0_128_S1024x128 s l) Gen.bitsLt_bf16_f32 : FVec F S1024x128 .bf16)⟩,
    ⟨S1024x128, (truncf .bf16 (wB ![0, 256] Gen.slices_S1024x512_o0_256_S1024x128 s l) Gen.bitsLt_bf16_f32 : FVec F S1024x128 .bf16)⟩,
    ⟨S1024x128, (truncf .bf16 (wB ![0, 384] Gen.slices_S1024x512_o0_384_S1024x128 s l) Gen.bitsLt_bf16_f32 : FVec F S1024x128 .bf16)⟩]
    Gen.concatenates_S1024x128_S1024x128_S1024x128_S1024x128_S1024x512_d1

/-- The gradient of the scores of the block, in the products' type. -/
def dsB (s d : FVec F S1024x512 .f32) (l : Vec F S1x1024x128 .f32) (dl : Vec F S1024x128 .f32) : FVec F S1024x512 .bf16 :=
  concatenate S1024x512 1 [⟨S1024x128, (truncf .bf16 (uB ![0, 0] Gen.slices_S1024x512_o0_0_S1024x128 s d l dl) Gen.bitsLt_bf16_f32 : FVec F S1024x128 .bf16)⟩,
    ⟨S1024x128, (truncf .bf16 (uB ![0, 128] Gen.slices_S1024x512_o0_128_S1024x128 s d l dl) Gen.bitsLt_bf16_f32 : FVec F S1024x128 .bf16)⟩,
    ⟨S1024x128, (truncf .bf16 (uB ![0, 256] Gen.slices_S1024x512_o0_256_S1024x128 s d l dl) Gen.bitsLt_bf16_f32 : FVec F S1024x128 .bf16)⟩,
    ⟨S1024x128, (truncf .bf16 (uB ![0, 384] Gen.slices_S1024x512_o0_384_S1024x128 s d l dl) Gen.bitsLt_bf16_f32 : FVec F S1024x128 .bf16)⟩]
    Gen.concatenates_S1024x128_S1024x128_S1024x128_S1024x128_S1024x512_d1

/-- The block's part of the values' gradient. -/
def dvB (p : FVec F S1024x512 .bf16) (g : Vec F S1024x128 .bf16) : FVec F S512x128 .f32 :=
  matmul dot_S1024x512_S1024x128_S512x128_0_0_1_1_n_n none p (gB g) (constant S512x128 .f32 0x00000000#32)

/-- The block's part of the keys' gradient. -/
def dkB (d : FVec F S1024x512 .bf16) (q : Vec F S1x1024x256 .bf16) : FVec F S512x256 .f32 :=
  matmul dot_S1024x512_S1024x256_S512x256_0_0_1_1_n_n none d (qB q) (constant S512x256 .f32 0x00000000#32)

/-- The block's part of the queries' gradient, added to what was there. -/
def dqB (d : FVec F S1024x512 .bf16) (k : Vec F S1x512x256 .bf16) (w : Vec F S1024x256 .f32) : FVec F S1024x256 .f32 :=
  shapeCast S1024x256 (addf w (matmul dot_S1024x512_S512x256_S1024x256_1_0_0_1_n_n none d (kM k) (constant S1024x256 .f32 0x00000000#32)) : FVec F S1024x256 .f32)
    Gen.shapeCasts_S1024x256_S1024x256

/-! ### One key block against the second 512 rows of a query block -/

/-- The query rows as a matrix. -/
def qH (q : Vec F S1x512x256 .bf16) : FVec F S512x256 .bf16 := shapeCast S512x256 q Gen.shapeCasts_S1x512x256_S512x256

/-- The output gradient's rows. -/
def gH (g : Vec F S512x128 .bf16) : FVec F S512x128 .bf16 := shapeCast S512x128 g Gen.shapeCasts_S512x128_S512x128

/-- The scores of the rows against the keys. -/
def scH (q : Vec F S1x512x256 .bf16) (k : Vec F S1x512x256 .bf16) : FVec F S512x512 .f32 :=
  matmul dot_S512x256_S512x256_S512x512_1_1_0_0_n_n none (qH q) (kM k) (constant S512x512 .f32 0x00000000#32)

/-- The scores with the keys of later chunks masked. -/
def maskH (s : FVec F S512x512 .f32) : FVec F S512x512 .f32 :=
  select (cmpi .sle (shrsi (iota .tc S512x512 32 [1] Gen.iota_S512x512_d1_w32) (broadcast S512x512 6#32))
      (shrsi (iota .tc S512x512 32 [0] Gen.iota_S512x512_d0_w32) (broadcast S512x512 6#32))) s
    (broadcast S512x512 (Named.named κ "mask" 0xF149F2CA#32 : F .f32))

/-- The products of the output's gradient with the values. -/
def gvH (g : Vec F S512x128 .bf16) (v : Vec F S512x128 .bf16) : FVec F S512x512 .f32 :=
  matmul dot_S512x128_S512x128_S512x512_1_1_0_0_n_n none (gH g)
    (shapeCast S512x128 v Gen.shapeCasts_S512x128_S512x128 : FVec F S512x128 .bf16) (constant S512x512 .f32 0x00000000#32)

/-- The weights of 128 keys: two to the power of score less log-sum. -/
def wH (o : Fin 2 → ℕ) (h : S512x512.Slices o S512x128) (s : FVec F S512x512 .f32) (l : Vec F S1x512x128 .f32) : FVec F S512x128 .f32 :=
  exp2 (subf (extractStridedSlice S512x128 o s h) (shapeCast S512x128 l Gen.shapeCasts_S1x512x128_S512x128 : FVec F S512x128 .f32))

/-- The gradient of the scores of 128 keys: weight times (gradient of the weight less the row's delta). -/
def uH (o : Fin 2 → ℕ) (h : S512x512.Slices o S512x128) (s d : FVec F S512x512 .f32) (l : Vec F S1x512x128 .f32) (dl : Vec F S512x128 .f32) :
    FVec F S512x128 .f32 :=
  mulf (wH o h s l) (subf (extractStridedSlice S512x128 o d h) dl)

/-- The weights of the block, in the products' type. -/
def pH (s : FVec F S512x512 .f32) (l : Vec F S1x512x128 .f32) : FVec F S512x512 .bf16 :=
  concatenate S512x512 1 [⟨S512x128, (truncf .bf16 (wH ![0, 0] Gen.slices_S512x512_o0_0_S512x128 s l) Gen.bitsLt_bf16_f32 : FVec F S512x128 .bf16)⟩,
    ⟨S512x128, (truncf .bf16 (wH ![0, 128] Gen.slices_S512x512_o0_128_S512x128 s l) Gen.bitsLt_bf16_f32 : FVec F S512x128 .bf16)⟩,
    ⟨S512x128, (truncf .bf16 (wH ![0, 256] Gen.slices_S512x512_o0_256_S512x128 s l) Gen.bitsLt_bf16_f32 : FVec F S512x128 .bf16)⟩,
    ⟨S512x128, (truncf .bf16 (wH ![0, 384] Gen.slices_S512x512_o0_384_S512x128 s l) Gen.bitsLt_bf16_f32 : FVec F S512x128 .bf16)⟩]
    Gen.concatenates_S512x128_S512x128_S512x128_S512x128_S512x512_d1

/-- The gradient of the scores of the block, in the products' type. -/
def dsH (s d : FVec F S512x512 .f32) (l : Vec F S1x512x128 .f32) (dl : Vec F S512x128 .f32) : FVec F S512x512 .bf16 :=
  concatenate S512x512 1 [⟨S512x128, (truncf .bf16 (uH ![0, 0] Gen.slices_S512x512_o0_0_S512x128 s d l dl) Gen.bitsLt_bf16_f32 : FVec F S512x128 .bf16)⟩,
    ⟨S512x128, (truncf .bf16 (uH ![0, 128] Gen.slices_S512x512_o0_128_S512x128 s d l dl) Gen.bitsLt_bf16_f32 : FVec F S512x128 .bf16)⟩,
    ⟨S512x128, (truncf .bf16 (uH ![0, 256] Gen.slices_S512x512_o0_256_S512x128 s d l dl) Gen.bitsLt_bf16_f32 : FVec F S512x128 .bf16)⟩,
    ⟨S512x128, (truncf .bf16 (uH ![0, 384] Gen.slices_S512x512_o0_384_S512x128 s d l dl) Gen.bitsLt_bf16_f32 : FVec F S512x128 .bf16)⟩]
    Gen.concatenates_S512x128_S512x128_S512x128_S512x128_S512x512_d1

/-- The block's part of the values' gradient. -/
def dvH (p : FVec F S512x512 .bf16) (g : Vec F S512x128 .bf16) : FVec F S512x128 .f32 :=
  matmul dot_S512x512_S512x128_S512x128_0_0_1_1_n_n none p (gH g) (constant S512x128 .f32 0x00000000#32)

/-- The block's part of the keys' gradient. -/
def dkH (d : FVec F S512x512 .bf16) (q : Vec F S1x512x256 .bf16) : FVec F S512x256 .f32 :=
  matmul dot_S512x512_S512x256_S512x256_0_0_1_1_n_n none d (qH q) (constant S512x256 .f32 0x00000000#32)

/-- The block's part of the queries' gradient, added to what was there. -/
def dqH (d : FVec F S512x512 .bf16) (k : Vec F S1x512x256 .bf16) (w : Vec F S512x256 .f32) : FVec F S512x256 .f32 :=
  shapeCast S512x256 (addf w (matmul dot_S512x512_S512x256_S512x256_1_0_0_1_n_n none d (kM k) (constant S512x256 .f32 0x00000000#32)) : FVec F S512x256 .f32)
    Gen.shapeCasts_S512x256_S512x256

/-! ### What is stored -/

/-- A block of the keys' gradient, as stored. -/
def stK (x : FVec F S512x256 .f32) : FVec F S512x256 .f32 := shapeCast S512x256 x Gen.shapeCasts_S512x256_S512x256

/-- A block of the values' gradient, as stored. -/
def stV (x : FVec F S512x128 .f32) : FVec F S512x128 .f32 := shapeCast S512x128 x Gen.shapeCasts_S512x128_S512x128

/-- The delta of every row, broadcast over the lanes. -/
def deltaOf (g o : Vec F S1024x128 .bf16) : FVec F S1024x128 .f32 :=
  shapeCast S1024x128 (broadcastTo S1024x128 (shapeCast S1024x1 (shapeCast S1024x1
      (multiReduction .add [1] S1024 (mulf (extf .f32 (shapeCast S1024x128 g Gen.shapeCasts_S1024x128_S1024x128 : FVec F S1024x128 .bf16) Gen.bitsLt_bf16_f32)
        (extf .f32 (shapeCast S1024x128 o Gen.shapeCasts_S1024x128_S1024x128 : FVec F S1024x128 .bf16) Gen.bitsLt_bf16_f32) : FVec F S1024x128 .f32) 0x00000000#32
        Gen.reduces_S1024x128_S1024 (.inl rfl) rfl : FVec F S1024 .f32) Gen.shapeCasts_S1024_S1024x1 : FVec F S1024x1 .f32) Gen.shapeCasts_S1024x1_S1024x1 : FVec F S1024x1 .f32)
    Gen.broadcasts_S1024x1_S1024x128 : FVec F S1024x128 .f32) Gen.shapeCasts_S1024x128_S1024x128

/-- The zeroed accumulator of the queries' gradient. -/
def zeroQ : FVec F S1024x256 .f32 := shapeCast S1024x256 (broadcast S1024x256 (Scalar.ofBits .f32 0x00000000#32 : F .f32) : FVec F S1024x256 .f32) Gen.shapeCasts_S1024x256_S1024x256

/-! ### A point's inputs and the three accumulators -/

/-- What a point reads: queries, keys, values, output gradient, log-sum and delta. -/
structure Inp (F : FTy → Type) where
  q : Vec F S1x1024x256 .bf16
  k : Vec F S1x8192x256 .bf16
  v : Vec F S8192x128 .bf16
  g : Vec F S1024x128 .bf16
  l : Vec F S1x1024x128 .f32
  dl : Vec F S1024x128 .f32

/-- The accumulators: of the queries' gradient (this block of queries), of the keys' and of the values' (all rows). -/
@[ext] structure Acc (F : FTy → Type) where
  dq : Vec F S1024x256 .f32
  dk : Vec F S8192x256 .f32
  dv : Vec F S8192x128 .f32

/-- Where a key block starts, in a matrix of 8192 rows. -/
def at2 (t : ℕ) : Fin 2 → ℕ := ![512 * (t % 16), 0]

/-- Where a key block starts, in the keys of one head. -/
def at3 (t : ℕ) : Fin 3 → ℕ := ![0, 512 * (t % 16), 0]

theorem at2_k (t : ℕ) : ∀ a, at2 t a + S512x256.size a ≤ S8192x256.size a := by
  intro a; fin_cases a
  · show 512 * (t % 16) + 512 ≤ 8192; omega
  · show 0 + 256 ≤ 256; omega

theorem at2_v (t : ℕ) : ∀ a, at2 t a + S512x128.size a ≤ S8192x128.size a := by
  intro a; fin_cases a
  · show 512 * (t % 16) + 512 ≤ 8192; omega
  · show 0 + 128 ≤ 128; omega

theorem at3_k (t : ℕ) : ∀ a, at3 t a + S1x512x256.size a ≤ S1x8192x256.size a := by
  intro a; fin_cases a
  · show 0 + 1 ≤ 1; omega
  · show 512 * (t % 16) + 512 ≤ 8192; omega
  · show 0 + 256 ≤ 256; omega

namespace Inp
variable (X : Inp F)

/-- Key block `t`. -/
def kb (t : ℕ) : Vec F S1x512x256 .bf16 := VecWindow.window X.k (at3 t) S1x512x256.size (at3_k t)

/-- Value block `t`. -/
def vb (t : ℕ) : Vec F S512x128 .bf16 := VecWindow.window X.v (at2 t) S512x128.size (at2_v t)

/-- The second half of the query rows. -/
def qh : Vec F S1x512x256 .bf16 := VecWindow.window X.q ![0, 512, 0] S1x512x256.size Gen.inb_S1x1024x256_S1x512x256_0_512_0
/-- The second half of the output gradient's rows. -/
def gh : Vec F S512x128 .bf16 := VecWindow.window X.g ![512, 0] S512x128.size Gen.inb_S1024x128_S512x128_512_0
/-- The second half of the log-sums. -/
def lh : Vec F S1x512x128 .f32 := VecWindow.window X.l ![0, 512, 0] S1x512x128.size Gen.inb_S1x1024x128_S1x512x128_0_512_0
/-- The second half of the deltas. -/
def dh : Vec F S512x128 .f32 := VecWindow.window X.dl ![512, 0] S512x128.size Gen.inb_S1024x128_S512x128_512_0

end Inp

/-- The score gradient of key block `t`, no key masked. -/
def dsAt (X : Inp F) (t : ℕ) : FVec F S1024x512 .bf16 := dsB (scB X.q (X.kb t)) (gvB X.g (X.vb t)) X.l X.dl

/-- The step of a key block before the query block. -/
def full (X : Inp F) (t : ℕ) (s : Acc F) : Acc F where
  dq := dqB (dsAt X t) (X.kb t) s.dq
  dk := VecWindow.put s.dk (at2 t) S512x256.size
    (stK (addf (VecWindow.window s.dk (at2 t) S512x256.size (at2_k t) : FVec F S512x256 .f32) (dkB (dsAt X t) X.q)))
  dv := VecWindow.put s.dv (at2 t) S512x128.size
    (stV (addf (VecWindow.window s.dv (at2 t) S512x128.size (at2_v t) : FVec F S512x128 .f32) (dvB (pB (scB X.q (X.kb t)) X.l) X.g)))

/-- The score gradient of the first key block on the diagonal. -/
def dsD0 (X : Inp F) (t : ℕ) : FVec F S1024x512 .bf16 := dsB (maskB (scB X.q (X.kb t))) (gvB X.g (X.vb t)) X.l X.dl

/-- The step of the first key block on the diagonal. -/
def diag0 (X : Inp F) (t : ℕ) (s : Acc F) : Acc F where
  dq := dqB (dsD0 X t) (X.kb t) s.dq
  dk := VecWindow.put s.dk (at2 t) S512x256.size (stK (dkB (dsD0 X t) X.q))
  dv := VecWindow.put s.dv (at2 t) S512x128.size (stV (dvB (pB (maskB (scB X.q (X.kb t))) X.l) X.g))

/-- The score gradient of the second key block on the diagonal, seen by the second half of the rows. -/
def dsD1 (X : Inp F) (t : ℕ) : FVec F S512x512 .bf16 := dsH (maskH (scH X.qh (X.kb t))) (gvH X.gh (X.vb t)) X.lh X.dh

/-- The step of the second key block on the diagonal. -/
def diag1 (X : Inp F) (t : ℕ) (s : Acc F) : Acc F where
  dq := VecWindow.put s.dq ![512, 0] S512x256.size
    (dqH (dsD1 X t) (X.kb t) (VecWindow.window s.dq ![512, 0] S512x256.size Gen.inb_S1024x256_S512x256_512_0))
  dk := VecWindow.put s.dk (at2 t) S512x256.size (stK (dkH (dsD1 X t) X.qh))
  dv := VecWindow.put s.dv (at2 t) S512x128.size (stV (dvH (pH (maskH (scH X.qh (X.kb t))) X.lh) X.gh))

/-- The steps of key blocks 0 to n-1. -/
def fulls (X : Inp F) : ℕ → Acc F → Acc F
  | 0, s => s
  | n + 1, s => full X n (fulls X n s)

/-- All that query block `i` does to the accumulators. -/
def pointAcc (X : Inp F) (i : ℕ) (s : Acc F) : Acc F := diag1 X (2 * i + 1) (diag0 X (2 * i) (fulls X (2 * i) s))

end Cert.KernelIdeal.Attn
-- ==== Proof.Trip.lean ====
module

public import proofs.«01_k».proof.Proof.Spec
public import Idealize.ShloMosaic.Lib.Updates.Own
public import Idealize.ShloMosaic.Lib.Updates.Loop

/-! One trip of the loop over the key blocks: six steps. -/

@[expose] public section

noncomputable section

namespace Cert.KernelIdeal.Attn

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.LaneScatter (raw raw_owns)
open Idealize.ShloMosaic.Updates

variable {F : FTy → Type} [FloatOps F] [Named F]

local notation "𝕄" => MT nD τ sig Unit (Elt F) ℕ (UR sig nD τ) ℕ

theorem off1_eq : ∀ (i : grid0.Coords) (k : Fin (k0_t1_loop i).trips) (r : Fin 6), k0_off1 i k (BitVec.ofNat 32 r.val) = at3 (6 * k.val + r.val) := by decide +kernel
theorem off2_eq : ∀ (i : grid0.Coords) (k : Fin (k0_t1_loop i).trips) (r : Fin 6), k0_off2 i k (BitVec.ofNat 32 r.val) = at2 (6 * k.val + r.val) := by decide +kernel
theorem off3_eq : ∀ (i : grid0.Coords) (k : Fin (k0_t1_loop i).trips) (r : Fin 6), k0_off3 i k (BitVec.ofNat 32 r.val) = at2 (6 * k.val + r.val) := by decide +kernel
theorem off2_lin : ∀ (i : grid0.Coords) (k : Fin (k0_t1_loop i).trips) (r : Fin 6), k0_off2 i k (BitVec.ofNat 32 r.val) = ![3072 * k.val + 512 * r.val, 0] := by decide +kernel
theorem off3_lin : ∀ (i : grid0.Coords) (k : Fin (k0_t1_loop i).trips) (r : Fin 6), k0_off3 i k (BitVec.ofNat 32 r.val) = ![3072 * k.val + 512 * r.val, 0] := by decide +kernel
theorem trip_lt : ∀ (i : grid0.Coords) (k : Fin (k0_t1_loop i).trips), k.val < 2 := by decide +kernel

section
variable (i : grid0.Coords) (k : Fin (k0_t1_loop i).trips)
instance c3_0 : ClosedOff (k0_off3 i k 0#32) := ⟨![3072 * k.val + 512 * 0, 0], off3_lin i k 0⟩
instance c3_1 : ClosedOff (k0_off3 i k 1#32) := ⟨![3072 * k.val + 512 * 1, 0], off3_lin i k 1⟩
instance c3_2 : ClosedOff (k0_off3 i k 2#32) := ⟨![3072 * k.val + 512 * 2, 0], off3_lin i k 2⟩
instance c3_3 : ClosedOff (k0_off3 i k 3#32) := ⟨![3072 * k.val + 512 * 3, 0], off3_lin i k 3⟩
instance c3_4 : ClosedOff (k0_off3 i k 4#32) := ⟨![3072 * k.val + 512 * 4, 0], off3_lin i k 4⟩
instance c3_5 : ClosedOff (k0_off3 i k 5#32) := ⟨![3072 * k.val + 512 * 5, 0], off3_lin i k 5⟩
instance c2_0 : ClosedOff (k0_off2 i k 0#32) := ⟨![3072 * k.val + 512 * 0, 0], off2_lin i k 0⟩
instance c2_1 : ClosedOff (k0_off2 i k 1#32) := ⟨![3072 * k.val + 512 * 1, 0], off2_lin i k 1⟩
instance c2_2 : ClosedOff (k0_off2 i k 2#32) := ⟨![3072 * k.val + 512 * 2, 0], off2_lin i k 2⟩
instance c2_3 : ClosedOff (k0_off2 i k 3#32) := ⟨![3072 * k.val + 512 * 3, 0], off2_lin i k 3⟩
instance c2_4 : ClosedOff (k0_off2 i k 4#32) := ⟨![3072 * k.val + 512 * 4, 0], off2_lin i k 4⟩
instance c2_5 : ClosedOff (k0_off2 i k 5#32) := ⟨![3072 * k.val + 512 * 5, 0], off2_lin i k 5⟩
end

/-- Two key blocks of different numbers lie apart. -/
theorem at2_apart {a b : ℕ} (h : a % 16 ≠ b % 16) : at2 a 0 + 512 ≤ at2 b 0 ∨ at2 b 0 + 512 ≤ at2 a 0 := by
  show 512 * (a % 16) + 512 ≤ 512 * (b % 16) ∨ 512 * (b % 16) + 512 ≤ 512 * (a % 16)
  omega

theorem window_put_k (x : Vec F S8192x256 .f32) (a b : ℕ) (h : a % 16 ≠ b % 16) (w : Vec F S512x256 .f32) :
    VecWindow.window (VecWindow.put x (at2 b) S512x256.size w) (at2 a) S512x256.size (at2_k a) = VecWindow.window x (at2 a) S512x256.size (at2_k a) :=
  VecWindow.window_put_of_disjoint x _ _ _ _ _ w 0 (at2_apart h)

theorem window_put_v (x : Vec F S8192x128 .f32) (a b : ℕ) (h : a % 16 ≠ b % 16) (w : Vec F S512x128 .f32) :
    VecWindow.window (VecWindow.put x (at2 b) S512x128.size w) (at2 a) S512x128.size (at2_v a) = VecWindow.window x (at2 a) S512x128.size (at2_v a) :=
  VecWindow.window_put_of_disjoint x _ _ _ _ _ w 0 (at2_apart h)

set_option maxRecDepth 16384 in
set_option maxHeartbeats 4000000 in
theorem trip (c : Dev nD) (i : grid0.Coords) (arg2 : Memref sig .tc .vmem S1x1024x256 .bf16) (harg2 : arg2.IsWhole) (arg3 : Memref sig .tc .vmem S1x8192x256 .bf16) (harg3 : arg3.IsWhole) (arg4 : Memref sig .tc .vmem S8192x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1x1024x256 .bf16) (harg8 : arg8.IsWhole) (arg9 : Memref sig .tc .vmem S1x8192x256 .bf16) (harg9 : arg9.IsWhole) (arg10 : Memref sig .tc .vmem S1x8192x128 .bf16) (harg10 : arg10.IsWhole) (arg11 : Memref sig .tc .vmem S1024x256 .f32) (harg11 : arg11.IsWhole) (arg12 : Memref sig .tc .vmem S1024x128 .f32) (harg12 : arg12.IsWhole) (arg13 : Memref sig .tc .vmem S8192x256 .f32) (harg13 : arg13.IsWhole) (arg14 : Memref sig .tc .vmem S8192x128 .f32) (harg14 : arg14.IsWhole) (v18 v35 c0 : BitVec 32) (k : Fin (k0_t1_loop i).trips)
    (f2 : arg2.view.ty.Contents (Elt F)) (f3 : arg3.view.ty.Contents (Elt F)) (f4 : arg4.view.ty.Contents (Elt F))
    (f6 : arg6.view.ty.Contents (Elt F)) (f7 : arg7.view.ty.Contents (Elt F)) (f11 : arg11.view.ty.Contents (Elt F))
    (f12 : arg12.view.ty.Contents (Elt F)) (f13 : arg13.view.ty.Contents (Elt F)) (f14 : arg14.view.ty.Contents (Elt F))
    (X : Inp F) (hX : (⟨arg2.view.read (Elt F) f2, arg3.view.read (Elt F) f3, arg4.view.read (Elt F) f4, arg6.view.read (Elt F) f6,
      arg7.view.read (Elt F) f7, arg12.view.read (Elt F) f12⟩ : Inp F) = X)
    (s : Acc F) (hs : (⟨arg11.view.read (Elt F) f11, arg13.view.read (Elt F) f13, arg14.view.read (Elt F) f14⟩ : Acc F) = s) :
    (iprop(raw (c : Thread nD τ) arg2 f2 ∗ raw (c : Thread nD τ) arg3 f3 ∗ raw (c : Thread nD τ) arg4 f4 ∗ raw (c : Thread nD τ) arg6 f6
      ∗ raw (c : Thread nD τ) arg7 f7 ∗ raw (c : Thread nD τ) arg12 f12 ∗ raw (c : Thread nD τ) arg11 f11 ∗ raw (c : Thread nD τ) arg13 f13 ∗ raw (c : Thread nD τ) arg14 f14) : sProp 𝕄) ⊢
      wp frame (wpE defs₀ Variants.none (c : Thread nD τ) none) Set.univ (Gen.k0_t1_body (F := F) i arg2 harg2 arg3 harg3 arg4 harg4 arg5 harg5 arg6 harg6 arg7 harg7 arg8 harg8 arg9 harg9 arg10 harg10 arg11 harg11 arg12 harg12 arg13 harg13 arg14 harg14 v18 v35 c0 k ())
        (fun _ => iprop(raw (c : Thread nD τ) arg2 f2 ∗ raw (c : Thread nD τ) arg3 f3 ∗ raw (c : Thread nD τ) arg4 f4 ∗ raw (c : Thread nD τ) arg6 f6
          ∗ raw (c : Thread nD τ) arg7 f7 ∗ raw (c : Thread nD τ) arg12 f12
          ∗ ∃ g11 g13 g14, raw (c : Thread nD τ) arg11 g11 ∗ raw (c : Thread nD τ) arg13 g13 ∗ raw (c : Thread nD τ) arg14 g14
          ∗ ⌜(⟨arg11.view.read (Elt F) g11, arg13.view.read (Elt F) g13, arg14.view.read (Elt F) g14⟩ : Acc F)
              = full X (6 * k.val + 5) (full X (6 * k.val + 4) (full X (6 * k.val + 3) (full X (6 * k.val + 2) (full X (6 * k.val + 1) (full X (6 * k.val + 0) s)))))⌝)) := by
  unfold Gen.k0_t1_body
  iintro ⟨H2, H3, H4, H6, H7, H12, H11, H13, H14⟩
  sl_exec
  sl_step
  isplitl [H2]; iexact H2
  isplitl [H3]; iexact H3
  isplitl [H4]; iexact H4
  isplitl [H6]; iexact H6
  isplitl [H7]; iexact H7
  isplitl [H12]; iexact H12
  iexists _; iexists _; iexists _
  isplitl [H11]
  · iexact H11
  isplitl [H13]
  · iexact H13
  isplitl [H14]
  · iexact H14
  ipureintro
  have hk := trip_lt i k
  subst hX; subst hs
  have hq : arg2.view.readAt (Elt F) (Rect.unit ![0, 0, 0] S1x1024x256.size Gen.inb_S1x1024x256_S1x1024x256_0_0_0).toLoadRect f2 = arg2.view.read (Elt F) f2 := View.readAt_full _ _ _
  have hg : arg6.view.readAt (Elt F) (Rect.unit ![0, 0] S1024x128.size Gen.inb_S1024x128_S1024x128_0_0).toLoadRect f6 = arg6.view.read (Elt F) f6 := View.readAt_full _ _ _
  have hl : arg7.view.readAt (Elt F) (Rect.unit ![0, 0, 0] S1x1024x128.size Gen.inb_S1x1024x128_S1x1024x128_0_0_0).toLoadRect f7 = arg7.view.read (Elt F) f7 := View.readAt_full _ _ _
  have hd : arg12.view.readAt (Elt F) (Rect.unit ![0, 0] S1024x128.size Gen.inb_S1024x128_S1024x128_0_0).toLoadRect f12 = arg12.view.read (Elt F) f12 := View.readAt_full _ _ _
  have hk0 : arg3.view.readAt (Elt F) (Rect.unit (s := S1x8192x256) (k0_off1 i k 0#32) S1x512x256.size (Gen.k0_off1_inb i k 0)).toLoadRect f3 = VecWindow.window (arg3.view.read (Elt F) f3) (at3 (6 * k.val + 0)) S1x512x256.size (at3_k _) := View.readAt_unit _ _ _ (off1_eq i k 0) _
  have o3_0 : k0_off3 i k 0#32 = at2 (6 * k.val + 0) := off3_eq i k 0
  have o2_0 : k0_off2 i k 0#32 = at2 (6 * k.val + 0) := off2_eq i k 0
  have w3_0 : arg13.view.readAt (Elt F) (Rect.unit (s := S8192x256) (k0_off3 i k 0#32) S512x256.size (Gen.k0_off3_inb i k 0)).toLoadRect f13 = VecWindow.window (arg13.view.read (Elt F) f13) (at2 (6 * k.val + 0)) S512x256.size (at2_k _) := View.readAt_unit _ _ _ o3_0 _
  have w2_0 : arg14.view.readAt (Elt F) (Rect.unit (s := S8192x128) (k0_off2 i k 0#32) S512x128.size (Gen.k0_off2_inb i k 0)).toLoadRect f14 = VecWindow.window (arg14.view.read (Elt F) f14) (at2 (6 * k.val + 0)) S512x128.size (at2_v _) := View.readAt_unit _ _ _ o2_0 _
  have hv0 : arg4.view.readAt (Elt F) (Rect.unit (s := S8192x128) (k0_off2 i k 0#32) S512x128.size (Gen.k0_off2_inb i k 0)).toLoadRect f4 = VecWindow.window (arg4.view.read (Elt F) f4) (at2 (6 * k.val + 0)) S512x128.size (at2_v _) := View.readAt_unit _ _ _ (off2_eq i k 0) _
  have hk1 : arg3.view.readAt (Elt F) (Rect.unit (s := S1x8192x256) (k0_off1 i k 1#32) S1x512x256.size (Gen.k0_off1_inb i k 1)).toLoadRect f3 = VecWindow.window (arg3.view.read (Elt F) f3) (at3 (6 * k.val + 1)) S1x512x256.size (at3_k _) := View.readAt_unit _ _ _ (off1_eq i k 1) _
  have o3_1 : k0_off3 i k 1#32 = at2 (6 * k.val + 1) := off3_eq i k 1
  have o2_1 : k0_off2 i k 1#32 = at2 (6 * k.val + 1) := off2_eq i k 1
  have w3_1 : arg13.view.readAt (Elt F) (Rect.unit (s := S8192x256) (k0_off3 i k 1#32) S512x256.size (Gen.k0_off3_inb i k 1)).toLoadRect f13 = VecWindow.window (arg13.view.read (Elt F) f13) (at2 (6 * k.val + 1)) S512x256.size (at2_k _) := View.readAt_unit _ _ _ o3_1 _
  have w2_1 : arg14.view.readAt (Elt F) (Rect.unit (s := S8192x128) (k0_off2 i k 1#32) S512x128.size (Gen.k0_off2_inb i k 1)).toLoadRect f14 = VecWindow.window (arg14.view.read (Elt F) f14) (at2 (6 * k.val + 1)) S512x128.size (at2_v _) := View.readAt_unit _ _ _ o2_1 _
  have hv1 : arg4.view.readAt (Elt F) (Rect.unit (s := S8192x128) (k0_off2 i k 1#32) S512x128.size (Gen.k0_off2_inb i k 1)).toLoadRect f4 = VecWindow.window (arg4.view.read (Elt F) f4) (at2 (6 * k.val + 1)) S512x128.size (at2_v _) := View.readAt_unit _ _ _ (off2_eq i k 1) _
  have hk2 : arg3.view.readAt (Elt F) (Rect.unit (s := S1x8192x256) (k0_off1 i k 2#32) S1x512x256.size (Gen.k0_off1_inb i k 2)).toLoadRect f3 = VecWindow.window (arg3.view.read (Elt F) f3) (at3 (6 * k.val + 2)) S1x512x256.size (at3_k _) := View.readAt_unit _ _ _ (off1_eq i k 2) _
  have o3_2 : k0_off3 i k 2#32 = at2 (6 * k.val + 2) := off3_eq i k 2
  have o2_2 : k0_off2 i k 2#32 = at2 (6 * k.val + 2) := off2_eq i k 2
  have w3_2 : arg13.view.readAt (Elt F) (Rect.unit (s := S8192x256) (k0_off3 i k 2#32) S512x256.size (Gen.k0_off3_inb i k 2)).toLoadRect f13 = VecWindow.window (arg13.view.read (Elt F) f13) (at2 (6 * k.val + 2)) S512x256.size (at2_k _) := View.readAt_unit _ _ _ o3_2 _
  have w2_2 : arg14.view.readAt (Elt F) (Rect.unit (s := S8192x128) (k0_off2 i k 2#32) S512x128.size (Gen.k0_off2_inb i k 2)).toLoadRect f14 = VecWindow.window (arg14.view.read (Elt F) f14) (at2 (6 * k.val + 2)) S512x128.size (at2_v _) := View.readAt_unit _ _ _ o2_2 _
  have hv2 : arg4.view.readAt (Elt F) (Rect.unit (s := S8192x128) (k0_off2 i k 2#32) S512x128.size (Gen.k0_off2_inb i k 2)).toLoadRect f4 = VecWindow.window (arg4.view.read (Elt F) f4) (at2 (6 * k.val + 2)) S512x128.size (at2_v _) := View.readAt_unit _ _ _ (off2_eq i k 2) _
  have hk3 : arg3.view.readAt (Elt F) (Rect.unit (s := S1x8192x256) (k0_off1 i k 3#32) S1x512x256.size (Gen.k0_off1_inb i k 3)).toLoadRect f3 = VecWindow.window (arg3.view.read (Elt F) f3) (at3 (6 * k.val + 3)) S1x512x256.size (at3_k _) := View.readAt_unit _ _ _ (off1_eq i k 3) _
  have o3_3 : k0_off3 i k 3#32 = at2 (6 * k.val + 3) := off3_eq i k 3
  have o2_3 : k0_off2 i k 3#32 = at2 (6 * k.val + 3) := off2_eq i k 3
  have w3_3 : arg13.view.readAt (Elt F) (Rect.unit (s := S8192x256) (k0_off3 i k 3#32) S512x256.size (Gen.k0_off3_inb i k 3)).toLoadRect f13 = VecWindow.window (arg13.view.read (Elt F) f13) (at2 (6 * k.val + 3)) S512x256.size (at2_k _) := View.readAt_unit _ _ _ o3_3 _
  have w2_3 : arg14.view.readAt (Elt F) (Rect.unit (s := S8192x128) (k0_off2 i k 3#32) S512x128.size (Gen.k0_off2_inb i k 3)).toLoadRect f14 = VecWindow.window (arg14.view.read (Elt F) f14) (at2 (6 * k.val + 3)) S512x128.size (at2_v _) := View.readAt_unit _ _ _ o2_3 _
  have hv3 : arg4.view.readAt (Elt F) (Rect.unit (s := S8192x128) (k0_off2 i k 3#32) S512x128.size (Gen.k0_off2_inb i k 3)).toLoadRect f4 = VecWindow.window (arg4.view.read (Elt F) f4) (at2 (6 * k.val + 3)) S512x128.size (at2_v _) := View.readAt_unit _ _ _ (off2_eq i k 3) _
  have hk4 : arg3.view.readAt (Elt F) (Rect.unit (s := S1x8192x256) (k0_off1 i k 4#32) S1x512x256.size (Gen.k0_off1_inb i k 4)).toLoadRect f3 = VecWindow.window (arg3.view.read (Elt F) f3) (at3 (6 * k.val + 4)) S1x512x256.size (at3_k _) := View.readAt_unit _ _ _ (off1_eq i k 4) _
  have o3_4 : k0_off3 i k 4#32 = at2 (6 * k.val + 4) := off3_eq i k 4
  have o2_4 : k0_off2 i k 4#32 = at2 (6 * k.val + 4) := off2_eq i k 4
  have w3_4 : arg13.view.readAt (Elt F) (Rect.unit (s := S8192x256) (k0_off3 i k 4#32) S512x256.size (Gen.k0_off3_inb i k 4)).toLoadRect f13 = VecWindow.window (arg13.view.read (Elt F) f13) (at2 (6 * k.val + 4)) S512x256.size (at2_k _) := View.readAt_unit _ _ _ o3_4 _
  have w2_4 : arg14.view.readAt (Elt F) (Rect.unit (s := S8192x128) (k0_off2 i k 4#32) S512x128.size (Gen.k0_off2_inb i k 4)).toLoadRect f14 = VecWindow.window (arg14.view.read (Elt F) f14) (at2 (6 * k.val + 4)) S512x128.size (at2_v _) := View.readAt_unit _ _ _ o2_4 _
  have hv4 : arg4.view.readAt (Elt F) (Rect.unit (s := S8192x128) (k0_off2 i k 4#32) S512x128.size (Gen.k0_off2_inb i k 4)).toLoadRect f4 = VecWindow.window (arg4.view.read (Elt F) f4) (at2 (6 * k.val + 4)) S512x128.size (at2_v _) := View.readAt_unit _ _ _ (off2_eq i k 4) _
  have hk5 : arg3.view.readAt (Elt F) (Rect.unit (s := S1x8192x256) (k0_off1 i k 5#32) S1x512x256.size (Gen.k0_off1_inb i k 5)).toLoadRect f3 = VecWindow.window (arg3.view.read (Elt F) f3) (at3 (6 * k.val + 5)) S1x512x256.size (at3_k _) := View.readAt_unit _ _ _ (off1_eq i k 5) _
  have o3_5 : k0_off3 i k 5#32 = at2 (6 * k.val + 5) := off3_eq i k 5
  have o2_5 : k0_off2 i k 5#32 = at2 (6 * k.val + 5) := off2_eq i k 5
  have w3_5 : arg13.view.readAt (Elt F) (Rect.unit (s := S8192x256) (k0_off3 i k 5#32) S512x256.size (Gen.k0_off3_inb i k 5)).toLoadRect f13 = VecWindow.window (arg13.view.read (Elt F) f13) (at2 (6 * k.val + 5)) S512x256.size (at2_k _) := View.readAt_unit _ _ _ o3_5 _
  have w2_5 : arg14.view.readAt (Elt F) (Rect.unit (s := S8192x128) (k0_off2 i k 5#32) S512x128.size (Gen.k0_off2_inb i k 5)).toLoadRect f14 = VecWindow.window (arg14.view.read (Elt F) f14) (at2 (6 * k.val + 5)) S512x128.size (at2_v _) := View.readAt_unit _ _ _ o2_5 _
  have hv5 : arg4.view.readAt (Elt F) (Rect.unit (s := S8192x128) (k0_off2 i k 5#32) S512x128.size (Gen.k0_off2_inb i k 5)).toLoadRect f4 = VecWindow.window (arg4.view.read (Elt F) f4) (at2 (6 * k.val + 5)) S512x128.size (at2_v _) := View.readAt_unit _ _ _ (off2_eq i k 5) _
  refine Acc.ext ?_ ?_ ?_
  · show arg11.view.read (Elt F) (arg11.view.writes (Elt F) f11 (⟨(Rect.unit ![0, 0] S1024x256.size Gen.inb_S1024x256_S1024x256_0_0), dqB (dsB (scB (arg2.view.readAt (Elt F) (Rect.unit ![0, 0, 0] S1x1024x256.size Gen.inb_S1x1024x256_S1x1024x256_0_0_0).toLoadRect f2) (arg3.view.readAt (Elt F) (Rect.unit (s := S1x8192x256) (k0_off1 i k 5#32) S1x512x256.size (Gen.k0_off1_inb i k 5)).toLoadRect f3)) (gvB (arg6.view.readAt (Elt F) (Rect.unit ![0, 0] S1024x128.size Gen.inb_S1024x128_S1024x128_0_0).toLoadRect f6) (arg4.view.readAt (Elt F) (Rect.unit (s := S8192x128) (k0_off2 i k 5#32) S512x128.size (Gen.k0_off2_inb i k 5)).toLoadRect f4)) (arg7.view.readAt (Elt F) (Rect.unit ![0, 0, 0] S1x1024x128.size Gen.inb_S1x1024x128_S1x1024x128_0_0_0).toLoadRect f7) (arg12.view.readAt (Elt F) (Rect.unit ![0, 0] S1024x128.size Gen.inb_S1024x128_S1024x128_0_0).toLoadRect f12)) (arg3.view.readAt (Elt F) (Rect.unit (s := S1x8192x256) (k0_off1 i k 5#32) S1x512x256.size (Gen.k0_off1_inb i k 5)).toLoadRect f3) (arg11.view.readCov (⟨(Rect.unit ![0, 0] S1024x256.size Gen.inb_S1024x256_S1024x256_0_0), dqB (dsB (scB (arg2.view.readAt (Elt F) (Rect.unit ![0, 0, 0] S1x1024x256.size Gen.inb_S1x1024x256_S1x1024x256_0_0_0).toLoadRect f2) (arg3.view.readAt (Elt F) (Rect.unit (s := S1x8192x256) (k0_off1 i k 4#32) S1x512x256.size (Gen.k0_off1_inb i k 4)).toLoadRect f3)) (gvB (arg6.view.readAt (Elt F) (Rect.unit ![0, 0] S1024x128.size Gen.inb_S1024x128_S1024x128_0_0).toLoadRect f6) (arg4.view.readAt (Elt F) (Rect.unit (s := S8192x128) (k0_off2 i k 4#32) S512x128.size (Gen.k0_off2_inb i k 4)).toLoadRect f4)) (arg7.view.readAt (Elt F) (Rect.unit ![0, 0, 0] S1x1024x128.size Gen.inb_S1x1024x128_S1x1024x128_0_0_0).toLoadRect f7) (arg12.view.readAt (Elt F) (Rect.unit ![0, 0] S1024x128.size Gen.inb_S1024x128_S1024x128_0_0).toLoadRect f12)) (arg3.view.readAt (Elt F) (Rect.unit (s := S1x8192x256) (k0_off1 i k 4#32) S1x512x256.size (Gen.k0_off1_inb i k 4)).toLoadRect f3) (arg11.view.readCov (⟨(Rect.unit ![0, 0] S1024x256.size Gen.inb_S1024x256_S1024x256_0_0), dqB (dsB (scB (arg2.view.readAt (Elt F) (Rect.unit ![0, 0, 0] S1x1024x256.size Gen.inb_S1x1024x256_S1x1024x256_0_0_0).toLoadRect f2) (arg3.view.readAt (Elt F) (Rect.unit (s := S1x8192x256) (k0_off1 i k 3#32) S1x512x256.size (Gen.k0_off1_inb i k 3)).toLoadRect f3)) (gvB (arg6.view.readAt (Elt F) (Rect.unit ![0, 0] S1024x128.size Gen.inb_S1024x128_S1024x128_0_0).toLoadRect f6) (arg4.view.readAt (Elt F) (Rect.unit (s := S8192x128) (k0_off2 i k 3#32) S512x128.size (Gen.k0_off2_inb i k 3)).toLoadRect f4)) (arg7.view.readAt (Elt F) (Rect.unit ![0, 0, 0] S1x1024x128.size Gen.inb_S1x1024x128_S1x1024x128_0_0_0).toLoadRect f7) (arg12.view.readAt (Elt F) (Rect.unit ![0, 0] S1024x128.size Gen.inb_S1024x128_S1024x128_0_0).toLoadRect f12)) (arg3.view.readAt (Elt F) (Rect.unit (s := S1x8192x256) (k0_off1 i k 3#32) S1x512x256.size (Gen.k0_off1_inb i k 3)).toLoadRect f3) (arg11.view.readCov (⟨(Rect.unit ![0, 0] S1024x256.size Gen.inb_S1024x256_S1024x256_0_0), dqB (dsB (scB (arg2.view.readAt (Elt F) (Rect.unit ![0, 0, 0] S1x1024x256.size Gen.inb_S1x1024x256_S1x1024x256_0_0_0).toLoadRect f2) (arg3.view.readAt (Elt F) (Rect.unit (s := S1x8192x256) (k0_off1 i k 2#32) S1x512x256.size (Gen.k0_off1_inb i k 2)).toLoadRect f3)) (gvB (arg6.view.readAt (Elt F) (Rect.unit ![0, 0] S1024x128.size Gen.inb_S1024x128_S1024x128_0_0).toLoadRect f6) (arg4.view.readAt (Elt F) (Rect.unit (s := S8192x128) (k0_off2 i k 2#32) S512x128.size (Gen.k0_off2_inb i k 2)).toLoadRect f4)) (arg7.view.readAt (Elt F) (Rect.unit ![0, 0, 0] S1x1024x128.size Gen.inb_S1x1024x128_S1x1024x128_0_0_0).toLoadRect f7) (arg12.view.readAt (Elt F) (Rect.unit ![0, 0] S1024x128.size Gen.inb_S1024x128_S1024x128_0_0).toLoadRect f12)) (arg3.view.readAt (Elt F) (Rect.unit (s := S1x8192x256) (k0_off1 i k 2#32) S1x512x256.size (Gen.k0_off1_inb i k 2)).toLoadRect f3) (arg11.view.readCov (⟨(Rect.unit ![0, 0] S1024x256.size Gen.inb_S1024x256_S1024x256_0_0), dqB (dsB (scB (arg2.view.readAt (Elt F) (Rect.unit ![0, 0, 0] S1x1024x256.size Gen.inb_S1x1024x256_S1x1024x256_0_0_0).toLoadRect f2) (arg3.view.readAt (Elt F) (Rect.unit (s := S1x8192x256) (k0_off1 i k 1#32) S1x512x256.size (Gen.k0_off1_inb i k 1)).toLoadRect f3)) (gvB (arg6.view.readAt (Elt F) (Rect.unit ![0, 0] S1024x128.size Gen.inb_S1024x128_S1024x128_0_0).toLoadRect f6) (arg4.view.readAt (Elt F) (Rect.unit (s := S8192x128) (k0_off2 i k 1#32) S512x128.size (Gen.k0_off2_inb i k 1)).toLoadRect f4)) (arg7.view.readAt (Elt F) (Rect.unit ![0, 0, 0] S1x1024x128.size Gen.inb_S1x1024x128_S1x1024x128_0_0_0).toLoadRect f7) (arg12.view.readAt (Elt F) (Rect.unit ![0, 0] S1024x128.size Gen.inb_S1024x128_S1024x128_0_0).toLoadRect f12)) (arg3.view.readAt (Elt F) (Rect.unit (s := S1x8192x256) (k0_off1 i k 1#32) S1x512x256.size (Gen.k0_off1_inb i k 1)).toLoadRect f3) (arg11.view.readCov (⟨(Rect.unit ![0, 0] S1024x256.size Gen.inb_S1024x256_S1024x256_0_0), dqB (dsB (scB (arg2.view.readAt (Elt F) (Rect.unit ![0, 0, 0] S1x1024x256.size Gen.inb_S1x1024x256_S1x1024x256_0_0_0).toLoadRect f2) (arg3.view.readAt (Elt F) (Rect.unit (s := S1x8192x256) (k0_off1 i k 0#32) S1x512x256.size (Gen.k0_off1_inb i k 0)).toLoadRect f3)) (gvB (arg6.view.readAt (Elt F) (Rect.unit ![0, 0] S1024x128.size Gen.inb_S1024x128_S1024x128_0_0).toLoadRect f6) (arg4.view.readAt (Elt F) (Rect.unit (s := S8192x128) (k0_off2 i k 0#32) S512x128.size (Gen.k0_off2_inb i k 0)).toLoadRect f4)) (arg7.view.readAt (Elt F) (Rect.unit ![0, 0, 0] S1x1024x128.size Gen.inb_S1x1024x128_S1x1024x128_0_0_0).toLoadRect f7) (arg12.view.readAt (Elt F) (Rect.unit ![0, 0] S1024x128.size Gen.inb_S1024x128_S1024x128_0_0).toLoadRect f12)) (arg3.view.readAt (Elt F) (Rect.unit (s := S1x8192x256) (k0_off1 i k 0#32) S1x512x256.size (Gen.k0_off1_inb i k 0)).toLoadRect f3) (arg11.view.readAt (Elt F) (Rect.unit ![0, 0] S1024x256.size Gen.inb_S1024x256_S1024x256_0_0).toLoadRect f11)⟩ :: _) (Rect.unit ![0, 0] S1024x256.size Gen.inb_S1024x256_S1024x256_0_0).toLoadRect)⟩ :: _) (Rect.unit ![0, 0] S1024x256.size Gen.inb_S1024x256_S1024x256_0_0).toLoadRect)⟩ :: _) (Rect.unit ![0, 0] S1024x256.size Gen.inb_S1024x256_S1024x256_0_0).toLoadRect)⟩ :: _) (Rect.unit ![0, 0] S1024x256.size Gen.inb_S1024x256_S1024x256_0_0).toLoadRect)⟩ :: _) (Rect.unit ![0, 0] S1024x256.size Gen.inb_S1024x256_S1024x256_0_0).toLoadRect)⟩ :: _)) = _
    rw [View.read_writes_full, View.readCov_full, View.readCov_full, View.readCov_full, View.readCov_full, View.readCov_full, View.readAt_full arg11.view]
    rw [hq, hg, hl, hd, hk0, hv0, hk1, hv1, hk2, hv2, hk3, hv3, hk4, hv4, hk5, hv5]
    rfl
  · show arg13.view.read (Elt F) (arg13.view.writes (Elt F) f13 [⟨Rect.unit (s := S8192x256) (k0_off3 i k 5#32) S512x256.size (Gen.k0_off3_inb i k 5), stK (addf (arg13.view.readAt (Elt F) (Rect.unit (s := S8192x256) (k0_off3 i k 5#32) S512x256.size (Gen.k0_off3_inb i k 5)).toLoadRect f13 : FVec F S512x256 .f32) (dkB (dsB (scB (arg2.view.readAt (Elt F) (Rect.unit ![0, 0, 0] S1x1024x256.size Gen.inb_S1x1024x256_S1x1024x256_0_0_0).toLoadRect f2) (arg3.view.readAt (Elt F) (Rect.unit (s := S1x8192x256) (k0_off1 i k 5#32) S1x512x256.size (Gen.k0_off1_inb i k 5)).toLoadRect f3)) (gvB (arg6.view.readAt (Elt F) (Rect.unit ![0, 0] S1024x128.size Gen.inb_S1024x128_S1024x128_0_0).toLoadRect f6) (arg4.view.readAt (Elt F) (Rect.unit (s := S8192x128) (k0_off2 i k 5#32) S512x128.size (Gen.k0_off2_inb i k 5)).toLoadRect f4)) (arg7.view.readAt (Elt F) (Rect.unit ![0, 0, 0] S1x1024x128.size Gen.inb_S1x1024x128_S1x1024x128_0_0_0).toLoadRect f7) (arg12.view.readAt (Elt F) (Rect.unit ![0, 0] S1024x128.size Gen.inb_S1024x128_S1024x128_0_0).toLoadRect f12)) (arg2.view.readAt (Elt F) (Rect.unit ![0, 0, 0] S1x1024x256.size Gen.inb_S1x1024x256_S1x1024x256_0_0_0).toLoadRect f2)))⟩, ⟨Rect.unit (s := S8192x256) (k0_off3 i k 4#32) S512x256.size (Gen.k0_off3_inb i k 4), stK (addf (arg13.view.readAt (Elt F) (Rect.unit (s := S8192x256) (k0_off3 i k 4#32) S512x256.size (Gen.k0_off3_inb i k 4)).toLoadRect f13 : FVec F S512x256 .f32) (dkB (dsB (scB (arg2.view.readAt (Elt F) (Rect.unit ![0, 0, 0] S1x1024x256.size Gen.inb_S1x1024x256_S1x1024x256_0_0_0).toLoadRect f2) (arg3.view.readAt (Elt F) (Rect.unit (s := S1x8192x256) (k0_off1 i k 4#32) S1x512x256.size (Gen.k0_off1_inb i k 4)).toLoadRect f3)) (gvB (arg6.view.readAt (Elt F) (Rect.unit ![0, 0] S1024x128.size Gen.inb_S1024x128_S1024x128_0_0).toLoadRect f6) (arg4.view.readAt (Elt F) (Rect.unit (s := S8192x128) (k0_off2 i k 4#32) S512x128.size (Gen.k0_off2_inb i k 4)).toLoadRect f4)) (arg7.view.readAt (Elt F) (Rect.unit ![0, 0, 0] S1x1024x128.size Gen.inb_S1x1024x128_S1x1024x128_0_0_0).toLoadRect f7) (arg12.view.readAt (Elt F) (Rect.unit ![0, 0] S1024x128.size Gen.inb_S1024x128_S1024x128_0_0).toLoadRect f12)) (arg2.view.readAt (Elt F) (Rect.unit ![0, 0, 0] S1x1024x256.size Gen.inb_S1x1024x256_S1x1024x256_0_0_0).toLoadRect f2)))⟩, ⟨Rect.unit (s := S8192x256) (k0_off3 i k 3#32) S512x256.size (Gen.k0_off3_inb i k 3), stK (addf (arg13.view.readAt (Elt F) (Rect.unit (s := S8192x256) (k0_off3 i k 3#32) S512x256.size (Gen.k0_off3_inb i k 3)).toLoadRect f13 : FVec F S512x256 .f32) (dkB (dsB (scB (arg2.view.readAt (Elt F) (Rect.unit ![0, 0, 0] S1x1024x256.size Gen.inb_S1x1024x256_S1x1024x256_0_0_0).toLoadRect f2) (arg3.view.readAt (Elt F) (Rect.unit (s := S1x8192x256) (k0_off1 i k 3#32) S1x512x256.size (Gen.k0_off1_inb i k 3)).toLoadRect f3)) (gvB (arg6.view.readAt (Elt F) (Rect.unit ![0, 0] S1024x128.size Gen.inb_S1024x128_S1024x128_0_0).toLoadRect f6) (arg4.view.readAt (Elt F) (Rect.unit (s := S8192x128) (k0_off2 i k 3#32) S512x128.size (Gen.k0_off2_inb i k 3)).toLoadRect f4)) (arg7.view.readAt (Elt F) (Rect.unit ![0, 0, 0] S1x1024x128.size Gen.inb_S1x1024x128_S1x1024x128_0_0_0).toLoadRect f7) (arg12.view.readAt (Elt F) (Rect.unit ![0, 0] S1024x128.size Gen.inb_S1024x128_S1024x128_0_0).toLoadRect f12)) (arg2.view.readAt (Elt F) (Rect.unit ![0, 0, 0] S1x1024x256.size Gen.inb_S1x1024x256_S1x1024x256_0_0_0).toLoadRect f2)))⟩, ⟨Rect.unit (s := S8192x256) (k0_off3 i k 2#32) S512x256.size (Gen.k0_off3_inb i k 2), stK (addf (arg13.view.readAt (Elt F) (Rect.unit (s := S8192x256) (k0_off3 i k 2#32) S512x256.size (Gen.k0_off3_inb i k 2)).toLoadRect f13 : FVec F S512x256 .f32) (dkB (dsB (scB (arg2.view.readAt (Elt F) (Rect.unit ![0, 0, 0] S1x1024x256.size Gen.inb_S1x1024x256_S1x1024x256_0_0_0).toLoadRect f2) (arg3.view.readAt (Elt F) (Rect.unit (s := S1x8192x256) (k0_off1 i k 2#32) S1x512x256.size (Gen.k0_off1_inb i k 2)).toLoadRect f3)) (gvB (arg6.view.readAt (Elt F) (Rect.unit ![0, 0] S1024x128.size Gen.inb_S1024x128_S1024x128_0_0).toLoadRect f6) (arg4.view.readAt (Elt F) (Rect.unit (s := S8192x128) (k0_off2 i k 2#32) S512x128.size (Gen.k0_off2_inb i k 2)).toLoadRect f4)) (arg7.view.readAt (Elt F) (Rect.unit ![0, 0, 0] S1x1024x128.size Gen.inb_S1x1024x128_S1x1024x128_0_0_0).toLoadRect f7) (arg12.view.readAt (Elt F) (Rect.unit ![0, 0] S1024x128.size Gen.inb_S1024x128_S1024x128_0_0).toLoadRect f12)) (arg2.view.readAt (Elt F) (Rect.unit ![0, 0, 0] S1x1024x256.size Gen.inb_S1x1024x256_S1x1024x256_0_0_0).toLoadRect f2)))⟩, ⟨Rect.unit (s := S8192x256) (k0_off3 i k 1#32) S512x256.size (Gen.k0_off3_inb i k 1), stK (addf (arg13.view.readAt (Elt F) (Rect.unit (s := S8192x256) (k0_off3 i k 1#32) S512x256.size (Gen.k0_off3_inb i k 1)).toLoadRect f13 : FVec F S512x256 .f32) (dkB (dsB (scB (arg2.view.readAt (Elt F) (Rect.unit ![0, 0, 0] S1x1024x256.size Gen.inb_S1x1024x256_S1x1024x256_0_0_0).toLoadRect f2) (arg3.view.readAt (Elt F) (Rect.unit (s := S1x8192x256) (k0_off1 i k 1#32) S1x512x256.size (Gen.k0_off1_inb i k 1)).toLoadRect f3)) (gvB (arg6.view.readAt (Elt F) (Rect.unit ![0, 0] S1024x128.size Gen.inb_S1024x128_S1024x128_0_0).toLoadRect f6) (arg4.view.readAt (Elt F) (Rect.unit (s := S8192x128) (k0_off2 i k 1#32) S512x128.size (Gen.k0_off2_inb i k 1)).toLoadRect f4)) (arg7.view.readAt (Elt F) (Rect.unit ![0, 0, 0] S1x1024x128.size Gen.inb_S1x1024x128_S1x1024x128_0_0_0).toLoadRect f7) (arg12.view.readAt (Elt F) (Rect.unit ![0, 0] S1024x128.size Gen.inb_S1024x128_S1024x128_0_0).toLoadRect f12)) (arg2.view.readAt (Elt F) (Rect.unit ![0, 0, 0] S1x1024x256.size Gen.inb_S1x1024x256_S1x1024x256_0_0_0).toLoadRect f2)))⟩, ⟨Rect.unit (s := S8192x256) (k0_off3 i k 0#32) S512x256.size (Gen.k0_off3_inb i k 0), stK (addf (arg13.view.readAt (Elt F) (Rect.unit (s := S8192x256) (k0_off3 i k 0#32) S512x256.size (Gen.k0_off3_inb i k 0)).toLoadRect f13 : FVec F S512x256 .f32) (dkB (dsB (scB (arg2.view.readAt (Elt F) (Rect.unit ![0, 0, 0] S1x1024x256.size Gen.inb_S1x1024x256_S1x1024x256_0_0_0).toLoadRect f2) (arg3.view.readAt (Elt F) (Rect.unit (s := S1x8192x256) (k0_off1 i k 0#32) S1x512x256.size (Gen.k0_off1_inb i k 0)).toLoadRect f3)) (gvB (arg6.view.readAt (Elt F) (Rect.unit ![0, 0] S1024x128.size Gen.inb_S1024x128_S1024x128_0_0).toLoadRect f6) (arg4.view.readAt (Elt F) (Rect.unit (s := S8192x128) (k0_off2 i k 0#32) S512x128.size (Gen.k0_off2_inb i k 0)).toLoadRect f4)) (arg7.view.readAt (Elt F) (Rect.unit ![0, 0, 0] S1x1024x128.size Gen.inb_S1x1024x128_S1x1024x128_0_0_0).toLoadRect f7) (arg12.view.readAt (Elt F) (Rect.unit ![0, 0] S1024x128.size Gen.inb_S1024x128_S1024x128_0_0).toLoadRect f12)) (arg2.view.readAt (Elt F) (Rect.unit ![0, 0, 0] S1x1024x256.size Gen.inb_S1x1024x256_S1x1024x256_0_0_0).toLoadRect f2)))⟩]) = _
    rw [View.read_writes_cons_put _ _ _ _ _ o3_5, View.read_writes_cons_put _ _ _ _ _ o3_4, View.read_writes_cons_put _ _ _ _ _ o3_3, View.read_writes_cons_put _ _ _ _ _ o3_2, View.read_writes_cons_put _ _ _ _ _ o3_1, View.read_writes_cons_put _ _ _ _ _ o3_0, View.writes_nil,
      w3_0, w3_1, w3_2, w3_3, w3_4, w3_5]
    rw [hq, hg, hl, hd, hk0, hv0, hk1, hv1, hk2, hv2, hk3, hv3, hk4, hv4, hk5, hv5]
    simp only [full]
    rw [window_put_k _ (6 * k.val + 1) (6 * k.val + 0) (by omega), window_put_k _ (6 * k.val + 2) (6 * k.val + 1) (by omega), window_put_k _ (6 * k.val + 2) (6 * k.val + 0) (by omega), window_put_k _ (6 * k.val + 3) (6 * k.val + 2) (by omega), window_put_k _ (6 * k.val + 3) (6 * k.val + 1) (by omega), window_put_k _ (6 * k.val + 3) (6 * k.val + 0) (by omega), window_put_k _ (6 * k.val + 4) (6 * k.val + 3) (by omega), window_put_k _ (6 * k.val + 4) (6 * k.val + 2) (by omega), window_put_k _ (6 * k.val + 4) (6 * k.val + 1) (by omega), window_put_k _ (6 * k.val + 4) (6 * k.val + 0) (by omega), window_put_k _ (6 * k.val + 5) (6 * k.val + 4) (by omega), window_put_k _ (6 * k.val + 5) (6 * k.val + 3) (by omega), window_put_k _ (6 * k.val + 5) (6 * k.val + 2) (by omega), window_put_k _ (6 * k.val + 5) (6 * k.val + 1) (by omega), window_put_k _ (6 * k.val + 5) (6 * k.val + 0) (by omega)]
    rfl
  · show arg14.view.read (Elt F) (arg14.view.writes (Elt F) f14 [⟨Rect.unit (s := S8192x128) (k0_off2 i k 5#32) S512x128.size (Gen.k0_off2_inb i k 5), stV (addf (arg14.view.readAt (Elt F) (Rect.unit (s := S8192x128) (k0_off2 i k 5#32) S512x128.size (Gen.k0_off2_inb i k 5)).toLoadRect f14 : FVec F S512x128 .f32) (dvB (pB (scB (arg2.view.readAt (Elt F) (Rect.unit ![0, 0, 0] S1x1024x256.size Gen.inb_S1x1024x256_S1x1024x256_0_0_0).toLoadRect f2) (arg3.view.readAt (Elt F) (Rect.unit (s := S1x8192x256) (k0_off1 i k 5#32) S1x512x256.size (Gen.k0_off1_inb i k 5)).toLoadRect f3)) (arg7.view.readAt (Elt F) (Rect.unit ![0, 0, 0] S1x1024x128.size Gen.inb_S1x1024x128_S1x1024x128_0_0_0).toLoadRect f7)) (arg6.view.readAt (Elt F) (Rect.unit ![0, 0] S1024x128.size Gen.inb_S1024x128_S1024x128_0_0).toLoadRect f6)))⟩, ⟨Rect.unit (s := S8192x128) (k0_off2 i k 4#32) S512x128.size (Gen.k0_off2_inb i k 4), stV (addf (arg14.view.readAt (Elt F) (Rect.unit (s := S8192x128) (k0_off2 i k 4#32) S512x128.size (Gen.k0_off2_inb i k 4)).toLoadRect f14 : FVec F S512x128 .f32) (dvB (pB (scB (arg2.view.readAt (Elt F) (Rect.unit ![0, 0, 0] S1x1024x256.size Gen.inb_S1x1024x256_S1x1024x256_0_0_0).toLoadRect f2) (arg3.view.readAt (Elt F) (Rect.unit (s := S1x8192x256) (k0_off1 i k 4#32) S1x512x256.size (Gen.k0_off1_inb i k 4)).toLoadRect f3)) (arg7.view.readAt (Elt F) (Rect.unit ![0, 0, 0] S1x1024x128.size Gen.inb_S1x1024x128_S1x1024x128_0_0_0).toLoadRect f7)) (arg6.view.readAt (Elt F) (Rect.unit ![0, 0] S1024x128.size Gen.inb_S1024x128_S1024x128_0_0).toLoadRect f6)))⟩, ⟨Rect.unit (s := S8192x128) (k0_off2 i k 3#32) S512x128.size (Gen.k0_off2_inb i k 3), stV (addf (arg14.view.readAt (Elt F) (Rect.unit (s := S8192x128) (k0_off2 i k 3#32) S512x128.size (Gen.k0_off2_inb i k 3)).toLoadRect f14 : FVec F S512x128 .f32) (dvB (pB (scB (arg2.view.readAt (Elt F) (Rect.unit ![0, 0, 0] S1x1024x256.size Gen.inb_S1x1024x256_S1x1024x256_0_0_0).toLoadRect f2) (arg3.view.readAt (Elt F) (Rect.unit (s := S1x8192x256) (k0_off1 i k 3#32) S1x512x256.size (Gen.k0_off1_inb i k 3)).toLoadRect f3)) (arg7.view.readAt (Elt F) (Rect.unit ![0, 0, 0] S1x1024x128.size Gen.inb_S1x1024x128_S1x1024x128_0_0_0).toLoadRect f7)) (arg6.view.readAt (Elt F) (Rect.unit ![0, 0] S1024x128.size Gen.inb_S1024x128_S1024x128_0_0).toLoadRect f6)))⟩, ⟨Rect.unit (s := S8192x128) (k0_off2 i k 2#32) S512x128.size (Gen.k0_off2_inb i k 2), stV (addf (arg14.view.readAt (Elt F) (Rect.unit (s := S8192x128) (k0_off2 i k 2#32) S512x128.size (Gen.k0_off2_inb i k 2)).toLoadRect f14 : FVec F S512x128 .f32) (dvB (pB (scB (arg2.view.readAt (Elt F) (Rect.unit ![0, 0, 0] S1x1024x256.size Gen.inb_S1x1024x256_S1x1024x256_0_0_0).toLoadRect f2) (arg3.view.readAt (Elt F) (Rect.unit (s := S1x8192x256) (k0_off1 i k 2#32) S1x512x256.size (Gen.k0_off1_inb i k 2)).toLoadRect f3)) (arg7.view.readAt (Elt F) (Rect.unit ![0, 0, 0] S1x1024x128.size Gen.inb_S1x1024x128_S1x1024x128_0_0_0).toLoadRect f7)) (arg6.view.readAt (Elt F) (Rect.unit ![0, 0] S1024x128.size Gen.inb_S1024x128_S1024x128_0_0).toLoadRect f6)))⟩, ⟨Rect.unit (s := S8192x128) (k0_off2 i k 1#32) S512x128.size (Gen.k0_off2_inb i k 1), stV (addf (arg14.view.readAt (Elt F) (Rect.unit (s := S8192x128) (k0_off2 i k 1#32) S512x128.size (Gen.k0_off2_inb i k 1)).toLoadRect f14 : FVec F S512x128 .f32) (dvB (pB (scB (arg2.view.readAt (Elt F) (Rect.unit ![0, 0, 0] S1x1024x256.size Gen.inb_S1x1024x256_S1x1024x256_0_0_0).toLoadRect f2) (arg3.view.readAt (Elt F) (Rect.unit (s := S1x8192x256) (k0_off1 i k 1#32) S1x512x256.size (Gen.k0_off1_inb i k 1)).toLoadRect f3)) (arg7.view.readAt (Elt F) (Rect.unit ![0, 0, 0] S1x1024x128.size Gen.inb_S1x1024x128_S1x1024x128_0_0_0).toLoadRect f7)) (arg6.view.readAt (Elt F) (Rect.unit ![0, 0] S1024x128.size Gen.inb_S1024x128_S1024x128_0_0).toLoadRect f6)))⟩, ⟨Rect.unit (s := S8192x128) (k0_off2 i k 0#32) S512x128.size (Gen.k0_off2_inb i k 0), stV (addf (arg14.view.readAt (Elt F) (Rect.unit (s := S8192x128) (k0_off2 i k 0#32) S512x128.size (Gen.k0_off2_inb i k 0)).toLoadRect f14 : FVec F S512x128 .f32) (dvB (pB (scB (arg2.view.readAt (Elt F) (Rect.unit ![0, 0, 0] S1x1024x256.size Gen.inb_S1x1024x256_S1x1024x256_0_0_0).toLoadRect f2) (arg3.view.readAt (Elt F) (Rect.unit (s := S1x8192x256) (k0_off1 i k 0#32) S1x512x256.size (Gen.k0_off1_inb i k 0)).toLoadRect f3)) (arg7.view.readAt (Elt F) (Rect.unit ![0, 0, 0] S1x1024x128.size Gen.inb_S1x1024x128_S1x1024x128_0_0_0).toLoadRect f7)) (arg6.view.readAt (Elt F) (Rect.unit ![0, 0] S1024x128.size Gen.inb_S1024x128_S1024x128_0_0).toLoadRect f6)))⟩]) = _
    rw [View.read_writes_cons_put _ _ _ _ _ o2_5, View.read_writes_cons_put _ _ _ _ _ o2_4, View.read_writes_cons_put _ _ _ _ _ o2_3, View.read_writes_cons_put _ _ _ _ _ o2_2, View.read_writes_cons_put _ _ _ _ _ o2_1, View.read_writes_cons_put _ _ _ _ _ o2_0, View.writes_nil,
      w2_0, w2_1, w2_2, w2_3, w2_4, w2_5]
    rw [hq, hg, hl, hk0, hk1, hk2, hk3, hk4, hk5]
    simp only [full]
    rw [window_put_v _ (6 * k.val + 1) (6 * k.val + 0) (by omega), window_put_v _ (6 * k.val + 2) (6 * k.val + 1) (by omega), window_put_v _ (6 * k.val + 2) (6 * k.val + 0) (by omega), window_put_v _ (6 * k.val + 3) (6 * k.val + 2) (by omega), window_put_v _ (6 * k.val + 3) (6 * k.val + 1) (by omega), window_put_v _ (6 * k.val + 3) (6 * k.val + 0) (by omega), window_put_v _ (6 * k.val + 4) (6 * k.val + 3) (by omega), window_put_v _ (6 * k.val + 4) (6 * k.val + 2) (by omega), window_put_v _ (6 * k.val + 4) (6 * k.val + 1) (by omega), window_put_v _ (6 * k.val + 4) (6 * k.val + 0) (by omega), window_put_v _ (6 * k.val + 5) (6 * k.val + 4) (by omega), window_put_v _ (6 * k.val + 5) (6 * k.val + 3) (by omega), window_put_v _ (6 * k.val + 5) (6 * k.val + 2) (by omega), window_put_v _ (6 * k.val + 5) (6 * k.val + 1) (by omega), window_put_v _ (6 * k.val + 5) (6 * k.val + 0) (by omega)]
    rfl

end Cert.KernelIdeal.Attn
-- ==== Proof.Loop.lean ====
module

public import proofs.«01_k».proof.Proof.Trip
public import Idealize.ShloMosaic.Lib.Updates.Own
public import Idealize.ShloMosaic.Lib.Updates.Loop

/-! The loop over the key blocks before the query block, six to a trip. -/

@[expose] public section

noncomputable section

namespace Cert.KernelIdeal.Attn

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.LaneScatter (raw raw_owns)
open Idealize.ShloMosaic.Updates

variable {F : FTy → Type} [FloatOps F] [Named F]

local notation "𝕄" => MT nD τ sig Unit (Elt F) ℕ (UR sig nD τ) ℕ

/-- A point's inputs and accumulators, each held at its value. -/
def Pt (c : Dev nD) (arg2 : Memref sig .tc .vmem S1x1024x256 .bf16) (arg3 : Memref sig .tc .vmem S1x8192x256 .bf16) (arg4 : Memref sig .tc .vmem S8192x128 .bf16)
    (arg6 : Memref sig .tc .vmem S1024x128 .bf16) (arg7 : Memref sig .tc .vmem S1x1024x128 .f32) (arg11 : Memref sig .tc .vmem S1024x256 .f32)
    (arg12 : Memref sig .tc .vmem S1024x128 .f32) (arg13 : Memref sig .tc .vmem S8192x256 .f32) (arg14 : Memref sig .tc .vmem S8192x128 .f32)
    (X : Inp F) (s : Acc F) : sProp 𝕄 :=
  iprop(owns (c : Thread nD τ) arg2 fullShare X.q ∗ owns (c : Thread nD τ) arg3 fullShare X.k ∗ owns (c : Thread nD τ) arg4 fullShare X.v
    ∗ owns (c : Thread nD τ) arg6 fullShare X.g ∗ owns (c : Thread nD τ) arg7 fullShare X.l ∗ owns (c : Thread nD τ) arg12 fullShare X.dl
    ∗ owns (c : Thread nD τ) arg11 fullShare s.dq ∗ owns (c : Thread nD τ) arg13 fullShare s.dk ∗ owns (c : Thread nD τ) arg14 fullShare s.dv)

/-- A trip, from values to values. -/
theorem trip_pt (c : Dev nD) (i : grid0.Coords) (arg2 : Memref sig .tc .vmem S1x1024x256 .bf16) (harg2 : arg2.IsWhole) (arg3 : Memref sig .tc .vmem S1x8192x256 .bf16) (harg3 : arg3.IsWhole) (arg4 : Memref sig .tc .vmem S8192x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1x1024x256 .bf16) (harg8 : arg8.IsWhole) (arg9 : Memref sig .tc .vmem S1x8192x256 .bf16) (harg9 : arg9.IsWhole) (arg10 : Memref sig .tc .vmem S1x8192x128 .bf16) (harg10 : arg10.IsWhole) (arg11 : Memref sig .tc .vmem S1024x256 .f32) (harg11 : arg11.IsWhole) (arg12 : Memref sig .tc .vmem S1024x128 .f32) (harg12 : arg12.IsWhole) (arg13 : Memref sig .tc .vmem S8192x256 .f32) (harg13 : arg13.IsWhole) (arg14 : Memref sig .tc .vmem S8192x128 .f32) (harg14 : arg14.IsWhole) (v18 v35 c0 : BitVec 32) (k : Fin (k0_t1_loop i).trips) (X : Inp F) (s : Acc F) :
    Pt c arg2 arg3 arg4 arg6 arg7 arg11 arg12 arg13 arg14 X (fulls X (6 * k.val) s) ⊢
      wp frame (wpE defs₀ Variants.none (c : Thread nD τ) none) Set.univ (Gen.k0_t1_body (F := F) i arg2 harg2 arg3 harg3 arg4 harg4 arg5 harg5 arg6 harg6 arg7 harg7 arg8 harg8 arg9 harg9 arg10 harg10 arg11 harg11 arg12 harg12 arg13 harg13 arg14 harg14 v18 v35 c0 k ())
        (fun _ => Pt c arg2 arg3 arg4 arg6 arg7 arg11 arg12 arg13 arg14 X (fulls X (6 * (k.val + 1)) s)) := by
  unfold Pt
  iintro ⟨H2, H3, H4, H6, H7, H12, H11, H13, H14⟩
  icases (owns_read (c : Thread nD τ) arg2 _) $$ H2 with ⟨%f2, H2, %e2⟩
  icases (owns_read (c : Thread nD τ) arg3 _) $$ H3 with ⟨%f3, H3, %e3⟩
  icases (owns_read (c : Thread nD τ) arg4 _) $$ H4 with ⟨%f4, H4, %e4⟩
  icases (owns_read (c : Thread nD τ) arg6 _) $$ H6 with ⟨%f6, H6, %e6⟩
  icases (owns_read (c : Thread nD τ) arg7 _) $$ H7 with ⟨%f7, H7, %e7⟩
  icases (owns_read (c : Thread nD τ) arg12 _) $$ H12 with ⟨%f12, H12, %e12⟩
  icases (owns_read (c : Thread nD τ) arg11 _) $$ H11 with ⟨%f11, H11, %e11⟩
  icases (owns_read (c : Thread nD τ) arg13 _) $$ H13 with ⟨%f13, H13, %e13⟩
  icases (owns_read (c : Thread nD τ) arg14 _) $$ H14 with ⟨%f14, H14, %e14⟩
  iapply (wp_wand_r frame (wpE defs₀ Variants.none (c : Thread nD τ) none) Set.univ)
  isplitl [H2 H3 H4 H6 H7 H12 H11 H13 H14]
  · iapply (trip c i arg2 harg2 arg3 harg3 arg4 harg4 arg5 harg5 arg6 harg6 arg7 harg7 arg8 harg8 arg9 harg9 arg10 harg10 arg11 harg11 arg12 harg12 arg13 harg13 arg14 harg14 v18 v35 c0 k f2 f3 f4 f6 f7 f11 f12 f13 f14 X
      (by obtain ⟨q, kk, v, g, l, dl⟩ := X; subst e2; subst e3; subst e4; subst e6; subst e7; subst e12; rfl)
      (fulls X (6 * k.val) s) (by rw [e11, e13, e14]))
    isplitl [H2]; iexact H2
    isplitl [H3]; iexact H3
    isplitl [H4]; iexact H4
    isplitl [H6]; iexact H6
    isplitl [H7]; iexact H7
    isplitl [H12]; iexact H12
    isplitl [H11]; iexact H11
    isplitl [H13]; iexact H13
    iexact H14
  iintro %_ ⟨H2, H3, H4, H6, H7, H12, %g11, %g13, %g14, H11, H13, H14, %e⟩
  have e' : (⟨arg11.view.read (Elt F) g11, arg13.view.read (Elt F) g13, arg14.view.read (Elt F) g14⟩ : Acc F) = fulls X (6 * (k.val + 1)) s := e
  isplitl [H2]; iapply (raw_owns (c : Thread nD τ) arg2 e2); iexact H2
  isplitl [H3]; iapply (raw_owns (c : Thread nD τ) arg3 e3); iexact H3
  isplitl [H4]; iapply (raw_owns (c : Thread nD τ) arg4 e4); iexact H4
  isplitl [H6]; iapply (raw_owns (c : Thread nD τ) arg6 e6); iexact H6
  isplitl [H7]; iapply (raw_owns (c : Thread nD τ) arg7 e7); iexact H7
  isplitl [H12]; iapply (raw_owns (c : Thread nD τ) arg12 e12); iexact H12
  isplitl [H11]; iapply (raw_owns (c : Thread nD τ) arg11 (congrArg Acc.dq e')); iexact H11
  isplitl [H13]; iapply (raw_owns (c : Thread nD τ) arg13 (congrArg Acc.dk e')); iexact H13
  iapply (raw_owns (c : Thread nD τ) arg14 (congrArg Acc.dv e')); iexact H14

/-- The loop over whole groups of six key blocks. -/
theorem loop_pt (c : Dev nD) (i : grid0.Coords) (arg2 : Memref sig .tc .vmem S1x1024x256 .bf16) (harg2 : arg2.IsWhole) (arg3 : Memref sig .tc .vmem S1x8192x256 .bf16) (harg3 : arg3.IsWhole) (arg4 : Memref sig .tc .vmem S8192x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1x1024x256 .bf16) (harg8 : arg8.IsWhole) (arg9 : Memref sig .tc .vmem S1x8192x256 .bf16) (harg9 : arg9.IsWhole) (arg10 : Memref sig .tc .vmem S1x8192x128 .bf16) (harg10 : arg10.IsWhole) (arg11 : Memref sig .tc .vmem S1024x256 .f32) (harg11 : arg11.IsWhole) (arg12 : Memref sig .tc .vmem S1024x128 .f32) (harg12 : arg12.IsWhole) (arg13 : Memref sig .tc .vmem S8192x256 .f32) (harg13 : arg13.IsWhole) (arg14 : Memref sig .tc .vmem S8192x128 .f32) (harg14 : arg14.IsWhole) (v18 v35 c0 : BitVec 32) (X : Inp F) (s : Acc F) :
    Pt c arg2 arg3 arg4 arg6 arg7 arg11 arg12 arg13 arg14 X s ⊢
      wp frame (wpE defs₀ Variants.none (c : Thread nD τ) none) Set.univ
        (Scf.Loop.for (k0_t1_loop i) (Gen.k0_t1_ok i) ⟨⟩ (Gen.k0_t1_body (F := F) i arg2 harg2 arg3 harg3 arg4 harg4 arg5 harg5 arg6 harg6 arg7 harg7 arg8 harg8 arg9 harg9 arg10 harg10 arg11 harg11 arg12 harg12 arg13 harg13 arg14 harg14 v18 v35 c0))
        (fun _ => Pt c arg2 arg3 arg4 arg6 arg7 arg11 arg12 arg13 arg14 X (fulls X (6 * (k0_t1_loop i).trips) s)) := by
  have T := fun k : Fin (k0_t1_loop i).trips => trip_pt (F := F) c i arg2 harg2 arg3 harg3 arg4 harg4 arg5 harg5 arg6 harg6 arg7 harg7 arg8 harg8 arg9 harg9 arg10 harg10 arg11 harg11 arg12 harg12 arg13 harg13 arg14 harg14 v18 v35 c0 k X s
  generalize Gen.k0_t1_body (F := F) i arg2 harg2 arg3 harg3 arg4 harg4 arg5 harg5 arg6 harg6 arg7 harg7 arg8 harg8 arg9 harg9 arg10 harg10 arg11 harg11 arg12 harg12 arg13 harg13 arg14 harg14 v18 v35 c0 = B at T ⊢
  iintro H
  iapply (Scf.wp_for frame (wpE defs₀ Variants.none (c : Thread nD τ) none) Set.univ (k0_t1_loop i).lb (k0_t1_loop i).ub (k0_t1_loop i).st (Gen.k0_t1_ok i) ⟨⟩ B
    (fun n _ => Pt c arg2 arg3 arg4 arg6 arg7 arg11 arg12 arg13 arg14 X (fulls X (6 * n) s)) (fun k _ => T k))
  isplitl [H]
  · iexact H
  · iintro %_ H
    iexact H

/-- The loop over what whole groups leave makes no trip. -/
theorem loop2_pt (c : Dev nD) (i : grid0.Coords) (arg2 : Memref sig .tc .vmem S1x1024x256 .bf16) (harg2 : arg2.IsWhole) (arg3 : Memref sig .tc .vmem S1x8192x256 .bf16) (harg3 : arg3.IsWhole) (arg4 : Memref sig .tc .vmem S8192x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1x1024x256 .bf16) (harg8 : arg8.IsWhole) (arg9 : Memref sig .tc .vmem S1x8192x256 .bf16) (harg9 : arg9.IsWhole) (arg10 : Memref sig .tc .vmem S1x8192x128 .bf16) (harg10 : arg10.IsWhole) (arg11 : Memref sig .tc .vmem S1024x256 .f32) (harg11 : arg11.IsWhole) (arg12 : Memref sig .tc .vmem S1024x128 .f32) (harg12 : arg12.IsWhole) (arg13 : Memref sig .tc .vmem S8192x256 .f32) (harg13 : arg13.IsWhole) (arg14 : Memref sig .tc .vmem S8192x128 .f32) (harg14 : arg14.IsWhole) (v18 v35 c0 v40 : BitVec 32) (X : Inp F) (s : Acc F) :
    Pt c arg2 arg3 arg4 arg6 arg7 arg11 arg12 arg13 arg14 X s ⊢
      wp frame (wpE defs₀ Variants.none (c : Thread nD τ) none) Set.univ
        (Scf.Loop.for (k0_t2_loop i) (Gen.k0_t2_ok i) ⟨⟩ (Gen.k0_t2_body (F := F) i arg2 harg2 arg3 harg3 arg4 harg4 arg5 harg5 arg6 harg6 arg7 harg7 arg8 harg8 arg9 harg9 arg10 harg10 arg11 harg11 arg12 harg12 arg13 harg13 arg14 harg14 v18 v35 c0 v40))
        (fun _ => Pt c arg2 arg3 arg4 arg6 arg7 arg11 arg12 arg13 arg14 X s) := by
  generalize Gen.k0_t2_body (F := F) i arg2 harg2 arg3 harg3 arg4 harg4 arg5 harg5 arg6 harg6 arg7 harg7 arg8 harg8 arg9 harg9 arg10 harg10 arg11 harg11 arg12 harg12 arg13 harg13 arg14 harg14 v18 v35 c0 v40 = B
  iintro H
  iapply (Scf.wp_for frame (wpE defs₀ Variants.none (c : Thread nD τ) none) Set.univ (k0_t2_loop i).lb (k0_t2_loop i).ub (k0_t2_loop i).st (Gen.k0_t2_ok i) ⟨⟩ B
    (fun n _ => Pt c arg2 arg3 arg4 arg6 arg7 arg11 arg12 arg13 arg14 X s)
    (fun k _ => absurd k.isLt (Nat.not_lt_of_le (Nat.le_trans (Gen.k0_t2_abs i).2.1 (Nat.zero_le _)))))
  isplitl [H]
  · iexact H
  · iintro %_ H
    iexact H

end Cert.KernelIdeal.Attn
-- ==== Proof.Offs.lean ====
module

public import proofs.«01_k».proof.Proof.Loop
public import Idealize.ShloMosaic.Lib.Updates.Own
public import Idealize.ShloMosaic.Lib.Updates.Loop
public import Idealize.ShloMosaic.Lib.LaneScatter.Fold

/-! The key blocks of the three remainders: where each step reads and writes. -/

@[expose] public section

noncomputable section

namespace Cert.KernelIdeal.Attn

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.LaneScatter (raw raw_owns bind_of_run)
open Idealize.ShloMosaic.Updates

variable {F : FTy → Type} [FloatOps F] [Named F]

local notation "𝕄" => MT nD τ sig Unit (Elt F) ℕ (UR sig nD τ) ℕ

theorem off7_eq : ∀ (i : grid0.Coords) (_ : k0_cond1 i = 1#1) (r : Fin 2), k0_off7 i (BitVec.ofNat 32 r.val) = at3 (2 * (i 1).val + r.val) := by decide +kernel
theorem off8_eq : ∀ (i : grid0.Coords) (_ : k0_cond1 i = 1#1) (r : Fin 2), k0_off8 i (BitVec.ofNat 32 r.val) = at2 (2 * (i 1).val + r.val) := by decide +kernel
theorem off9_eq : ∀ (i : grid0.Coords) (_ : k0_cond1 i = 1#1) (r : Fin 2), k0_off9 i (BitVec.ofNat 32 r.val) = at2 (2 * (i 1).val + r.val) := by decide +kernel
theorem off8_lin : ∀ (i : grid0.Coords) (_ : k0_cond1 i = 1#1) (r : Fin 2), k0_off8 i (BitVec.ofNat 32 r.val) = ![1024 * (i 1).val + 512 * r.val, 0] := by decide +kernel
theorem off9_lin : ∀ (i : grid0.Coords) (_ : k0_cond1 i = 1#1) (r : Fin 2), k0_off9 i (BitVec.ofNat 32 r.val) = ![1024 * (i 1).val + 512 * r.val, 0] := by decide +kernel
section
variable (i : grid0.Coords) [h : Fact (k0_cond1 i = 1#1)]
instance c8_0 : ClosedOff (k0_off8 i 0#32) := ⟨![1024 * (i 1).val + 512 * 0, 0], off8_lin i h.1 0⟩
instance c8_1 : ClosedOff (k0_off8 i 1#32) := ⟨![1024 * (i 1).val + 512 * 1, 0], off8_lin i h.1 1⟩
instance c9_0 : ClosedOff (k0_off9 i 0#32) := ⟨![1024 * (i 1).val + 512 * 0, 0], off9_lin i h.1 0⟩
instance c9_1 : ClosedOff (k0_off9 i 1#32) := ⟨![1024 * (i 1).val + 512 * 1, 0], off9_lin i h.1 1⟩
end
theorem off10_eq : ∀ (i : grid0.Coords) (_ : k0_cond2 i = 1#1) (r : Fin 4), k0_off10 i (BitVec.ofNat 32 r.val) = at3 (2 * (i 1).val - 2 + r.val) := by decide +kernel
theorem off11_eq : ∀ (i : grid0.Coords) (_ : k0_cond2 i = 1#1) (r : Fin 4), k0_off11 i (BitVec.ofNat 32 r.val) = at2 (2 * (i 1).val - 2 + r.val) := by decide +kernel
theorem off12_eq : ∀ (i : grid0.Coords) (_ : k0_cond2 i = 1#1) (r : Fin 4), k0_off12 i (BitVec.ofNat 32 r.val) = at2 (2 * (i 1).val - 2 + r.val) := by decide +kernel
theorem off11_lin : ∀ (i : grid0.Coords) (_ : k0_cond2 i = 1#1) (r : Fin 4), k0_off11 i (BitVec.ofNat 32 r.val) = ![1024 * (i 1).val - 1024 + 512 * r.val, 0] := by decide +kernel
theorem off12_lin : ∀ (i : grid0.Coords) (_ : k0_cond2 i = 1#1) (r : Fin 4), k0_off12 i (BitVec.ofNat 32 r.val) = ![1024 * (i 1).val - 1024 + 512 * r.val, 0] := by decide +kernel
section
variable (i : grid0.Coords) [h : Fact (k0_cond2 i = 1#1)]
instance c11_0 : ClosedOff (k0_off11 i 0#32) := ⟨![1024 * (i 1).val - 1024 + 512 * 0, 0], off11_lin i h.1 0⟩
instance c11_1 : ClosedOff (k0_off11 i 1#32) := ⟨![1024 * (i 1).val - 1024 + 512 * 1, 0], off11_lin i h.1 1⟩
instance c11_2 : ClosedOff (k0_off11 i 2#32) := ⟨![1024 * (i 1).val - 1024 + 512 * 2, 0], off11_lin i h.1 2⟩
instance c11_3 : ClosedOff (k0_off11 i 3#32) := ⟨![1024 * (i 1).val - 1024 + 512 * 3, 0], off11_lin i h.1 3⟩
instance c12_0 : ClosedOff (k0_off12 i 0#32) := ⟨![1024 * (i 1).val - 1024 + 512 * 0, 0], off12_lin i h.1 0⟩
instance c12_1 : ClosedOff (k0_off12 i 1#32) := ⟨![1024 * (i 1).val - 1024 + 512 * 1, 0], off12_lin i h.1 1⟩
instance c12_2 : ClosedOff (k0_off12 i 2#32) := ⟨![1024 * (i 1).val - 1024 + 512 * 2, 0], off12_lin i h.1 2⟩
instance c12_3 : ClosedOff (k0_off12 i 3#32) := ⟨![1024 * (i 1).val - 1024 + 512 * 3, 0], off12_lin i h.1 3⟩
end
theorem off13_eq : ∀ (i : grid0.Coords) (_ : k0_cond3 i = 1#1) (r : Fin 6), k0_off13 i (BitVec.ofNat 32 r.val) = at3 (2 * (i 1).val - 4 + r.val) := by decide +kernel
theorem off14_eq : ∀ (i : grid0.Coords) (_ : k0_cond3 i = 1#1) (r : Fin 6), k0_off14 i (BitVec.ofNat 32 r.val) = at2 (2 * (i 1).val - 4 + r.val) := by decide +kernel
theorem off15_eq : ∀ (i : grid0.Coords) (_ : k0_cond3 i = 1#1) (r : Fin 6), k0_off15 i (BitVec.ofNat 32 r.val) = at2 (2 * (i 1).val - 4 + r.val) := by decide +kernel
theorem off14_lin : ∀ (i : grid0.Coords) (_ : k0_cond3 i = 1#1) (r : Fin 6), k0_off14 i (BitVec.ofNat 32 r.val) = ![1024 * (i 1).val - 2048 + 512 * r.val, 0] := by decide +kernel
theorem off15_lin : ∀ (i : grid0.Coords) (_ : k0_cond3 i = 1#1) (r : Fin 6), k0_off15 i (BitVec.ofNat 32 r.val) = ![1024 * (i 1).val - 2048 + 512 * r.val, 0] := by decide +kernel
section
variable (i : grid0.Coords) [h : Fact (k0_cond3 i = 1#1)]
instance c14_0 : ClosedOff (k0_off14 i 0#32) := ⟨![1024 * (i 1).val - 2048 + 512 * 0, 0], off14_lin i h.1 0⟩
instance c14_1 : ClosedOff (k0_off14 i 1#32) := ⟨![1024 * (i 1).val - 2048 + 512 * 1, 0], off14_lin i h.1 1⟩
instance c14_2 : ClosedOff (k0_off14 i 2#32) := ⟨![1024 * (i 1).val - 2048 + 512 * 2, 0], off14_lin i h.1 2⟩
instance c14_3 : ClosedOff (k0_off14 i 3#32) := ⟨![1024 * (i 1).val - 2048 + 512 * 3, 0], off14_lin i h.1 3⟩
instance c14_4 : ClosedOff (k0_off14 i 4#32) := ⟨![1024 * (i 1).val - 2048 + 512 * 4, 0], off14_lin i h.1 4⟩
instance c14_5 : ClosedOff (k0_off14 i 5#32) := ⟨![1024 * (i 1).val - 2048 + 512 * 5, 0], off14_lin i h.1 5⟩
instance c15_0 : ClosedOff (k0_off15 i 0#32) := ⟨![1024 * (i 1).val - 2048 + 512 * 0, 0], off15_lin i h.1 0⟩
instance c15_1 : ClosedOff (k0_off15 i 1#32) := ⟨![1024 * (i 1).val - 2048 + 512 * 1, 0], off15_lin i h.1 1⟩
instance c15_2 : ClosedOff (k0_off15 i 2#32) := ⟨![1024 * (i 1).val - 2048 + 512 * 2, 0], off15_lin i h.1 2⟩
instance c15_3 : ClosedOff (k0_off15 i 3#32) := ⟨![1024 * (i 1).val - 2048 + 512 * 3, 0], off15_lin i h.1 3⟩
instance c15_4 : ClosedOff (k0_off15 i 4#32) := ⟨![1024 * (i 1).val - 2048 + 512 * 4, 0], off15_lin i h.1 4⟩
instance c15_5 : ClosedOff (k0_off15 i 5#32) := ⟨![1024 * (i 1).val - 2048 + 512 * 5, 0], off15_lin i h.1 5⟩
end

theorem cond1_trips : ∀ i : grid0.Coords, k0_cond1 i = 1#1 → ¬ k0_cond2 i = 1#1 ∧ ¬ k0_cond3 i = 1#1 ∧ ¬ k0_cond4 i = 1#1 ∧ 6 * (k0_t1_loop i).trips = 2 * (i 1).val := by decide +kernel
theorem cond2_trips : ∀ i : grid0.Coords, k0_cond2 i = 1#1 → ¬ k0_cond1 i = 1#1 ∧ ¬ k0_cond3 i = 1#1 ∧ 2 ≤ 2 * (i 1).val ∧ 6 * (k0_t1_loop i).trips = 2 * (i 1).val - 2 := by decide +kernel
theorem cond3_trips : ∀ i : grid0.Coords, k0_cond3 i = 1#1 → ¬ k0_cond1 i = 1#1 ∧ ¬ k0_cond2 i = 1#1 ∧ ¬ k0_cond4 i = 1#1 ∧ 4 ≤ 2 * (i 1).val ∧ 6 * (k0_t1_loop i).trips = 2 * (i 1).val - 4 := by decide +kernel
theorem cond_some : ∀ i : grid0.Coords, k0_cond1 i = 1#1 ∨ k0_cond2 i = 1#1 ∨ k0_cond3 i = 1#1 := by decide +kernel
theorem cond4_iff : ∀ i : grid0.Coords, k0_cond4 i = 1#1 ↔ (i 1).val = 7 := by decide +kernel
theorem i1_lt : ∀ i : grid0.Coords, (i 1).val < 8 := by decide +kernel

/-- A load of a part of what the last store, of the whole buffer, wrote. -/
theorem readCov_win (v : View sig .tc .vmem S1024x256 .f32) (inb : ∀ a, (![512, 0] : Fin 2 → ℕ) a + S512x256.size a ≤ S1024x256.size a)
    (inb' : ∀ a, (![0, 0] : Fin 2 → ℕ) a + S1024x256.size a ≤ S1024x256.size a) (w : Vec F S1024x256 .f32) (L : List (View.Piece (Elt F) S1024x256 .f32)) :
    v.readCov (⟨Rect.unit (s := S1024x256) ![0, 0] S1024x256.size inb', w⟩ :: L) (Rect.unit (s := S1024x256) ![512, 0] S512x256.size inb).toLoadRect
      = VecWindow.window w ![512, 0] S512x256.size inb := by
  refine (View.readAt_unit v (v.writes (Elt F) v.junk (⟨Rect.unit (s := S1024x256) ![0, 0] S1024x256.size inb', w⟩ :: L)) inb rfl inb).trans ?_
  rw [View.read_writes_full v v.junk inb' w L]

/-- Three buffers that hold the accumulators' values. -/
theorem acc_owns (c : Dev nD) (arg11 : Memref sig .tc .vmem S1024x256 .f32) (arg13 : Memref sig .tc .vmem S8192x256 .f32) (arg14 : Memref sig .tc .vmem S8192x128 .f32)
    {f11} {f13} {f14} {s : Acc F} :
    (iprop(raw (c : Thread nD τ) arg11 f11 ∗ raw (c : Thread nD τ) arg13 f13 ∗ raw (c : Thread nD τ) arg14 f14
        ∗ ⌜(⟨arg11.view.read (Elt F) f11, arg13.view.read (Elt F) f13, arg14.view.read (Elt F) f14⟩ : Acc F) = s⌝) : sProp 𝕄) ⊢
      iprop(owns (c : Thread nD τ) arg11 fullShare s.dq ∗ owns (c : Thread nD τ) arg13 fullShare s.dk ∗ owns (c : Thread nD τ) arg14 fullShare s.dv) := by
  iintro ⟨H11, H13, H14, %h⟩
  isplitl [H11]; iapply (raw_owns (c : Thread nD τ) arg11 (congrArg Acc.dq h)); iexact H11
  isplitl [H13]; iapply (raw_owns (c : Thread nD τ) arg13 (congrArg Acc.dk h)); iexact H13
  iapply (raw_owns (c : Thread nD τ) arg14 (congrArg Acc.dv h)); iexact H14

end Cert.KernelIdeal.Attn
-- ==== Proof.Arm0.lean ====
module

public import proofs.«01_k».proof.Proof.Offs
public import Idealize.ShloMosaic.Lib.Updates.Own
public import Idealize.ShloMosaic.Lib.Updates.Loop
public import Idealize.ShloMosaic.Lib.LaneScatter.Fold

/-! The loops alone, where neither of the first two remainders is met. -/

@[expose] public section

noncomputable section

namespace Cert.KernelIdeal.Attn

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.LaneScatter (raw raw_owns bind_of_run)
open Idealize.ShloMosaic.Updates

variable {F : FTy → Type} [FloatOps F] [Named F]

local notation "𝕄" => MT nD τ sig Unit (Elt F) ℕ (UR sig nD τ) ℕ

set_option maxRecDepth 16384
set_option maxHeartbeats 4000000 in
/-- The loops alone, where neither of the first two remainders is met. -/
theorem part42_0 (c : Dev nD) (i : grid0.Coords) (h1 : ¬ k0_cond1 i = 1#1) (h2 : ¬ k0_cond2 i = 1#1) (arg2 : Memref sig .tc .vmem S1x1024x256 .bf16) (harg2 : arg2.IsWhole) (arg3 : Memref sig .tc .vmem S1x8192x256 .bf16) (harg3 : arg3.IsWhole) (arg4 : Memref sig .tc .vmem S8192x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1x1024x256 .bf16) (harg8 : arg8.IsWhole) (arg9 : Memref sig .tc .vmem S1x8192x256 .bf16) (harg9 : arg9.IsWhole) (arg10 : Memref sig .tc .vmem S1x8192x128 .bf16) (harg10 : arg10.IsWhole) (arg11 : Memref sig .tc .vmem S1024x256 .f32) (harg11 : arg11.IsWhole) (arg12 : Memref sig .tc .vmem S1024x128 .f32) (harg12 : arg12.IsWhole) (arg13 : Memref sig .tc .vmem S8192x256 .f32) (harg13 : arg13.IsWhole) (arg14 : Memref sig .tc .vmem S8192x128 .f32) (harg14 : arg14.IsWhole) (v18 v35 c0 : BitVec 32) (X : Inp F) (s : Acc F) :
    Pt c arg2 arg3 arg4 arg6 arg7 arg11 arg12 arg13 arg14 X s ⊢
      wp frame (wpE defs₀ Variants.none (c : Thread nD τ) none) Set.univ (k0_part42 (F := F) i arg2 harg2 arg3 harg3 arg4 harg4 arg5 harg5 arg6 harg6 arg7 harg7 arg8 harg8 arg9 harg9 arg10 harg10 arg11 harg11 arg12 harg12 arg13 harg13 arg14 harg14 v18 v35 c0)
        (fun _ => Pt c arg2 arg3 arg4 arg6 arg7 arg11 arg12 arg13 arg14 X (fulls X (6 * (k0_t1_loop i).trips) s)) := by
  rw [Gen.k0_part42_eq_skeleton]
  unfold Gen.k0_part42_skel
  iintro H
  iapply (bind_of_run frame (wpE defs₀ Variants.none (c : Thread nD τ) none) Set.univ (loop_pt (F := F) c i arg2 harg2 arg3 harg3 arg4 harg4 arg5 harg5 arg6 harg6 arg7 harg7 arg8 harg8 arg9 harg9 arg10 harg10 arg11 harg11 arg12 harg12 arg13 harg13 arg14 harg14 v18 v35 c0 X s) _ _)
  isplitl [H]; iexact H
  iintro H
  generalize fulls X (6 * (k0_t1_loop i).trips) s = s0
  iapply (bind_of_run frame (wpE defs₀ Variants.none (c : Thread nD τ) none) Set.univ (loop2_pt (F := F) c i arg2 harg2 arg3 harg3 arg4 harg4 arg5 harg5 arg6 harg6 arg7 harg7 arg8 harg8 arg9 harg9 arg10 harg10 arg11 harg11 arg12 harg12 arg13 harg13 arg14 harg14 v18 v35 c0 _ X s0) _ _)
  isplitl [H]; iexact H
  iintro H
  sl_exec
  sl_step
  iexact H

end Cert.KernelIdeal.Attn
-- ==== Proof.Arm1.lean ====
module

public import proofs.«01_k».proof.Proof.Offs
public import Idealize.ShloMosaic.Lib.Updates.Own
public import Idealize.ShloMosaic.Lib.Updates.Loop
public import Idealize.ShloMosaic.Lib.LaneScatter.Fold

/-! The loops and the two diagonal blocks, where no full block is left over. -/

@[expose] public section

noncomputable section

namespace Cert.KernelIdeal.Attn

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.LaneScatter (raw raw_owns bind_of_run)
open Idealize.ShloMosaic.Updates

variable {F : FTy → Type} [FloatOps F] [Named F]

local notation "𝕄" => MT nD τ sig Unit (Elt F) ℕ (UR sig nD τ) ℕ

set_option maxRecDepth 16384
set_option maxHeartbeats 4000000 in
/-- The loops and the two diagonal blocks, where no full block is left over. -/
theorem part42_1 (c : Dev nD) (i : grid0.Coords) (h1 : k0_cond1 i = 1#1) (h2 : ¬ k0_cond2 i = 1#1) (arg2 : Memref sig .tc .vmem S1x1024x256 .bf16) (harg2 : arg2.IsWhole) (arg3 : Memref sig .tc .vmem S1x8192x256 .bf16) (harg3 : arg3.IsWhole) (arg4 : Memref sig .tc .vmem S8192x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1x1024x256 .bf16) (harg8 : arg8.IsWhole) (arg9 : Memref sig .tc .vmem S1x8192x256 .bf16) (harg9 : arg9.IsWhole) (arg10 : Memref sig .tc .vmem S1x8192x128 .bf16) (harg10 : arg10.IsWhole) (arg11 : Memref sig .tc .vmem S1024x256 .f32) (harg11 : arg11.IsWhole) (arg12 : Memref sig .tc .vmem S1024x128 .f32) (harg12 : arg12.IsWhole) (arg13 : Memref sig .tc .vmem S8192x256 .f32) (harg13 : arg13.IsWhole) (arg14 : Memref sig .tc .vmem S8192x128 .f32) (harg14 : arg14.IsWhole) (v18 v35 c0 : BitVec 32) (X : Inp F) (s : Acc F) :
    Pt c arg2 arg3 arg4 arg6 arg7 arg11 arg12 arg13 arg14 X s ⊢
      wp frame (wpE defs₀ Variants.none (c : Thread nD τ) none) Set.univ (k0_part42 (F := F) i arg2 harg2 arg3 harg3 arg4 harg4 arg5 harg5 arg6 harg6 arg7 harg7 arg8 harg8 arg9 harg9 arg10 harg10 arg11 harg11 arg12 harg12 arg13 harg13 arg14 harg14 v18 v35 c0)
        (fun _ => Pt c arg2 arg3 arg4 arg6 arg7 arg11 arg12 arg13 arg14 X (diag1 X (2 * (i 1).val + 1) (diag0 X (2 * (i 1).val + 0) (fulls X (6 * (k0_t1_loop i).trips) s)))) := by
  rw [Gen.k0_part42_eq_skeleton]
  unfold Gen.k0_part42_skel
  iintro H
  iapply (bind_of_run frame (wpE defs₀ Variants.none (c : Thread nD τ) none) Set.univ (loop_pt (F := F) c i arg2 harg2 arg3 harg3 arg4 harg4 arg5 harg5 arg6 harg6 arg7 harg7 arg8 harg8 arg9 harg9 arg10 harg10 arg11 harg11 arg12 harg12 arg13 harg13 arg14 harg14 v18 v35 c0 X s) _ _)
  isplitl [H]; iexact H
  iintro H
  generalize fulls X (6 * (k0_t1_loop i).trips) s = s0
  iapply (bind_of_run frame (wpE defs₀ Variants.none (c : Thread nD τ) none) Set.univ (loop2_pt (F := F) c i arg2 harg2 arg3 harg3 arg4 harg4 arg5 harg5 arg6 harg6 arg7 harg7 arg8 harg8 arg9 harg9 arg10 harg10 arg11 harg11 arg12 harg12 arg13 harg13 arg14 harg14 v18 v35 c0 _ X s0) _ _)
  isplitl [H]; iexact H
  iintro H
  unfold Pt
  icases H with ⟨H2, H3, H4, H6, H7, H12, H11, H13, H14⟩
  icases (owns_read (c : Thread nD τ) arg2 _) $$ H2 with ⟨%f2, H2, %e2⟩
  icases (owns_read (c : Thread nD τ) arg3 _) $$ H3 with ⟨%f3, H3, %e3⟩
  icases (owns_read (c : Thread nD τ) arg4 _) $$ H4 with ⟨%f4, H4, %e4⟩
  icases (owns_read (c : Thread nD τ) arg6 _) $$ H6 with ⟨%f6, H6, %e6⟩
  icases (owns_read (c : Thread nD τ) arg7 _) $$ H7 with ⟨%f7, H7, %e7⟩
  icases (owns_read (c : Thread nD τ) arg12 _) $$ H12 with ⟨%f12, H12, %e12⟩
  icases (owns_read (c : Thread nD τ) arg11 _) $$ H11 with ⟨%f11, H11, %e11⟩
  icases (owns_read (c : Thread nD τ) arg13 _) $$ H13 with ⟨%f13, H13, %e13⟩
  icases (owns_read (c : Thread nD τ) arg14 _) $$ H14 with ⟨%f14, H14, %e14⟩
  haveI : Fact (k0_cond1 i = 1#1) := ⟨h1⟩
  sl_exec
  sl_step
  isplitl [H2]; iapply (raw_owns (c : Thread nD τ) arg2 e2); iexact H2
  isplitl [H3]; iapply (raw_owns (c : Thread nD τ) arg3 e3); iexact H3
  isplitl [H4]; iapply (raw_owns (c : Thread nD τ) arg4 e4); iexact H4
  isplitl [H6]; iapply (raw_owns (c : Thread nD τ) arg6 e6); iexact H6
  isplitl [H7]; iapply (raw_owns (c : Thread nD τ) arg7 e7); iexact H7
  isplitl [H12]; iapply (raw_owns (c : Thread nD τ) arg12 e12); iexact H12
  iapply (acc_owns c arg11 arg13 arg14)
  isplitl [H11]; iexact H11
  isplitl [H13]; iexact H13
  isplitl [H14]; iexact H14
  ipureintro
  have hX : (⟨arg2.view.read (Elt F) f2, arg3.view.read (Elt F) f3, arg4.view.read (Elt F) f4, arg6.view.read (Elt F) f6, arg7.view.read (Elt F) f7, arg12.view.read (Elt F) f12⟩ : Inp F) = X := by
    obtain ⟨q, kk, v, g, l, dl⟩ := X; subst e2; subst e3; subst e4; subst e6; subst e7; subst e12; rfl
  have hs : (⟨arg11.view.read (Elt F) f11, arg13.view.read (Elt F) f13, arg14.view.read (Elt F) f14⟩ : Acc F) = s0 := by
    obtain ⟨x, y, z⟩ := s0; subst e11; subst e13; subst e14; rfl
  clear e2 e3 e4 e6 e7 e12 e11 e13 e14
  subst hX hs
  have hi := i1_lt i
  have hq : arg2.view.readAt (Elt F) (Rect.unit (s := S1x1024x256) ![0, 0, 0] S1x1024x256.size Gen.inb_S1x1024x256_S1x1024x256_0_0_0).toLoadRect f2 = arg2.view.read (Elt F) f2 := View.readAt_full _ _ _
  have hg : arg6.view.readAt (Elt F) (Rect.unit (s := S1024x128) ![0, 0] S1024x128.size Gen.inb_S1024x128_S1024x128_0_0).toLoadRect f6 = arg6.view.read (Elt F) f6 := View.readAt_full _ _ _
  have hl : arg7.view.readAt (Elt F) (Rect.unit (s := S1x1024x128) ![0, 0, 0] S1x1024x128.size Gen.inb_S1x1024x128_S1x1024x128_0_0_0).toLoadRect f7 = arg7.view.read (Elt F) f7 := View.readAt_full _ _ _
  have hd : arg12.view.readAt (Elt F) (Rect.unit (s := S1024x128) ![0, 0] S1024x128.size Gen.inb_S1024x128_S1024x128_0_0).toLoadRect f12 = arg12.view.read (Elt F) f12 := View.readAt_full _ _ _
  have hqh : arg2.view.readAt (Elt F) (Rect.unit (s := S1x1024x256) ![0, 512, 0] S1x512x256.size Gen.inb_S1x1024x256_S1x512x256_0_512_0).toLoadRect f2 = VecWindow.window (arg2.view.read (Elt F) f2) ![0, 512, 0] S1x512x256.size Gen.inb_S1x1024x256_S1x512x256_0_512_0 := View.readAt_unit _ _ _ rfl _
  have hgh : arg6.view.readAt (Elt F) (Rect.unit (s := S1024x128) ![512, 0] S512x128.size Gen.inb_S1024x128_S512x128_512_0).toLoadRect f6 = VecWindow.window (arg6.view.read (Elt F) f6) ![512, 0] S512x128.size Gen.inb_S1024x128_S512x128_512_0 := View.readAt_unit _ _ _ rfl _
  have hlh : arg7.view.readAt (Elt F) (Rect.unit (s := S1x1024x128) ![0, 512, 0] S1x512x128.size Gen.inb_S1x1024x128_S1x512x128_0_512_0).toLoadRect f7 = VecWindow.window (arg7.view.read (Elt F) f7) ![0, 512, 0] S1x512x128.size Gen.inb_S1x1024x128_S1x512x128_0_512_0 := View.readAt_unit _ _ _ rfl _
  have hdh : arg12.view.readAt (Elt F) (Rect.unit (s := S1024x128) ![512, 0] S512x128.size Gen.inb_S1024x128_S512x128_512_0).toLoadRect f12 = VecWindow.window (arg12.view.read (Elt F) f12) ![512, 0] S512x128.size Gen.inb_S1024x128_S512x128_512_0 := View.readAt_unit _ _ _ rfl _
  have o3_0 : k0_off7 i 0#32 = at3 (2 * (i 1).val + 0) := off7_eq i h1 0
  have o4_0 : k0_off8 i 0#32 = at2 (2 * (i 1).val + 0) := off8_eq i h1 0
  have o13_0 : k0_off9 i 0#32 = at2 (2 * (i 1).val + 0) := off9_eq i h1 0
  have hk0 : (arg3.view.readAt (Elt F) (Rect.unit (s := S1x8192x256) (k0_off7 i 0#32) S1x512x256.size (Gen.k0_off7_inb i h1 0)).toLoadRect f3) = VecWindow.window (arg3.view.read (Elt F) f3) (at3 (2 * (i 1).val + 0)) S1x512x256.size (at3_k _) := View.readAt_unit _ _ _ o3_0 _
  have hv0 : (arg4.view.readAt (Elt F) (Rect.unit (s := S8192x128) (k0_off8 i 0#32) S512x128.size (Gen.k0_off8_inb i h1 0)).toLoadRect f4) = VecWindow.window (arg4.view.read (Elt F) f4) (at2 (2 * (i 1).val + 0)) S512x128.size (at2_v _) := View.readAt_unit _ _ _ o4_0 _
  have o3_1 : k0_off7 i 1#32 = at3 (2 * (i 1).val + 1) := off7_eq i h1 1
  have o4_1 : k0_off8 i 1#32 = at2 (2 * (i 1).val + 1) := off8_eq i h1 1
  have o13_1 : k0_off9 i 1#32 = at2 (2 * (i 1).val + 1) := off9_eq i h1 1
  have hk1 : (arg3.view.readAt (Elt F) (Rect.unit (s := S1x8192x256) (k0_off7 i 1#32) S1x512x256.size (Gen.k0_off7_inb i h1 1)).toLoadRect f3) = VecWindow.window (arg3.view.read (Elt F) f3) (at3 (2 * (i 1).val + 1)) S1x512x256.size (at3_k _) := View.readAt_unit _ _ _ o3_1 _
  have hv1 : (arg4.view.readAt (Elt F) (Rect.unit (s := S8192x128) (k0_off8 i 1#32) S512x128.size (Gen.k0_off8_inb i h1 1)).toLoadRect f4) = VecWindow.window (arg4.view.read (Elt F) f4) (at2 (2 * (i 1).val + 1)) S512x128.size (at2_v _) := View.readAt_unit _ _ _ o4_1 _
  refine Acc.ext ?_ ?_ ?_
  · show arg11.view.read (Elt F) (arg11.view.writes (Elt F) f11 (⟨(Rect.unit (s := S1024x256) ![512, 0] S512x256.size Gen.inb_S1024x256_S512x256_512_0), dqH (dsH (maskH (scH (arg2.view.readAt (Elt F) (Rect.unit (s := S1x1024x256) ![0, 512, 0] S1x512x256.size Gen.inb_S1x1024x256_S1x512x256_0_512_0).toLoadRect f2) (arg3.view.readAt (Elt F) (Rect.unit (s := S1x8192x256) (k0_off7 i 1#32) S1x512x256.size (Gen.k0_off7_inb i h1 1)).toLoadRect f3))) (gvH (arg6.view.readAt (Elt F) (Rect.unit (s := S1024x128) ![512, 0] S512x128.size Gen.inb_S1024x128_S512x128_512_0).toLoadRect f6) (arg4.view.readAt (Elt F) (Rect.unit (s := S8192x128) (k0_off8 i 1#32) S512x128.size (Gen.k0_off8_inb i h1 1)).toLoadRect f4)) (arg7.view.readAt (Elt F) (Rect.unit (s := S1x1024x128) ![0, 512, 0] S1x512x128.size Gen.inb_S1x1024x128_S1x512x128_0_512_0).toLoadRect f7) (arg12.view.readAt (Elt F) (Rect.unit (s := S1024x128) ![512, 0] S512x128.size Gen.inb_S1024x128_S512x128_512_0).toLoadRect f12)) (arg3.view.readAt (Elt F) (Rect.unit (s := S1x8192x256) (k0_off7 i 1#32) S1x512x256.size (Gen.k0_off7_inb i h1 1)).toLoadRect f3) (arg11.view.readCov (⟨(Rect.unit (s := S1024x256) ![0, 0] S1024x256.size Gen.inb_S1024x256_S1024x256_0_0), dqB (dsB (maskB (scB (arg2.view.readAt (Elt F) (Rect.unit (s := S1x1024x256) ![0, 0, 0] S1x1024x256.size Gen.inb_S1x1024x256_S1x1024x256_0_0_0).toLoadRect f2) (arg3.view.readAt (Elt F) (Rect.unit (s := S1x8192x256) (k0_off7 i 0#32) S1x512x256.size (Gen.k0_off7_inb i h1 0)).toLoadRect f3))) (gvB (arg6.view.readAt (Elt F) (Rect.unit (s := S1024x128) ![0, 0] S1024x128.size Gen.inb_S1024x128_S1024x128_0_0).toLoadRect f6) (arg4.view.readAt (Elt F) (Rect.unit (s := S8192x128) (k0_off8 i 0#32) S512x128.size (Gen.k0_off8_inb i h1 0)).toLoadRect f4)) (arg7.view.readAt (Elt F) (Rect.unit (s := S1x1024x128) ![0, 0, 0] S1x1024x128.size Gen.inb_S1x1024x128_S1x1024x128_0_0_0).toLoadRect f7) (arg12.view.readAt (Elt F) (Rect.unit (s := S1024x128) ![0, 0] S1024x128.size Gen.inb_S1024x128_S1024x128_0_0).toLoadRect f12)) (arg3.view.readAt (Elt F) (Rect.unit (s := S1x8192x256) (k0_off7 i 0#32) S1x512x256.size (Gen.k0_off7_inb i h1 0)).toLoadRect f3) (arg11.view.readAt (Elt F) (Rect.unit (s := S1024x256) ![0, 0] S1024x256.size Gen.inb_S1024x256_S1024x256_0_0).toLoadRect f11)⟩ :: _) (Rect.unit (s := S1024x256) ![512, 0] S512x256.size Gen.inb_S1024x256_S512x256_512_0).toLoadRect)⟩ :: ⟨(Rect.unit (s := S1024x256) ![0, 0] S1024x256.size Gen.inb_S1024x256_S1024x256_0_0), dqB (dsB (maskB (scB (arg2.view.readAt (Elt F) (Rect.unit (s := S1x1024x256) ![0, 0, 0] S1x1024x256.size Gen.inb_S1x1024x256_S1x1024x256_0_0_0).toLoadRect f2) (arg3.view.readAt (Elt F) (Rect.unit (s := S1x8192x256) (k0_off7 i 0#32) S1x512x256.size (Gen.k0_off7_inb i h1 0)).toLoadRect f3))) (gvB (arg6.view.readAt (Elt F) (Rect.unit (s := S1024x128) ![0, 0] S1024x128.size Gen.inb_S1024x128_S1024x128_0_0).toLoadRect f6) (arg4.view.readAt (Elt F) (Rect.unit (s := S8192x128) (k0_off8 i 0#32) S512x128.size (Gen.k0_off8_inb i h1 0)).toLoadRect f4)) (arg7.view.readAt (Elt F) (Rect.unit (s := S1x1024x128) ![0, 0, 0] S1x1024x128.size Gen.inb_S1x1024x128_S1x1024x128_0_0_0).toLoadRect f7) (arg12.view.readAt (Elt F) (Rect.unit (s := S1024x128) ![0, 0] S1024x128.size Gen.inb_S1024x128_S1024x128_0_0).toLoadRect f12)) (arg3.view.readAt (Elt F) (Rect.unit (s := S1x8192x256) (k0_off7 i 0#32) S1x512x256.size (Gen.k0_off7_inb i h1 0)).toLoadRect f3) (arg11.view.readAt (Elt F) (Rect.unit (s := S1024x256) ![0, 0] S1024x256.size Gen.inb_S1024x256_S1024x256_0_0).toLoadRect f11)⟩ :: _)) = _
    rw [View.read_writes_cons_put _ _ _ _ _ rfl, View.read_writes_full, readCov_win, View.readAt_full arg11.view]
    rw [hq, hg, hl, hd, hqh, hgh, hlh, hdh, hk0, hv0, hk1, hv1]
    rfl
  · show arg13.view.read (Elt F) (arg13.view.writes (Elt F) f13 [⟨(Rect.unit (s := S8192x256) (k0_off9 i 1#32) S512x256.size (Gen.k0_off9_inb i h1 1)), stK (dkH (dsH (maskH (scH (arg2.view.readAt (Elt F) (Rect.unit (s := S1x1024x256) ![0, 512, 0] S1x512x256.size Gen.inb_S1x1024x256_S1x512x256_0_512_0).toLoadRect f2) (arg3.view.readAt (Elt F) (Rect.unit (s := S1x8192x256) (k0_off7 i 1#32) S1x512x256.size (Gen.k0_off7_inb i h1 1)).toLoadRect f3))) (gvH (arg6.view.readAt (Elt F) (Rect.unit (s := S1024x128) ![512, 0] S512x128.size Gen.inb_S1024x128_S512x128_512_0).toLoadRect f6) (arg4.view.readAt (Elt F) (Rect.unit (s := S8192x128) (k0_off8 i 1#32) S512x128.size (Gen.k0_off8_inb i h1 1)).toLoadRect f4)) (arg7.view.readAt (Elt F) (Rect.unit (s := S1x1024x128) ![0, 512, 0] S1x512x128.size Gen.inb_S1x1024x128_S1x512x128_0_512_0).toLoadRect f7) (arg12.view.readAt (Elt F) (Rect.unit (s := S1024x128) ![512, 0] S512x128.size Gen.inb_S1024x128_S512x128_512_0).toLoadRect f12)) (arg2.view.readAt (Elt F) (Rect.unit (s := S1x1024x256) ![0, 512, 0] S1x512x256.size Gen.inb_S1x1024x256_S1x512x256_0_512_0).toLoadRect f2))⟩, ⟨(Rect.unit (s := S8192x256) (k0_off9 i 0#32) S512x256.size (Gen.k0_off9_inb i h1 0)), stK (dkB (dsB (maskB (scB (arg2.view.readAt (Elt F) (Rect.unit (s := S1x1024x256) ![0, 0, 0] S1x1024x256.size Gen.inb_S1x1024x256_S1x1024x256_0_0_0).toLoadRect f2) (arg3.view.readAt (Elt F) (Rect.unit (s := S1x8192x256) (k0_off7 i 0#32) S1x512x256.size (Gen.k0_off7_inb i h1 0)).toLoadRect f3))) (gvB (arg6.view.readAt (Elt F) (Rect.unit (s := S1024x128) ![0, 0] S1024x128.size Gen.inb_S1024x128_S1024x128_0_0).toLoadRect f6) (arg4.view.readAt (Elt F) (Rect.unit (s := S8192x128) (k0_off8 i 0#32) S512x128.size (Gen.k0_off8_inb i h1 0)).toLoadRect f4)) (arg7.view.readAt (Elt F) (Rect.unit (s := S1x1024x128) ![0, 0, 0] S1x1024x128.size Gen.inb_S1x1024x128_S1x1024x128_0_0_0).toLoadRect f7) (arg12.view.readAt (Elt F) (Rect.unit (s := S1024x128) ![0, 0] S1024x128.size Gen.inb_S1024x128_S1024x128_0_0).toLoadRect f12)) (arg2.view.readAt (Elt F) (Rect.unit (s := S1x1024x256) ![0, 0, 0] S1x1024x256.size Gen.inb_S1x1024x256_S1x1024x256_0_0_0).toLoadRect f2))⟩]) = _
    rw [View.read_writes_cons_put _ _ _ _ _ o13_1, View.read_writes_cons_put _ _ _ _ _ o13_0, View.writes_nil]
    rw [hq, hg, hl, hd, hqh, hgh, hlh, hdh, hk0, hv0, hk1, hv1]
    simp only [full, diag0, diag1]
    rfl
  · show arg14.view.read (Elt F) (arg14.view.writes (Elt F) f14 [⟨(Rect.unit (s := S8192x128) (k0_off8 i 1#32) S512x128.size (Gen.k0_off8_inb i h1 1)), stV (dvH (pH (maskH (scH (arg2.view.readAt (Elt F) (Rect.unit (s := S1x1024x256) ![0, 512, 0] S1x512x256.size Gen.inb_S1x1024x256_S1x512x256_0_512_0).toLoadRect f2) (arg3.view.readAt (Elt F) (Rect.unit (s := S1x8192x256) (k0_off7 i 1#32) S1x512x256.size (Gen.k0_off7_inb i h1 1)).toLoadRect f3))) (arg7.view.readAt (Elt F) (Rect.unit (s := S1x1024x128) ![0, 512, 0] S1x512x128.size Gen.inb_S1x1024x128_S1x512x128_0_512_0).toLoadRect f7)) (arg6.view.readAt (Elt F) (Rect.unit (s := S1024x128) ![512, 0] S512x128.size Gen.inb_S1024x128_S512x128_512_0).toLoadRect f6))⟩, ⟨(Rect.unit (s := S8192x128) (k0_off8 i 0#32) S512x128.size (Gen.k0_off8_inb i h1 0)), stV (dvB (pB (maskB (scB (arg2.view.readAt (Elt F) (Rect.unit (s := S1x1024x256) ![0, 0, 0] S1x1024x256.size Gen.inb_S1x1024x256_S1x1024x256_0_0_0).toLoadRect f2) (arg3.view.readAt (Elt F) (Rect.unit (s := S1x8192x256) (k0_off7 i 0#32) S1x512x256.size (Gen.k0_off7_inb i h1 0)).toLoadRect f3))) (arg7.view.readAt (Elt F) (Rect.unit (s := S1x1024x128) ![0, 0, 0] S1x1024x128.size Gen.inb_S1x1024x128_S1x1024x128_0_0_0).toLoadRect f7)) (arg6.view.readAt (Elt F) (Rect.unit (s := S1024x128) ![0, 0] S1024x128.size Gen.inb_S1024x128_S1024x128_0_0).toLoadRect f6))⟩]) = _
    rw [View.read_writes_cons_put _ _ _ _ _ o4_1, View.read_writes_cons_put _ _ _ _ _ o4_0, View.writes_nil]
    rw [hq, hg, hl, hqh, hgh, hlh, hk0, hk1]
    simp only [full, diag0, diag1]
    rfl

end Cert.KernelIdeal.Attn
-- ==== Proof.Arm2.lean ====
module

public import proofs.«01_k».proof.Proof.Offs
public import Idealize.ShloMosaic.Lib.Updates.Own
public import Idealize.ShloMosaic.Lib.Updates.Loop
public import Idealize.ShloMosaic.Lib.LaneScatter.Fold

/-! The loops, two full blocks and the two diagonal blocks. -/

@[expose] public section

noncomputable section

namespace Cert.KernelIdeal.Attn

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.LaneScatter (raw raw_owns bind_of_run)
open Idealize.ShloMosaic.Updates

variable {F : FTy → Type} [FloatOps F] [Named F]

local notation "𝕄" => MT nD τ sig Unit (Elt F) ℕ (UR sig nD τ) ℕ

set_option maxRecDepth 16384
set_option maxHeartbeats 4000000 in
/-- The loops, two full blocks and the two diagonal blocks. -/
theorem part42_2 (c : Dev nD) (i : grid0.Coords) (h1 : ¬ k0_cond1 i = 1#1) (h2 : k0_cond2 i = 1#1) (arg2 : Memref sig .tc .vmem S1x1024x256 .bf16) (harg2 : arg2.IsWhole) (arg3 : Memref sig .tc .vmem S1x8192x256 .bf16) (harg3 : arg3.IsWhole) (arg4 : Memref sig .tc .vmem S8192x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1x1024x256 .bf16) (harg8 : arg8.IsWhole) (arg9 : Memref sig .tc .vmem S1x8192x256 .bf16) (harg9 : arg9.IsWhole) (arg10 : Memref sig .tc .vmem S1x8192x128 .bf16) (harg10 : arg10.IsWhole) (arg11 : Memref sig .tc .vmem S1024x256 .f32) (harg11 : arg11.IsWhole) (arg12 : Memref sig .tc .vmem S1024x128 .f32) (harg12 : arg12.IsWhole) (arg13 : Memref sig .tc .vmem S8192x256 .f32) (harg13 : arg13.IsWhole) (arg14 : Memref sig .tc .vmem S8192x128 .f32) (harg14 : arg14.IsWhole) (v18 v35 c0 : BitVec 32) (X : Inp F) (s : Acc F) :
    Pt c arg2 arg3 arg4 arg6 arg7 arg11 arg12 arg13 arg14 X s ⊢
      wp frame (wpE defs₀ Variants.none (c : Thread nD τ) none) Set.univ (k0_part42 (F := F) i arg2 harg2 arg3 harg3 arg4 harg4 arg5 harg5 arg6 harg6 arg7 harg7 arg8 harg8 arg9 harg9 arg10 harg10 arg11 harg11 arg12 harg12 arg13 harg13 arg14 harg14 v18 v35 c0)
        (fun _ => Pt c arg2 arg3 arg4 arg6 arg7 arg11 arg12 arg13 arg14 X (diag1 X (2 * (i 1).val - 2 + 3) (diag0 X (2 * (i 1).val - 2 + 2) (full X (2 * (i 1).val - 2 + 1) (full X (2 * (i 1).val - 2 + 0) (fulls X (6 * (k0_t1_loop i).trips) s)))))) := by
  rw [Gen.k0_part42_eq_skeleton]
  unfold Gen.k0_part42_skel
  iintro H
  iapply (bind_of_run frame (wpE defs₀ Variants.none (c : Thread nD τ) none) Set.univ (loop_pt (F := F) c i arg2 harg2 arg3 harg3 arg4 harg4 arg5 harg5 arg6 harg6 arg7 harg7 arg8 harg8 arg9 harg9 arg10 harg10 arg11 harg11 arg12 harg12 arg13 harg13 arg14 harg14 v18 v35 c0 X s) _ _)
  isplitl [H]; iexact H
  iintro H
  generalize fulls X (6 * (k0_t1_loop i).trips) s = s0
  iapply (bind_of_run frame (wpE defs₀ Variants.none (c : Thread nD τ) none) Set.univ (loop2_pt (F := F) c i arg2 harg2 arg3 harg3 arg4 harg4 arg5 harg5 arg6 harg6 arg7 harg7 arg8 harg8 arg9 harg9 arg10 harg10 arg11 harg11 arg12 harg12 arg13 harg13 arg14 harg14 v18 v35 c0 _ X s0) _ _)
  isplitl [H]; iexact H
  iintro H
  unfold Pt
  icases H with ⟨H2, H3, H4, H6, H7, H12, H11, H13, H14⟩
  icases (owns_read (c : Thread nD τ) arg2 _) $$ H2 with ⟨%f2, H2, %e2⟩
  icases (owns_read (c : Thread nD τ) arg3 _) $$ H3 with ⟨%f3, H3, %e3⟩
  icases (owns_read (c : Thread nD τ) arg4 _) $$ H4 with ⟨%f4, H4, %e4⟩
  icases (owns_read (c : Thread nD τ) arg6 _) $$ H6 with ⟨%f6, H6, %e6⟩
  icases (owns_read (c : Thread nD τ) arg7 _) $$ H7 with ⟨%f7, H7, %e7⟩
  icases (owns_read (c : Thread nD τ) arg12 _) $$ H12 with ⟨%f12, H12, %e12⟩
  icases (owns_read (c : Thread nD τ) arg11 _) $$ H11 with ⟨%f11, H11, %e11⟩
  icases (owns_read (c : Thread nD τ) arg13 _) $$ H13 with ⟨%f13, H13, %e13⟩
  icases (owns_read (c : Thread nD τ) arg14 _) $$ H14 with ⟨%f14, H14, %e14⟩
  haveI : Fact (k0_cond2 i = 1#1) := ⟨h2⟩
  sl_exec
  sl_step
  isplitl [H2]; iapply (raw_owns (c : Thread nD τ) arg2 e2); iexact H2
  isplitl [H3]; iapply (raw_owns (c : Thread nD τ) arg3 e3); iexact H3
  isplitl [H4]; iapply (raw_owns (c : Thread nD τ) arg4 e4); iexact H4
  isplitl [H6]; iapply (raw_owns (c : Thread nD τ) arg6 e6); iexact H6
  isplitl [H7]; iapply (raw_owns (c : Thread nD τ) arg7 e7); iexact H7
  isplitl [H12]; iapply (raw_owns (c : Thread nD τ) arg12 e12); iexact H12
  iapply (acc_owns c arg11 arg13 arg14)
  isplitl [H11]; iexact H11
  isplitl [H13]; iexact H13
  isplitl [H14]; iexact H14
  ipureintro
  have hX : (⟨arg2.view.read (Elt F) f2, arg3.view.read (Elt F) f3, arg4.view.read (Elt F) f4, arg6.view.read (Elt F) f6, arg7.view.read (Elt F) f7, arg12.view.read (Elt F) f12⟩ : Inp F) = X := by
    obtain ⟨q, kk, v, g, l, dl⟩ := X; subst e2; subst e3; subst e4; subst e6; subst e7; subst e12; rfl
  have hs : (⟨arg11.view.read (Elt F) f11, arg13.view.read (Elt F) f13, arg14.view.read (Elt F) f14⟩ : Acc F) = s0 := by
    obtain ⟨x, y, z⟩ := s0; subst e11; subst e13; subst e14; rfl
  clear e2 e3 e4 e6 e7 e12 e11 e13 e14
  subst hX hs
  have hi := i1_lt i
  have hq : arg2.view.readAt (Elt F) (Rect.unit (s := S1x1024x256) ![0, 0, 0] S1x1024x256.size Gen.inb_S1x1024x256_S1x1024x256_0_0_0).toLoadRect f2 = arg2.view.read (Elt F) f2 := View.readAt_full _ _ _
  have hg : arg6.view.readAt (Elt F) (Rect.unit (s := S1024x128) ![0, 0] S1024x128.size Gen.inb_S1024x128_S1024x128_0_0).toLoadRect f6 = arg6.view.read (Elt F) f6 := View.readAt_full _ _ _
  have hl : arg7.view.readAt (Elt F) (Rect.unit (s := S1x1024x128) ![0, 0, 0] S1x1024x128.size Gen.inb_S1x1024x128_S1x1024x128_0_0_0).toLoadRect f7 = arg7.view.read (Elt F) f7 := View.readAt_full _ _ _
  have hd : arg12.view.readAt (Elt F) (Rect.unit (s := S1024x128) ![0, 0] S1024x128.size Gen.inb_S1024x128_S1024x128_0_0).toLoadRect f12 = arg12.view.read (Elt F) f12 := View.readAt_full _ _ _
  have hqh : arg2.view.readAt (Elt F) (Rect.unit (s := S1x1024x256) ![0, 512, 0] S1x512x256.size Gen.inb_S1x1024x256_S1x512x256_0_512_0).toLoadRect f2 = VecWindow.window (arg2.view.read (Elt F) f2) ![0, 512, 0] S1x512x256.size Gen.inb_S1x1024x256_S1x512x256_0_512_0 := View.readAt_unit _ _ _ rfl _
  have hgh : arg6.view.readAt (Elt F) (Rect.unit (s := S1024x128) ![512, 0] S512x128.size Gen.inb_S1024x128_S512x128_512_0).toLoadRect f6 = VecWindow.window (arg6.view.read (Elt F) f6) ![512, 0] S512x128.size Gen.inb_S1024x128_S512x128_512_0 := View.readAt_unit _ _ _ rfl _
  have hlh : arg7.view.readAt (Elt F) (Rect.unit (s := S1x1024x128) ![0, 512, 0] S1x512x128.size Gen.inb_S1x1024x128_S1x512x128_0_512_0).toLoadRect f7 = VecWindow.window (arg7.view.read (Elt F) f7) ![0, 512, 0] S1x512x128.size Gen.inb_S1x1024x128_S1x512x128_0_512_0 := View.readAt_unit _ _ _ rfl _
  have hdh : arg12.view.readAt (Elt F) (Rect.unit (s := S1024x128) ![512, 0] S512x128.size Gen.inb_S1024x128_S512x128_512_0).toLoadRect f12 = VecWindow.window (arg12.view.read (Elt F) f12) ![512, 0] S512x128.size Gen.inb_S1024x128_S512x128_512_0 := View.readAt_unit _ _ _ rfl _
  have o3_0 : k0_off10 i 0#32 = at3 (2 * (i 1).val - 2 + 0) := off10_eq i h2 0
  have o4_0 : k0_off11 i 0#32 = at2 (2 * (i 1).val - 2 + 0) := off11_eq i h2 0
  have o13_0 : k0_off12 i 0#32 = at2 (2 * (i 1).val - 2 + 0) := off12_eq i h2 0
  have hk0 : (arg3.view.readAt (Elt F) (Rect.unit (s := S1x8192x256) (k0_off10 i 0#32) S1x512x256.size (Gen.k0_off10_inb i h2 0)).toLoadRect f3) = VecWindow.window (arg3.view.read (Elt F) f3) (at3 (2 * (i 1).val - 2 + 0)) S1x512x256.size (at3_k _) := View.readAt_unit _ _ _ o3_0 _
  have hv0 : (arg4.view.readAt (Elt F) (Rect.unit (s := S8192x128) (k0_off11 i 0#32) S512x128.size (Gen.k0_off11_inb i h2 0)).toLoadRect f4) = VecWindow.window (arg4.view.read (Elt F) f4) (at2 (2 * (i 1).val - 2 + 0)) S512x128.size (at2_v _) := View.readAt_unit _ _ _ o4_0 _
  have w13_0 : arg13.view.readAt (Elt F) (Rect.unit (s := S8192x256) (k0_off12 i 0#32) S512x256.size (Gen.k0_off12_inb i h2 0)).toLoadRect f13 = VecWindow.window (arg13.view.read (Elt F) f13) (at2 (2 * (i 1).val - 2 + 0)) S512x256.size (at2_k _) := View.readAt_unit _ _ _ o13_0 _
  have w14_0 : arg14.view.readAt (Elt F) (Rect.unit (s := S8192x128) (k0_off11 i 0#32) S512x128.size (Gen.k0_off11_inb i h2 0)).toLoadRect f14 = VecWindow.window (arg14.view.read (Elt F) f14) (at2 (2 * (i 1).val - 2 + 0)) S512x128.size (at2_v _) := View.readAt_unit _ _ _ o4_0 _
  have o3_1 : k0_off10 i 1#32 = at3 (2 * (i 1).val - 2 + 1) := off10_eq i h2 1
  have o4_1 : k0_off11 i 1#32 = at2 (2 * (i 1).val - 2 + 1) := off11_eq i h2 1
  have o13_1 : k0_off12 i 1#32 = at2 (2 * (i 1).val - 2 + 1) := off12_eq i h2 1
  have hk1 : (arg3.view.readAt (Elt F) (Rect.unit (s := S1x8192x256) (k0_off10 i 1#32) S1x512x256.size (Gen.k0_off10_inb i h2 1)).toLoadRect f3) = VecWindow.window (arg3.view.read (Elt F) f3) (at3 (2 * (i 1).val - 2 + 1)) S1x512x256.size (at3_k _) := View.readAt_unit _ _ _ o3_1 _
  have hv1 : (arg4.view.readAt (Elt F) (Rect.unit (s := S8192x128) (k0_off11 i 1#32) S512x128.size (Gen.k0_off11_inb i h2 1)).toLoadRect f4) = VecWindow.window (arg4.view.read (Elt F) f4) (at2 (2 * (i 1).val - 2 + 1)) S512x128.size (at2_v _) := View.readAt_unit _ _ _ o4_1 _
  have w13_1 : arg13.view.readAt (Elt F) (Rect.unit (s := S8192x256) (k0_off12 i 1#32) S512x256.size (Gen.k0_off12_inb i h2 1)).toLoadRect f13 = VecWindow.window (arg13.view.read (Elt F) f13) (at2 (2 * (i 1).val - 2 + 1)) S512x256.size (at2_k _) := View.readAt_unit _ _ _ o13_1 _
  have w14_1 : arg14.view.readAt (Elt F) (Rect.unit (s := S8192x128) (k0_off11 i 1#32) S512x128.size (Gen.k0_off11_inb i h2 1)).toLoadRect f14 = VecWindow.window (arg14.view.read (Elt F) f14) (at2 (2 * (i 1).val - 2 + 1)) S512x128.size (at2_v _) := View.readAt_unit _ _ _ o4_1 _
  have o3_2 : k0_off10 i 2#32 = at3 (2 * (i 1).val - 2 + 2) := off10_eq i h2 2
  have o4_2 : k0_off11 i 2#32 = at2 (2 * (i 1).val - 2 + 2) := off11_eq i h2 2
  have o13_2 : k0_off12 i 2#32 = at2 (2 * (i 1).val - 2 + 2) := off12_eq i h2 2
  have hk2 : (arg3.view.readAt (Elt F) (Rect.unit (s := S1x8192x256) (k0_off10 i 2#32) S1x512x256.size (Gen.k0_off10_inb i h2 2)).toLoadRect f3) = VecWindow.window (arg3.view.read (Elt F) f3) (at3 (2 * (i 1).val - 2 + 2)) S1x512x256.size (at3_k _) := View.readAt_unit _ _ _ o3_2 _
  have hv2 : (arg4.view.readAt (Elt F) (Rect.unit (s := S8192x128) (k0_off11 i 2#32) S512x128.size (Gen.k0_off11_inb i h2 2)).toLoadRect f4) = VecWindow.window (arg4.view.read (Elt F) f4) (at2 (2 * (i 1).val - 2 + 2)) S512x128.size (at2_v _) := View.readAt_unit _ _ _ o4_2 _
  have o3_3 : k0_off10 i 3#32 = at3 (2 * (i 1).val - 2 + 3) := off10_eq i h2 3
  have o4_3 : k0_off11 i 3#32 = at2 (2 * (i 1).val - 2 + 3) := off11_eq i h2 3
  have o13_3 : k0_off12 i 3#32 = at2 (2 * (i 1).val - 2 + 3) := off12_eq i h2 3
  have hk3 : (arg3.view.readAt (Elt F) (Rect.unit (s := S1x8192x256) (k0_off10 i 3#32) S1x512x256.size (Gen.k0_off10_inb i h2 3)).toLoadRect f3) = VecWindow.window (arg3.view.read (Elt F) f3) (at3 (2 * (i 1).val - 2 + 3)) S1x512x256.size (at3_k _) := View.readAt_unit _ _ _ o3_3 _
  have hv3 : (arg4.view.readAt (Elt F) (Rect.unit (s := S8192x128) (k0_off11 i 3#32) S512x128.size (Gen.k0_off11_inb i h2 3)).toLoadRect f4) = VecWindow.window (arg4.view.read (Elt F) f4) (at2 (2 * (i 1).val - 2 + 3)) S512x128.size (at2_v _) := View.readAt_unit _ _ _ o4_3 _
  refine Acc.ext ?_ ?_ ?_
  · show arg11.view.read (Elt F) (arg11.view.writes (Elt F) f11 (⟨(Rect.unit (s := S1024x256) ![512, 0] S512x256.size Gen.inb_S1024x256_S512x256_512_0), dqH (dsH (maskH (scH (arg2.view.readAt (Elt F) (Rect.unit (s := S1x1024x256) ![0, 512, 0] S1x512x256.size Gen.inb_S1x1024x256_S1x512x256_0_512_0).toLoadRect f2) (arg3.view.readAt (Elt F) (Rect.unit (s := S1x8192x256) (k0_off10 i 3#32) S1x512x256.size (Gen.k0_off10_inb i h2 3)).toLoadRect f3))) (gvH (arg6.view.readAt (Elt F) (Rect.unit (s := S1024x128) ![512, 0] S512x128.size Gen.inb_S1024x128_S512x128_512_0).toLoadRect f6) (arg4.view.readAt (Elt F) (Rect.unit (s := S8192x128) (k0_off11 i 3#32) S512x128.size (Gen.k0_off11_inb i h2 3)).toLoadRect f4)) (arg7.view.readAt (Elt F) (Rect.unit (s := S1x1024x128) ![0, 512, 0] S1x512x128.size Gen.inb_S1x1024x128_S1x512x128_0_512_0).toLoadRect f7) (arg12.view.readAt (Elt F) (Rect.unit (s := S1024x128) ![512, 0] S512x128.size Gen.inb_S1024x128_S512x128_512_0).toLoadRect f12)) (arg3.view.readAt (Elt F) (Rect.unit (s := S1x8192x256) (k0_off10 i 3#32) S1x512x256.size (Gen.k0_off10_inb i h2 3)).toLoadRect f3) (arg11.view.readCov (⟨(Rect.unit (s := S1024x256) ![0, 0] S1024x256.size Gen.inb_S1024x256_S1024x256_0_0), dqB (dsB (maskB (scB (arg2.view.readAt (Elt F) (Rect.unit (s := S1x1024x256) ![0, 0, 0] S1x1024x256.size Gen.inb_S1x1024x256_S1x1024x256_0_0_0).toLoadRect f2) (arg3.view.readAt (Elt F) (Rect.unit (s := S1x8192x256) (k0_off10 i 2#32) S1x512x256.size (Gen.k0_off10_inb i h2 2)).toLoadRect f3))) (gvB (arg6.view.readAt (Elt F) (Rect.unit (s := S1024x128) ![0, 0] S1024x128.size Gen.inb_S1024x128_S1024x128_0_0).toLoadRect f6) (arg4.view.readAt (Elt F) (Rect.unit (s := S8192x128) (k0_off11 i 2#32) S512x128.size (Gen.k0_off11_inb i h2 2)).toLoadRect f4)) (arg7.view.readAt (Elt F) (Rect.unit (s := S1x1024x128) ![0, 0, 0] S1x1024x128.size Gen.inb_S1x1024x128_S1x1024x128_0_0_0).toLoadRect f7) (arg12.view.readAt (Elt F) (Rect.unit (s := S1024x128) ![0, 0] S1024x128.size Gen.inb_S1024x128_S1024x128_0_0).toLoadRect f12)) (arg3.view.readAt (Elt F) (Rect.unit (s := S1x8192x256) (k0_off10 i 2#32) S1x512x256.size (Gen.k0_off10_inb i h2 2)).toLoadRect f3) (arg11.view.readCov (⟨(Rect.unit (s := S1024x256) ![0, 0] S1024x256.size Gen.inb_S1024x256_S1024x256_0_0), dqB (dsB (scB (arg2.view.readAt (Elt F) (Rect.unit (s := S1x1024x256) ![0, 0, 0] S1x1024x256.size Gen.inb_S1x1024x256_S1x1024x256_0_0_0).toLoadRect f2) (arg3.view.readAt (Elt F) (Rect.unit (s := S1x8192x256) (k0_off10 i 1#32) S1x512x256.size (Gen.k0_off10_inb i h2 1)).toLoadRect f3)) (gvB (arg6.view.readAt (Elt F) (Rect.unit (s := S1024x128) ![0, 0] S1024x128.size Gen.inb_S1024x128_S1024x128_0_0).toLoadRect f6) (arg4.view.readAt (Elt F) (Rect.unit (s := S8192x128) (k0_off11 i 1#32) S512x128.size (Gen.k0_off11_inb i h2 1)).toLoadRect f4)) (arg7.view.readAt (Elt F) (Rect.unit (s := S1x1024x128) ![0, 0, 0] S1x1024x128.size Gen.inb_S1x1024x128_S1x1024x128_0_0_0).toLoadRect f7) (arg12.view.readAt (Elt F) (Rect.unit (s := S1024x128) ![0, 0] S1024x128.size Gen.inb_S1024x128_S1024x128_0_0).toLoadRect f12)) (arg3.view.readAt (Elt F) (Rect.unit (s := S1x8192x256) (k0_off10 i 1#32) S1x512x256.size (Gen.k0_off10_inb i h2 1)).toLoadRect f3) (arg11.view.readCov (⟨(Rect.unit (s := S1024x256) ![0, 0] S1024x256.size Gen.inb_S1024x256_S1024x256_0_0), dqB (dsB (scB (arg2.view.readAt (Elt F) (Rect.unit (s := S1x1024x256) ![0, 0, 0] S1x1024x256.size Gen.inb_S1x1024x256_S1x1024x256_0_0_0).toLoadRect f2) (arg3.view.readAt (Elt F) (Rect.unit (s := S1x8192x256) (k0_off10 i 0#32) S1x512x256.size (Gen.k0_off10_inb i h2 0)).toLoadRect f3)) (gvB (arg6.view.readAt (Elt F) (Rect.unit (s := S1024x128) ![0, 0] S1024x128.size Gen.inb_S1024x128_S1024x128_0_0).toLoadRect f6) (arg4.view.readAt (Elt F) (Rect.unit (s := S8192x128) (k0_off11 i 0#32) S512x128.size (Gen.k0_off11_inb i h2 0)).toLoadRect f4)) (arg7.view.readAt (Elt F) (Rect.unit (s := S1x1024x128) ![0, 0, 0] S1x1024x128.size Gen.inb_S1x1024x128_S1x1024x128_0_0_0).toLoadRect f7) (arg12.view.readAt (Elt F) (Rect.unit (s := S1024x128) ![0, 0] S1024x128.size Gen.inb_S1024x128_S1024x128_0_0).toLoadRect f12)) (arg3.view.readAt (Elt F) (Rect.unit (s := S1x8192x256) (k0_off10 i 0#32) S1x512x256.size (Gen.k0_off10_inb i h2 0)).toLoadRect f3) (arg11.view.readAt (Elt F) (Rect.unit (s := S1024x256) ![0, 0] S1024x256.size Gen.inb_S1024x256_S1024x256_0_0).toLoadRect f11)⟩ :: _) (Rect.unit (s := S1024x256) ![0, 0] S1024x256.size Gen.inb_S1024x256_S1024x256_0_0).toLoadRect)⟩ :: _) (Rect.unit (s := S1024x256) ![0, 0] S1024x256.size Gen.inb_S1024x256_S1024x256_0_0).toLoadRect)⟩ :: _) (Rect.unit (s := S1024x256) ![512, 0] S512x256.size Gen.inb_S1024x256_S512x256_512_0).toLoadRect)⟩ :: ⟨(Rect.unit (s := S1024x256) ![0, 0] S1024x256.size Gen.inb_S1024x256_S1024x256_0_0), dqB (dsB (maskB (scB (arg2.view.readAt (Elt F) (Rect.unit (s := S1x1024x256) ![0, 0, 0] S1x1024x256.size Gen.inb_S1x1024x256_S1x1024x256_0_0_0).toLoadRect f2) (arg3.view.readAt (Elt F) (Rect.unit (s := S1x8192x256) (k0_off10 i 2#32) S1x512x256.size (Gen.k0_off10_inb i h2 2)).toLoadRect f3))) (gvB (arg6.view.readAt (Elt F) (Rect.unit (s := S1024x128) ![0, 0] S1024x128.size Gen.inb_S1024x128_S1024x128_0_0).toLoadRect f6) (arg4.view.readAt (Elt F) (Rect.unit (s := S8192x128) (k0_off11 i 2#32) S512x128.size (Gen.k0_off11_inb i h2 2)).toLoadRect f4)) (arg7.view.readAt (Elt F) (Rect.unit (s := S1x1024x128) ![0, 0, 0] S1x1024x128.size Gen.inb_S1x1024x128_S1x1024x128_0_0_0).toLoadRect f7) (arg12.view.readAt (Elt F) (Rect.unit (s := S1024x128) ![0, 0] S1024x128.size Gen.inb_S1024x128_S1024x128_0_0).toLoadRect f12)) (arg3.view.readAt (Elt F) (Rect.unit (s := S1x8192x256) (k0_off10 i 2#32) S1x512x256.size (Gen.k0_off10_inb i h2 2)).toLoadRect f3) (arg11.view.readCov (⟨(Rect.unit (s := S1024x256) ![0, 0] S1024x256.size Gen.inb_S1024x256_S1024x256_0_0), dqB (dsB (scB (arg2.view.readAt (Elt F) (Rect.unit (s := S1x1024x256) ![0, 0, 0] S1x1024x256.size Gen.inb_S1x1024x256_S1x1024x256_0_0_0).toLoadRect f2) (arg3.view.readAt (Elt F) (Rect.unit (s := S1x8192x256) (k0_off10 i 1#32) S1x512x256.size (Gen.k0_off10_inb i h2 1)).toLoadRect f3)) (gvB (arg6.view.readAt (Elt F) (Rect.unit (s := S1024x128) ![0, 0] S1024x128.size Gen.inb_S1024x128_S1024x128_0_0).toLoadRect f6) (arg4.view.readAt (Elt F) (Rect.unit (s := S8192x128) (k0_off11 i 1#32) S512x128.size (Gen.k0_off11_inb i h2 1)).toLoadRect f4)) (arg7.view.readAt (Elt F) (Rect.unit (s := S1x1024x128) ![0, 0, 0] S1x1024x128.size Gen.inb_S1x1024x128_S1x1024x128_0_0_0).toLoadRect f7) (arg12.view.readAt (Elt F) (Rect.unit (s := S1024x128) ![0, 0] S1024x128.size Gen.inb_S1024x128_S1024x128_0_0).toLoadRect f12)) (arg3.view.readAt (Elt F) (Rect.unit (s := S1x8192x256) (k0_off10 i 1#32) S1x512x256.size (Gen.k0_off10_inb i h2 1)).toLoadRect f3) (arg11.view.readCov (⟨(Rect.unit (s := S1024x256) ![0, 0] S1024x256.size Gen.inb_S1024x256_S1024x256_0_0), dqB (dsB (scB (arg2.view.readAt (Elt F) (Rect.unit (s := S1x1024x256) ![0, 0, 0] S1x1024x256.size Gen.inb_S1x1024x256_S1x1024x256_0_0_0).toLoadRect f2) (arg3.view.readAt (Elt F) (Rect.unit (s := S1x8192x256) (k0_off10 i 0#32) S1x512x256.size (Gen.k0_off10_inb i h2 0)).toLoadRect f3)) (gvB (arg6.view.readAt (Elt F) (Rect.unit (s := S1024x128) ![0, 0] S1024x128.size Gen.inb_S1024x128_S1024x128_0_0).toLoadRect f6) (arg4.view.readAt (Elt F) (Rect.unit (s := S8192x128) (k0_off11 i 0#32) S512x128.size (Gen.k0_off11_inb i h2 0)).toLoadRect f4)) (arg7.view.readAt (Elt F) (Rect.unit (s := S1x1024x128) ![0, 0, 0] S1x1024x128.size Gen.inb_S1x1024x128_S1x1024x128_0_0_0).toLoadRect f7) (arg12.view.readAt (Elt F) (Rect.unit (s := S1024x128) ![0, 0] S1024x128.size Gen.inb_S1024x128_S1024x128_0_0).toLoadRect f12)) (arg3.view.readAt (Elt F) (Rect.unit (s := S1x8192x256) (k0_off10 i 0#32) S1x512x256.size (Gen.k0_off10_inb i h2 0)).toLoadRect f3) (arg11.view.readAt (Elt F) (Rect.unit (s := S1024x256) ![0, 0] S1024x256.size Gen.inb_S1024x256_S1024x256_0_0).toLoadRect f11)⟩ :: _) (Rect.unit (s := S1024x256) ![0, 0] S1024x256.size Gen.inb_S1024x256_S1024x256_0_0).toLoadRect)⟩ :: _) (Rect.unit (s := S1024x256) ![0, 0] S1024x256.size Gen.inb_S1024x256_S1024x256_0_0).toLoadRect)⟩ :: _)) = _
    rw [View.read_writes_cons_put _ _ _ _ _ rfl, View.read_writes_full, readCov_win, View.readCov_full, View.readCov_full, View.readAt_full arg11.view]
    rw [hq, hg, hl, hd, hqh, hgh, hlh, hdh, hk0, hv0, hk1, hv1, hk2, hv2, hk3, hv3]
    rfl
  · show arg13.view.read (Elt F) (arg13.view.writes (Elt F) f13 [⟨(Rect.unit (s := S8192x256) (k0_off12 i 3#32) S512x256.size (Gen.k0_off12_inb i h2 3)), stK (dkH (dsH (maskH (scH (arg2.view.readAt (Elt F) (Rect.unit (s := S1x1024x256) ![0, 512, 0] S1x512x256.size Gen.inb_S1x1024x256_S1x512x256_0_512_0).toLoadRect f2) (arg3.view.readAt (Elt F) (Rect.unit (s := S1x8192x256) (k0_off10 i 3#32) S1x512x256.size (Gen.k0_off10_inb i h2 3)).toLoadRect f3))) (gvH (arg6.view.readAt (Elt F) (Rect.unit (s := S1024x128) ![512, 0] S512x128.size Gen.inb_S1024x128_S512x128_512_0).toLoadRect f6) (arg4.view.readAt (Elt F) (Rect.unit (s := S8192x128) (k0_off11 i 3#32) S512x128.size (Gen.k0_off11_inb i h2 3)).toLoadRect f4)) (arg7.view.readAt (Elt F) (Rect.unit (s := S1x1024x128) ![0, 512, 0] S1x512x128.size Gen.inb_S1x1024x128_S1x512x128_0_512_0).toLoadRect f7) (arg12.view.readAt (Elt F) (Rect.unit (s := S1024x128) ![512, 0] S512x128.size Gen.inb_S1024x128_S512x128_512_0).toLoadRect f12)) (arg2.view.readAt (Elt F) (Rect.unit (s := S1x1024x256) ![0, 512, 0] S1x512x256.size Gen.inb_S1x1024x256_S1x512x256_0_512_0).toLoadRect f2))⟩, ⟨(Rect.unit (s := S8192x256) (k0_off12 i 2#32) S512x256.size (Gen.k0_off12_inb i h2 2)), stK (dkB (dsB (maskB (scB (arg2.view.readAt (Elt F) (Rect.unit (s := S1x1024x256) ![0, 0, 0] S1x1024x256.size Gen.inb_S1x1024x256_S1x1024x256_0_0_0).toLoadRect f2) (arg3.view.readAt (Elt F) (Rect.unit (s := S1x8192x256) (k0_off10 i 2#32) S1x512x256.size (Gen.k0_off10_inb i h2 2)).toLoadRect f3))) (gvB (arg6.view.readAt (Elt F) (Rect.unit (s := S1024x128) ![0, 0] S1024x128.size Gen.inb_S1024x128_S1024x128_0_0).toLoadRect f6) (arg4.view.readAt (Elt F) (Rect.unit (s := S8192x128) (k0_off11 i 2#32) S512x128.size (Gen.k0_off11_inb i h2 2)).toLoadRect f4)) (arg7.view.readAt (Elt F) (Rect.unit (s := S1x1024x128) ![0, 0, 0] S1x1024x128.size Gen.inb_S1x1024x128_S1x1024x128_0_0_0).toLoadRect f7) (arg12.view.readAt (Elt F) (Rect.unit (s := S1024x128) ![0, 0] S1024x128.size Gen.inb_S1024x128_S1024x128_0_0).toLoadRect f12)) (arg2.view.readAt (Elt F) (Rect.unit (s := S1x1024x256) ![0, 0, 0] S1x1024x256.size Gen.inb_S1x1024x256_S1x1024x256_0_0_0).toLoadRect f2))⟩, ⟨(Rect.unit (s := S8192x256) (k0_off12 i 1#32) S512x256.size (Gen.k0_off12_inb i h2 1)), stK (addf (arg13.view.readAt (Elt F) (Rect.unit (s := S8192x256) (k0_off12 i 1#32) S512x256.size (Gen.k0_off12_inb i h2 1)).toLoadRect f13 : FVec F S512x256 .f32) (dkB (dsB (scB (arg2.view.readAt (Elt F) (Rect.unit (s := S1x1024x256) ![0, 0, 0] S1x1024x256.size Gen.inb_S1x1024x256_S1x1024x256_0_0_0).toLoadRect f2) (arg3.view.readAt (Elt F) (Rect.unit (s := S1x8192x256) (k0_off10 i 1#32) S1x512x256.size (Gen.k0_off10_inb i h2 1)).toLoadRect f3)) (gvB (arg6.view.readAt (Elt F) (Rect.unit (s := S1024x128) ![0, 0] S1024x128.size Gen.inb_S1024x128_S1024x128_0_0).toLoadRect f6) (arg4.view.readAt (Elt F) (Rect.unit (s := S8192x128) (k0_off11 i 1#32) S512x128.size (Gen.k0_off11_inb i h2 1)).toLoadRect f4)) (arg7.view.readAt (Elt F) (Rect.unit (s := S1x1024x128) ![0, 0, 0] S1x1024x128.size Gen.inb_S1x1024x128_S1x1024x128_0_0_0).toLoadRect f7) (arg12.view.readAt (Elt F) (Rect.unit (s := S1024x128) ![0, 0] S1024x128.size Gen.inb_S1024x128_S1024x128_0_0).toLoadRect f12)) (arg2.view.readAt (Elt F) (Rect.unit (s := S1x1024x256) ![0, 0, 0] S1x1024x256.size Gen.inb_S1x1024x256_S1x1024x256_0_0_0).toLoadRect f2)))⟩, ⟨(Rect.unit (s := S8192x256) (k0_off12 i 0#32) S512x256.size (Gen.k0_off12_inb i h2 0)), stK (addf (arg13.view.readAt (Elt F) (Rect.unit (s := S8192x256) (k0_off12 i 0#32) S512x256.size (Gen.k0_off12_inb i h2 0)).toLoadRect f13 : FVec F S512x256 .f32) (dkB (dsB (scB (arg2.view.readAt (Elt F) (Rect.unit (s := S1x1024x256) ![0, 0, 0] S1x1024x256.size Gen.inb_S1x1024x256_S1x1024x256_0_0_0).toLoadRect f2) (arg3.view.readAt (Elt F) (Rect.unit (s := S1x8192x256) (k0_off10 i 0#32) S1x512x256.size (Gen.k0_off10_inb i h2 0)).toLoadRect f3)) (gvB (arg6.view.readAt (Elt F) (Rect.unit (s := S1024x128) ![0, 0] S1024x128.size Gen.inb_S1024x128_S1024x128_0_0).toLoadRect f6) (arg4.view.readAt (Elt F) (Rect.unit (s := S8192x128) (k0_off11 i 0#32) S512x128.size (Gen.k0_off11_inb i h2 0)).toLoadRect f4)) (arg7.view.readAt (Elt F) (Rect.unit (s := S1x1024x128) ![0, 0, 0] S1x1024x128.size Gen.inb_S1x1024x128_S1x1024x128_0_0_0).toLoadRect f7) (arg12.view.readAt (Elt F) (Rect.unit (s := S1024x128) ![0, 0] S1024x128.size Gen.inb_S1024x128_S1024x128_0_0).toLoadRect f12)) (arg2.view.readAt (Elt F) (Rect.unit (s := S1x1024x256) ![0, 0, 0] S1x1024x256.size Gen.inb_S1x1024x256_S1x1024x256_0_0_0).toLoadRect f2)))⟩]) = _
    rw [View.read_writes_cons_put _ _ _ _ _ o13_3, View.read_writes_cons_put _ _ _ _ _ o13_2, View.read_writes_cons_put _ _ _ _ _ o13_1, View.read_writes_cons_put _ _ _ _ _ o13_0, View.writes_nil, w13_0, w13_1]
    rw [hq, hg, hl, hd, hqh, hgh, hlh, hdh, hk0, hv0, hk1, hv1, hk2, hv2, hk3, hv3]
    simp only [full, diag0, diag1]
    rw [window_put_k _ (2 * (i 1).val - 2 + 1) (2 * (i 1).val - 2 + 0) (by omega)]
    rfl
  · show arg14.view.read (Elt F) (arg14.view.writes (Elt F) f14 [⟨(Rect.unit (s := S8192x128) (k0_off11 i 3#32) S512x128.size (Gen.k0_off11_inb i h2 3)), stV (dvH (pH (maskH (scH (arg2.view.readAt (Elt F) (Rect.unit (s := S1x1024x256) ![0, 512, 0] S1x512x256.size Gen.inb_S1x1024x256_S1x512x256_0_512_0).toLoadRect f2) (arg3.view.readAt (Elt F) (Rect.unit (s := S1x8192x256) (k0_off10 i 3#32) S1x512x256.size (Gen.k0_off10_inb i h2 3)).toLoadRect f3))) (arg7.view.readAt (Elt F) (Rect.unit (s := S1x1024x128) ![0, 512, 0] S1x512x128.size Gen.inb_S1x1024x128_S1x512x128_0_512_0).toLoadRect f7)) (arg6.view.readAt (Elt F) (Rect.unit (s := S1024x128) ![512, 0] S512x128.size Gen.inb_S1024x128_S512x128_512_0).toLoadRect f6))⟩, ⟨(Rect.unit (s := S8192x128) (k0_off11 i 2#32) S512x128.size (Gen.k0_off11_inb i h2 2)), stV (dvB (pB (maskB (scB (arg2.view.readAt (Elt F) (Rect.unit (s := S1x1024x256) ![0, 0, 0] S1x1024x256.size Gen.inb_S1x1024x256_S1x1024x256_0_0_0).toLoadRect f2) (arg3.view.readAt (Elt F) (Rect.unit (s := S1x8192x256) (k0_off10 i 2#32) S1x512x256.size (Gen.k0_off10_inb i h2 2)).toLoadRect f3))) (arg7.view.readAt (Elt F) (Rect.unit (s := S1x1024x128) ![0, 0, 0] S1x1024x128.size Gen.inb_S1x1024x128_S1x1024x128_0_0_0).toLoadRect f7)) (arg6.view.readAt (Elt F) (Rect.unit (s := S1024x128) ![0, 0] S1024x128.size Gen.inb_S1024x128_S1024x128_0_0).toLoadRect f6))⟩, ⟨(Rect.unit (s := S8192x128) (k0_off11 i 1#32) S512x128.size (Gen.k0_off11_inb i h2 1)), stV (addf (arg14.view.readAt (Elt F) (Rect.unit (s := S8192x128) (k0_off11 i 1#32) S512x128.size (Gen.k0_off11_inb i h2 1)).toLoadRect f14 : FVec F S512x128 .f32) (dvB (pB (scB (arg2.view.readAt (Elt F) (Rect.unit (s := S1x1024x256) ![0, 0, 0] S1x1024x256.size Gen.inb_S1x1024x256_S1x1024x256_0_0_0).toLoadRect f2) (arg3.view.readAt (Elt F) (Rect.unit (s := S1x8192x256) (k0_off10 i 1#32) S1x512x256.size (Gen.k0_off10_inb i h2 1)).toLoadRect f3)) (arg7.view.readAt (Elt F) (Rect.unit (s := S1x1024x128) ![0, 0, 0] S1x1024x128.size Gen.inb_S1x1024x128_S1x1024x128_0_0_0).toLoadRect f7)) (arg6.view.readAt (Elt F) (Rect.unit (s := S1024x128) ![0, 0] S1024x128.size Gen.inb_S1024x128_S1024x128_0_0).toLoadRect f6)))⟩, ⟨(Rect.unit (s := S8192x128) (k0_off11 i 0#32) S512x128.size (Gen.k0_off11_inb i h2 0)), stV (addf (arg14.view.readAt (Elt F) (Rect.unit (s := S8192x128) (k0_off11 i 0#32) S512x128.size (Gen.k0_off11_inb i h2 0)).toLoadRect f14 : FVec F S512x128 .f32) (dvB (pB (scB (arg2.view.readAt (Elt F) (Rect.unit (s := S1x1024x256) ![0, 0, 0] S1x1024x256.size Gen.inb_S1x1024x256_S1x1024x256_0_0_0).toLoadRect f2) (arg3.view.readAt (Elt F) (Rect.unit (s := S1x8192x256) (k0_off10 i 0#32) S1x512x256.size (Gen.k0_off10_inb i h2 0)).toLoadRect f3)) (arg7.view.readAt (Elt F) (Rect.unit (s := S1x1024x128) ![0, 0, 0] S1x1024x128.size Gen.inb_S1x1024x128_S1x1024x128_0_0_0).toLoadRect f7)) (arg6.view.readAt (Elt F) (Rect.unit (s := S1024x128) ![0, 0] S1024x128.size Gen.inb_S1024x128_S1024x128_0_0).toLoadRect f6)))⟩]) = _
    rw [View.read_writes_cons_put _ _ _ _ _ o4_3, View.read_writes_cons_put _ _ _ _ _ o4_2, View.read_writes_cons_put _ _ _ _ _ o4_1, View.read_writes_cons_put _ _ _ _ _ o4_0, View.writes_nil, w14_0, w14_1]
    rw [hq, hg, hl, hqh, hgh, hlh, hk0, hk1, hk2, hk3]
    simp only [full, diag0, diag1]
    rw [window_put_v _ (2 * (i 1).val - 2 + 1) (2 * (i 1).val - 2 + 0) (by omega)]
    rfl

end Cert.KernelIdeal.Attn
-- ==== Proof.Point.lean ====
module

public import proofs.«01_k».proof.Proof.Arm0
public import proofs.«01_k».proof.Proof.Arm1
public import proofs.«01_k».proof.Proof.Arm2
public import Idealize.ShloMosaic.Lib.Updates.Own
public import Idealize.ShloMosaic.Lib.Updates.Loop
public import Idealize.ShloMosaic.Lib.LaneScatter.Fold

/-! One grid point: delta and the cleared query accumulator, the loops, the remainder, and what is written back. -/

@[expose] public section

noncomputable section

namespace Cert.KernelIdeal.Attn

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.LaneScatter (raw raw_owns bind_of_run)
open Idealize.ShloMosaic.Updates

variable {F : FTy → Type} [FloatOps F] [Named F]

local notation "𝕄" => MT nD τ sig Unit (Elt F) ℕ (UR sig nD τ) ℕ

set_option maxRecDepth 16384

/-- A run of a program whose result is not used, put at the head of a longer program. -/
theorem bind_run {c : Dev nD} {α β : Type} {prog : Prog (TpuEff nD τ sig (Elt F) Λ₀ .tc) α} {P Post : sProp 𝕄}
    (h : P ⊢ wp frame (wpE defs₀ Variants.none (c : Thread nD τ) none) Set.univ prog (fun _ => Post))
    (kk : α → Prog (TpuEff nD τ sig (Elt F) Λ₀ .tc) β) (Qk : β → sProp 𝕄) :
    iprop(P ∗ (∀ a, Post -∗ wp frame (wpE defs₀ Variants.none (c : Thread nD τ) none) Set.univ (kk a) Qk)) ⊢
      wp frame (wpE defs₀ Variants.none (c : Thread nD τ) none) Set.univ (prog >>= kk) Qk := by
  rw [wp_bind]
  iintro ⟨HP, HK⟩
  iapply (wp_wand_r frame (wpE defs₀ Variants.none (c : Thread nD τ) none) Set.univ)
  isplitl [HP]
  · iapply h; iexact HP
  · iintro %a HPost
    iapply HK; iexact HPost

/-- A buffer that reads as a value. -/
theorem owns_of_eq {s : Shape} {e : EltTy} (c : Dev nD) (M : Memref sig .tc .vmem s e) {f} {x} :
    (iprop(raw (c : Thread nD τ) M f ∗ ⌜M.view.read (Elt F) f = x⌝) : sProp 𝕄) ⊢ owns (c : Thread nD τ) M fullShare x := by
  iintro ⟨H, %h⟩
  iapply (raw_owns (c : Thread nD τ) M h); iexact H

/-- What a point writes of the queries' gradient. -/
def outQ (s : Acc F) : FVec F S1x1024x256 .bf16 := Gen.k0_pay6 s.dq
/-- What a head's last point writes of the keys' gradient. -/
def outK (s : Acc F) : FVec F S1x8192x256 .bf16 := Gen.k0_pay7 s.dk
/-- What a head's last point writes of the values' gradient. -/
def outV (s : Acc F) : FVec F S1x8192x128 .bf16 := Gen.k0_pay8 s.dv

set_option maxHeartbeats 4000000 in
/-- The start of a point: delta is the row sum of the products of the output with its gradient, and the queries' accumulator is cleared. -/
theorem part41_pt (c : Dev nD) (i : grid0.Coords) (arg2 : Memref sig .tc .vmem S1x1024x256 .bf16) (harg2 : arg2.IsWhole) (arg3 : Memref sig .tc .vmem S1x8192x256 .bf16) (harg3 : arg3.IsWhole) (arg4 : Memref sig .tc .vmem S8192x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1x1024x256 .bf16) (harg8 : arg8.IsWhole) (arg9 : Memref sig .tc .vmem S1x8192x256 .bf16) (harg9 : arg9.IsWhole) (arg10 : Memref sig .tc .vmem S1x8192x128 .bf16) (harg10 : arg10.IsWhole) (arg11 : Memref sig .tc .vmem S1024x256 .f32) (harg11 : arg11.IsWhole) (arg12 : Memref sig .tc .vmem S1024x128 .f32) (harg12 : arg12.IsWhole) (arg13 : Memref sig .tc .vmem S8192x256 .f32) (harg13 : arg13.IsWhole) (arg14 : Memref sig .tc .vmem S8192x128 .f32) (harg14 : arg14.IsWhole) (q : Vec F S1x1024x256 .bf16) (k : Vec F S1x8192x256 .bf16) (v : Vec F S8192x128 .bf16)
    (g : Vec F S1024x128 .bf16) (l : Vec F S1x1024x128 .f32) (o : Vec F S1024x128 .bf16) (x12 : Vec F S1024x128 .f32) (x11 : Vec F S1024x256 .f32)
    (dk : Vec F S8192x256 .f32) (dv : Vec F S8192x128 .f32) :
    iprop(owns (c : Thread nD τ) arg5 fullShare o ∗ Pt c arg2 arg3 arg4 arg6 arg7 arg11 arg12 arg13 arg14 ⟨q, k, v, g, l, x12⟩ ⟨x11, dk, dv⟩) ⊢
      (wp frame (wpE defs₀ Variants.none (c : Thread nD τ) none) Set.univ (k0_part41 (F := F) i arg2 harg2 arg3 harg3 arg4 harg4 arg5 harg5 arg6 harg6 arg7 harg7 arg8 harg8 arg9 harg9 arg10 harg10 arg11 harg11 arg12 harg12 arg13 harg13 arg14 harg14)
        (fun _ => iprop(owns (c : Thread nD τ) arg5 fullShare o ∗ Pt c arg2 arg3 arg4 arg6 arg7 arg11 arg12 arg13 arg14 ⟨q, k, v, g, l, deltaOf g o⟩ ⟨zeroQ, dk, dv⟩)) : sProp 𝕄) := by
  rw [Gen.k0_part41_eq_skeleton]
  unfold Gen.k0_part41_skel Pt
  iintro ⟨H5, H2, H3, H4, H6, H7, H12, H11, H13, H14⟩
  icases (owns_read (c : Thread nD τ) arg5 _) $$ H5 with ⟨%f5, H5, %e5⟩
  icases (owns_read (c : Thread nD τ) arg6 _) $$ H6 with ⟨%f6, H6, %e6⟩
  icases (owns_read (c : Thread nD τ) arg11 _) $$ H11 with ⟨%f11, H11, %e11⟩
  icases (owns_read (c : Thread nD τ) arg12 _) $$ H12 with ⟨%f12, H12, %e12⟩
  sl_exec
  sl_step
  have hg : arg6.view.readAt (Elt F) (Rect.unit (s := S1024x128) ![0, 0] S1024x128.size Gen.inb_S1024x128_S1024x128_0_0).toLoadRect f6 = arg6.view.read (Elt F) f6 := View.readAt_full _ _ _
  have ho : arg5.view.readAt (Elt F) (Rect.unit (s := S1024x128) ![0, 0] S1024x128.size Gen.inb_S1024x128_S1024x128_0_0).toLoadRect f5 = arg5.view.read (Elt F) f5 := View.readAt_full _ _ _
  have e6' : arg6.view.read (Elt F) f6 = g := e6
  isplitl [H5]; iapply (raw_owns (c : Thread nD τ) arg5 e5); iexact H5
  isplitl [H2]; iexact H2
  isplitl [H3]; iexact H3
  isplitl [H4]; iexact H4
  isplitl [H6]; iapply (raw_owns (c : Thread nD τ) arg6 e6); iexact H6
  isplitl [H7]; iexact H7
  isplitl [H12]
  · iapply (owns_of_eq c arg12)
    isplitl [H12]; iexact H12
    ipureintro
    show arg12.view.read (Elt F) (arg12.view.writes (Elt F) f12 (⟨Rect.unit (s := S1024x128) ![0, 0] S1024x128.size Gen.inb_S1024x128_S1024x128_0_0, deltaOf (arg6.view.readAt (Elt F) (Rect.unit (s := S1024x128) ![0, 0] S1024x128.size Gen.inb_S1024x128_S1024x128_0_0).toLoadRect f6) (arg5.view.readAt (Elt F) (Rect.unit (s := S1024x128) ![0, 0] S1024x128.size Gen.inb_S1024x128_S1024x128_0_0).toLoadRect f5)⟩ :: _)) = _
    rw [View.read_writes_full, hg, ho, e6', e5]
  isplitl [H11]
  · iapply (owns_of_eq c arg11)
    isplitl [H11]; iexact H11
    ipureintro
    show arg11.view.read (Elt F) (arg11.view.writes (Elt F) f11 (⟨(Rect.unit (s := S1024x256) ![0, 0] S1024x256.size Gen.inb_S1024x256_S1024x256_0_0), zeroQ⟩ :: _)) = _
    rw [View.read_writes_full]
  isplitl [H13]; iexact H13
  iexact H14

/-- The middle of a point outside the third remainder: every key block up to the diagonal is gone through. -/
theorem part42_pt (c : Dev nD) (i : grid0.Coords) (h3 : ¬ k0_cond3 i = 1#1) (arg2 : Memref sig .tc .vmem S1x1024x256 .bf16) (harg2 : arg2.IsWhole) (arg3 : Memref sig .tc .vmem S1x8192x256 .bf16) (harg3 : arg3.IsWhole) (arg4 : Memref sig .tc .vmem S8192x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1x1024x256 .bf16) (harg8 : arg8.IsWhole) (arg9 : Memref sig .tc .vmem S1x8192x256 .bf16) (harg9 : arg9.IsWhole) (arg10 : Memref sig .tc .vmem S1x8192x128 .bf16) (harg10 : arg10.IsWhole) (arg11 : Memref sig .tc .vmem S1024x256 .f32) (harg11 : arg11.IsWhole) (arg12 : Memref sig .tc .vmem S1024x128 .f32) (harg12 : arg12.IsWhole) (arg13 : Memref sig .tc .vmem S8192x256 .f32) (harg13 : arg13.IsWhole) (arg14 : Memref sig .tc .vmem S8192x128 .f32) (harg14 : arg14.IsWhole) (v18 v35 c0 : BitVec 32) (X : Inp F) (s : Acc F) :
    Pt c arg2 arg3 arg4 arg6 arg7 arg11 arg12 arg13 arg14 X s ⊢ wp frame (wpE defs₀ Variants.none (c : Thread nD τ) none) Set.univ (k0_part42 (F := F) i arg2 harg2 arg3 harg3 arg4 harg4 arg5 harg5 arg6 harg6 arg7 harg7 arg8 harg8 arg9 harg9 arg10 harg10 arg11 harg11 arg12 harg12 arg13 harg13 arg14 harg14 v18 v35 c0)
        (fun _ => Pt c arg2 arg3 arg4 arg6 arg7 arg11 arg12 arg13 arg14 X (pointAcc X (i 1).val s)) := by
  rcases cond_some i with h1 | h2 | h
  · have T := part42_1 (F := F) c i h1 (cond1_trips i h1).1 arg2 harg2 arg3 harg3 arg4 harg4 arg5 harg5 arg6 harg6 arg7 harg7 arg8 harg8 arg9 harg9 arg10 harg10 arg11 harg11 arg12 harg12 arg13 harg13 arg14 harg14 v18 v35 c0 X s
    rw [(cond1_trips i h1).2.2.2] at T
    exact T
  · have T := part42_2 (F := F) c i (cond2_trips i h2).1 h2 arg2 harg2 arg3 harg3 arg4 harg4 arg5 harg5 arg6 harg6 arg7 harg7 arg8 harg8 arg9 harg9 arg10 harg10 arg11 harg11 arg12 harg12 arg13 harg13 arg14 harg14 v18 v35 c0 X s
    obtain ⟨_, _, hle, ht⟩ := cond2_trips i h2
    rw [ht] at T
    unfold pointAcc
    obtain ⟨m, hm⟩ : ∃ m, 2 * (i 1).val = m + 2 := ⟨2 * (i 1).val - 2, by omega⟩
    rw [hm] at T ⊢
    exact T
  · exact absurd h h3

set_option maxHeartbeats 4000000 in
/-- A point outside the third remainder, not the last of its head. -/
theorem cc0_mid (c : Dev nD) (i : grid0.Coords) (h3 : ¬ k0_cond3 i = 1#1) (h4 : ¬ k0_cond4 i = 1#1) (arg2 : Memref sig .tc .vmem S1x1024x256 .bf16) (harg2 : arg2.IsWhole) (arg3 : Memref sig .tc .vmem S1x8192x256 .bf16) (harg3 : arg3.IsWhole) (arg4 : Memref sig .tc .vmem S8192x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1x1024x256 .bf16) (harg8 : arg8.IsWhole) (arg9 : Memref sig .tc .vmem S1x8192x256 .bf16) (harg9 : arg9.IsWhole) (arg10 : Memref sig .tc .vmem S1x8192x128 .bf16) (harg10 : arg10.IsWhole) (arg11 : Memref sig .tc .vmem S1024x256 .f32) (harg11 : arg11.IsWhole) (arg12 : Memref sig .tc .vmem S1024x128 .f32) (harg12 : arg12.IsWhole) (arg13 : Memref sig .tc .vmem S8192x256 .f32) (harg13 : arg13.IsWhole) (arg14 : Memref sig .tc .vmem S8192x128 .f32) (harg14 : arg14.IsWhole) (q : Vec F S1x1024x256 .bf16) (k : Vec F S1x8192x256 .bf16) (v : Vec F S8192x128 .bf16)
    (g : Vec F S1024x128 .bf16) (l : Vec F S1x1024x128 .f32) (o : Vec F S1024x128 .bf16) (x12 : Vec F S1024x128 .f32) (x11 : Vec F S1024x256 .f32)
    (dk : Vec F S8192x256 .f32) (dv : Vec F S8192x128 .f32) (x8 : Vec F S1x1024x256 .bf16) (x9 : Vec F S1x8192x256 .bf16) (x10 : Vec F S1x8192x128 .bf16)
    (X : Inp F) (hX : X = ⟨q, k, v, g, l, deltaOf g o⟩) (S : Acc F) (hS : S = pointAcc X (i 1).val ⟨zeroQ, dk, dv⟩) :
    iprop(owns (c : Thread nD τ) arg8 fullShare x8 ∗ owns (c : Thread nD τ) arg9 fullShare x9 ∗ owns (c : Thread nD τ) arg10 fullShare x10
        ∗ owns (c : Thread nD τ) arg5 fullShare o ∗ Pt c arg2 arg3 arg4 arg6 arg7 arg11 arg12 arg13 arg14 ⟨q, k, v, g, l, x12⟩ ⟨x11, dk, dv⟩) ⊢
      (wp frame (wpE defs₀ Variants.none (c : Thread nD τ) none) Set.univ (cc0_attn_bwd (F := F) i arg2 harg2 arg3 harg3 arg4 harg4 arg5 harg5 arg6 harg6 arg7 harg7 arg8 harg8 arg9 harg9 arg10 harg10 arg11 harg11 arg12 harg12 arg13 harg13 arg14 harg14)
        (fun _ => iprop(owns (c : Thread nD τ) arg8 fullShare (outQ S) ∗ owns (c : Thread nD τ) arg9 fullShare x9 ∗ owns (c : Thread nD τ) arg10 fullShare x10
          ∗ owns (c : Thread nD τ) arg5 fullShare o ∗ Pt c arg2 arg3 arg4 arg6 arg7 arg11 arg12 arg13 arg14 X S)) : sProp 𝕄) := by
  rw [Gen.cc0_attn_bwd_eq_skeleton]
  unfold Gen.cc0_attn_bwd_skel
  iintro ⟨H8, H9, H10, H⟩
  iapply (bind_run (part41_pt (F := F) c i arg2 harg2 arg3 harg3 arg4 harg4 arg5 harg5 arg6 harg6 arg7 harg7 arg8 harg8 arg9 harg9 arg10 harg10 arg11 harg11 arg12 harg12 arg13 harg13 arg14 harg14 q k v g l o x12 x11 dk dv) _ _)
  isplitl [H]; iexact H
  iintro %r ⟨H5, H⟩
  obtain ⟨r1, r2, r3, r4⟩ := r
  dsimp only
  iapply (bind_run (part42_pt (F := F) c i h3 arg2 harg2 arg3 harg3 arg4 harg4 arg5 harg5 arg6 harg6 arg7 harg7 arg8 harg8 arg9 harg9 arg10 harg10 arg11 harg11 arg12 harg12 arg13 harg13 arg14 harg14 _ _ _ _ _) _ _)
  isplitl [H]; iexact H
  unfold Pt
  iintro %r ⟨H2, H3, H4, H6, H7, H12, H11, H13, H14⟩
  obtain ⟨r5, r6⟩ := r
  dsimp only
  icases (owns_read (c : Thread nD τ) arg11 _) $$ H11 with ⟨%f11, H11, %e11⟩
  icases (owns_read (c : Thread nD τ) arg8 _) $$ H8 with ⟨%f8, H8, %e8⟩
  sl_exec
  sl_step
  have e : X = ⟨q, k, v, g, l, deltaOf g o⟩ := hX
  subst hX hS
  isplitl [H8]
  · iapply (owns_of_eq c arg8)
    isplitl [H8]; iexact H8
    ipureintro
    show arg8.view.read (Elt F) (arg8.view.writes (Elt F) f8 (⟨(Rect.unit (s := S1x1024x256) ![0, 0, 0] S1x1024x256.size Gen.inb_S1x1024x256_S1x1024x256_0_0_0), Gen.k0_pay6 (arg11.view.readAt (Elt F) (Rect.unit (s := S1024x256) ![0, 0] S1024x256.size Gen.inb_S1024x256_S1024x256_0_0).toLoadRect f11)⟩ :: _)) = _
    rw [View.read_writes_full, View.readAt_full arg11.view, e11]
    rfl
  isplitl [H9]; iexact H9
  isplitl [H10]; iexact H10
  isplitl [H5]; iexact H5
  isplitl [H2]; iexact H2
  isplitl [H3]; iexact H3
  isplitl [H4]; iexact H4
  isplitl [H6]; iexact H6
  isplitl [H7]; iexact H7
  isplitl [H12]; iexact H12
  isplitl [H11]; iapply (raw_owns (c : Thread nD τ) arg11 e11); iexact H11
  isplitl [H13]; iexact H13
  iexact H14

set_option maxHeartbeats 4000000 in
/-- A point outside the third remainder, the last of its head. -/
theorem cc0_last (c : Dev nD) (i : grid0.Coords) (h3 : ¬ k0_cond3 i = 1#1) (h4 : k0_cond4 i = 1#1) (arg2 : Memref sig .tc .vmem S1x1024x256 .bf16) (harg2 : arg2.IsWhole) (arg3 : Memref sig .tc .vmem S1x8192x256 .bf16) (harg3 : arg3.IsWhole) (arg4 : Memref sig .tc .vmem S8192x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1x1024x256 .bf16) (harg8 : arg8.IsWhole) (arg9 : Memref sig .tc .vmem S1x8192x256 .bf16) (harg9 : arg9.IsWhole) (arg10 : Memref sig .tc .vmem S1x8192x128 .bf16) (harg10 : arg10.IsWhole) (arg11 : Memref sig .tc .vmem S1024x256 .f32) (harg11 : arg11.IsWhole) (arg12 : Memref sig .tc .vmem S1024x128 .f32) (harg12 : arg12.IsWhole) (arg13 : Memref sig .tc .vmem S8192x256 .f32) (harg13 : arg13.IsWhole) (arg14 : Memref sig .tc .vmem S8192x128 .f32) (harg14 : arg14.IsWhole) (q : Vec F S1x1024x256 .bf16) (k : Vec F S1x8192x256 .bf16) (v : Vec F S8192x128 .bf16)
    (g : Vec F S1024x128 .bf16) (l : Vec F S1x1024x128 .f32) (o : Vec F S1024x128 .bf16) (x12 : Vec F S1024x128 .f32) (x11 : Vec F S1024x256 .f32)
    (dk : Vec F S8192x256 .f32) (dv : Vec F S8192x128 .f32) (x8 : Vec F S1x1024x256 .bf16) (x9 : Vec F S1x8192x256 .bf16) (x10 : Vec F S1x8192x128 .bf16)
    (X : Inp F) (hX : X = ⟨q, k, v, g, l, deltaOf g o⟩) (S : Acc F) (hS : S = pointAcc X (i 1).val ⟨zeroQ, dk, dv⟩) :
    iprop(owns (c : Thread nD τ) arg8 fullShare x8 ∗ owns (c : Thread nD τ) arg9 fullShare x9 ∗ owns (c : Thread nD τ) arg10 fullShare x10
        ∗ owns (c : Thread nD τ) arg5 fullShare o ∗ Pt c arg2 arg3 arg4 arg6 arg7 arg11 arg12 arg13 arg14 ⟨q, k, v, g, l, x12⟩ ⟨x11, dk, dv⟩) ⊢
      (wp frame (wpE defs₀ Variants.none (c : Thread nD τ) none) Set.univ (cc0_attn_bwd (F := F) i arg2 harg2 arg3 harg3 arg4 harg4 arg5 harg5 arg6 harg6 arg7 harg7 arg8 harg8 arg9 harg9 arg10 harg10 arg11 harg11 arg12 harg12 arg13 harg13 arg14 harg14)
        (fun _ => iprop(owns (c : Thread nD τ) arg8 fullShare (outQ S) ∗ owns (c : Thread nD τ) arg9 fullShare (outK S) ∗ owns (c : Thread nD τ) arg10 fullShare (outV S)
          ∗ owns (c : Thread nD τ) arg5 fullShare o ∗ Pt c arg2 arg3 arg4 arg6 arg7 arg11 arg12 arg13 arg14 X S)) : sProp 𝕄) := by
  rw [Gen.cc0_attn_bwd_eq_skeleton]
  unfold Gen.cc0_attn_bwd_skel
  iintro ⟨H8, H9, H10, H⟩
  iapply (bind_run (part41_pt (F := F) c i arg2 harg2 arg3 harg3 arg4 harg4 arg5 harg5 arg6 harg6 arg7 harg7 arg8 harg8 arg9 harg9 arg10 harg10 arg11 harg11 arg12 harg12 arg13 harg13 arg14 harg14 q k v g l o x12 x11 dk dv) _ _)
  isplitl [H]; iexact H
  iintro %r ⟨H5, H⟩
  obtain ⟨r1, r2, r3, r4⟩ := r
  dsimp only
  iapply (bind_run (part42_pt (F := F) c i h3 arg2 harg2 arg3 harg3 arg4 harg4 arg5 harg5 arg6 harg6 arg7 harg7 arg8 harg8 arg9 harg9 arg10 harg10 arg11 harg11 arg12 harg12 arg13 harg13 arg14 harg14 _ _ _ _ _) _ _)
  isplitl [H]; iexact H
  unfold Pt
  iintro %r ⟨H2, H3, H4, H6, H7, H12, H11, H13, H14⟩
  obtain ⟨r5, r6⟩ := r
  dsimp only
  icases (owns_read (c : Thread nD τ) arg11 _) $$ H11 with ⟨%f11, H11, %e11⟩
  icases (owns_read (c : Thread nD τ) arg8 _) $$ H8 with ⟨%f8, H8, %e8⟩
  icases (owns_read (c : Thread nD τ) arg13 _) $$ H13 with ⟨%f13, H13, %e13⟩
  icases (owns_read (c : Thread nD τ) arg14 _) $$ H14 with ⟨%f14, H14, %e14⟩
  icases (owns_read (c : Thread nD τ) arg9 _) $$ H9 with ⟨%f9, H9, %e9⟩
  icases (owns_read (c : Thread nD τ) arg10 _) $$ H10 with ⟨%f10, H10, %e10⟩
  sl_exec
  sl_step
  have e : X = ⟨q, k, v, g, l, deltaOf g o⟩ := hX
  subst hX hS
  isplitl [H8]
  · iapply (owns_of_eq c arg8)
    isplitl [H8]; iexact H8
    ipureintro
    show arg8.view.read (Elt F) (arg8.view.writes (Elt F) f8 (⟨(Rect.unit (s := S1x1024x256) ![0, 0, 0] S1x1024x256.size Gen.inb_S1x1024x256_S1x1024x256_0_0_0), Gen.k0_pay6 (arg11.view.readAt (Elt F) (Rect.unit (s := S1024x256) ![0, 0] S1024x256.size Gen.inb_S1024x256_S1024x256_0_0).toLoadRect f11)⟩ :: _)) = _
    rw [View.read_writes_full, View.readAt_full arg11.view, e11]
    rfl
  isplitl [H9]
  · iapply (owns_of_eq c arg9)
    isplitl [H9]; iexact H9
    ipureintro
    show arg9.view.read (Elt F) (arg9.view.writes (Elt F) f9 (⟨(Rect.unit (s := S1x8192x256) ![0, 0, 0] S1x8192x256.size Gen.inb_S1x8192x256_S1x8192x256_0_0_0), Gen.k0_pay7 (arg13.view.readAt (Elt F) (Rect.unit (s := S8192x256) ![0, 0] S8192x256.size Gen.inb_S8192x256_S8192x256_0_0).toLoadRect f13)⟩ :: _)) = _
    rw [View.read_writes_full, View.readAt_full arg13.view, e13]
    rfl
  isplitl [H10]
  · iapply (owns_of_eq c arg10)
    isplitl [H10]; iexact H10
    ipureintro
    show arg10.view.read (Elt F) (arg10.view.writes (Elt F) f10 (⟨(Rect.unit (s := S1x8192x128) ![0, 0, 0] S1x8192x128.size Gen.inb_S1x8192x128_S1x8192x128_0_0_0), Gen.k0_pay8 (arg14.view.readAt (Elt F) (Rect.unit (s := S8192x128) ![0, 0] S8192x128.size Gen.inb_S8192x128_S8192x128_0_0).toLoadRect f14)⟩ :: _)) = _
    rw [View.read_writes_full, View.readAt_full arg14.view, e14]
    rfl
  isplitl [H5]; iexact H5
  isplitl [H2]; iexact H2
  isplitl [H3]; iexact H3
  isplitl [H4]; iexact H4
  isplitl [H6]; iexact H6
  isplitl [H7]; iexact H7
  isplitl [H12]; iexact H12
  isplitl [H11]; iapply (raw_owns (c : Thread nD τ) arg11 e11); iexact H11
  isplitl [H13]; iapply (raw_owns (c : Thread nD τ) arg13 e13); iexact H13
  iapply (raw_owns (c : Thread nD τ) arg14 e14); iexact H14

end Cert.KernelIdeal.Attn
-- ==== Proof.Arm3.lean ====
module

public import proofs.«01_k».proof.Proof.Point
public import Idealize.ShloMosaic.Lib.Updates.Own
public import Idealize.ShloMosaic.Lib.Updates.Loop
public import Idealize.ShloMosaic.Lib.LaneScatter.Fold

/-! A grid point in the third remainder: four full key blocks are left over. -/

@[expose] public section

noncomputable section

namespace Cert.KernelIdeal.Attn

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.LaneScatter (raw raw_owns bind_of_run)
open Idealize.ShloMosaic.Updates

variable {F : FTy → Type} [FloatOps F] [Named F]

local notation "𝕄" => MT nD τ sig Unit (Elt F) ℕ (UR sig nD τ) ℕ

set_option maxRecDepth 16384

/-- What the buffer reads as after a store of the whole and a store of its lower half. -/
theorem readCov_half (v : View sig .tc .vmem S1024x256 .f32) (inb : ∀ a, (![512, 0] : Fin 2 → ℕ) a + S512x256.size a ≤ S1024x256.size a)
    (inb' inb'' : ∀ a, (![0, 0] : Fin 2 → ℕ) a + S1024x256.size a ≤ S1024x256.size a) (w : Vec F S1024x256 .f32) (wh : Vec F S512x256 .f32) (L : List (View.Piece (Elt F) S1024x256 .f32)) :
    v.readCov (⟨Rect.unit (s := S1024x256) ![512, 0] S512x256.size inb, wh⟩ :: ⟨Rect.unit (s := S1024x256) ![0, 0] S1024x256.size inb', w⟩ :: L)
        (Rect.unit (s := S1024x256) ![0, 0] S1024x256.size inb'').toLoadRect = VecWindow.put w ![512, 0] S512x256.size wh := by
  refine (View.readAt_full v (v.writes (Elt F) v.junk _) inb'').trans ?_
  rw [View.read_writes_cons_put _ _ _ _ _ rfl, View.read_writes_full]

set_option maxHeartbeats 16000000 in
/-- A point in the third remainder. -/
theorem cc0_rem (c : Dev nD) (i : grid0.Coords) (h3 : k0_cond3 i = 1#1) (arg2 : Memref sig .tc .vmem S1x1024x256 .bf16) (harg2 : arg2.IsWhole) (arg3 : Memref sig .tc .vmem S1x8192x256 .bf16) (harg3 : arg3.IsWhole) (arg4 : Memref sig .tc .vmem S8192x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1x1024x256 .bf16) (harg8 : arg8.IsWhole) (arg9 : Memref sig .tc .vmem S1x8192x256 .bf16) (harg9 : arg9.IsWhole) (arg10 : Memref sig .tc .vmem S1x8192x128 .bf16) (harg10 : arg10.IsWhole) (arg11 : Memref sig .tc .vmem S1024x256 .f32) (harg11 : arg11.IsWhole) (arg12 : Memref sig .tc .vmem S1024x128 .f32) (harg12 : arg12.IsWhole) (arg13 : Memref sig .tc .vmem S8192x256 .f32) (harg13 : arg13.IsWhole) (arg14 : Memref sig .tc .vmem S8192x128 .f32) (harg14 : arg14.IsWhole) (q : Vec F S1x1024x256 .bf16) (k : Vec F S1x8192x256 .bf16) (v : Vec F S8192x128 .bf16)
    (g : Vec F S1024x128 .bf16) (l : Vec F S1x1024x128 .f32) (o : Vec F S1024x128 .bf16) (x12 : Vec F S1024x128 .f32) (x11 : Vec F S1024x256 .f32)
    (dk : Vec F S8192x256 .f32) (dv : Vec F S8192x128 .f32) (x8 : Vec F S1x1024x256 .bf16) (x9 : Vec F S1x8192x256 .bf16) (x10 : Vec F S1x8192x128 .bf16)
    (X : Inp F) (hX : X = ⟨q, k, v, g, l, deltaOf g o⟩) (S : Acc F) (hS : S = pointAcc X (i 1).val ⟨zeroQ, dk, dv⟩) :
    iprop(owns (c : Thread nD τ) arg8 fullShare x8 ∗ owns (c : Thread nD τ) arg9 fullShare x9 ∗ owns (c : Thread nD τ) arg10 fullShare x10
        ∗ owns (c : Thread nD τ) arg5 fullShare o ∗ Pt c arg2 arg3 arg4 arg6 arg7 arg11 arg12 arg13 arg14 ⟨q, k, v, g, l, x12⟩ ⟨x11, dk, dv⟩) ⊢
      (wp frame (wpE defs₀ Variants.none (c : Thread nD τ) none) Set.univ (cc0_attn_bwd (F := F) i arg2 harg2 arg3 harg3 arg4 harg4 arg5 harg5 arg6 harg6 arg7 harg7 arg8 harg8 arg9 harg9 arg10 harg10 arg11 harg11 arg12 harg12 arg13 harg13 arg14 harg14)
        (fun _ => iprop(owns (c : Thread nD τ) arg8 fullShare (outQ S) ∗ owns (c : Thread nD τ) arg9 fullShare x9 ∗ owns (c : Thread nD τ) arg10 fullShare x10
          ∗ owns (c : Thread nD τ) arg5 fullShare o ∗ Pt c arg2 arg3 arg4 arg6 arg7 arg11 arg12 arg13 arg14 X S)) : sProp 𝕄) := by
  rw [Gen.cc0_attn_bwd_eq_skeleton]
  unfold Gen.cc0_attn_bwd_skel
  iintro ⟨H8, H9, H10, H⟩
  iapply (bind_run (part41_pt (F := F) c i arg2 harg2 arg3 harg3 arg4 harg4 arg5 harg5 arg6 harg6 arg7 harg7 arg8 harg8 arg9 harg9 arg10 harg10 arg11 harg11 arg12 harg12 arg13 harg13 arg14 harg14 q k v g l o x12 x11 dk dv) _ _)
  isplitl [H]; iexact H
  iintro %r ⟨H5, H⟩
  obtain ⟨r1, r2, r3, r4⟩ := r
  dsimp only
  rw [← hX]
  iapply (bind_run (part42_0 (F := F) c i (cond3_trips i h3).1 (cond3_trips i h3).2.1 arg2 harg2 arg3 harg3 arg4 harg4 arg5 harg5 arg6 harg6 arg7 harg7 arg8 harg8 arg9 harg9 arg10 harg10 arg11 harg11 arg12 harg12 arg13 harg13 arg14 harg14 _ _ _ _ _) _ _)
  isplitl [H]; iexact H
  unfold Pt
  iintro %r ⟨H2, H3, H4, H6, H7, H12, H11, H13, H14⟩
  obtain ⟨r5, r6⟩ := r
  dsimp only
  generalize hs0 : fulls (F := F) _ (6 * (k0_t1_loop i).trips) _ = s0
  icases (owns_read (c : Thread nD τ) arg2 _) $$ H2 with ⟨%f2, H2, %e2⟩
  icases (owns_read (c : Thread nD τ) arg3 _) $$ H3 with ⟨%f3, H3, %e3⟩
  icases (owns_read (c : Thread nD τ) arg4 _) $$ H4 with ⟨%f4, H4, %e4⟩
  icases (owns_read (c : Thread nD τ) arg6 _) $$ H6 with ⟨%f6, H6, %e6⟩
  icases (owns_read (c : Thread nD τ) arg7 _) $$ H7 with ⟨%f7, H7, %e7⟩
  icases (owns_read (c : Thread nD τ) arg12 _) $$ H12 with ⟨%f12, H12, %e12⟩
  icases (owns_read (c : Thread nD τ) arg11 _) $$ H11 with ⟨%f11, H11, %e11⟩
  icases (owns_read (c : Thread nD τ) arg13 _) $$ H13 with ⟨%f13, H13, %e13⟩
  icases (owns_read (c : Thread nD τ) arg14 _) $$ H14 with ⟨%f14, H14, %e14⟩
  icases (owns_read (c : Thread nD τ) arg8 _) $$ H8 with ⟨%f8, H8, %e8⟩
  haveI : Fact (k0_cond3 i = 1#1) := ⟨h3⟩
  have h4 := (cond3_trips i h3).2.2.1
  have hS' : S = diag1 X (2 * (i 1).val - 4 + 5) (diag0 X (2 * (i 1).val - 4 + 4) (full X (2 * (i 1).val - 4 + 3) (full X (2 * (i 1).val - 4 + 2) (full X (2 * (i 1).val - 4 + 1) (full X (2 * (i 1).val - 4 + 0) s0))))) := by
    rw [hS, ← hs0]
    obtain ⟨_, _, _, hle, ht⟩ := cond3_trips i h3
    rw [ht]
    unfold pointAcc
    obtain ⟨m, hm⟩ : ∃ m, 2 * (i 1).val = m + 4 := ⟨2 * (i 1).val - 4, by omega⟩
    rw [hm]
    rfl
  clear hs0 hS hX
  sl_exec
  sl_step
  have hX' : (⟨arg2.view.read (Elt F) f2, arg3.view.read (Elt F) f3, arg4.view.read (Elt F) f4, arg6.view.read (Elt F) f6, arg7.view.read (Elt F) f7, arg12.view.read (Elt F) f12⟩ : Inp F) = X := by
    obtain ⟨q, kk, v, g, l, dl⟩ := X; subst e2; subst e3; subst e4; subst e6; subst e7; subst e12; rfl
  have hs : (⟨arg11.view.read (Elt F) f11, arg13.view.read (Elt F) f13, arg14.view.read (Elt F) f14⟩ : Acc F) = s0 := by
    obtain ⟨x, y, z⟩ := s0; subst e11; subst e13; subst e14; rfl
  clear e11 e13 e14
  subst hs
  have hi := i1_lt i
  have hq : arg2.view.readAt (Elt F) (Rect.unit (s := S1x1024x256) ![0, 0, 0] S1x1024x256.size Gen.inb_S1x1024x256_S1x1024x256_0_0_0).toLoadRect f2 = arg2.view.read (Elt F) f2 := View.readAt_full _ _ _
  have hg : arg6.view.readAt (Elt F) (Rect.unit (s := S1024x128) ![0, 0] S1024x128.size Gen.inb_S1024x128_S1024x128_0_0).toLoadRect f6 = arg6.view.read (Elt F) f6 := View.readAt_full _ _ _
  have hl : arg7.view.readAt (Elt F) (Rect.unit (s := S1x1024x128) ![0, 0, 0] S1x1024x128.size Gen.inb_S1x1024x128_S1x1024x128_0_0_0).toLoadRect f7 = arg7.view.read (Elt F) f7 := View.readAt_full _ _ _
  have hd : arg12.view.readAt (Elt F) (Rect.unit (s := S1024x128) ![0, 0] S1024x128.size Gen.inb_S1024x128_S1024x128_0_0).toLoadRect f12 = arg12.view.read (Elt F) f12 := View.readAt_full _ _ _
  have hqh : arg2.view.readAt (Elt F) (Rect.unit (s := S1x1024x256) ![0, 512, 0] S1x512x256.size Gen.inb_S1x1024x256_S1x512x256_0_512_0).toLoadRect f2 = VecWindow.window (arg2.view.read (Elt F) f2) ![0, 512, 0] S1x512x256.size Gen.inb_S1x1024x256_S1x512x256_0_512_0 := View.readAt_unit _ _ _ rfl _
  have hgh : arg6.view.readAt (Elt F) (Rect.unit (s := S1024x128) ![512, 0] S512x128.size Gen.inb_S1024x128_S512x128_512_0).toLoadRect f6 = VecWindow.window (arg6.view.read (Elt F) f6) ![512, 0] S512x128.size Gen.inb_S1024x128_S512x128_512_0 := View.readAt_unit _ _ _ rfl _
  have hlh : arg7.view.readAt (Elt F) (Rect.unit (s := S1x1024x128) ![0, 512, 0] S1x512x128.size Gen.inb_S1x1024x128_S1x512x128_0_512_0).toLoadRect f7 = VecWindow.window (arg7.view.read (Elt F) f7) ![0, 512, 0] S1x512x128.size Gen.inb_S1x1024x128_S1x512x128_0_512_0 := View.readAt_unit _ _ _ rfl _
  have hdh : arg12.view.readAt (Elt F) (Rect.unit (s := S1024x128) ![512, 0] S512x128.size Gen.inb_S1024x128_S512x128_512_0).toLoadRect f12 = VecWindow.window (arg12.view.read (Elt F) f12) ![512, 0] S512x128.size Gen.inb_S1024x128_S512x128_512_0 := View.readAt_unit _ _ _ rfl _
  have o3_0 : k0_off13 i 0#32 = at3 (2 * (i 1).val - 4 + 0) := off13_eq i h3 0
  have o4_0 : k0_off14 i 0#32 = at2 (2 * (i 1).val - 4 + 0) := off14_eq i h3 0
  have o13_0 : k0_off15 i 0#32 = at2 (2 * (i 1).val - 4 + 0) := off15_eq i h3 0
  have hk0 : (arg3.view.readAt (Elt F) (Rect.unit (s := S1x8192x256) (k0_off13 i 0#32) S1x512x256.size (Gen.k0_off13_inb i h3 0)).toLoadRect f3) = VecWindow.window (arg3.view.read (Elt F) f3) (at3 (2 * (i 1).val - 4 + 0)) S1x512x256.size (at3_k _) := View.readAt_unit _ _ _ o3_0 _
  have hv0 : (arg4.view.readAt (Elt F) (Rect.unit (s := S8192x128) (k0_off14 i 0#32) S512x128.size (Gen.k0_off14_inb i h3 0)).toLoadRect f4) = VecWindow.window (arg4.view.read (Elt F) f4) (at2 (2 * (i 1).val - 4 + 0)) S512x128.size (at2_v _) := View.readAt_unit _ _ _ o4_0 _
  have w13_0 : arg13.view.readAt (Elt F) (Rect.unit (s := S8192x256) (k0_off15 i 0#32) S512x256.size (Gen.k0_off15_inb i h3 0)).toLoadRect f13 = VecWindow.window (arg13.view.read (Elt F) f13) (at2 (2 * (i 1).val - 4 + 0)) S512x256.size (at2_k _) := View.readAt_unit _ _ _ o13_0 _
  have w14_0 : arg14.view.readAt (Elt F) (Rect.unit (s := S8192x128) (k0_off14 i 0#32) S512x128.size (Gen.k0_off14_inb i h3 0)).toLoadRect f14 = VecWindow.window (arg14.view.read (Elt F) f14) (at2 (2 * (i 1).val - 4 + 0)) S512x128.size (at2_v _) := View.readAt_unit _ _ _ o4_0 _
  have o3_1 : k0_off13 i 1#32 = at3 (2 * (i 1).val - 4 + 1) := off13_eq i h3 1
  have o4_1 : k0_off14 i 1#32 = at2 (2 * (i 1).val - 4 + 1) := off14_eq i h3 1
  have o13_1 : k0_off15 i 1#32 = at2 (2 * (i 1).val - 4 + 1) := off15_eq i h3 1
  have hk1 : (arg3.view.readAt (Elt F) (Rect.unit (s := S1x8192x256) (k0_off13 i 1#32) S1x512x256.size (Gen.k0_off13_inb i h3 1)).toLoadRect f3) = VecWindow.window (arg3.view.read (Elt F) f3) (at3 (2 * (i 1).val - 4 + 1)) S1x512x256.size (at3_k _) := View.readAt_unit _ _ _ o3_1 _
  have hv1 : (arg4.view.readAt (Elt F) (Rect.unit (s := S8192x128) (k0_off14 i 1#32) S512x128.size (Gen.k0_off14_inb i h3 1)).toLoadRect f4) = VecWindow.window (arg4.view.read (Elt F) f4) (at2 (2 * (i 1).val - 4 + 1)) S512x128.size (at2_v _) := View.readAt_unit _ _ _ o4_1 _
  have w13_1 : arg13.view.readAt (Elt F) (Rect.unit (s := S8192x256) (k0_off15 i 1#32) S512x256.size (Gen.k0_off15_inb i h3 1)).toLoadRect f13 = VecWindow.window (arg13.view.read (Elt F) f13) (at2 (2 * (i 1).val - 4 + 1)) S512x256.size (at2_k _) := View.readAt_unit _ _ _ o13_1 _
  have w14_1 : arg14.view.readAt (Elt F) (Rect.unit (s := S8192x128) (k0_off14 i 1#32) S512x128.size (Gen.k0_off14_inb i h3 1)).toLoadRect f14 = VecWindow.window (arg14.view.read (Elt F) f14) (at2 (2 * (i 1).val - 4 + 1)) S512x128.size (at2_v _) := View.readAt_unit _ _ _ o4_1 _
  have o3_2 : k0_off13 i 2#32 = at3 (2 * (i 1).val - 4 + 2) := off13_eq i h3 2
  have o4_2 : k0_off14 i 2#32 = at2 (2 * (i 1).val - 4 + 2) := off14_eq i h3 2
  have o13_2 : k0_off15 i 2#32 = at2 (2 * (i 1).val - 4 + 2) := off15_eq i h3 2
  have hk2 : (arg3.view.readAt (Elt F) (Rect.unit (s := S1x8192x256) (k0_off13 i 2#32) S1x512x256.size (Gen.k0_off13_inb i h3 2)).toLoadRect f3) = VecWindow.window (arg3.view.read (Elt F) f3) (at3 (2 * (i 1).val - 4 + 2)) S1x512x256.size (at3_k _) := View.readAt_unit _ _ _ o3_2 _
  have hv2 : (arg4.view.readAt (Elt F) (Rect.unit (s := S8192x128) (k0_off14 i 2#32) S512x128.size (Gen.k0_off14_inb i h3 2)).toLoadRect f4) = VecWindow.window (arg4.view.read (Elt F) f4) (at2 (2 * (i 1).val - 4 + 2)) S512x128.size (at2_v _) := View.readAt_unit _ _ _ o4_2 _
  have w13_2 : arg13.view.readAt (Elt F) (Rect.unit (s := S8192x256) (k0_off15 i 2#32) S512x256.size (Gen.k0_off15_inb i h3 2)).toLoadRect f13 = VecWindow.window (arg13.view.read (Elt F) f13) (at2 (2 * (i 1).val - 4 + 2)) S512x256.size (at2_k _) := View.readAt_unit _ _ _ o13_2 _
  have w14_2 : arg14.view.readAt (Elt F) (Rect.unit (s := S8192x128) (k0_off14 i 2#32) S512x128.size (Gen.k0_off14_inb i h3 2)).toLoadRect f14 = VecWindow.window (arg14.view.read (Elt F) f14) (at2 (2 * (i 1).val - 4 + 2)) S512x128.size (at2_v _) := View.readAt_unit _ _ _ o4_2 _
  have o3_3 : k0_off13 i 3#32 = at3 (2 * (i 1).val - 4 + 3) := off13_eq i h3 3
  have o4_3 : k0_off14 i 3#32 = at2 (2 * (i 1).val - 4 + 3) := off14_eq i h3 3
  have o13_3 : k0_off15 i 3#32 = at2 (2 * (i 1).val - 4 + 3) := off15_eq i h3 3
  have hk3 : (arg3.view.readAt (Elt F) (Rect.unit (s := S1x8192x256) (k0_off13 i 3#32) S1x512x256.size (Gen.k0_off13_inb i h3 3)).toLoadRect f3) = VecWindow.window (arg3.view.read (Elt F) f3) (at3 (2 * (i 1).val - 4 + 3)) S1x512x256.size (at3_k _) := View.readAt_unit _ _ _ o3_3 _
  have hv3 : (arg4.view.readAt (Elt F) (Rect.unit (s := S8192x128) (k0_off14 i 3#32) S512x128.size (Gen.k0_off14_inb i h3 3)).toLoadRect f4) = VecWindow.window (arg4.view.read (Elt F) f4) (at2 (2 * (i 1).val - 4 + 3)) S512x128.size (at2_v _) := View.readAt_unit _ _ _ o4_3 _
  have w13_3 : arg13.view.readAt (Elt F) (Rect.unit (s := S8192x256) (k0_off15 i 3#32) S512x256.size (Gen.k0_off15_inb i h3 3)).toLoadRect f13 = VecWindow.window (arg13.view.read (Elt F) f13) (at2 (2 * (i 1).val - 4 + 3)) S512x256.size (at2_k _) := View.readAt_unit _ _ _ o13_3 _
  have w14_3 : arg14.view.readAt (Elt F) (Rect.unit (s := S8192x128) (k0_off14 i 3#32) S512x128.size (Gen.k0_off14_inb i h3 3)).toLoadRect f14 = VecWindow.window (arg14.view.read (Elt F) f14) (at2 (2 * (i 1).val - 4 + 3)) S512x128.size (at2_v _) := View.readAt_unit _ _ _ o4_3 _
  have o3_4 : k0_off13 i 4#32 = at3 (2 * (i 1).val - 4 + 4) := off13_eq i h3 4
  have o4_4 : k0_off14 i 4#32 = at2 (2 * (i 1).val - 4 + 4) := off14_eq i h3 4
  have o13_4 : k0_off15 i 4#32 = at2 (2 * (i 1).val - 4 + 4) := off15_eq i h3 4
  have hk4 : (arg3.view.readAt (Elt F) (Rect.unit (s := S1x8192x256) (k0_off13 i 4#32) S1x512x256.size (Gen.k0_off13_inb i h3 4)).toLoadRect f3) = VecWindow.window (arg3.view.read (Elt F) f3) (at3 (2 * (i 1).val - 4 + 4)) S1x512x256.size (at3_k _) := View.readAt_unit _ _ _ o3_4 _
  have hv4 : (arg4.view.readAt (Elt F) (Rect.unit (s := S8192x128) (k0_off14 i 4#32) S512x128.size (Gen.k0_off14_inb i h3 4)).toLoadRect f4) = VecWindow.window (arg4.view.read (Elt F) f4) (at2 (2 * (i 1).val - 4 + 4)) S512x128.size (at2_v _) := View.readAt_unit _ _ _ o4_4 _
  have o3_5 : k0_off13 i 5#32 = at3 (2 * (i 1).val - 4 + 5) := off13_eq i h3 5
  have o4_5 : k0_off14 i 5#32 = at2 (2 * (i 1).val - 4 + 5) := off14_eq i h3 5
  have o13_5 : k0_off15 i 5#32 = at2 (2 * (i 1).val - 4 + 5) := off15_eq i h3 5
  have hk5 : (arg3.view.readAt (Elt F) (Rect.unit (s := S1x8192x256) (k0_off13 i 5#32) S1x512x256.size (Gen.k0_off13_inb i h3 5)).toLoadRect f3) = VecWindow.window (arg3.view.read (Elt F) f3) (at3 (2 * (i 1).val - 4 + 5)) S1x512x256.size (at3_k _) := View.readAt_unit _ _ _ o3_5 _
  have hv5 : (arg4.view.readAt (Elt F) (Rect.unit (s := S8192x128) (k0_off14 i 5#32) S512x128.size (Gen.k0_off14_inb i h3 5)).toLoadRect f4) = VecWindow.window (arg4.view.read (Elt F) f4) (at2 (2 * (i 1).val - 4 + 5)) S512x128.size (at2_v _) := View.readAt_unit _ _ _ o4_5 _
  have hdq : ∀ L1 L2 L3 L4 L5 L6 L7 L8 L9, (VecWindow.put (dqB (dsB (maskB (scB (arg2.view.readAt (Elt F) (Rect.unit (s := S1x1024x256) ![0, 0, 0] S1x1024x256.size Gen.inb_S1x1024x256_S1x1024x256_0_0_0).toLoadRect f2) (arg3.view.readAt (Elt F) (Rect.unit (s := S1x8192x256) (k0_off13 i 4#32) S1x512x256.size (Gen.k0_off13_inb i h3 4)).toLoadRect f3))) (gvB (arg6.view.readAt (Elt F) (Rect.unit (s := S1024x128) ![0, 0] S1024x128.size Gen.inb_S1024x128_S1024x128_0_0).toLoadRect f6) (arg4.view.readAt (Elt F) (Rect.unit (s := S8192x128) (k0_off14 i 4#32) S512x128.size (Gen.k0_off14_inb i h3 4)).toLoadRect f4)) (arg7.view.readAt (Elt F) (Rect.unit (s := S1x1024x128) ![0, 0, 0] S1x1024x128.size Gen.inb_S1x1024x128_S1x1024x128_0_0_0).toLoadRect f7) (arg12.view.readAt (Elt F) (Rect.unit (s := S1024x128) ![0, 0] S1024x128.size Gen.inb_S1024x128_S1024x128_0_0).toLoadRect f12)) (arg3.view.readAt (Elt F) (Rect.unit (s := S1x8192x256) (k0_off13 i 4#32) S1x512x256.size (Gen.k0_off13_inb i h3 4)).toLoadRect f3) (arg11.view.readCov (⟨(Rect.unit (s := S1024x256) ![0, 0] S1024x256.size Gen.inb_S1024x256_S1024x256_0_0), dqB (dsB (scB (arg2.view.readAt (Elt F) (Rect.unit (s := S1x1024x256) ![0, 0, 0] S1x1024x256.size Gen.inb_S1x1024x256_S1x1024x256_0_0_0).toLoadRect f2) (arg3.view.readAt (Elt F) (Rect.unit (s := S1x8192x256) (k0_off13 i 3#32) S1x512x256.size (Gen.k0_off13_inb i h3 3)).toLoadRect f3)) (gvB (arg6.view.readAt (Elt F) (Rect.unit (s := S1024x128) ![0, 0] S1024x128.size Gen.inb_S1024x128_S1024x128_0_0).toLoadRect f6) (arg4.view.readAt (Elt F) (Rect.unit (s := S8192x128) (k0_off14 i 3#32) S512x128.size (Gen.k0_off14_inb i h3 3)).toLoadRect f4)) (arg7.view.readAt (Elt F) (Rect.unit (s := S1x1024x128) ![0, 0, 0] S1x1024x128.size Gen.inb_S1x1024x128_S1x1024x128_0_0_0).toLoadRect f7) (arg12.view.readAt (Elt F) (Rect.unit (s := S1024x128) ![0, 0] S1024x128.size Gen.inb_S1024x128_S1024x128_0_0).toLoadRect f12)) (arg3.view.readAt (Elt F) (Rect.unit (s := S1x8192x256) (k0_off13 i 3#32) S1x512x256.size (Gen.k0_off13_inb i h3 3)).toLoadRect f3) (arg11.view.readCov (⟨(Rect.unit (s := S1024x256) ![0, 0] S1024x256.size Gen.inb_S1024x256_S1024x256_0_0), dqB (dsB (scB (arg2.view.readAt (Elt F) (Rect.unit (s := S1x1024x256) ![0, 0, 0] S1x1024x256.size Gen.inb_S1x1024x256_S1x1024x256_0_0_0).toLoadRect f2) (arg3.view.readAt (Elt F) (Rect.unit (s := S1x8192x256) (k0_off13 i 2#32) S1x512x256.size (Gen.k0_off13_inb i h3 2)).toLoadRect f3)) (gvB (arg6.view.readAt (Elt F) (Rect.unit (s := S1024x128) ![0, 0] S1024x128.size Gen.inb_S1024x128_S1024x128_0_0).toLoadRect f6) (arg4.view.readAt (Elt F) (Rect.unit (s := S8192x128) (k0_off14 i 2#32) S512x128.size (Gen.k0_off14_inb i h3 2)).toLoadRect f4)) (arg7.view.readAt (Elt F) (Rect.unit (s := S1x1024x128) ![0, 0, 0] S1x1024x128.size Gen.inb_S1x1024x128_S1x1024x128_0_0_0).toLoadRect f7) (arg12.view.readAt (Elt F) (Rect.unit (s := S1024x128) ![0, 0] S1024x128.size Gen.inb_S1024x128_S1024x128_0_0).toLoadRect f12)) (arg3.view.readAt (Elt F) (Rect.unit (s := S1x8192x256) (k0_off13 i 2#32) S1x512x256.size (Gen.k0_off13_inb i h3 2)).toLoadRect f3) (arg11.view.readCov (⟨(Rect.unit (s := S1024x256) ![0, 0] S1024x256.size Gen.inb_S1024x256_S1024x256_0_0), dqB (dsB (scB (arg2.view.readAt (Elt F) (Rect.unit (s := S1x1024x256) ![0, 0, 0] S1x1024x256.size Gen.inb_S1x1024x256_S1x1024x256_0_0_0).toLoadRect f2) (arg3.view.readAt (Elt F) (Rect.unit (s := S1x8192x256) (k0_off13 i 1#32) S1x512x256.size (Gen.k0_off13_inb i h3 1)).toLoadRect f3)) (gvB (arg6.view.readAt (Elt F) (Rect.unit (s := S1024x128) ![0, 0] S1024x128.size Gen.inb_S1024x128_S1024x128_0_0).toLoadRect f6) (arg4.view.readAt (Elt F) (Rect.unit (s := S8192x128) (k0_off14 i 1#32) S512x128.size (Gen.k0_off14_inb i h3 1)).toLoadRect f4)) (arg7.view.readAt (Elt F) (Rect.unit (s := S1x1024x128) ![0, 0, 0] S1x1024x128.size Gen.inb_S1x1024x128_S1x1024x128_0_0_0).toLoadRect f7) (arg12.view.readAt (Elt F) (Rect.unit (s := S1024x128) ![0, 0] S1024x128.size Gen.inb_S1024x128_S1024x128_0_0).toLoadRect f12)) (arg3.view.readAt (Elt F) (Rect.unit (s := S1x8192x256) (k0_off13 i 1#32) S1x512x256.size (Gen.k0_off13_inb i h3 1)).toLoadRect f3) (arg11.view.readCov (⟨(Rect.unit (s := S1024x256) ![0, 0] S1024x256.size Gen.inb_S1024x256_S1024x256_0_0), dqB (dsB (scB (arg2.view.readAt (Elt F) (Rect.unit (s := S1x1024x256) ![0, 0, 0] S1x1024x256.size Gen.inb_S1x1024x256_S1x1024x256_0_0_0).toLoadRect f2) (arg3.view.readAt (Elt F) (Rect.unit (s := S1x8192x256) (k0_off13 i 0#32) S1x512x256.size (Gen.k0_off13_inb i h3 0)).toLoadRect f3)) (gvB (arg6.view.readAt (Elt F) (Rect.unit (s := S1024x128) ![0, 0] S1024x128.size Gen.inb_S1024x128_S1024x128_0_0).toLoadRect f6) (arg4.view.readAt (Elt F) (Rect.unit (s := S8192x128) (k0_off14 i 0#32) S512x128.size (Gen.k0_off14_inb i h3 0)).toLoadRect f4)) (arg7.view.readAt (Elt F) (Rect.unit (s := S1x1024x128) ![0, 0, 0] S1x1024x128.size Gen.inb_S1x1024x128_S1x1024x128_0_0_0).toLoadRect f7) (arg12.view.readAt (Elt F) (Rect.unit (s := S1024x128) ![0, 0] S1024x128.size Gen.inb_S1024x128_S1024x128_0_0).toLoadRect f12)) (arg3.view.readAt (Elt F) (Rect.unit (s := S1x8192x256) (k0_off13 i 0#32) S1x512x256.size (Gen.k0_off13_inb i h3 0)).toLoadRect f3) (arg11.view.readAt (Elt F) (Rect.unit (s := S1024x256) ![0, 0] S1024x256.size Gen.inb_S1024x256_S1024x256_0_0).toLoadRect f11)⟩ :: L6) (Rect.unit (s := S1024x256) ![0, 0] S1024x256.size Gen.inb_S1024x256_S1024x256_0_0).toLoadRect)⟩ :: L7) (Rect.unit (s := S1024x256) ![0, 0] S1024x256.size Gen.inb_S1024x256_S1024x256_0_0).toLoadRect)⟩ :: L8) (Rect.unit (s := S1024x256) ![0, 0] S1024x256.size Gen.inb_S1024x256_S1024x256_0_0).toLoadRect)⟩ :: L9) (Rect.unit (s := S1024x256) ![0, 0] S1024x256.size Gen.inb_S1024x256_S1024x256_0_0).toLoadRect)) ![512, 0] S512x256.size (dqH (dsH (maskH (scH (arg2.view.readAt (Elt F) (Rect.unit (s := S1x1024x256) ![0, 512, 0] S1x512x256.size Gen.inb_S1x1024x256_S1x512x256_0_512_0).toLoadRect f2) (arg3.view.readAt (Elt F) (Rect.unit (s := S1x8192x256) (k0_off13 i 5#32) S1x512x256.size (Gen.k0_off13_inb i h3 5)).toLoadRect f3))) (gvH (arg6.view.readAt (Elt F) (Rect.unit (s := S1024x128) ![512, 0] S512x128.size Gen.inb_S1024x128_S512x128_512_0).toLoadRect f6) (arg4.view.readAt (Elt F) (Rect.unit (s := S8192x128) (k0_off14 i 5#32) S512x128.size (Gen.k0_off14_inb i h3 5)).toLoadRect f4)) (arg7.view.readAt (Elt F) (Rect.unit (s := S1x1024x128) ![0, 512, 0] S1x512x128.size Gen.inb_S1x1024x128_S1x512x128_0_512_0).toLoadRect f7) (arg12.view.readAt (Elt F) (Rect.unit (s := S1024x128) ![512, 0] S512x128.size Gen.inb_S1024x128_S512x128_512_0).toLoadRect f12)) (arg3.view.readAt (Elt F) (Rect.unit (s := S1x8192x256) (k0_off13 i 5#32) S1x512x256.size (Gen.k0_off13_inb i h3 5)).toLoadRect f3) (arg11.view.readCov (⟨(Rect.unit (s := S1024x256) ![0, 0] S1024x256.size Gen.inb_S1024x256_S1024x256_0_0), dqB (dsB (maskB (scB (arg2.view.readAt (Elt F) (Rect.unit (s := S1x1024x256) ![0, 0, 0] S1x1024x256.size Gen.inb_S1x1024x256_S1x1024x256_0_0_0).toLoadRect f2) (arg3.view.readAt (Elt F) (Rect.unit (s := S1x8192x256) (k0_off13 i 4#32) S1x512x256.size (Gen.k0_off13_inb i h3 4)).toLoadRect f3))) (gvB (arg6.view.readAt (Elt F) (Rect.unit (s := S1024x128) ![0, 0] S1024x128.size Gen.inb_S1024x128_S1024x128_0_0).toLoadRect f6) (arg4.view.readAt (Elt F) (Rect.unit (s := S8192x128) (k0_off14 i 4#32) S512x128.size (Gen.k0_off14_inb i h3 4)).toLoadRect f4)) (arg7.view.readAt (Elt F) (Rect.unit (s := S1x1024x128) ![0, 0, 0] S1x1024x128.size Gen.inb_S1x1024x128_S1x1024x128_0_0_0).toLoadRect f7) (arg12.view.readAt (Elt F) (Rect.unit (s := S1024x128) ![0, 0] S1024x128.size Gen.inb_S1024x128_S1024x128_0_0).toLoadRect f12)) (arg3.view.readAt (Elt F) (Rect.unit (s := S1x8192x256) (k0_off13 i 4#32) S1x512x256.size (Gen.k0_off13_inb i h3 4)).toLoadRect f3) (arg11.view.readCov (⟨(Rect.unit (s := S1024x256) ![0, 0] S1024x256.size Gen.inb_S1024x256_S1024x256_0_0), dqB (dsB (scB (arg2.view.readAt (Elt F) (Rect.unit (s := S1x1024x256) ![0, 0, 0] S1x1024x256.size Gen.inb_S1x1024x256_S1x1024x256_0_0_0).toLoadRect f2) (arg3.view.readAt (Elt F) (Rect.unit (s := S1x8192x256) (k0_off13 i 3#32) S1x512x256.size (Gen.k0_off13_inb i h3 3)).toLoadRect f3)) (gvB (arg6.view.readAt (Elt F) (Rect.unit (s := S1024x128) ![0, 0] S1024x128.size Gen.inb_S1024x128_S1024x128_0_0).toLoadRect f6) (arg4.view.readAt (Elt F) (Rect.unit (s := S8192x128) (k0_off14 i 3#32) S512x128.size (Gen.k0_off14_inb i h3 3)).toLoadRect f4)) (arg7.view.readAt (Elt F) (Rect.unit (s := S1x1024x128) ![0, 0, 0] S1x1024x128.size Gen.inb_S1x1024x128_S1x1024x128_0_0_0).toLoadRect f7) (arg12.view.readAt (Elt F) (Rect.unit (s := S1024x128) ![0, 0] S1024x128.size Gen.inb_S1024x128_S1024x128_0_0).toLoadRect f12)) (arg3.view.readAt (Elt F) (Rect.unit (s := S1x8192x256) (k0_off13 i 3#32) S1x512x256.size (Gen.k0_off13_inb i h3 3)).toLoadRect f3) (arg11.view.readCov (⟨(Rect.unit (s := S1024x256) ![0, 0] S1024x256.size Gen.inb_S1024x256_S1024x256_0_0), dqB (dsB (scB (arg2.view.readAt (Elt F) (Rect.unit (s := S1x1024x256) ![0, 0, 0] S1x1024x256.size Gen.inb_S1x1024x256_S1x1024x256_0_0_0).toLoadRect f2) (arg3.view.readAt (Elt F) (Rect.unit (s := S1x8192x256) (k0_off13 i 2#32) S1x512x256.size (Gen.k0_off13_inb i h3 2)).toLoadRect f3)) (gvB (arg6.view.readAt (Elt F) (Rect.unit (s := S1024x128) ![0, 0] S1024x128.size Gen.inb_S1024x128_S1024x128_0_0).toLoadRect f6) (arg4.view.readAt (Elt F) (Rect.unit (s := S8192x128) (k0_off14 i 2#32) S512x128.size (Gen.k0_off14_inb i h3 2)).toLoadRect f4)) (arg7.view.readAt (Elt F) (Rect.unit (s := S1x1024x128) ![0, 0, 0] S1x1024x128.size Gen.inb_S1x1024x128_S1x1024x128_0_0_0).toLoadRect f7) (arg12.view.readAt (Elt F) (Rect.unit (s := S1024x128) ![0, 0] S1024x128.size Gen.inb_S1024x128_S1024x128_0_0).toLoadRect f12)) (arg3.view.readAt (Elt F) (Rect.unit (s := S1x8192x256) (k0_off13 i 2#32) S1x512x256.size (Gen.k0_off13_inb i h3 2)).toLoadRect f3) (arg11.view.readCov (⟨(Rect.unit (s := S1024x256) ![0, 0] S1024x256.size Gen.inb_S1024x256_S1024x256_0_0), dqB (dsB (scB (arg2.view.readAt (Elt F) (Rect.unit (s := S1x1024x256) ![0, 0, 0] S1x1024x256.size Gen.inb_S1x1024x256_S1x1024x256_0_0_0).toLoadRect f2) (arg3.view.readAt (Elt F) (Rect.unit (s := S1x8192x256) (k0_off13 i 1#32) S1x512x256.size (Gen.k0_off13_inb i h3 1)).toLoadRect f3)) (gvB (arg6.view.readAt (Elt F) (Rect.unit (s := S1024x128) ![0, 0] S1024x128.size Gen.inb_S1024x128_S1024x128_0_0).toLoadRect f6) (arg4.view.readAt (Elt F) (Rect.unit (s := S8192x128) (k0_off14 i 1#32) S512x128.size (Gen.k0_off14_inb i h3 1)).toLoadRect f4)) (arg7.view.readAt (Elt F) (Rect.unit (s := S1x1024x128) ![0, 0, 0] S1x1024x128.size Gen.inb_S1x1024x128_S1x1024x128_0_0_0).toLoadRect f7) (arg12.view.readAt (Elt F) (Rect.unit (s := S1024x128) ![0, 0] S1024x128.size Gen.inb_S1024x128_S1024x128_0_0).toLoadRect f12)) (arg3.view.readAt (Elt F) (Rect.unit (s := S1x8192x256) (k0_off13 i 1#32) S1x512x256.size (Gen.k0_off13_inb i h3 1)).toLoadRect f3) (arg11.view.readCov (⟨(Rect.unit (s := S1024x256) ![0, 0] S1024x256.size Gen.inb_S1024x256_S1024x256_0_0), dqB (dsB (scB (arg2.view.readAt (Elt F) (Rect.unit (s := S1x1024x256) ![0, 0, 0] S1x1024x256.size Gen.inb_S1x1024x256_S1x1024x256_0_0_0).toLoadRect f2) (arg3.view.readAt (Elt F) (Rect.unit (s := S1x8192x256) (k0_off13 i 0#32) S1x512x256.size (Gen.k0_off13_inb i h3 0)).toLoadRect f3)) (gvB (arg6.view.readAt (Elt F) (Rect.unit (s := S1024x128) ![0, 0] S1024x128.size Gen.inb_S1024x128_S1024x128_0_0).toLoadRect f6) (arg4.view.readAt (Elt F) (Rect.unit (s := S8192x128) (k0_off14 i 0#32) S512x128.size (Gen.k0_off14_inb i h3 0)).toLoadRect f4)) (arg7.view.readAt (Elt F) (Rect.unit (s := S1x1024x128) ![0, 0, 0] S1x1024x128.size Gen.inb_S1x1024x128_S1x1024x128_0_0_0).toLoadRect f7) (arg12.view.readAt (Elt F) (Rect.unit (s := S1024x128) ![0, 0] S1024x128.size Gen.inb_S1024x128_S1024x128_0_0).toLoadRect f12)) (arg3.view.readAt (Elt F) (Rect.unit (s := S1x8192x256) (k0_off13 i 0#32) S1x512x256.size (Gen.k0_off13_inb i h3 0)).toLoadRect f3) (arg11.view.readAt (Elt F) (Rect.unit (s := S1024x256) ![0, 0] S1024x256.size Gen.inb_S1024x256_S1024x256_0_0).toLoadRect f11)⟩ :: L1) (Rect.unit (s := S1024x256) ![0, 0] S1024x256.size Gen.inb_S1024x256_S1024x256_0_0).toLoadRect)⟩ :: L2) (Rect.unit (s := S1024x256) ![0, 0] S1024x256.size Gen.inb_S1024x256_S1024x256_0_0).toLoadRect)⟩ :: L3) (Rect.unit (s := S1024x256) ![0, 0] S1024x256.size Gen.inb_S1024x256_S1024x256_0_0).toLoadRect)⟩ :: L4) (Rect.unit (s := S1024x256) ![0, 0] S1024x256.size Gen.inb_S1024x256_S1024x256_0_0).toLoadRect)⟩ :: L5) (Rect.unit (s := S1024x256) ![512, 0] S512x256.size Gen.inb_S1024x256_S512x256_512_0).toLoadRect)) : Vec F S1024x256 .f32) = S.dq := by
    rw [hS', ← hX']
    intro L1 L2 L3 L4 L5 L6 L7 L8 L9
    rw [readCov_win, View.readCov_full, View.readCov_full, View.readCov_full, View.readCov_full, View.readCov_full, View.readCov_full, View.readCov_full, View.readCov_full, View.readAt_full arg11.view]
    rw [hq, hg, hl, hd, hqh, hgh, hlh, hdh, hk0, hv0, hk1, hv1, hk2, hv2, hk3, hv3, hk4, hv4, hk5, hv5]
    rfl
  isplitl [H8]
  · iapply (owns_of_eq c arg8)
    isplitl [H8]; iexact H8
    ipureintro
    show arg8.view.read (Elt F) (arg8.view.writes (Elt F) f8 (⟨(Rect.unit (s := S1x1024x256) ![0, 0, 0] S1x1024x256.size Gen.inb_S1x1024x256_S1x1024x256_0_0_0), Gen.k0_pay6 (arg11.view.readCov (⟨(Rect.unit (s := S1024x256) ![512, 0] S512x256.size Gen.inb_S1024x256_S512x256_512_0), dqH (dsH (maskH (scH (arg2.view.readAt (Elt F) (Rect.unit (s := S1x1024x256) ![0, 512, 0] S1x512x256.size Gen.inb_S1x1024x256_S1x512x256_0_512_0).toLoadRect f2) (arg3.view.readAt (Elt F) (Rect.unit (s := S1x8192x256) (k0_off13 i 5#32) S1x512x256.size (Gen.k0_off13_inb i h3 5)).toLoadRect f3))) (gvH (arg6.view.readAt (Elt F) (Rect.unit (s := S1024x128) ![512, 0] S512x128.size Gen.inb_S1024x128_S512x128_512_0).toLoadRect f6) (arg4.view.readAt (Elt F) (Rect.unit (s := S8192x128) (k0_off14 i 5#32) S512x128.size (Gen.k0_off14_inb i h3 5)).toLoadRect f4)) (arg7.view.readAt (Elt F) (Rect.unit (s := S1x1024x128) ![0, 512, 0] S1x512x128.size Gen.inb_S1x1024x128_S1x512x128_0_512_0).toLoadRect f7) (arg12.view.readAt (Elt F) (Rect.unit (s := S1024x128) ![512, 0] S512x128.size Gen.inb_S1024x128_S512x128_512_0).toLoadRect f12)) (arg3.view.readAt (Elt F) (Rect.unit (s := S1x8192x256) (k0_off13 i 5#32) S1x512x256.size (Gen.k0_off13_inb i h3 5)).toLoadRect f3) (arg11.view.readCov (⟨(Rect.unit (s := S1024x256) ![0, 0] S1024x256.size Gen.inb_S1024x256_S1024x256_0_0), dqB (dsB (maskB (scB (arg2.view.readAt (Elt F) (Rect.unit (s := S1x1024x256) ![0, 0, 0] S1x1024x256.size Gen.inb_S1x1024x256_S1x1024x256_0_0_0).toLoadRect f2) (arg3.view.readAt (Elt F) (Rect.unit (s := S1x8192x256) (k0_off13 i 4#32) S1x512x256.size (Gen.k0_off13_inb i h3 4)).toLoadRect f3))) (gvB (arg6.view.readAt (Elt F) (Rect.unit (s := S1024x128) ![0, 0] S1024x128.size Gen.inb_S1024x128_S1024x128_0_0).toLoadRect f6) (arg4.view.readAt (Elt F) (Rect.unit (s := S8192x128) (k0_off14 i 4#32) S512x128.size (Gen.k0_off14_inb i h3 4)).toLoadRect f4)) (arg7.view.readAt (Elt F) (Rect.unit (s := S1x1024x128) ![0, 0, 0] S1x1024x128.size Gen.inb_S1x1024x128_S1x1024x128_0_0_0).toLoadRect f7) (arg12.view.readAt (Elt F) (Rect.unit (s := S1024x128) ![0, 0] S1024x128.size Gen.inb_S1024x128_S1024x128_0_0).toLoadRect f12)) (arg3.view.readAt (Elt F) (Rect.unit (s := S1x8192x256) (k0_off13 i 4#32) S1x512x256.size (Gen.k0_off13_inb i h3 4)).toLoadRect f3) (arg11.view.readCov (⟨(Rect.unit (s := S1024x256) ![0, 0] S1024x256.size Gen.inb_S1024x256_S1024x256_0_0), dqB (dsB (scB (arg2.view.readAt (Elt F) (Rect.unit (s := S1x1024x256) ![0, 0, 0] S1x1024x256.size Gen.inb_S1x1024x256_S1x1024x256_0_0_0).toLoadRect f2) (arg3.view.readAt (Elt F) (Rect.unit (s := S1x8192x256) (k0_off13 i 3#32) S1x512x256.size (Gen.k0_off13_inb i h3 3)).toLoadRect f3)) (gvB (arg6.view.readAt (Elt F) (Rect.unit (s := S1024x128) ![0, 0] S1024x128.size Gen.inb_S1024x128_S1024x128_0_0).toLoadRect f6) (arg4.view.readAt (Elt F) (Rect.unit (s := S8192x128) (k0_off14 i 3#32) S512x128.size (Gen.k0_off14_inb i h3 3)).toLoadRect f4)) (arg7.view.readAt (Elt F) (Rect.unit (s := S1x1024x128) ![0, 0, 0] S1x1024x128.size Gen.inb_S1x1024x128_S1x1024x128_0_0_0).toLoadRect f7) (arg12.view.readAt (Elt F) (Rect.unit (s := S1024x128) ![0, 0] S1024x128.size Gen.inb_S1024x128_S1024x128_0_0).toLoadRect f12)) (arg3.view.readAt (Elt F) (Rect.unit (s := S1x8192x256) (k0_off13 i 3#32) S1x512x256.size (Gen.k0_off13_inb i h3 3)).toLoadRect f3) (arg11.view.readCov (⟨(Rect.unit (s := S1024x256) ![0, 0] S1024x256.size Gen.inb_S1024x256_S1024x256_0_0), dqB (dsB (scB (arg2.view.readAt (Elt F) (Rect.unit (s := S1x1024x256) ![0, 0, 0] S1x1024x256.size Gen.inb_S1x1024x256_S1x1024x256_0_0_0).toLoadRect f2) (arg3.view.readAt (Elt F) (Rect.unit (s := S1x8192x256) (k0_off13 i 2#32) S1x512x256.size (Gen.k0_off13_inb i h3 2)).toLoadRect f3)) (gvB (arg6.view.readAt (Elt F) (Rect.unit (s := S1024x128) ![0, 0] S1024x128.size Gen.inb_S1024x128_S1024x128_0_0).toLoadRect f6) (arg4.view.readAt (Elt F) (Rect.unit (s := S8192x128) (k0_off14 i 2#32) S512x128.size (Gen.k0_off14_inb i h3 2)).toLoadRect f4)) (arg7.view.readAt (Elt F) (Rect.unit (s := S1x1024x128) ![0, 0, 0] S1x1024x128.size Gen.inb_S1x1024x128_S1x1024x128_0_0_0).toLoadRect f7) (arg12.view.readAt (Elt F) (Rect.unit (s := S1024x128) ![0, 0] S1024x128.size Gen.inb_S1024x128_S1024x128_0_0).toLoadRect f12)) (arg3.view.readAt (Elt F) (Rect.unit (s := S1x8192x256) (k0_off13 i 2#32) S1x512x256.size (Gen.k0_off13_inb i h3 2)).toLoadRect f3) (arg11.view.readCov (⟨(Rect.unit (s := S1024x256) ![0, 0] S1024x256.size Gen.inb_S1024x256_S1024x256_0_0), dqB (dsB (scB (arg2.view.readAt (Elt F) (Rect.unit (s := S1x1024x256) ![0, 0, 0] S1x1024x256.size Gen.inb_S1x1024x256_S1x1024x256_0_0_0).toLoadRect f2) (arg3.view.readAt (Elt F) (Rect.unit (s := S1x8192x256) (k0_off13 i 1#32) S1x512x256.size (Gen.k0_off13_inb i h3 1)).toLoadRect f3)) (gvB (arg6.view.readAt (Elt F) (Rect.unit (s := S1024x128) ![0, 0] S1024x128.size Gen.inb_S1024x128_S1024x128_0_0).toLoadRect f6) (arg4.view.readAt (Elt F) (Rect.unit (s := S8192x128) (k0_off14 i 1#32) S512x128.size (Gen.k0_off14_inb i h3 1)).toLoadRect f4)) (arg7.view.readAt (Elt F) (Rect.unit (s := S1x1024x128) ![0, 0, 0] S1x1024x128.size Gen.inb_S1x1024x128_S1x1024x128_0_0_0).toLoadRect f7) (arg12.view.readAt (Elt F) (Rect.unit (s := S1024x128) ![0, 0] S1024x128.size Gen.inb_S1024x128_S1024x128_0_0).toLoadRect f12)) (arg3.view.readAt (Elt F) (Rect.unit (s := S1x8192x256) (k0_off13 i 1#32) S1x512x256.size (Gen.k0_off13_inb i h3 1)).toLoadRect f3) (arg11.view.readCov (⟨(Rect.unit (s := S1024x256) ![0, 0] S1024x256.size Gen.inb_S1024x256_S1024x256_0_0), dqB (dsB (scB (arg2.view.readAt (Elt F) (Rect.unit (s := S1x1024x256) ![0, 0, 0] S1x1024x256.size Gen.inb_S1x1024x256_S1x1024x256_0_0_0).toLoadRect f2) (arg3.view.readAt (Elt F) (Rect.unit (s := S1x8192x256) (k0_off13 i 0#32) S1x512x256.size (Gen.k0_off13_inb i h3 0)).toLoadRect f3)) (gvB (arg6.view.readAt (Elt F) (Rect.unit (s := S1024x128) ![0, 0] S1024x128.size Gen.inb_S1024x128_S1024x128_0_0).toLoadRect f6) (arg4.view.readAt (Elt F) (Rect.unit (s := S8192x128) (k0_off14 i 0#32) S512x128.size (Gen.k0_off14_inb i h3 0)).toLoadRect f4)) (arg7.view.readAt (Elt F) (Rect.unit (s := S1x1024x128) ![0, 0, 0] S1x1024x128.size Gen.inb_S1x1024x128_S1x1024x128_0_0_0).toLoadRect f7) (arg12.view.readAt (Elt F) (Rect.unit (s := S1024x128) ![0, 0] S1024x128.size Gen.inb_S1024x128_S1024x128_0_0).toLoadRect f12)) (arg3.view.readAt (Elt F) (Rect.unit (s := S1x8192x256) (k0_off13 i 0#32) S1x512x256.size (Gen.k0_off13_inb i h3 0)).toLoadRect f3) (arg11.view.readAt (Elt F) (Rect.unit (s := S1024x256) ![0, 0] S1024x256.size Gen.inb_S1024x256_S1024x256_0_0).toLoadRect f11)⟩ :: _) (Rect.unit (s := S1024x256) ![0, 0] S1024x256.size Gen.inb_S1024x256_S1024x256_0_0).toLoadRect)⟩ :: _) (Rect.unit (s := S1024x256) ![0, 0] S1024x256.size Gen.inb_S1024x256_S1024x256_0_0).toLoadRect)⟩ :: _) (Rect.unit (s := S1024x256) ![0, 0] S1024x256.size Gen.inb_S1024x256_S1024x256_0_0).toLoadRect)⟩ :: _) (Rect.unit (s := S1024x256) ![0, 0] S1024x256.size Gen.inb_S1024x256_S1024x256_0_0).toLoadRect)⟩ :: _) (Rect.unit (s := S1024x256) ![512, 0] S512x256.size Gen.inb_S1024x256_S512x256_512_0).toLoadRect)⟩ :: ⟨(Rect.unit (s := S1024x256) ![0, 0] S1024x256.size Gen.inb_S1024x256_S1024x256_0_0), dqB (dsB (maskB (scB (arg2.view.readAt (Elt F) (Rect.unit (s := S1x1024x256) ![0, 0, 0] S1x1024x256.size Gen.inb_S1x1024x256_S1x1024x256_0_0_0).toLoadRect f2) (arg3.view.readAt (Elt F) (Rect.unit (s := S1x8192x256) (k0_off13 i 4#32) S1x512x256.size (Gen.k0_off13_inb i h3 4)).toLoadRect f3))) (gvB (arg6.view.readAt (Elt F) (Rect.unit (s := S1024x128) ![0, 0] S1024x128.size Gen.inb_S1024x128_S1024x128_0_0).toLoadRect f6) (arg4.view.readAt (Elt F) (Rect.unit (s := S8192x128) (k0_off14 i 4#32) S512x128.size (Gen.k0_off14_inb i h3 4)).toLoadRect f4)) (arg7.view.readAt (Elt F) (Rect.unit (s := S1x1024x128) ![0, 0, 0] S1x1024x128.size Gen.inb_S1x1024x128_S1x1024x128_0_0_0).toLoadRect f7) (arg12.view.readAt (Elt F) (Rect.unit (s := S1024x128) ![0, 0] S1024x128.size Gen.inb_S1024x128_S1024x128_0_0).toLoadRect f12)) (arg3.view.readAt (Elt F) (Rect.unit (s := S1x8192x256) (k0_off13 i 4#32) S1x512x256.size (Gen.k0_off13_inb i h3 4)).toLoadRect f3) (arg11.view.readCov (⟨(Rect.unit (s := S1024x256) ![0, 0] S1024x256.size Gen.inb_S1024x256_S1024x256_0_0), dqB (dsB (scB (arg2.view.readAt (Elt F) (Rect.unit (s := S1x1024x256) ![0, 0, 0] S1x1024x256.size Gen.inb_S1x1024x256_S1x1024x256_0_0_0).toLoadRect f2) (arg3.view.readAt (Elt F) (Rect.unit (s := S1x8192x256) (k0_off13 i 3#32) S1x512x256.size (Gen.k0_off13_inb i h3 3)).toLoadRect f3)) (gvB (arg6.view.readAt (Elt F) (Rect.unit (s := S1024x128) ![0, 0] S1024x128.size Gen.inb_S1024x128_S1024x128_0_0).toLoadRect f6) (arg4.view.readAt (Elt F) (Rect.unit (s := S8192x128) (k0_off14 i 3#32) S512x128.size (Gen.k0_off14_inb i h3 3)).toLoadRect f4)) (arg7.view.readAt (Elt F) (Rect.unit (s := S1x1024x128) ![0, 0, 0] S1x1024x128.size Gen.inb_S1x1024x128_S1x1024x128_0_0_0).toLoadRect f7) (arg12.view.readAt (Elt F) (Rect.unit (s := S1024x128) ![0, 0] S1024x128.size Gen.inb_S1024x128_S1024x128_0_0).toLoadRect f12)) (arg3.view.readAt (Elt F) (Rect.unit (s := S1x8192x256) (k0_off13 i 3#32) S1x512x256.size (Gen.k0_off13_inb i h3 3)).toLoadRect f3) (arg11.view.readCov (⟨(Rect.unit (s := S1024x256) ![0, 0] S1024x256.size Gen.inb_S1024x256_S1024x256_0_0), dqB (dsB (scB (arg2.view.readAt (Elt F) (Rect.unit (s := S1x1024x256) ![0, 0, 0] S1x1024x256.size Gen.inb_S1x1024x256_S1x1024x256_0_0_0).toLoadRect f2) (arg3.view.readAt (Elt F) (Rect.unit (s := S1x8192x256) (k0_off13 i 2#32) S1x512x256.size (Gen.k0_off13_inb i h3 2)).toLoadRect f3)) (gvB (arg6.view.readAt (Elt F) (Rect.unit (s := S1024x128) ![0, 0] S1024x128.size Gen.inb_S1024x128_S1024x128_0_0).toLoadRect f6) (arg4.view.readAt (Elt F) (Rect.unit (s := S8192x128) (k0_off14 i 2#32) S512x128.size (Gen.k0_off14_inb i h3 2)).toLoadRect f4)) (arg7.view.readAt (Elt F) (Rect.unit (s := S1x1024x128) ![0, 0, 0] S1x1024x128.size Gen.inb_S1x1024x128_S1x1024x128_0_0_0).toLoadRect f7) (arg12.view.readAt (Elt F) (Rect.unit (s := S1024x128) ![0, 0] S1024x128.size Gen.inb_S1024x128_S1024x128_0_0).toLoadRect f12)) (arg3.view.readAt (Elt F) (Rect.unit (s := S1x8192x256) (k0_off13 i 2#32) S1x512x256.size (Gen.k0_off13_inb i h3 2)).toLoadRect f3) (arg11.view.readCov (⟨(Rect.unit (s := S1024x256) ![0, 0] S1024x256.size Gen.inb_S1024x256_S1024x256_0_0), dqB (dsB (scB (arg2.view.readAt (Elt F) (Rect.unit (s := S1x1024x256) ![0, 0, 0] S1x1024x256.size Gen.inb_S1x1024x256_S1x1024x256_0_0_0).toLoadRect f2) (arg3.view.readAt (Elt F) (Rect.unit (s := S1x8192x256) (k0_off13 i 1#32) S1x512x256.size (Gen.k0_off13_inb i h3 1)).toLoadRect f3)) (gvB (arg6.view.readAt (Elt F) (Rect.unit (s := S1024x128) ![0, 0] S1024x128.size Gen.inb_S1024x128_S1024x128_0_0).toLoadRect f6) (arg4.view.readAt (Elt F) (Rect.unit (s := S8192x128) (k0_off14 i 1#32) S512x128.size (Gen.k0_off14_inb i h3 1)).toLoadRect f4)) (arg7.view.readAt (Elt F) (Rect.unit (s := S1x1024x128) ![0, 0, 0] S1x1024x128.size Gen.inb_S1x1024x128_S1x1024x128_0_0_0).toLoadRect f7) (arg12.view.readAt (Elt F) (Rect.unit (s := S1024x128) ![0, 0] S1024x128.size Gen.inb_S1024x128_S1024x128_0_0).toLoadRect f12)) (arg3.view.readAt (Elt F) (Rect.unit (s := S1x8192x256) (k0_off13 i 1#32) S1x512x256.size (Gen.k0_off13_inb i h3 1)).toLoadRect f3) (arg11.view.readCov (⟨(Rect.unit (s := S1024x256) ![0, 0] S1024x256.size Gen.inb_S1024x256_S1024x256_0_0), dqB (dsB (scB (arg2.view.readAt (Elt F) (Rect.unit (s := S1x1024x256) ![0, 0, 0] S1x1024x256.size Gen.inb_S1x1024x256_S1x1024x256_0_0_0).toLoadRect f2) (arg3.view.readAt (Elt F) (Rect.unit (s := S1x8192x256) (k0_off13 i 0#32) S1x512x256.size (Gen.k0_off13_inb i h3 0)).toLoadRect f3)) (gvB (arg6.view.readAt (Elt F) (Rect.unit (s := S1024x128) ![0, 0] S1024x128.size Gen.inb_S1024x128_S1024x128_0_0).toLoadRect f6) (arg4.view.readAt (Elt F) (Rect.unit (s := S8192x128) (k0_off14 i 0#32) S512x128.size (Gen.k0_off14_inb i h3 0)).toLoadRect f4)) (arg7.view.readAt (Elt F) (Rect.unit (s := S1x1024x128) ![0, 0, 0] S1x1024x128.size Gen.inb_S1x1024x128_S1x1024x128_0_0_0).toLoadRect f7) (arg12.view.readAt (Elt F) (Rect.unit (s := S1024x128) ![0, 0] S1024x128.size Gen.inb_S1024x128_S1024x128_0_0).toLoadRect f12)) (arg3.view.readAt (Elt F) (Rect.unit (s := S1x8192x256) (k0_off13 i 0#32) S1x512x256.size (Gen.k0_off13_inb i h3 0)).toLoadRect f3) (arg11.view.readAt (Elt F) (Rect.unit (s := S1024x256) ![0, 0] S1024x256.size Gen.inb_S1024x256_S1024x256_0_0).toLoadRect f11)⟩ :: _) (Rect.unit (s := S1024x256) ![0, 0] S1024x256.size Gen.inb_S1024x256_S1024x256_0_0).toLoadRect)⟩ :: _) (Rect.unit (s := S1024x256) ![0, 0] S1024x256.size Gen.inb_S1024x256_S1024x256_0_0).toLoadRect)⟩ :: _) (Rect.unit (s := S1024x256) ![0, 0] S1024x256.size Gen.inb_S1024x256_S1024x256_0_0).toLoadRect)⟩ :: _) (Rect.unit (s := S1024x256) ![0, 0] S1024x256.size Gen.inb_S1024x256_S1024x256_0_0).toLoadRect)⟩ :: _) (Rect.unit (s := S1024x256) ![0, 0] S1024x256.size Gen.inb_S1024x256_S1024x256_0_0).toLoadRect)⟩ :: _)) = _
    rw [View.read_writes_full, readCov_half]
    exact congrArg Gen.k0_pay6 (hdq _ _ _ _ _ _ _ _ _)
  isplitl [H9]; iexact H9
  isplitl [H10]; iexact H10
  isplitl [H5]; iexact H5
  isplitl [H2]; iapply (raw_owns (c : Thread nD τ) arg2 e2); iexact H2
  isplitl [H3]; iapply (raw_owns (c : Thread nD τ) arg3 e3); iexact H3
  isplitl [H4]; iapply (raw_owns (c : Thread nD τ) arg4 e4); iexact H4
  isplitl [H6]; iapply (raw_owns (c : Thread nD τ) arg6 e6); iexact H6
  isplitl [H7]; iapply (raw_owns (c : Thread nD τ) arg7 e7); iexact H7
  isplitl [H12]; iapply (raw_owns (c : Thread nD τ) arg12 e12); iexact H12
  iapply (acc_owns c arg11 arg13 arg14)
  isplitl [H11]; iexact H11
  isplitl [H13]; iexact H13
  isplitl [H14]; iexact H14
  ipureintro
  refine Acc.ext ?_ ?_ ?_
  · show arg11.view.read (Elt F) (arg11.view.writes (Elt F) f11 (⟨(Rect.unit (s := S1024x256) ![512, 0] S512x256.size Gen.inb_S1024x256_S512x256_512_0), dqH (dsH (maskH (scH (arg2.view.readAt (Elt F) (Rect.unit (s := S1x1024x256) ![0, 512, 0] S1x512x256.size Gen.inb_S1x1024x256_S1x512x256_0_512_0).toLoadRect f2) (arg3.view.readAt (Elt F) (Rect.unit (s := S1x8192x256) (k0_off13 i 5#32) S1x512x256.size (Gen.k0_off13_inb i h3 5)).toLoadRect f3))) (gvH (arg6.view.readAt (Elt F) (Rect.unit (s := S1024x128) ![512, 0] S512x128.size Gen.inb_S1024x128_S512x128_512_0).toLoadRect f6) (arg4.view.readAt (Elt F) (Rect.unit (s := S8192x128) (k0_off14 i 5#32) S512x128.size (Gen.k0_off14_inb i h3 5)).toLoadRect f4)) (arg7.view.readAt (Elt F) (Rect.unit (s := S1x1024x128) ![0, 512, 0] S1x512x128.size Gen.inb_S1x1024x128_S1x512x128_0_512_0).toLoadRect f7) (arg12.view.readAt (Elt F) (Rect.unit (s := S1024x128) ![512, 0] S512x128.size Gen.inb_S1024x128_S512x128_512_0).toLoadRect f12)) (arg3.view.readAt (Elt F) (Rect.unit (s := S1x8192x256) (k0_off13 i 5#32) S1x512x256.size (Gen.k0_off13_inb i h3 5)).toLoadRect f3) (arg11.view.readCov (⟨(Rect.unit (s := S1024x256) ![0, 0] S1024x256.size Gen.inb_S1024x256_S1024x256_0_0), dqB (dsB (maskB (scB (arg2.view.readAt (Elt F) (Rect.unit (s := S1x1024x256) ![0, 0, 0] S1x1024x256.size Gen.inb_S1x1024x256_S1x1024x256_0_0_0).toLoadRect f2) (arg3.view.readAt (Elt F) (Rect.unit (s := S1x8192x256) (k0_off13 i 4#32) S1x512x256.size (Gen.k0_off13_inb i h3 4)).toLoadRect f3))) (gvB (arg6.view.readAt (Elt F) (Rect.unit (s := S1024x128) ![0, 0] S1024x128.size Gen.inb_S1024x128_S1024x128_0_0).toLoadRect f6) (arg4.view.readAt (Elt F) (Rect.unit (s := S8192x128) (k0_off14 i 4#32) S512x128.size (Gen.k0_off14_inb i h3 4)).toLoadRect f4)) (arg7.view.readAt (Elt F) (Rect.unit (s := S1x1024x128) ![0, 0, 0] S1x1024x128.size Gen.inb_S1x1024x128_S1x1024x128_0_0_0).toLoadRect f7) (arg12.view.readAt (Elt F) (Rect.unit (s := S1024x128) ![0, 0] S1024x128.size Gen.inb_S1024x128_S1024x128_0_0).toLoadRect f12)) (arg3.view.readAt (Elt F) (Rect.unit (s := S1x8192x256) (k0_off13 i 4#32) S1x512x256.size (Gen.k0_off13_inb i h3 4)).toLoadRect f3) (arg11.view.readCov (⟨(Rect.unit (s := S1024x256) ![0, 0] S1024x256.size Gen.inb_S1024x256_S1024x256_0_0), dqB (dsB (scB (arg2.view.readAt (Elt F) (Rect.unit (s := S1x1024x256) ![0, 0, 0] S1x1024x256.size Gen.inb_S1x1024x256_S1x1024x256_0_0_0).toLoadRect f2) (arg3.view.readAt (Elt F) (Rect.unit (s := S1x8192x256) (k0_off13 i 3#32) S1x512x256.size (Gen.k0_off13_inb i h3 3)).toLoadRect f3)) (gvB (arg6.view.readAt (Elt F) (Rect.unit (s := S1024x128) ![0, 0] S1024x128.size Gen.inb_S1024x128_S1024x128_0_0).toLoadRect f6) (arg4.view.readAt (Elt F) (Rect.unit (s := S8192x128) (k0_off14 i 3#32) S512x128.size (Gen.k0_off14_inb i h3 3)).toLoadRect f4)) (arg7.view.readAt (Elt F) (Rect.unit (s := S1x1024x128) ![0, 0, 0] S1x1024x128.size Gen.inb_S1x1024x128_S1x1024x128_0_0_0).toLoadRect f7) (arg12.view.readAt (Elt F) (Rect.unit (s := S1024x128) ![0, 0] S1024x128.size Gen.inb_S1024x128_S1024x128_0_0).toLoadRect f12)) (arg3.view.readAt (Elt F) (Rect.unit (s := S1x8192x256) (k0_off13 i 3#32) S1x512x256.size (Gen.k0_off13_inb i h3 3)).toLoadRect f3) (arg11.view.readCov (⟨(Rect.unit (s := S1024x256) ![0, 0] S1024x256.size Gen.inb_S1024x256_S1024x256_0_0), dqB (dsB (scB (arg2.view.readAt (Elt F) (Rect.unit (s := S1x1024x256) ![0, 0, 0] S1x1024x256.size Gen.inb_S1x1024x256_S1x1024x256_0_0_0).toLoadRect f2) (arg3.view.readAt (Elt F) (Rect.unit (s := S1x8192x256) (k0_off13 i 2#32) S1x512x256.size (Gen.k0_off13_inb i h3 2)).toLoadRect f3)) (gvB (arg6.view.readAt (Elt F) (Rect.unit (s := S1024x128) ![0, 0] S1024x128.size Gen.inb_S1024x128_S1024x128_0_0).toLoadRect f6) (arg4.view.readAt (Elt F) (Rect.unit (s := S8192x128) (k0_off14 i 2#32) S512x128.size (Gen.k0_off14_inb i h3 2)).toLoadRect f4)) (arg7.view.readAt (Elt F) (Rect.unit (s := S1x1024x128) ![0, 0, 0] S1x1024x128.size Gen.inb_S1x1024x128_S1x1024x128_0_0_0).toLoadRect f7) (arg12.view.readAt (Elt F) (Rect.unit (s := S1024x128) ![0, 0] S1024x128.size Gen.inb_S1024x128_S1024x128_0_0).toLoadRect f12)) (arg3.view.readAt (Elt F) (Rect.unit (s := S1x8192x256) (k0_off13 i 2#32) S1x512x256.size (Gen.k0_off13_inb i h3 2)).toLoadRect f3) (arg11.view.readCov (⟨(Rect.unit (s := S1024x256) ![0, 0] S1024x256.size Gen.inb_S1024x256_S1024x256_0_0), dqB (dsB (scB (arg2.view.readAt (Elt F) (Rect.unit (s := S1x1024x256) ![0, 0, 0] S1x1024x256.size Gen.inb_S1x1024x256_S1x1024x256_0_0_0).toLoadRect f2) (arg3.view.readAt (Elt F) (Rect.unit (s := S1x8192x256) (k0_off13 i 1#32) S1x512x256.size (Gen.k0_off13_inb i h3 1)).toLoadRect f3)) (gvB (arg6.view.readAt (Elt F) (Rect.unit (s := S1024x128) ![0, 0] S1024x128.size Gen.inb_S1024x128_S1024x128_0_0).toLoadRect f6) (arg4.view.readAt (Elt F) (Rect.unit (s := S8192x128) (k0_off14 i 1#32) S512x128.size (Gen.k0_off14_inb i h3 1)).toLoadRect f4)) (arg7.view.readAt (Elt F) (Rect.unit (s := S1x1024x128) ![0, 0, 0] S1x1024x128.size Gen.inb_S1x1024x128_S1x1024x128_0_0_0).toLoadRect f7) (arg12.view.readAt (Elt F) (Rect.unit (s := S1024x128) ![0, 0] S1024x128.size Gen.inb_S1024x128_S1024x128_0_0).toLoadRect f12)) (arg3.view.readAt (Elt F) (Rect.unit (s := S1x8192x256) (k0_off13 i 1#32) S1x512x256.size (Gen.k0_off13_inb i h3 1)).toLoadRect f3) (arg11.view.readCov (⟨(Rect.unit (s := S1024x256) ![0, 0] S1024x256.size Gen.inb_S1024x256_S1024x256_0_0), dqB (dsB (scB (arg2.view.readAt (Elt F) (Rect.unit (s := S1x1024x256) ![0, 0, 0] S1x1024x256.size Gen.inb_S1x1024x256_S1x1024x256_0_0_0).toLoadRect f2) (arg3.view.readAt (Elt F) (Rect.unit (s := S1x8192x256) (k0_off13 i 0#32) S1x512x256.size (Gen.k0_off13_inb i h3 0)).toLoadRect f3)) (gvB (arg6.view.readAt (Elt F) (Rect.unit (s := S1024x128) ![0, 0] S1024x128.size Gen.inb_S1024x128_S1024x128_0_0).toLoadRect f6) (arg4.view.readAt (Elt F) (Rect.unit (s := S8192x128) (k0_off14 i 0#32) S512x128.size (Gen.k0_off14_inb i h3 0)).toLoadRect f4)) (arg7.view.readAt (Elt F) (Rect.unit (s := S1x1024x128) ![0, 0, 0] S1x1024x128.size Gen.inb_S1x1024x128_S1x1024x128_0_0_0).toLoadRect f7) (arg12.view.readAt (Elt F) (Rect.unit (s := S1024x128) ![0, 0] S1024x128.size Gen.inb_S1024x128_S1024x128_0_0).toLoadRect f12)) (arg3.view.readAt (Elt F) (Rect.unit (s := S1x8192x256) (k0_off13 i 0#32) S1x512x256.size (Gen.k0_off13_inb i h3 0)).toLoadRect f3) (arg11.view.readAt (Elt F) (Rect.unit (s := S1024x256) ![0, 0] S1024x256.size Gen.inb_S1024x256_S1024x256_0_0).toLoadRect f11)⟩ :: _) (Rect.unit (s := S1024x256) ![0, 0] S1024x256.size Gen.inb_S1024x256_S1024x256_0_0).toLoadRect)⟩ :: _) (Rect.unit (s := S1024x256) ![0, 0] S1024x256.size Gen.inb_S1024x256_S1024x256_0_0).toLoadRect)⟩ :: _) (Rect.unit (s := S1024x256) ![0, 0] S1024x256.size Gen.inb_S1024x256_S1024x256_0_0).toLoadRect)⟩ :: _) (Rect.unit (s := S1024x256) ![0, 0] S1024x256.size Gen.inb_S1024x256_S1024x256_0_0).toLoadRect)⟩ :: _) (Rect.unit (s := S1024x256) ![512, 0] S512x256.size Gen.inb_S1024x256_S512x256_512_0).toLoadRect)⟩ :: ⟨(Rect.unit (s := S1024x256) ![0, 0] S1024x256.size Gen.inb_S1024x256_S1024x256_0_0), dqB (dsB (maskB (scB (arg2.view.readAt (Elt F) (Rect.unit (s := S1x1024x256) ![0, 0, 0] S1x1024x256.size Gen.inb_S1x1024x256_S1x1024x256_0_0_0).toLoadRect f2) (arg3.view.readAt (Elt F) (Rect.unit (s := S1x8192x256) (k0_off13 i 4#32) S1x512x256.size (Gen.k0_off13_inb i h3 4)).toLoadRect f3))) (gvB (arg6.view.readAt (Elt F) (Rect.unit (s := S1024x128) ![0, 0] S1024x128.size Gen.inb_S1024x128_S1024x128_0_0).toLoadRect f6) (arg4.view.readAt (Elt F) (Rect.unit (s := S8192x128) (k0_off14 i 4#32) S512x128.size (Gen.k0_off14_inb i h3 4)).toLoadRect f4)) (arg7.view.readAt (Elt F) (Rect.unit (s := S1x1024x128) ![0, 0, 0] S1x1024x128.size Gen.inb_S1x1024x128_S1x1024x128_0_0_0).toLoadRect f7) (arg12.view.readAt (Elt F) (Rect.unit (s := S1024x128) ![0, 0] S1024x128.size Gen.inb_S1024x128_S1024x128_0_0).toLoadRect f12)) (arg3.view.readAt (Elt F) (Rect.unit (s := S1x8192x256) (k0_off13 i 4#32) S1x512x256.size (Gen.k0_off13_inb i h3 4)).toLoadRect f3) (arg11.view.readCov (⟨(Rect.unit (s := S1024x256) ![0, 0] S1024x256.size Gen.inb_S1024x256_S1024x256_0_0), dqB (dsB (scB (arg2.view.readAt (Elt F) (Rect.unit (s := S1x1024x256) ![0, 0, 0] S1x1024x256.size Gen.inb_S1x1024x256_S1x1024x256_0_0_0).toLoadRect f2) (arg3.view.readAt (Elt F) (Rect.unit (s := S1x8192x256) (k0_off13 i 3#32) S1x512x256.size (Gen.k0_off13_inb i h3 3)).toLoadRect f3)) (gvB (arg6.view.readAt (Elt F) (Rect.unit (s := S1024x128) ![0, 0] S1024x128.size Gen.inb_S1024x128_S1024x128_0_0).toLoadRect f6) (arg4.view.readAt (Elt F) (Rect.unit (s := S8192x128) (k0_off14 i 3#32) S512x128.size (Gen.k0_off14_inb i h3 3)).toLoadRect f4)) (arg7.view.readAt (Elt F) (Rect.unit (s := S1x1024x128) ![0, 0, 0] S1x1024x128.size Gen.inb_S1x1024x128_S1x1024x128_0_0_0).toLoadRect f7) (arg12.view.readAt (Elt F) (Rect.unit (s := S1024x128) ![0, 0] S1024x128.size Gen.inb_S1024x128_S1024x128_0_0).toLoadRect f12)) (arg3.view.readAt (Elt F) (Rect.unit (s := S1x8192x256) (k0_off13 i 3#32) S1x512x256.size (Gen.k0_off13_inb i h3 3)).toLoadRect f3) (arg11.view.readCov (⟨(Rect.unit (s := S1024x256) ![0, 0] S1024x256.size Gen.inb_S1024x256_S1024x256_0_0), dqB (dsB (scB (arg2.view.readAt (Elt F) (Rect.unit (s := S1x1024x256) ![0, 0, 0] S1x1024x256.size Gen.inb_S1x1024x256_S1x1024x256_0_0_0).toLoadRect f2) (arg3.view.readAt (Elt F) (Rect.unit (s := S1x8192x256) (k0_off13 i 2#32) S1x512x256.size (Gen.k0_off13_inb i h3 2)).toLoadRect f3)) (gvB (arg6.view.readAt (Elt F) (Rect.unit (s := S1024x128) ![0, 0] S1024x128.size Gen.inb_S1024x128_S1024x128_0_0).toLoadRect f6) (arg4.view.readAt (Elt F) (Rect.unit (s := S8192x128) (k0_off14 i 2#32) S512x128.size (Gen.k0_off14_inb i h3 2)).toLoadRect f4)) (arg7.view.readAt (Elt F) (Rect.unit (s := S1x1024x128) ![0, 0, 0] S1x1024x128.size Gen.inb_S1x1024x128_S1x1024x128_0_0_0).toLoadRect f7) (arg12.view.readAt (Elt F) (Rect.unit (s := S1024x128) ![0, 0] S1024x128.size Gen.inb_S1024x128_S1024x128_0_0).toLoadRect f12)) (arg3.view.readAt (Elt F) (Rect.unit (s := S1x8192x256) (k0_off13 i 2#32) S1x512x256.size (Gen.k0_off13_inb i h3 2)).toLoadRect f3) (arg11.view.readCov (⟨(Rect.unit (s := S1024x256) ![0, 0] S1024x256.size Gen.inb_S1024x256_S1024x256_0_0), dqB (dsB (scB (arg2.view.readAt (Elt F) (Rect.unit (s := S1x1024x256) ![0, 0, 0] S1x1024x256.size Gen.inb_S1x1024x256_S1x1024x256_0_0_0).toLoadRect f2) (arg3.view.readAt (Elt F) (Rect.unit (s := S1x8192x256) (k0_off13 i 1#32) S1x512x256.size (Gen.k0_off13_inb i h3 1)).toLoadRect f3)) (gvB (arg6.view.readAt (Elt F) (Rect.unit (s := S1024x128) ![0, 0] S1024x128.size Gen.inb_S1024x128_S1024x128_0_0).toLoadRect f6) (arg4.view.readAt (Elt F) (Rect.unit (s := S8192x128) (k0_off14 i 1#32) S512x128.size (Gen.k0_off14_inb i h3 1)).toLoadRect f4)) (arg7.view.readAt (Elt F) (Rect.unit (s := S1x1024x128) ![0, 0, 0] S1x1024x128.size Gen.inb_S1x1024x128_S1x1024x128_0_0_0).toLoadRect f7) (arg12.view.readAt (Elt F) (Rect.unit (s := S1024x128) ![0, 0] S1024x128.size Gen.inb_S1024x128_S1024x128_0_0).toLoadRect f12)) (arg3.view.readAt (Elt F) (Rect.unit (s := S1x8192x256) (k0_off13 i 1#32) S1x512x256.size (Gen.k0_off13_inb i h3 1)).toLoadRect f3) (arg11.view.readCov (⟨(Rect.unit (s := S1024x256) ![0, 0] S1024x256.size Gen.inb_S1024x256_S1024x256_0_0), dqB (dsB (scB (arg2.view.readAt (Elt F) (Rect.unit (s := S1x1024x256) ![0, 0, 0] S1x1024x256.size Gen.inb_S1x1024x256_S1x1024x256_0_0_0).toLoadRect f2) (arg3.view.readAt (Elt F) (Rect.unit (s := S1x8192x256) (k0_off13 i 0#32) S1x512x256.size (Gen.k0_off13_inb i h3 0)).toLoadRect f3)) (gvB (arg6.view.readAt (Elt F) (Rect.unit (s := S1024x128) ![0, 0] S1024x128.size Gen.inb_S1024x128_S1024x128_0_0).toLoadRect f6) (arg4.view.readAt (Elt F) (Rect.unit (s := S8192x128) (k0_off14 i 0#32) S512x128.size (Gen.k0_off14_inb i h3 0)).toLoadRect f4)) (arg7.view.readAt (Elt F) (Rect.unit (s := S1x1024x128) ![0, 0, 0] S1x1024x128.size Gen.inb_S1x1024x128_S1x1024x128_0_0_0).toLoadRect f7) (arg12.view.readAt (Elt F) (Rect.unit (s := S1024x128) ![0, 0] S1024x128.size Gen.inb_S1024x128_S1024x128_0_0).toLoadRect f12)) (arg3.view.readAt (Elt F) (Rect.unit (s := S1x8192x256) (k0_off13 i 0#32) S1x512x256.size (Gen.k0_off13_inb i h3 0)).toLoadRect f3) (arg11.view.readAt (Elt F) (Rect.unit (s := S1024x256) ![0, 0] S1024x256.size Gen.inb_S1024x256_S1024x256_0_0).toLoadRect f11)⟩ :: _) (Rect.unit (s := S1024x256) ![0, 0] S1024x256.size Gen.inb_S1024x256_S1024x256_0_0).toLoadRect)⟩ :: _) (Rect.unit (s := S1024x256) ![0, 0] S1024x256.size Gen.inb_S1024x256_S1024x256_0_0).toLoadRect)⟩ :: _) (Rect.unit (s := S1024x256) ![0, 0] S1024x256.size Gen.inb_S1024x256_S1024x256_0_0).toLoadRect)⟩ :: _) (Rect.unit (s := S1024x256) ![0, 0] S1024x256.size Gen.inb_S1024x256_S1024x256_0_0).toLoadRect)⟩ :: _)) = _
    rw [View.read_writes_cons_put _ _ _ _ _ rfl, View.read_writes_full]
    exact hdq _ _ _ _ _ _ _ _ _
  · rw [hS', ← hX']
    show arg13.view.read (Elt F) (arg13.view.writes (Elt F) f13 [⟨(Rect.unit (s := S8192x256) (k0_off15 i 5#32) S512x256.size (Gen.k0_off15_inb i h3 5)), stK (dkH (dsH (maskH (scH (arg2.view.readAt (Elt F) (Rect.unit (s := S1x1024x256) ![0, 512, 0] S1x512x256.size Gen.inb_S1x1024x256_S1x512x256_0_512_0).toLoadRect f2) (arg3.view.readAt (Elt F) (Rect.unit (s := S1x8192x256) (k0_off13 i 5#32) S1x512x256.size (Gen.k0_off13_inb i h3 5)).toLoadRect f3))) (gvH (arg6.view.readAt (Elt F) (Rect.unit (s := S1024x128) ![512, 0] S512x128.size Gen.inb_S1024x128_S512x128_512_0).toLoadRect f6) (arg4.view.readAt (Elt F) (Rect.unit (s := S8192x128) (k0_off14 i 5#32) S512x128.size (Gen.k0_off14_inb i h3 5)).toLoadRect f4)) (arg7.view.readAt (Elt F) (Rect.unit (s := S1x1024x128) ![0, 512, 0] S1x512x128.size Gen.inb_S1x1024x128_S1x512x128_0_512_0).toLoadRect f7) (arg12.view.readAt (Elt F) (Rect.unit (s := S1024x128) ![512, 0] S512x128.size Gen.inb_S1024x128_S512x128_512_0).toLoadRect f12)) (arg2.view.readAt (Elt F) (Rect.unit (s := S1x1024x256) ![0, 512, 0] S1x512x256.size Gen.inb_S1x1024x256_S1x512x256_0_512_0).toLoadRect f2))⟩, ⟨(Rect.unit (s := S8192x256) (k0_off15 i 4#32) S512x256.size (Gen.k0_off15_inb i h3 4)), stK (dkB (dsB (maskB (scB (arg2.view.readAt (Elt F) (Rect.unit (s := S1x1024x256) ![0, 0, 0] S1x1024x256.size Gen.inb_S1x1024x256_S1x1024x256_0_0_0).toLoadRect f2) (arg3.view.readAt (Elt F) (Rect.unit (s := S1x8192x256) (k0_off13 i 4#32) S1x512x256.size (Gen.k0_off13_inb i h3 4)).toLoadRect f3))) (gvB (arg6.view.readAt (Elt F) (Rect.unit (s := S1024x128) ![0, 0] S1024x128.size Gen.inb_S1024x128_S1024x128_0_0).toLoadRect f6) (arg4.view.readAt (Elt F) (Rect.unit (s := S8192x128) (k0_off14 i 4#32) S512x128.size (Gen.k0_off14_inb i h3 4)).toLoadRect f4)) (arg7.view.readAt (Elt F) (Rect.unit (s := S1x1024x128) ![0, 0, 0] S1x1024x128.size Gen.inb_S1x1024x128_S1x1024x128_0_0_0).toLoadRect f7) (arg12.view.readAt (Elt F) (Rect.unit (s := S1024x128) ![0, 0] S1024x128.size Gen.inb_S1024x128_S1024x128_0_0).toLoadRect f12)) (arg2.view.readAt (Elt F) (Rect.unit (s := S1x1024x256) ![0, 0, 0] S1x1024x256.size Gen.inb_S1x1024x256_S1x1024x256_0_0_0).toLoadRect f2))⟩, ⟨(Rect.unit (s := S8192x256) (k0_off15 i 3#32) S512x256.size (Gen.k0_off15_inb i h3 3)), stK (addf (arg13.view.readAt (Elt F) (Rect.unit (s := S8192x256) (k0_off15 i 3#32) S512x256.size (Gen.k0_off15_inb i h3 3)).toLoadRect f13 : FVec F S512x256 .f32) (dkB (dsB (scB (arg2.view.readAt (Elt F) (Rect.unit (s := S1x1024x256) ![0, 0, 0] S1x1024x256.size Gen.inb_S1x1024x256_S1x1024x256_0_0_0).toLoadRect f2) (arg3.view.readAt (Elt F) (Rect.unit (s := S1x8192x256) (k0_off13 i 3#32) S1x512x256.size (Gen.k0_off13_inb i h3 3)).toLoadRect f3)) (gvB (arg6.view.readAt (Elt F) (Rect.unit (s := S1024x128) ![0, 0] S1024x128.size Gen.inb_S1024x128_S1024x128_0_0).toLoadRect f6) (arg4.view.readAt (Elt F) (Rect.unit (s := S8192x128) (k0_off14 i 3#32) S512x128.size (Gen.k0_off14_inb i h3 3)).toLoadRect f4)) (arg7.view.readAt (Elt F) (Rect.unit (s := S1x1024x128) ![0, 0, 0] S1x1024x128.size Gen.inb_S1x1024x128_S1x1024x128_0_0_0).toLoadRect f7) (arg12.view.readAt (Elt F) (Rect.unit (s := S1024x128) ![0, 0] S1024x128.size Gen.inb_S1024x128_S1024x128_0_0).toLoadRect f12)) (arg2.view.readAt (Elt F) (Rect.unit (s := S1x1024x256) ![0, 0, 0] S1x1024x256.size Gen.inb_S1x1024x256_S1x1024x256_0_0_0).toLoadRect f2)))⟩, ⟨(Rect.unit (s := S8192x256) (k0_off15 i 2#32) S512x256.size (Gen.k0_off15_inb i h3 2)), stK (addf (arg13.view.readAt (Elt F) (Rect.unit (s := S8192x256) (k0_off15 i 2#32) S512x256.size (Gen.k0_off15_inb i h3 2)).toLoadRect f13 : FVec F S512x256 .f32) (dkB (dsB (scB (arg2.view.readAt (Elt F) (Rect.unit (s := S1x1024x256) ![0, 0, 0] S1x1024x256.size Gen.inb_S1x1024x256_S1x1024x256_0_0_0).toLoadRect f2) (arg3.view.readAt (Elt F) (Rect.unit (s := S1x8192x256) (k0_off13 i 2#32) S1x512x256.size (Gen.k0_off13_inb i h3 2)).toLoadRect f3)) (gvB (arg6.view.readAt (Elt F) (Rect.unit (s := S1024x128) ![0, 0] S1024x128.size Gen.inb_S1024x128_S1024x128_0_0).toLoadRect f6) (arg4.view.readAt (Elt F) (Rect.unit (s := S8192x128) (k0_off14 i 2#32) S512x128.size (Gen.k0_off14_inb i h3 2)).toLoadRect f4)) (arg7.view.readAt (Elt F) (Rect.unit (s := S1x1024x128) ![0, 0, 0] S1x1024x128.size Gen.inb_S1x1024x128_S1x1024x128_0_0_0).toLoadRect f7) (arg12.view.readAt (Elt F) (Rect.unit (s := S1024x128) ![0, 0] S1024x128.size Gen.inb_S1024x128_S1024x128_0_0).toLoadRect f12)) (arg2.view.readAt (Elt F) (Rect.unit (s := S1x1024x256) ![0, 0, 0] S1x1024x256.size Gen.inb_S1x1024x256_S1x1024x256_0_0_0).toLoadRect f2)))⟩, ⟨(Rect.unit (s := S8192x256) (k0_off15 i 1#32) S512x256.size (Gen.k0_off15_inb i h3 1)), stK (addf (arg13.view.readAt (Elt F) (Rect.unit (s := S8192x256) (k0_off15 i 1#32) S512x256.size (Gen.k0_off15_inb i h3 1)).toLoadRect f13 : FVec F S512x256 .f32) (dkB (dsB (scB (arg2.view.readAt (Elt F) (Rect.unit (s := S1x1024x256) ![0, 0, 0] S1x1024x256.size Gen.inb_S1x1024x256_S1x1024x256_0_0_0).toLoadRect f2) (arg3.view.readAt (Elt F) (Rect.unit (s := S1x8192x256) (k0_off13 i 1#32) S1x512x256.size (Gen.k0_off13_inb i h3 1)).toLoadRect f3)) (gvB (arg6.view.readAt (Elt F) (Rect.unit (s := S1024x128) ![0, 0] S1024x128.size Gen.inb_S1024x128_S1024x128_0_0).toLoadRect f6) (arg4.view.readAt (Elt F) (Rect.unit (s := S8192x128) (k0_off14 i 1#32) S512x128.size (Gen.k0_off14_inb i h3 1)).toLoadRect f4)) (arg7.view.readAt (Elt F) (Rect.unit (s := S1x1024x128) ![0, 0, 0] S1x1024x128.size Gen.inb_S1x1024x128_S1x1024x128_0_0_0).toLoadRect f7) (arg12.view.readAt (Elt F) (Rect.unit (s := S1024x128) ![0, 0] S1024x128.size Gen.inb_S1024x128_S1024x128_0_0).toLoadRect f12)) (arg2.view.readAt (Elt F) (Rect.unit (s := S1x1024x256) ![0, 0, 0] S1x1024x256.size Gen.inb_S1x1024x256_S1x1024x256_0_0_0).toLoadRect f2)))⟩, ⟨(Rect.unit (s := S8192x256) (k0_off15 i 0#32) S512x256.size (Gen.k0_off15_inb i h3 0)), stK (addf (arg13.view.readAt (Elt F) (Rect.unit (s := S8192x256) (k0_off15 i 0#32) S512x256.size (Gen.k0_off15_inb i h3 0)).toLoadRect f13 : FVec F S512x256 .f32) (dkB (dsB (scB (arg2.view.readAt (Elt F) (Rect.unit (s := S1x1024x256) ![0, 0, 0] S1x1024x256.size Gen.inb_S1x1024x256_S1x1024x256_0_0_0).toLoadRect f2) (arg3.view.readAt (Elt F) (Rect.unit (s := S1x8192x256) (k0_off13 i 0#32) S1x512x256.size (Gen.k0_off13_inb i h3 0)).toLoadRect f3)) (gvB (arg6.view.readAt (Elt F) (Rect.unit (s := S1024x128) ![0, 0] S1024x128.size Gen.inb_S1024x128_S1024x128_0_0).toLoadRect f6) (arg4.view.readAt (Elt F) (Rect.unit (s := S8192x128) (k0_off14 i 0#32) S512x128.size (Gen.k0_off14_inb i h3 0)).toLoadRect f4)) (arg7.view.readAt (Elt F) (Rect.unit (s := S1x1024x128) ![0, 0, 0] S1x1024x128.size Gen.inb_S1x1024x128_S1x1024x128_0_0_0).toLoadRect f7) (arg12.view.readAt (Elt F) (Rect.unit (s := S1024x128) ![0, 0] S1024x128.size Gen.inb_S1024x128_S1024x128_0_0).toLoadRect f12)) (arg2.view.readAt (Elt F) (Rect.unit (s := S1x1024x256) ![0, 0, 0] S1x1024x256.size Gen.inb_S1x1024x256_S1x1024x256_0_0_0).toLoadRect f2)))⟩]) = _
    rw [View.read_writes_cons_put _ _ _ _ _ o13_5, View.read_writes_cons_put _ _ _ _ _ o13_4, View.read_writes_cons_put _ _ _ _ _ o13_3, View.read_writes_cons_put _ _ _ _ _ o13_2, View.read_writes_cons_put _ _ _ _ _ o13_1, View.read_writes_cons_put _ _ _ _ _ o13_0, View.writes_nil, w13_0, w13_1, w13_2, w13_3]
    rw [hq, hg, hl, hd, hqh, hgh, hlh, hdh, hk0, hv0, hk1, hv1, hk2, hv2, hk3, hv3, hk4, hv4, hk5, hv5]
    simp only [full, diag0, diag1]
    rw [window_put_k _ (2 * (i 1).val - 4 + 1) (2 * (i 1).val - 4 + 0) (by omega), window_put_k _ (2 * (i 1).val - 4 + 2) (2 * (i 1).val - 4 + 1) (by omega), window_put_k _ (2 * (i 1).val - 4 + 2) (2 * (i 1).val - 4 + 0) (by omega), window_put_k _ (2 * (i 1).val - 4 + 3) (2 * (i 1).val - 4 + 2) (by omega), window_put_k _ (2 * (i 1).val - 4 + 3) (2 * (i 1).val - 4 + 1) (by omega), window_put_k _ (2 * (i 1).val - 4 + 3) (2 * (i 1).val - 4 + 0) (by omega)]
    rfl
  · rw [hS', ← hX']
    show arg14.view.read (Elt F) (arg14.view.writes (Elt F) f14 [⟨(Rect.unit (s := S8192x128) (k0_off14 i 5#32) S512x128.size (Gen.k0_off14_inb i h3 5)), stV (dvH (pH (maskH (scH (arg2.view.readAt (Elt F) (Rect.unit (s := S1x1024x256) ![0, 512, 0] S1x512x256.size Gen.inb_S1x1024x256_S1x512x256_0_512_0).toLoadRect f2) (arg3.view.readAt (Elt F) (Rect.unit (s := S1x8192x256) (k0_off13 i 5#32) S1x512x256.size (Gen.k0_off13_inb i h3 5)).toLoadRect f3))) (arg7.view.readAt (Elt F) (Rect.unit (s := S1x1024x128) ![0, 512, 0] S1x512x128.size Gen.inb_S1x1024x128_S1x512x128_0_512_0).toLoadRect f7)) (arg6.view.readAt (Elt F) (Rect.unit (s := S1024x128) ![512, 0] S512x128.size Gen.inb_S1024x128_S512x128_512_0).toLoadRect f6))⟩, ⟨(Rect.unit (s := S8192x128) (k0_off14 i 4#32) S512x128.size (Gen.k0_off14_inb i h3 4)), stV (dvB (pB (maskB (scB (arg2.view.readAt (Elt F) (Rect.unit (s := S1x1024x256) ![0, 0, 0] S1x1024x256.size Gen.inb_S1x1024x256_S1x1024x256_0_0_0).toLoadRect f2) (arg3.view.readAt (Elt F) (Rect.unit (s := S1x8192x256) (k0_off13 i 4#32) S1x512x256.size (Gen.k0_off13_inb i h3 4)).toLoadRect f3))) (arg7.view.readAt (Elt F) (Rect.unit (s := S1x1024x128) ![0, 0, 0] S1x1024x128.size Gen.inb_S1x1024x128_S1x1024x128_0_0_0).toLoadRect f7)) (arg6.view.readAt (Elt F) (Rect.unit (s := S1024x128) ![0, 0] S1024x128.size Gen.inb_S1024x128_S1024x128_0_0).toLoadRect f6))⟩, ⟨(Rect.unit (s := S8192x128) (k0_off14 i 3#32) S512x128.size (Gen.k0_off14_inb i h3 3)), stV (addf (arg14.view.readAt (Elt F) (Rect.unit (s := S8192x128) (k0_off14 i 3#32) S512x128.size (Gen.k0_off14_inb i h3 3)).toLoadRect f14 : FVec F S512x128 .f32) (dvB (pB (scB (arg2.view.readAt (Elt F) (Rect.unit (s := S1x1024x256) ![0, 0, 0] S1x1024x256.size Gen.inb_S1x1024x256_S1x1024x256_0_0_0).toLoadRect f2) (arg3.view.readAt (Elt F) (Rect.unit (s := S1x8192x256) (k0_off13 i 3#32) S1x512x256.size (Gen.k0_off13_inb i h3 3)).toLoadRect f3)) (arg7.view.readAt (Elt F) (Rect.unit (s := S1x1024x128) ![0, 0, 0] S1x1024x128.size Gen.inb_S1x1024x128_S1x1024x128_0_0_0).toLoadRect f7)) (arg6.view.readAt (Elt F) (Rect.unit (s := S1024x128) ![0, 0] S1024x128.size Gen.inb_S1024x128_S1024x128_0_0).toLoadRect f6)))⟩, ⟨(Rect.unit (s := S8192x128) (k0_off14 i 2#32) S512x128.size (Gen.k0_off14_inb i h3 2)), stV (addf (arg14.view.readAt (Elt F) (Rect.unit (s := S8192x128) (k0_off14 i 2#32) S512x128.size (Gen.k0_off14_inb i h3 2)).toLoadRect f14 : FVec F S512x128 .f32) (dvB (pB (scB (arg2.view.readAt (Elt F) (Rect.unit (s := S1x1024x256) ![0, 0, 0] S1x1024x256.size Gen.inb_S1x1024x256_S1x1024x256_0_0_0).toLoadRect f2) (arg3.view.readAt (Elt F) (Rect.unit (s := S1x8192x256) (k0_off13 i 2#32) S1x512x256.size (Gen.k0_off13_inb i h3 2)).toLoadRect f3)) (arg7.view.readAt (Elt F) (Rect.unit (s := S1x1024x128) ![0, 0, 0] S1x1024x128.size Gen.inb_S1x1024x128_S1x1024x128_0_0_0).toLoadRect f7)) (arg6.view.readAt (Elt F) (Rect.unit (s := S1024x128) ![0, 0] S1024x128.size Gen.inb_S1024x128_S1024x128_0_0).toLoadRect f6)))⟩, ⟨(Rect.unit (s := S8192x128) (k0_off14 i 1#32) S512x128.size (Gen.k0_off14_inb i h3 1)), stV (addf (arg14.view.readAt (Elt F) (Rect.unit (s := S8192x128) (k0_off14 i 1#32) S512x128.size (Gen.k0_off14_inb i h3 1)).toLoadRect f14 : FVec F S512x128 .f32) (dvB (pB (scB (arg2.view.readAt (Elt F) (Rect.unit (s := S1x1024x256) ![0, 0, 0] S1x1024x256.size Gen.inb_S1x1024x256_S1x1024x256_0_0_0).toLoadRect f2) (arg3.view.readAt (Elt F) (Rect.unit (s := S1x8192x256) (k0_off13 i 1#32) S1x512x256.size (Gen.k0_off13_inb i h3 1)).toLoadRect f3)) (arg7.view.readAt (Elt F) (Rect.unit (s := S1x1024x128) ![0, 0, 0] S1x1024x128.size Gen.inb_S1x1024x128_S1x1024x128_0_0_0).toLoadRect f7)) (arg6.view.readAt (Elt F) (Rect.unit (s := S1024x128) ![0, 0] S1024x128.size Gen.inb_S1024x128_S1024x128_0_0).toLoadRect f6)))⟩, ⟨(Rect.unit (s := S8192x128) (k0_off14 i 0#32) S512x128.size (Gen.k0_off14_inb i h3 0)), stV (addf (arg14.view.readAt (Elt F) (Rect.unit (s := S8192x128) (k0_off14 i 0#32) S512x128.size (Gen.k0_off14_inb i h3 0)).toLoadRect f14 : FVec F S512x128 .f32) (dvB (pB (scB (arg2.view.readAt (Elt F) (Rect.unit (s := S1x1024x256) ![0, 0, 0] S1x1024x256.size Gen.inb_S1x1024x256_S1x1024x256_0_0_0).toLoadRect f2) (arg3.view.readAt (Elt F) (Rect.unit (s := S1x8192x256) (k0_off13 i 0#32) S1x512x256.size (Gen.k0_off13_inb i h3 0)).toLoadRect f3)) (arg7.view.readAt (Elt F) (Rect.unit (s := S1x1024x128) ![0, 0, 0] S1x1024x128.size Gen.inb_S1x1024x128_S1x1024x128_0_0_0).toLoadRect f7)) (arg6.view.readAt (Elt F) (Rect.unit (s := S1024x128) ![0, 0] S1024x128.size Gen.inb_S1024x128_S1024x128_0_0).toLoadRect f6)))⟩]) = _
    rw [View.read_writes_cons_put _ _ _ _ _ o4_5, View.read_writes_cons_put _ _ _ _ _ o4_4, View.read_writes_cons_put _ _ _ _ _ o4_3, View.read_writes_cons_put _ _ _ _ _ o4_2, View.read_writes_cons_put _ _ _ _ _ o4_1, View.read_writes_cons_put _ _ _ _ _ o4_0, View.writes_nil, w14_0, w14_1, w14_2, w14_3]
    rw [hq, hg, hl, hqh, hgh, hlh, hk0, hk1, hk2, hk3, hk4, hk5]
    simp only [full, diag0, diag1]
    rw [window_put_v _ (2 * (i 1).val - 4 + 1) (2 * (i 1).val - 4 + 0) (by omega), window_put_v _ (2 * (i 1).val - 4 + 2) (2 * (i 1).val - 4 + 1) (by omega), window_put_v _ (2 * (i 1).val - 4 + 2) (2 * (i 1).val - 4 + 0) (by omega), window_put_v _ (2 * (i 1).val - 4 + 3) (2 * (i 1).val - 4 + 2) (by omega), window_put_v _ (2 * (i 1).val - 4 + 3) (2 * (i 1).val - 4 + 1) (by omega), window_put_v _ (2 * (i 1).val - 4 + 3) (2 * (i 1).val - 4 + 0) (by omega)]
    rfl

end Cert.KernelIdeal.Attn
-- ==== Proof.Cc0.lean ====
module

public import proofs.«01_k».proof.Proof.Arm3
public import Idealize.ShloMosaic.Lib.Updates.Own
public import Idealize.ShloMosaic.Lib.Updates.Loop
public import Idealize.ShloMosaic.Lib.LaneScatter.Fold

/-! One grid point, whichever remainder it meets. -/

@[expose] public section

noncomputable section

namespace Cert.KernelIdeal.Attn

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.LaneScatter (raw raw_owns bind_of_run)
open Idealize.ShloMosaic.Updates

variable {F : FTy → Type} [FloatOps F] [Named F]

local notation "𝕄" => MT nD τ sig Unit (Elt F) ℕ (UR sig nD τ) ℕ

/-- A grid point: the queries' gradient is written; the keys' and the values' gradients at a head's last point, and otherwise those buffers are left. -/
theorem cc0_pt (c : Dev nD) (i : grid0.Coords) (arg2 : Memref sig .tc .vmem S1x1024x256 .bf16) (harg2 : arg2.IsWhole) (arg3 : Memref sig .tc .vmem S1x8192x256 .bf16) (harg3 : arg3.IsWhole) (arg4 : Memref sig .tc .vmem S8192x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1x1024x128 .f32) (harg7 : arg7.IsWhole) (arg8 : Memref sig .tc .vmem S1x1024x256 .bf16) (harg8 : arg8.IsWhole) (arg9 : Memref sig .tc .vmem S1x8192x256 .bf16) (harg9 : arg9.IsWhole) (arg10 : Memref sig .tc .vmem S1x8192x128 .bf16) (harg10 : arg10.IsWhole) (arg11 : Memref sig .tc .vmem S1024x256 .f32) (harg11 : arg11.IsWhole) (arg12 : Memref sig .tc .vmem S1024x128 .f32) (harg12 : arg12.IsWhole) (arg13 : Memref sig .tc .vmem S8192x256 .f32) (harg13 : arg13.IsWhole) (arg14 : Memref sig .tc .vmem S8192x128 .f32) (harg14 : arg14.IsWhole) (q : Vec F S1x1024x256 .bf16) (k : Vec F S1x8192x256 .bf16) (v : Vec F S8192x128 .bf16)
    (g : Vec F S1024x128 .bf16) (l : Vec F S1x1024x128 .f32) (o : Vec F S1024x128 .bf16) (x12 : Vec F S1024x128 .f32) (x11 : Vec F S1024x256 .f32)
    (dk : Vec F S8192x256 .f32) (dv : Vec F S8192x128 .f32) (x8 : Vec F S1x1024x256 .bf16) (x9 : Vec F S1x8192x256 .bf16) (x10 : Vec F S1x8192x128 .bf16)
    (X : Inp F) (hX : X = ⟨q, k, v, g, l, deltaOf g o⟩) (S : Acc F) (hS : S = pointAcc X (i 1).val ⟨zeroQ, dk, dv⟩) :
    iprop(owns (c : Thread nD τ) arg8 fullShare x8 ∗ owns (c : Thread nD τ) arg9 fullShare x9 ∗ owns (c : Thread nD τ) arg10 fullShare x10
        ∗ owns (c : Thread nD τ) arg5 fullShare o ∗ Pt c arg2 arg3 arg4 arg6 arg7 arg11 arg12 arg13 arg14 ⟨q, k, v, g, l, x12⟩ ⟨x11, dk, dv⟩) ⊢
      (wp frame (wpE defs₀ Variants.none (c : Thread nD τ) none) Set.univ (cc0_attn_bwd (F := F) i arg2 harg2 arg3 harg3 arg4 harg4 arg5 harg5 arg6 harg6 arg7 harg7 arg8 harg8 arg9 harg9 arg10 harg10 arg11 harg11 arg12 harg12 arg13 harg13 arg14 harg14)
        (fun _ => iprop(owns (c : Thread nD τ) arg8 fullShare (outQ S)
          ∗ owns (c : Thread nD τ) arg9 fullShare (if k0_cond4 i = 1#1 then outK S else x9 : Vec F S1x8192x256 .bf16)
          ∗ owns (c : Thread nD τ) arg10 fullShare (if k0_cond4 i = 1#1 then outV S else x10 : Vec F S1x8192x128 .bf16)
          ∗ owns (c : Thread nD τ) arg5 fullShare o ∗ Pt c arg2 arg3 arg4 arg6 arg7 arg11 arg12 arg13 arg14 X S)) : sProp 𝕄) := by
  by_cases h4 : k0_cond4 i = 1#1
  · have h3 : ¬ k0_cond3 i = 1#1 := fun h => (cond3_trips i h).2.2.1 h4
    rw [if_pos h4, if_pos h4]
    exact cc0_last c i h3 h4 arg2 harg2 arg3 harg3 arg4 harg4 arg5 harg5 arg6 harg6 arg7 harg7 arg8 harg8 arg9 harg9 arg10 harg10 arg11 harg11 arg12 harg12 arg13 harg13 arg14 harg14 q k v g l o x12 x11 dk dv x8 x9 x10 X hX S hS
  · rw [if_neg h4, if_neg h4]
    by_cases h3 : k0_cond3 i = 1#1
    · exact cc0_rem c i h3 arg2 harg2 arg3 harg3 arg4 harg4 arg5 harg5 arg6 harg6 arg7 harg7 arg8 harg8 arg9 harg9 arg10 harg10 arg11 harg11 arg12 harg12 arg13 harg13 arg14 harg14 q k v g l o x12 x11 dk dv x8 x9 x10 X hX S hS
    · exact cc0_mid c i h3 h4 arg2 harg2 arg3 harg3 arg4 harg4 arg5 harg5 arg6 harg6 arg7 harg7 arg8 harg8 arg9 harg9 arg10 harg10 arg11 harg11 arg12 harg12 arg13 harg13 arg14 harg14 q k v g l o x12 x11 dk dv x8 x9 x10 X hX S hS

end Cert.KernelIdeal.Attn
-- ==== Proof.Parts.lean ====
module

public import proofs.«01_k».proof.Proof.Trip

/-! The accumulators' values block by block: what a key block's rows hold after the query blocks below a number, and that a point extends it. -/

@[expose] public section

noncomputable section

namespace Cert.KernelIdeal.Attn

open Cert.KernelIdeal
open Idealize.ShloMosaic Idealize.ShloMosaic.TcCoe

variable {F : FTy → Type} [FloatOps F] [Named F]

/-- The keys' gradient in the rows of key block `t` after the query blocks below `n`: the diagonal block assigns, later query blocks add. -/
def kpart (Xs : ℕ → Inp F) (t : ℕ) : ℕ → FVec F S512x256 .f32
  | 0 => stK (dkB (dsD0 (Xs 0) t) (Xs 0).q)
  | n + 1 => if t < 2 * n then stK (addf (kpart Xs t n) (dkB (dsAt (Xs n) t) (Xs n).q))
      else if t = 2 * n then stK (dkB (dsD0 (Xs n) t) (Xs n).q) else stK (dkH (dsD1 (Xs n) t) (Xs n).qh)

/-- The values' gradient in the rows of key block `t` after the query blocks below `n`. -/
def vpart (Xs : ℕ → Inp F) (t : ℕ) : ℕ → FVec F S512x128 .f32
  | 0 => stV (dvB (pB (scB (Xs 0).q ((Xs 0).kb t)) (Xs 0).l) (Xs 0).g)
  | n + 1 => if t < 2 * n then stV (addf (vpart Xs t n) (dvB (pB (scB (Xs n).q ((Xs n).kb t)) (Xs n).l) (Xs n).g))
      else if t = 2 * n then stV (dvB (pB (maskB (scB (Xs n).q ((Xs n).kb t))) (Xs n).l) (Xs n).g)
      else stV (dvH (pH (maskH (scH (Xs n).qh ((Xs n).kb t))) (Xs n).lh) (Xs n).gh)

/-- The queries' gradient after the full key blocks below `n`. -/
def dqFulls (X : Inp F) : ℕ → FVec F S1024x256 .f32
  | 0 => zeroQ
  | n + 1 => dqB (dsAt X n) (X.kb n) (dqFulls X n)

/-- The queries' gradient with the first diagonal block. -/
def dqDiag (X : Inp F) (i : ℕ) : FVec F S1024x256 .f32 := dqB (dsD0 X (2 * i)) (X.kb (2 * i)) (dqFulls X (2 * i))

/-- The queries' gradient of query block `i`. -/
def dqPoint (X : Inp F) (i : ℕ) : Vec F S1024x256 .f32 :=
  VecWindow.put (dqDiag X i : Vec F S1024x256 .f32) ![512, 0] S512x256.size
    (dqH (dsD1 X (2 * i + 1)) (X.kb (2 * i + 1)) (VecWindow.window (dqDiag X i : Vec F S1024x256 .f32) ![512, 0] S512x256.size Gen.inb_S1024x256_S512x256_512_0))

theorem fulls_dq (X : Inp F) (s : Acc F) (h : s.dq = zeroQ) : ∀ n, (fulls X n s).dq = dqFulls X n
  | 0 => h
  | n + 1 => by
    show dqB (dsAt X n) (X.kb n) (fulls X n s).dq = dqB (dsAt X n) (X.kb n) (dqFulls X n)
    rw [fulls_dq X s h n]

/-- A point's gradient of the queries. -/
theorem pointAcc_dq (X : Inp F) (i : ℕ) (s : Acc F) (h : s.dq = zeroQ) : (pointAcc X i s).dq = dqPoint X i := by
  unfold pointAcc diag1 diag0
  simp only
  rw [fulls_dq X s h]
  rfl

/-- Full blocks change a key block's rows once, if at all. -/
theorem fulls_dk (X : Inp F) (s : Acc F) (t : ℕ) (ht : t < 16) : ∀ n, n ≤ 16 →
    (VecWindow.window (fulls X n s).dk (at2 t) S512x256.size (at2_k t) : FVec F S512x256 .f32)
      = if t < n then stK (addf (VecWindow.window s.dk (at2 t) S512x256.size (at2_k t) : FVec F S512x256 .f32) (dkB (dsAt X t) X.q))
        else VecWindow.window s.dk (at2 t) S512x256.size (at2_k t)
  | 0, _ => (if_neg (Nat.not_lt_zero t)).symm
  | n + 1, hn => by
    have ih := fulls_dk X s t ht n (by omega)
    rcases eq_or_ne t n with e | e
    · subst e
      rw [if_pos (Nat.lt_succ_self t)]
      rw [if_neg (Nat.lt_irrefl t)] at ih
      exact (VecWindow.window_put_same _ _ _ _ _).trans (by rw [ih])
    · refine (window_put_k _ t n (by omega) _).trans (ih.trans ?_)
      by_cases h : t < n
      · rw [if_pos h, if_pos (by omega)]
      · rw [if_neg h, if_neg (by omega)]

theorem fulls_dv (X : Inp F) (s : Acc F) (t : ℕ) (ht : t < 16) : ∀ n, n ≤ 16 →
    (VecWindow.window (fulls X n s).dv (at2 t) S512x128.size (at2_v t) : FVec F S512x128 .f32)
      = if t < n then stV (addf (VecWindow.window s.dv (at2 t) S512x128.size (at2_v t) : FVec F S512x128 .f32) (dvB (pB (scB X.q (X.kb t)) X.l) X.g))
        else VecWindow.window s.dv (at2 t) S512x128.size (at2_v t)
  | 0, _ => (if_neg (Nat.not_lt_zero t)).symm
  | n + 1, hn => by
    have ih := fulls_dv X s t ht n (by omega)
    rcases eq_or_ne t n with e | e
    · subst e
      rw [if_pos (Nat.lt_succ_self t)]
      rw [if_neg (Nat.lt_irrefl t)] at ih
      exact (VecWindow.window_put_same _ _ _ _ _).trans (by rw [ih])
    · refine (window_put_v _ t n (by omega) _).trans (ih.trans ?_)
      by_cases h : t < n
      · rw [if_pos h, if_pos (by omega)]
      · rw [if_neg h, if_neg (by omega)]

/-- A point carries the keys' gradient from the query blocks below `n` to those below `n + 1`. -/
theorem pointAcc_dk (Xs : ℕ → Inp F) (n : ℕ) (hn : n < 8) (s : Acc F)
    (h : ∀ t, t < 2 * n → VecWindow.window s.dk (at2 t) S512x256.size (at2_k t) = kpart Xs t n) (t : ℕ) (ht : t < 2 * (n + 1)) :
    VecWindow.window (pointAcc (Xs n) n s).dk (at2 t) S512x256.size (at2_k t) = kpart Xs t (n + 1) := by
  unfold kpart
  by_cases h1 : t < 2 * n
  · rw [if_pos h1]
    refine (window_put_k _ t (2 * n + 1) (by omega) _).trans ((window_put_k _ t (2 * n) (by omega) _).trans ((fulls_dk (Xs n) s t (by omega) (2 * n) (by omega)).trans ?_))
    rw [if_pos h1, h t h1]
  · rw [if_neg h1]
    by_cases h2 : t = 2 * n
    · rw [if_pos h2]
      refine (window_put_k _ t (2 * n + 1) (by omega) _).trans ?_
      subst h2
      exact VecWindow.window_put_same _ _ _ _ _
    · rw [if_neg h2]
      obtain rfl : t = 2 * n + 1 := by omega
      exact VecWindow.window_put_same _ _ _ _ _

/-- A point carries the values' gradient from the query blocks below `n` to those below `n + 1`. -/
theorem pointAcc_dv (Xs : ℕ → Inp F) (n : ℕ) (hn : n < 8) (s : Acc F)
    (h : ∀ t, t < 2 * n → VecWindow.window s.dv (at2 t) S512x128.size (at2_v t) = vpart Xs t n) (t : ℕ) (ht : t < 2 * (n + 1)) :
    VecWindow.window (pointAcc (Xs n) n s).dv (at2 t) S512x128.size (at2_v t) = vpart Xs t (n + 1) := by
  unfold vpart
  by_cases h1 : t < 2 * n
  · rw [if_pos h1]
    refine (window_put_v _ t (2 * n + 1) (by omega) _).trans ((window_put_v _ t (2 * n) (by omega) _).trans ((fulls_dv (Xs n) s t (by omega) (2 * n) (by omega)).trans ?_))
    rw [if_pos h1, h t h1]
  · rw [if_neg h1]
    by_cases h2 : t = 2 * n
    · rw [if_pos h2]
      refine (window_put_v _ t (2 * n + 1) (by omega) _).trans ?_
      subst h2
      exact VecWindow.window_put_same _ _ _ _ _
    · rw [if_neg h2]
      obtain rfl : t = 2 * n + 1 := by omega
      exact VecWindow.window_put_same _ _ _ _ _

/-- Sixteen blocks of 512 rows as one matrix of 256 columns. -/
def stackK (w : ℕ → FVec F S512x256 .f32) : Vec F S8192x256 .f32 :=
  fun j => w ((j 0).val / 512) (Fin.cons ⟨(j 0).val % 512, Nat.mod_lt _ (by decide)⟩ (Fin.cons (j 1) finZeroElim))

/-- Sixteen blocks of 512 rows as one matrix of 128 columns. -/
def stackV (w : ℕ → FVec F S512x128 .f32) : Vec F S8192x128 .f32 :=
  fun j => w ((j 0).val / 512) (Fin.cons ⟨(j 0).val % 512, Nat.mod_lt _ (by decide)⟩ (Fin.cons (j 1) finZeroElim))

theorem stackK_eq (x : Vec F S8192x256 .f32) (w : ℕ → FVec F S512x256 .f32)
    (h : ∀ t, t < 16 → VecWindow.window x (at2 t) S512x256.size (at2_k t) = w t) : x = stackK w := by
  funext j
  have hj : (j 0).val < 8192 := (j 0).isLt
  unfold stackK
  rw [← h ((j 0).val / 512) (by omega)]
  refine congrArg x (funext fun a => Fin.ext ?_)
  fin_cases a
  · show (j 0).val = 512 * ((j 0).val / 512 % 16) + 1 * ((j 0).val % 512)
    omega
  · show (j 1).val = 0 + 1 * (j 1).val
    omega

theorem stackV_eq (x : Vec F S8192x128 .f32) (w : ℕ → FVec F S512x128 .f32)
    (h : ∀ t, t < 16 → VecWindow.window x (at2 t) S512x128.size (at2_v t) = w t) : x = stackV w := by
  funext j
  have hj : (j 0).val < 8192 := (j 0).isLt
  unfold stackV
  rw [← h ((j 0).val / 512) (by omega)]
  refine congrArg x (funext fun a => Fin.ext ?_)
  fin_cases a
  · show (j 0).val = 512 * ((j 0).val / 512 % 16) + 1 * ((j 0).val % 512)
    omega
  · show (j 1).val = 0 + 1 * (j 1).val
    omega

end Cert.KernelIdeal.Attn
-- ==== Proof.Run.lean ====
module

public import proofs.«01_k».proof.Proof.Cc0
public import proofs.«01_k».proof.Proof.Parts

/-! The run: what the invariant between grid points says, the obligation of the body at every point, and the whole launch. -/

@[expose] public section

set_option maxRecDepth 16384

noncomputable section

namespace Cert.KernelIdeal.Attn

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem coords_one : ∀ t : Fin cfg0.N, ((grid0.coords t) 1).val = t.val % 8 := by decide +kernel

/-- The grid point of a number. -/
def point (n : ℕ) : Fin cfg0.N := ⟨n % 128, Nat.mod_lt _ (by decide)⟩

/-- What the point `t` reads. -/
def Xin (c : Dev nD) (t : Fin cfg0.N) : Inp F :=
  ⟨Gen.iblk m c 0 t, Gen.iblk m c 1 t, Gen.iblk m c 2 t, Gen.iblk m c 4 t, Gen.iblk m c 5 t, deltaOf (Gen.iblk m c 4 t) (Gen.iblk m c 3 t)⟩

/-- What the points of the head of point number `n` read. -/
def hd (c : Dev nD) (n : ℕ) : ℕ → Inp F := fun i => Xin m c (point (8 * (n / 8) + i))

/-- What a point writes of the queries' gradient. -/
def oQ (c : Dev nD) (t : Fin cfg0.N) : FVec F S1x1024x256 .bf16 := Gen.k0_pay6 (dqPoint (Xin m c t) (t.val % 8))
/-- What a head's last point writes of the keys' gradient. -/
def oK (c : Dev nD) (t : Fin cfg0.N) : FVec F S1x8192x256 .bf16 := Gen.k0_pay7 (stackK fun u => kpart (hd m c t.val) u 8)
/-- What a head's last point writes of the values' gradient. -/
def oV (c : Dev nD) (t : Fin cfg0.N) : FVec F S1x8192x128 .bf16 := Gen.k0_pay8 (stackV fun u => vpart (hd m c t.val) u 8)

/-- The accumulators of the keys' and values' gradients hold the parts of the query blocks gone through. -/
def Held (c : Dev nD) (n : ℕ) (dk : Vec F S8192x256 .f32) (dv : Vec F S8192x128 .f32) : Prop :=
  (∀ u, u < 2 * (n % 8) → VecWindow.window dk (at2 u) S512x256.size (at2_k u) = kpart (hd m c n) u (n % 8))
    ∧ ∀ u, u < 2 * (n % 8) → VecWindow.window dv (at2 u) S512x128.size (at2_v u) = vpart (hd m c n) u (n % 8)

/-- Between points: the scratch buffers, the keys' and values' accumulators as `Held` says. -/
def Inv (c : Dev nD) (n : ℕ) : sProp 𝕄 :=
  iprop((∃ x11 x12 dk dv, ⌜Held m c n dk dv⌝ ∗ owns (c : Thread nD τ) (Memref.whole cc0_scratch0) fullShare x11
      ∗ owns (c : Thread nD τ) (Memref.whole cc0_scratch1) fullShare x12
      ∗ owns (c : Thread nD τ) (Memref.whole cc0_scratch2) fullShare dk ∗ owns (c : Thread nD τ) (Memref.whole cc0_scratch3) fullShare dv)
    ∗ ∃ r, prngReg c r)

/-- The proof data of the launch. -/
def dats (_ : Fin 1) (c : Dev nD) : Dat τ (Elt F) Unit ℕ (UR sig nD τ) ℕ cfg0 c where
  A := fun w => Gen.V m c (Pipeline.arrRef spec0 w)
  after w t := match w with
    | ⟨0, _⟩ => Gen.iblk m c 0 t
    | ⟨1, _⟩ => Gen.iblk m c 1 t
    | ⟨2, _⟩ => Gen.iblk m c 2 t
    | ⟨3, _⟩ => Gen.iblk m c 3 t
    | ⟨4, _⟩ => Gen.iblk m c 4 t
    | ⟨5, _⟩ => Gen.iblk m c 5 t
    | ⟨6, _⟩ => oQ m c t
    | ⟨7, _⟩ => oK m c t
    | ⟨8, _⟩ => oV m c t
  Φ := fun t => Inv m c t.val
  q := fun _ => fullShare
  owed := fun _ => 0

theorem held_next (c : Dev nD) (t : Fin cfg0.N) (dk : Vec F S8192x256 .f32) (dv : Vec F S8192x128 .f32) (h : Held m c t.val dk dv)
    (S : Acc F) (hS : S = pointAcc (Xin m c t) (t.val % 8) ⟨zeroQ, dk, dv⟩) :
    (∀ u, u < 2 * (t.val % 8 + 1) → VecWindow.window S.dk (at2 u) S512x256.size (at2_k u) = kpart (hd m c t.val) u (t.val % 8 + 1))
      ∧ ∀ u, u < 2 * (t.val % 8 + 1) → VecWindow.window S.dv (at2 u) S512x128.size (at2_v u) = vpart (hd m c t.val) u (t.val % 8 + 1) := by
  have e : Xin m c t = hd m c t.val (t.val % 8) := by
    have ht : t.val < 128 := t.isLt
    refine congrArg (Xin m c) (Fin.ext ?_)
    show t.val = (8 * (t.val / 8) + t.val % 8) % 128
    omega
  rw [e] at hS
  subst hS
  exact ⟨pointAcc_dk (hd m c t.val) (t.val % 8) (by omega) ⟨zeroQ, dk, dv⟩ h.1, pointAcc_dv (hd m c t.val) (t.val % 8) (by omega) ⟨zeroQ, dk, dv⟩ h.2⟩

theorem held_succ (c : Dev nD) (t : Fin cfg0.N) (dk : Vec F S8192x256 .f32) (dv : Vec F S8192x128 .f32) (h : Held m c t.val dk dv)
    (S : Acc F) (hS : S = pointAcc (Xin m c t) (t.val % 8) ⟨zeroQ, dk, dv⟩) : Held m c (t.val + 1) S.dk S.dv := by
  have n := held_next m c t dk dv h S hS
  by_cases h7 : t.val % 8 = 7
  · have e : (t.val + 1) % 8 = 0 := by omega
    unfold Held
    rw [e]
    exact ⟨fun u hu => absurd hu (Nat.not_lt_zero u), fun u hu => absurd hu (Nat.not_lt_zero u)⟩
  · have e : (t.val + 1) % 8 = t.val % 8 + 1 := by omega
    have e' : hd m c (t.val + 1) = hd m c t.val := by
      unfold hd
      rw [show (t.val + 1) / 8 = t.val / 8 from by omega]
    unfold Held
    rw [e, e']
    exact n

/-- The last point of a head: the accumulators hold every key block's gradient. -/
theorem held_last (c : Dev nD) (t : Fin cfg0.N) (dk : Vec F S8192x256 .f32) (dv : Vec F S8192x128 .f32) (h : Held m c t.val dk dv)
    (S : Acc F) (hS : S = pointAcc (Xin m c t) (t.val % 8) ⟨zeroQ, dk, dv⟩) (h7 : t.val % 8 = 7) : outK S = oK m c t ∧ outV S = oV m c t := by
  have n := held_next m c t dk dv h S hS
  rw [h7] at n
  exact ⟨congrArg Gen.k0_pay7 (stackK_eq S.dk _ n.1), congrArg Gen.k0_pay8 (stackV_eq S.dv _ n.2)⟩

theorem dats_A (c : Dev nD) (w) : (dats m 0 c).A w = Gen.V m c (Pipeline.arrRef spec0 w) := by dsimp only [dats]
theorem dats_inv (c : Dev nD) (t) : (dats m 0 c).Φ t = Inv m c t.val := by dsimp only [dats]
/-- A triple under a frame. -/
theorem wp_wand_of {c : Dev nD} {α : Type} {e : Prog (TpuEff nD τ sig (Elt F) Λ₀ .tc) α} {P : sProp 𝕄} {Q R : α → sProp 𝕄}
    (h : P ⊢ wp frame (wpE defs₀ Variants.none (c : Thread nD τ) none) Set.univ e Q) :
    iprop(P ∗ (∀ a, Q a -∗ R a)) ⊢ wp frame (wpE defs₀ Variants.none (c : Thread nD τ) none) Set.univ e R := by
  iintro ⟨HP, HK⟩
  iapply (wp_wand_r frame (wpE defs₀ Variants.none (c : Thread nD τ) none) Set.univ)
  isplitl [HP]
  · iapply h; iexact HP
  · iexact HK

/-- A scratch buffer as the body takes it. -/
theorem scratch_owns (c : Dev nD) (b : Ref sig .tc) (f : b.ty.Contents (Elt F)) :
    (((c : Thread nD τ).loc b) ↦{fullShare} (f : Buf (Elt F) ((c : Thread nD τ).loc b))) ⊢ (owns (c : Thread nD τ) (Memref.whole b) fullShare f : sProp 𝕄) := by
  rw [owns_whole_eq]
  iintro H
  iexists f
  isplitr; ipureintro; rfl
  iexact H

/-- And back. -/
theorem owns_scratch (c : Dev nD) (b : Ref sig .tc) (f : b.ty.Contents (Elt F)) :
    (owns (c : Thread nD τ) (Memref.whole b) fullShare f : sProp 𝕄) ⊢ iprop(∃ f : Buf (Elt F) ((c : Thread nD τ).loc b), ((c : Thread nD τ).loc b) ↦{fullShare} f) := by
  rw [owns_whole_eq]
  iintro ⟨%g, %e, H⟩
  iexists g
  iexact H

theorem before_0 (c : Dev nD) (t : Fin cfg0.N) (d) : (dats m 0 c).before 0 t d = Gen.iblk m c 0 t :=
  Gen.before0_0_of m (dats m 0 c) (dats_A m c 0) (fun t => by dsimp only [dats]) t d
theorem before_1 (c : Dev nD) (t : Fin cfg0.N) (d) : (dats m 0 c).before 1 t d = Gen.iblk m c 1 t :=
  Gen.before0_1_of m (dats m 0 c) (dats_A m c 1) (fun t => by dsimp only [dats]) t d
theorem before_2 (c : Dev nD) (t : Fin cfg0.N) (d) : (dats m 0 c).before 2 t d = Gen.iblk m c 2 t :=
  Gen.before0_2_of m (dats m 0 c) (dats_A m c 2) (fun t => by dsimp only [dats]) t d
theorem before_3 (c : Dev nD) (t : Fin cfg0.N) (d) : (dats m 0 c).before 3 t d = Gen.iblk m c 3 t :=
  Gen.before0_3_of m (dats m 0 c) (dats_A m c 3) (fun t => by dsimp only [dats]) t d
theorem before_4 (c : Dev nD) (t : Fin cfg0.N) (d) : (dats m 0 c).before 4 t d = Gen.iblk m c 4 t :=
  Gen.before0_4_of m (dats m 0 c) (dats_A m c 4) (fun t => by dsimp only [dats]) t d
theorem before_5 (c : Dev nD) (t : Fin cfg0.N) (d) : (dats m 0 c).before 5 t d = Gen.iblk m c 5 t :=
  Gen.before0_5_of m (dats m 0 c) (dats_A m c 5) (fun t => by dsimp only [dats]) t d
theorem idle_7 (t : Fin cfg0.N) : idle0 7 (grid0.coords t) = !(k0_cond4 (grid0.coords t) == 1#1) := rfl
theorem idle_8 (t : Fin cfg0.N) : idle0 8 (grid0.coords t) = !(k0_cond4 (grid0.coords t) == 1#1) := rfl

/-- Forgets which values. -/
theorem inv_intro (c : Dev nD) (n : ℕ) (x11 : Vec F S1024x256 .f32) (x12 : Vec F S1024x128 .f32) (dk : Vec F S8192x256 .f32) (dv : Vec F S8192x128 .f32)
    (h : Held m c n dk dv) :
    iprop(owns (c : Thread nD τ) (Memref.whole cc0_scratch0) fullShare x11 ∗ owns (c : Thread nD τ) (Memref.whole cc0_scratch1) fullShare x12
      ∗ owns (c : Thread nD τ) (Memref.whole cc0_scratch2) fullShare dk ∗ owns (c : Thread nD τ) (Memref.whole cc0_scratch3) fullShare dv
      ∗ ∃ r, prngReg c r) ⊢ (Inv m c n : sProp 𝕄) := by
  unfold Inv
  iintro ⟨S0, S1, S2, S3, Hr⟩
  isplitr [Hr]
  · iexists x11; iexists x12; iexists dk; iexists dv
    isplitr; ipureintro; exact h
    isplitl [S0]; iexact S0
    isplitl [S1]; iexact S1
    isplitl [S2]; iexact S2
    iexact S3
  · iexact Hr

set_option maxHeartbeats 4000000 in
/-- The body at a point on the point's own buffers. -/
theorem body_at (c : Dev nD) (t : Fin cfg0.N) (d6 : Vec F S1x1024x256 .bf16) (d7 : Vec F S1x8192x256 .bf16) (d8 : Vec F S1x8192x128 .bf16) :
    iprop(Inv m c t.val ∗ owns (c : Thread nD τ) (Gen.st0_0 t) fullShare (Gen.iblk m c 0 t) ∗ owns (c : Thread nD τ) (Gen.st0_1 t) fullShare (Gen.iblk m c 1 t)
        ∗ owns (c : Thread nD τ) (Gen.st0_2 t) fullShare (Gen.iblk m c 2 t) ∗ owns (c : Thread nD τ) (Gen.st0_3 t) fullShare (Gen.iblk m c 3 t)
        ∗ owns (c : Thread nD τ) (Gen.st0_4 t) fullShare (Gen.iblk m c 4 t) ∗ owns (c : Thread nD τ) (Gen.st0_5 t) fullShare (Gen.iblk m c 5 t)
        ∗ owns (c : Thread nD τ) (Gen.st0_6 t) fullShare d6 ∗ owns (c : Thread nD τ) (Gen.st0_7 t) fullShare d7 ∗ owns (c : Thread nD τ) (Gen.st0_8 t) fullShare d8) ⊢
      (wp frame (wpE defs₀ Variants.none (c : Thread nD τ) none) Set.univ (Gen.bodyAt0 (F := F) t)
        (fun _ => iprop(Inv m c (t.val + 1) ∗ owns (c : Thread nD τ) (Gen.st0_0 t) fullShare (Gen.iblk m c 0 t) ∗ owns (c : Thread nD τ) (Gen.st0_1 t) fullShare (Gen.iblk m c 1 t)
        ∗ owns (c : Thread nD τ) (Gen.st0_2 t) fullShare (Gen.iblk m c 2 t) ∗ owns (c : Thread nD τ) (Gen.st0_3 t) fullShare (Gen.iblk m c 3 t)
        ∗ owns (c : Thread nD τ) (Gen.st0_4 t) fullShare (Gen.iblk m c 4 t) ∗ owns (c : Thread nD τ) (Gen.st0_5 t) fullShare (Gen.iblk m c 5 t)
        ∗ owns (c : Thread nD τ) (Gen.st0_6 t) fullShare (oQ m c t)
        ∗ owns (c : Thread nD τ) (Gen.st0_7 t) fullShare (if k0_cond4 (grid0.coords t) = 1#1 then oK m c t else d7 : Vec F S1x8192x256 .bf16)
        ∗ owns (c : Thread nD τ) (Gen.st0_8 t) fullShare (if k0_cond4 (grid0.coords t) = 1#1 then oV m c t else d8 : Vec F S1x8192x128 .bf16))) : sProp 𝕄) := by
  have hw : Inv m c t.val = (iprop((∃ x11 x12 dk dv, ⌜Held m c t.val dk dv⌝ ∗ owns (c : Thread nD τ) (Memref.whole cc0_scratch0) fullShare x11
      ∗ owns (c : Thread nD τ) (Memref.whole cc0_scratch1) fullShare x12
      ∗ owns (c : Thread nD τ) (Memref.whole cc0_scratch2) fullShare dk ∗ owns (c : Thread nD τ) (Memref.whole cc0_scratch3) fullShare dv)
    ∗ ∃ r, prngReg c r) : sProp 𝕄) := rfl
  rw [hw]
  iintro ⟨⟨⟨%x11, %x12, %dk, %dv, %hh, S0, S1, S2, S3⟩, Hr⟩, H0, H1, H2, H3, H4, H5, H6, H7, H8⟩
  have e1 : ((grid0.coords t) 1).val = t.val % 8 := coords_one t
  have run := cc0_pt (F := F) c (grid0.coords t) (Gen.st0_0 t) (Gen.hstage0_0 ((cfg0.slots t 0).cast Gen.nbuf0_0)) (Gen.st0_1 t) (Gen.hstage0_1 ((cfg0.slots t 1).cast Gen.nbuf0_1))
    (Gen.st0_2 t) (Gen.hstage0_2 ((cfg0.slots t 2).cast Gen.nbuf0_2)) (Gen.st0_3 t) (Gen.hstage0_3 ((cfg0.slots t 3).cast Gen.nbuf0_3))
    (Gen.st0_4 t) (Gen.hstage0_4 ((cfg0.slots t 4).cast Gen.nbuf0_4)) (Gen.st0_5 t) (Gen.hstage0_5 ((cfg0.slots t 5).cast Gen.nbuf0_5))
    (Gen.st0_6 t) (Gen.hstage0_6 ((cfg0.slots t 6).cast Gen.nbuf0_6)) (Gen.st0_7 t) (Gen.hstage0_7 ((cfg0.slots t 7).cast Gen.nbuf0_7))
    (Gen.st0_8 t) (Gen.hstage0_8 ((cfg0.slots t 8).cast Gen.nbuf0_8)) (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Gen.iblk m c 0 t) (Gen.iblk m c 1 t) (Gen.iblk m c 2 t) (Gen.iblk m c 4 t) (Gen.iblk m c 5 t) (Gen.iblk m c 3 t) x12 x11 dk dv d6 d7 d8
    (Xin m c t) rfl (pointAcc (Xin m c t) (t.val % 8) ⟨zeroQ, dk, dv⟩) (by rw [e1])
  have hq : outQ (pointAcc (Xin m c t) (t.val % 8) ⟨zeroQ, dk, dv⟩) = oQ m c t := congrArg Gen.k0_pay6 (pointAcc_dq _ _ _ rfl)
  have hk : (if k0_cond4 (grid0.coords t) = 1#1 then outK (pointAcc (Xin m c t) (t.val % 8) ⟨zeroQ, dk, dv⟩) else d7 : Vec F S1x8192x256 .bf16)
      = if k0_cond4 (grid0.coords t) = 1#1 then oK m c t else d7 := by
    by_cases h4 : k0_cond4 (grid0.coords t) = 1#1
    · rw [if_pos h4, if_pos h4]
      exact (held_last m c t dk dv hh _ rfl (e1.symm.trans ((cond4_iff _).1 h4))).1
    · rw [if_neg h4, if_neg h4]
  have hv : (if k0_cond4 (grid0.coords t) = 1#1 then outV (pointAcc (Xin m c t) (t.val % 8) ⟨zeroQ, dk, dv⟩) else d8 : Vec F S1x8192x128 .bf16)
      = if k0_cond4 (grid0.coords t) = 1#1 then oV m c t else d8 := by
    by_cases h4 : k0_cond4 (grid0.coords t) = 1#1
    · rw [if_pos h4, if_pos h4]
      exact (held_last m c t dk dv hh _ rfl (e1.symm.trans ((cond4_iff _).1 h4))).2
    · rw [if_neg h4, if_neg h4]
  rw [hq, hk, hv] at run
  have hs := held_succ m c t dk dv hh _ rfl
  generalize pointAcc (Xin m c t) (t.val % 8) ⟨zeroQ, dk, dv⟩ = S at run hs
  unfold Pt at run
  iapply (wp_wand_of run)
  isplitl [H0 H1 H2 H3 H4 H5 H6 H7 H8 S0 S1 S2 S3]
  · isplitl [H6]; iexact H6
    isplitl [H7]; iexact H7
    isplitl [H8]; iexact H8
    isplitl [H3]; iexact H3
    isplitl [H0]; iexact H0
    isplitl [H1]; iexact H1
    isplitl [H2]; iexact H2
    isplitl [H4]; iexact H4
    isplitl [H5]; iexact H5
    isplitl [S1]; iexact S1
    isplitl [S0]; iexact S0
    isplitl [S2]; iexact S2
    iexact S3
  iintro %_ ⟨H6, H7, H8, H3, H0, H1, H2, H4, H5, S1, S0, S2, S3⟩
  isplitl [S0 S1 S2 S3 Hr]
  · iapply (inv_intro m c (t.val + 1) S.dq (Xin m c t).dl S.dk S.dv hs)
    isplitl [S0]; iexact S0
    isplitl [S1]; iexact S1
    isplitl [S2]; iexact S2
    isplitl [S3]; iexact S3
    iexact Hr
  isplitl [H0]; iexact H0
  isplitl [H1]; iexact H1
  isplitl [H2]; iexact H2
  isplitl [H3]; iexact H3
  isplitl [H4]; iexact H4
  isplitl [H5]; iexact H5
  isplitl [H6]; iexact H6
  isplitl [H7]; iexact H7
  iexact H8

set_option maxHeartbeats 4000000 in
/-- The body at a point, from the invariant before it to the invariant after. -/
theorem body (c : Dev nD) : Pipeline.BodyObligationLoose (dats m 0 c) (defs₀ (F := F)) Variants.none () Set.univ := fun t => by
  rw [Gen.bigSep_W0, Gen.bigSep_W0]
  rw [show (dats m 0 c).Φ t.castSucc = Inv m c t.val from dats_inv m c t.castSucc, show (dats m 0 c).Φ t.succ = Inv m c (t.val + 1) from dats_inv m c t.succ,
    show (dats m 0 c).owesAt () t.succ = (dats m 0 c).owesAt () t.castSucc from rfl]
  simp only [before_0, before_1, before_2, before_3, before_4, before_5]
  iintro ⟨Hi, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (wp_wand_of (body_at m c t _ _ _))
  isplitl [Hi H0 H1 H2 H3 H4 H5 H6 H7 H8]
  · isplitl [Hi]; iexact Hi
    isplitl [H0]; iexact H0
    isplitl [H1]; iexact H1
    isplitl [H2]; iexact H2
    isplitl [H3]; iexact H3
    isplitl [H4]; iexact H4
    isplitl [H5]; iexact H5
    isplitl [H6]; iexact H6
    isplitl [H7]; iexact H7
    iexact H8
  iintro %_ ⟨Hi, H0, H1, H2, H3, H4, H5, H6, H7, H8⟩
  isplitl [Hi]; iexact Hi
  isplitl [Ho]; iexact Ho
  isplitl [H0]; iexact H0
  isplitl [H1]; iexact H1
  isplitl [H2]; iexact H2
  isplitl [H3]; iexact H3
  isplitl [H4]; iexact H4
  isplitl [H5]; iexact H5
  isplitl [H6]; iexact H6
  by_cases h4 : k0_cond4 (grid0.coords t) = 1#1
  · rw [if_pos h4, if_pos h4, show idle0 7 (grid0.coords t) = false from by rw [idle_7, h4]; rfl]
    isplitl [H7]; iexact H7
    iexact H8
  · rw [if_neg h4, if_neg h4, show idle0 7 (grid0.coords t) = true from by rw [idle_7, Bool.not_eq_true', beq_eq_false_iff_ne]; exact h4]
    have n7 : ¬ t.val % 8 = 7 := fun h => h4 ((cond4_iff _).2 ((coords_one t).trans h))
    rw [show (win0 7).flush t = false from Bool.eq_false_iff.2 fun h => n7 ((Gen.flush0_7 t).1 h),
      show (win0 8).flush t = false from Bool.eq_false_iff.2 fun h => n7 ((Gen.flush0_8 t).1 h)]
    isplitl [H7]
    · iexists d7; iexact H7
    · iexists d8; iexact H8

/-- What the launch finds is the invariant before the first point. -/
theorem inv_first (c : Dev nD) : Pipeline.ΦA spec0 c ⊢ ((dats m 0 c).Φ 0 : sProp 𝕄) := by
  rw [show (dats m 0 c).Φ 0 = Inv m c 0 from dats_inv m c 0]
  unfold Pipeline.ΦA
  rw [Gen.scopedRest0_eq c]
  iintro ⟨⟨⟨%f0, S0⟩, ⟨%f1, S1⟩, ⟨%f2, S2⟩, ⟨%f3, S3⟩⟩, Hr⟩
  iapply (inv_intro m c 0 f0 f1 f2 f3 ⟨fun u hu => absurd hu (Nat.not_lt_zero u), fun u hu => absurd hu (Nat.not_lt_zero u)⟩)
  isplitl [S0]; iapply (scratch_owns c cc0_scratch0); iexact S0
  isplitl [S1]; iapply (scratch_owns c cc0_scratch1); iexact S1
  isplitl [S2]; iapply (scratch_owns c cc0_scratch2); iexact S2
  isplitl [S3]; iapply (scratch_owns c cc0_scratch3); iexact S3
  iexact Hr

/-- What the invariant after the last point leaves. -/
theorem inv_last (c : Dev nD) : ((dats m 0 c).Φ (Fin.last cfg0.N) : sProp 𝕄) ⊢ Pipeline.ΦA spec0 c := by
  rw [show (dats m 0 c).Φ (Fin.last cfg0.N) = Inv m c 128 from dats_inv m c (Fin.last cfg0.N)]
  unfold Pipeline.ΦA Inv
  rw [Gen.scopedRest0_eq c]
  iintro ⟨⟨%x11, %x12, %dk, %dv, %hh, S0, S1, S2, S3⟩, Hr⟩
  isplitr [Hr]
  · isplitl [S0]; iapply (owns_scratch c cc0_scratch0); iexact S0
    isplitl [S1]; iapply (owns_scratch c cc0_scratch1); iexact S1
    isplitl [S2]; iapply (owns_scratch c cc0_scratch2); iexact S2
    iapply (owns_scratch c cc0_scratch3); iexact S3
  · iexact Hr

set_option maxHeartbeats 4000000 in
/-- Every run of the whole program ends, with the call's arrays as the proof data compute them, the host's lines after it worked out, and every counter at zero. -/
theorem run_main : θ_run defs (onTc (τ := τ) (main (F := F))) (s₀ m ρ)
    (fun r => Pipeline.FramePost cfgs (dats m) 0 (Pipeline.afterTail₀ cfgs (dats m) 0 (Gen.V0 m) [Gen.hostOps1]) r ∧ r.2.sem = fun _ => 0) :=
  Pipeline.θ_run_frame_around_track cfgs (dats m) 0 Gen.launch0 defs₀ Variants.none m ρ main (body m)
    (fun c => (dats m 0 c).share_full fun _ => by dsimp only [dats]) (fun _ _ => by dsimp only [dats]) (Gen.V0 m) [Gen.hostOps1] Gen.sfx_sub Gen.sfx_fresh Gen.sfx_keeps
    (Gen.hmain m Variants.none) (fun c w => dats_A m c w) (inv_first m) (inv_last m) _ (fun _ h => h)

end Cert.KernelIdeal.Attn
-- ==== Proof.Frames.lean ====
module

public import proofs.«01_k».proof.Defs
public import proofs.«01_k».proof.Proof.Gen.Kernel
public import proofs.«01_k».proof.Proof.Gen.ReferenceIdeal.Run
public import proofs.«01_k».proof.Proof.Run
public import Idealize.ShloMosaic.Lib.Quiescent

/-! The three programs run, leave their arguments as they were and every counter at zero. -/

@[expose] public section

set_option maxRecDepth 65536

noncomputable section

namespace Cert.KernelIdeal.Attn

open Cert.KernelIdeal
open Idealize.ShloMosaic Idealize.ShloMosaic.TcCoe
open Idealize.SL.Sem

variable {F : FTy → Type} [FloatOps F] [Named F]

/-- The program leaves its arguments as they were, and every counter at zero. -/
theorem frame_main (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c =>
      ⟨((h.1 c).2 main_arg0 (Pipeline.mem_restRefs_of main_arg0 (by decide) (by decide))).trans (Gen.W_main_arg0 m (dats m) c),
      ((h.1 c).2 main_arg1 (Pipeline.mem_restRefs_of main_arg1 (by decide) (by decide))).trans (Gen.W_main_arg1 m (dats m) c),
      ((h.1 c).2 main_arg2 (Pipeline.mem_restRefs_of main_arg2 (by decide) (by decide))).trans (Gen.W_main_arg2 m (dats m) c),
      ((h.1 c).2 main_arg3 (Pipeline.mem_restRefs_of main_arg3 (by decide) (by decide))).trans (Gen.W_main_arg3 m (dats m) c),
      ((h.1 c).2 main_arg4 (Pipeline.mem_restRefs_of main_arg4 (by decide) (by decide))).trans (Gen.W_main_arg4 m (dats m) c),
      ((h.1 c).2 main_arg5 (Pipeline.mem_restRefs_of main_arg5 (by decide) (by decide))).trans (Gen.W_main_arg5 m (dats m) c)⟩, h.2⟩)
    (run_main m ρ)

end Cert.KernelIdeal.Attn

namespace Cert.Attn

open Idealize.ShloMosaic Idealize.ShloMosaic.TcCoe Idealize.SL.Sem

/-- On bits a named constant is the literal it was printed for: so read, the two programs are one. -/
instance literal : Named Bits where
  named _ _ {φ} bits := Scalar.ofBits φ bits

set_option maxHeartbeats 4000000

theorem body_eq (i : Cert.Kernel.grid0.Coords) :
    @Cert.Kernel.cc0_attn_bwd Bits _ _ i = @Cert.KernelIdeal.cc0_attn_bwd Bits _ _ _ i := rfl

theorem bodies_eq : (Cert.Kernel.defs₀ (F := Bits)) = (Cert.KernelIdeal.defs₀ (F := Bits)) := by
  funext p l a
  match p with
  | .tc =>
    match l, a with
    | ⟨0, _⟩, (t, s) => exact congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (body_eq _) _) _) _) _) _) _) _) _) _) _) _) _) _) _) _) _) _) _) _) _) _) _) _) _) _) _
  | .scScalar _ => rfl
  | .scVector _ _ => rfl

theorem calls_eq : (Cert.Kernel.pcfgs (F := Bits)) = (Cert.KernelIdeal.pcfgs (F := Bits)) := rfl

/-- On bits the two programs' tables of bodies are one. -/
theorem defs_eq : (Cert.Kernel.defs (F := Bits)) = (Cert.KernelIdeal.defs (F := Bits)) :=
  (congrArg (fun d => Pipeline.defs (Cert.Kernel.pcfgs (F := Bits)) d) bodies_eq).trans rfl

theorem main_eq : (Cert.Kernel.main (F := Bits)) = (Cert.KernelIdeal.main (F := Bits)) := rfl

theorem frame_kernel : Cert.quiescent_Kernel := fun m ρ _ =>
  (congrArg (fun d => θ_run d (onTc (τ := Cert.Kernel.τ) (Cert.Kernel.main (F := Bits))) ⟨m, fun _ => 0, ρ⟩ _) defs_eq).mpr
    (Cert.KernelIdeal.Attn.frame_main (F := Bits) m ρ)

theorem frame_ideal : Cert.quiescent_KernelIdeal := fun m ρ _ => Cert.KernelIdeal.Attn.frame_main (F := Ideal) m ρ

theorem frame_reference : Cert.quiescent_ReferenceIdeal := fun m ρ _ =>
  (θ_run Cert.ReferenceIdeal.defs _ _).mono (fun r h => ⟨fun c => (h c).2.2.2.2.2, Idealize.ShloMosaic.sem_eq_zero_of_no_sems (by decide) r.2⟩)
    (Cert.ReferenceIdeal.Value.run (F := Ideal) m ρ)

/-- The mask stands for minus infinity. -/
theorem preserves : Cert.preserves_Kernel_KernelIdeal :=
  IdealRules.named_const.statement Cert.KernelIdeal.κ "mask" .f32 0xF149F2CA#32 ⊥ rfl

end Cert.Attn
-- ==== Proof.Entry.lean ====
module

public import Idealize.ShloMosaic.Lib.Pipeline.ValueKit
public import proofs.«01_k».proof.Proof.Run

/-!
The blocks that a point reads, as entries of the arrays, and the arrays that the call leaves, as entries of the points' blocks.
-/

@[expose] public section

set_option maxRecDepth 16384
set_option maxHeartbeats 1000000

noncomputable section

namespace Cert.KernelIdeal.Attn

open Cert.KernelIdeal Cert.KernelIdeal.Gen
open Idealize.ShloMosaic Idealize.ShloMosaic.TcCoe

variable {F : FTy → Type} [FloatOps F] (m : (ℓ : Loc nD τ sig) → Buf (Elt F) ℓ) (c : Dev nD) (t : Fin cfg0.N)

theorem idx_q : ∀ t : Fin cfg0.N, (cfg0.win 0).index t = ![t.val / 8, t.val % 8, 0] := by decide +kernel
theorem idx_k : ∀ t : Fin cfg0.N, (cfg0.win 1).index t = ![t.val / 8, 0, 0] := by decide +kernel
theorem idx_v : ∀ t : Fin cfg0.N, (cfg0.win 2).index t = ![0, 2 * (t.val / 8) + 1] := by decide +kernel
theorem idx_o : ∀ t : Fin cfg0.N, (cfg0.win 3).index t = ![t.val % 8, t.val / 8] := by decide +kernel
theorem idx_g : ∀ t : Fin cfg0.N, (cfg0.win 4).index t = ![t.val % 8, t.val / 8] := by decide +kernel
theorem idx_l : ∀ t : Fin cfg0.N, (cfg0.win 5).index t = ![t.val / 8, t.val % 8, 0] := by decide +kernel
theorem idx_dq : ∀ t : Fin cfg0.N, (cfg0.win 6).index t = ![t.val / 8, t.val % 8, 0] := by decide +kernel
theorem idx_dk : ∀ t : Fin cfg0.N, (cfg0.win 7).index t = ![t.val / 8, 0, 0] := by decide +kernel
theorem idx_dv : ∀ t : Fin cfg0.N, (cfg0.win 8).index t = ![t.val / 8, 0, 0] := by decide +kernel

theorem lt_N : t.val < 128 := t.isLt

theorem blk_q (h : Fin 16) (R : Fin 8192) (r : Fin 1024) (j : Fin 256) (hh : t.val / 8 = h.val) (hR : R.val = 1024 * (t.val % 8) + r.val) :
    (Gen.iblk m c 0 t : FVec F S1x1024x256 .bf16) (ix3 0 r j) = Gen.V m c main_v40 (ix3 h R j) := by
  have i := idx_q t
  blk_ext [iblk, i]

theorem blk_k (h : Fin 16) (R : Fin 8192) (j : Fin 256) (hh : t.val / 8 = h.val) :
    (Gen.iblk m c 1 t : FVec F S1x8192x256 .bf16) (ix3 0 R j) = Gen.V m c main_v46 (ix3 h R j) := by
  have i := idx_k t
  blk_ext [iblk, i]

theorem blk_v (h : Fin 16) (R : Fin 8192) (j : Fin 128) (J : Fin 4096) (hh : t.val / 8 = h.val) (hJ : J.val = 256 * h.val + 128 + j.val) :
    (Gen.iblk m c 2 t : FVec F S8192x128 .bf16) (ix2 R j) = Gen.V m c main_v49 (ix2 R J) := by
  have i := idx_v t
  blk_ext [iblk, i]

theorem blk_o (h : Fin 16) (R : Fin 8192) (r : Fin 1024) (j : Fin 128) (J : Fin 2048) (hh : t.val / 8 = h.val) (hR : R.val = 1024 * (t.val % 8) + r.val)
    (hJ : J.val = 128 * h.val + j.val) :
    (Gen.iblk m c 3 t : FVec F S1024x128 .bf16) (ix2 r j) = Gen.V m c main_v50 (ix2 R J) := by
  have i := idx_o t
  blk_ext [iblk, i]

theorem blk_g (h : Fin 16) (R : Fin 8192) (r : Fin 1024) (j : Fin 128) (J : Fin 2048) (hh : t.val / 8 = h.val) (hR : R.val = 1024 * (t.val % 8) + r.val)
    (hJ : J.val = 128 * h.val + j.val) :
    (Gen.iblk m c 4 t : FVec F S1024x128 .bf16) (ix2 r j) = Gen.V m c main_v52 (ix2 R J) := by
  have i := idx_g t
  blk_ext [iblk, i]

theorem blk_l (h : Fin 16) (R : Fin 8192) (r : Fin 1024) (j : Fin 128) (hh : t.val / 8 = h.val) (hR : R.val = 1024 * (t.val % 8) + r.val) :
    (Gen.iblk m c 5 t : FVec F S1x1024x128 .f32) (ix3 0 r j) = Gen.V m c main_v32 (ix3 h R j) := by
  have i := idx_l t
  blk_ext [iblk, i]

/-! ### The arrays after the call -/

variable [Named F]

theorem arr_dq (G : FVec F S16x8192x256 .bf16)
    (hG : ∀ (t : Fin cfg0.N) (h : Fin 16) (R : Fin 8192) (r : Fin 1024) (j : Fin 256), t.val / 8 = h.val → R.val = 1024 * (t.val % 8) + r.val →
      oQ m c t (ix3 0 r j) = G (ix3 h R j)) :
    (dats m 0 c).arrAt 6 cfg0.N = G := by
  refine (dats m 0 c).arrAt_eq_of_covers 6 _ (by decide +kernel) fun t hf y => ?_
  have i := idx_dq t
  have ht := lt_N t
  have h0 : (y 0).val < 1 := (y 0).isLt
  have h1 : (y 1).val < 1024 := (y 1).isLt
  have h2 : (y 2).val < 256 := (y 2).isLt
  have e : (y : Shape.Idx S1x1024x256) = ix3 0 (y 1) (y 2) := funext fun a => by
    fin_cases a
    · exact Fin.ext (by show (y 0).val = 0; omega)
    · rfl
    · rfl
  blk_simp
  refine (show (dats m 0 c).after 6 t y = oQ m c t (ix3 0 (y 1) (y 2)) from ?_).trans ((hG t ⟨t.val / 8, by omega⟩ ⟨1024 * (t.val % 8) + (y 1).val, by omega⟩ (y 1) (y 2) rfl rfl).trans ?_)
  · refine Eq.trans ?_ (congrArg (oQ m c t) e)
    dsimp only [dats]
  · blk_ext [i]

theorem last_dk : ∀ t : Fin cfg0.N, (cfg0.win 7).flush t = true → t.val % 8 = 7 := by decide +kernel

theorem arr_dk (G : FVec F S16x8192x256 .bf16)
    (hG : ∀ (t : Fin cfg0.N) (h : Fin 16) (R : Fin 8192) (j : Fin 256), t.val / 8 = h.val → t.val % 8 = 7 → oK m c t (ix3 0 R j) = G (ix3 h R j)) :
    (dats m 0 c).arrAt 7 cfg0.N = G := by
  refine (dats m 0 c).arrAt_eq_of_covers 7 _ (by decide +kernel) fun t hf y => ?_
  have i := idx_dk t
  have ht := lt_N t
  have h0 : (y 0).val < 1 := (y 0).isLt
  have h1 : (y 1).val < 8192 := (y 1).isLt
  have h2 : (y 2).val < 256 := (y 2).isLt
  have h7 : t.val % 8 = 7 := last_dk t hf
  have e : (y : Shape.Idx S1x8192x256) = ix3 0 (y 1) (y 2) := funext fun a => by
    fin_cases a
    · exact Fin.ext (by show (y 0).val = 0; omega)
    · rfl
    · rfl
  blk_simp
  refine (show (dats m 0 c).after 7 t y = oK m c t (ix3 0 (y 1) (y 2)) from ?_).trans ((hG t ⟨t.val / 8, by omega⟩ (y 1) (y 2) rfl h7).trans ?_)
  · refine Eq.trans ?_ (congrArg (oK m c t) e)
    dsimp only [dats]
  · blk_ext [i]

theorem last_dv : ∀ t : Fin cfg0.N, (cfg0.win 8).flush t = true → t.val % 8 = 7 := by decide +kernel

theorem arr_dv (G : FVec F S16x8192x128 .bf16)
    (hG : ∀ (t : Fin cfg0.N) (h : Fin 16) (R : Fin 8192) (j : Fin 128), t.val / 8 = h.val → t.val % 8 = 7 → oV m c t (ix3 0 R j) = G (ix3 h R j)) :
    (dats m 0 c).arrAt 8 cfg0.N = G := by
  refine (dats m 0 c).arrAt_eq_of_covers 8 _ (by decide +kernel) fun t hf y => ?_
  have i := idx_dv t
  have ht := lt_N t
  have h0 : (y 0).val < 1 := (y 0).isLt
  have h1 : (y 1).val < 8192 := (y 1).isLt
  have h2 : (y 2).val < 128 := (y 2).isLt
  have h7 : t.val % 8 = 7 := last_dv t hf
  have e : (y : Shape.Idx S1x8192x128) = ix3 0 (y 1) (y 2) := funext fun a => by
    fin_cases a
    · exact Fin.ext (by show (y 0).val = 0; omega)
    · rfl
    · rfl
  blk_simp
  refine (show (dats m 0 c).after 8 t y = oV m c t (ix3 0 (y 1) (y 2)) from ?_).trans ((hG t ⟨t.val / 8, by omega⟩ (y 1) (y 2) rfl h7).trans ?_)
  · refine Eq.trans ?_ (congrArg (oV m c t) e)
    dsimp only [dats]
  · blk_ext [i]

end Cert.KernelIdeal.Attn
-- ==== Proof.Terms.lean ====
module

public import Idealize.ShloMosaic.Lib.Pointwise
public import Idealize.ShloMosaic.Lib.Routing.Words
public import proofs.«01_k».proof.Proof.Gen.ReferenceIdeal.Run

/-!
The reference's host terms, cut into named pieces. Each piece takes the arrays that it reads as variables,
so that it can be read at an index by itself.
-/

@[expose] public section

set_option maxRecDepth 16384
set_option maxHeartbeats 400000

noncomputable section

namespace Cert.Attn

open Cert.ReferenceIdeal Cert.ReferenceIdeal.Gen Idealize.ShloMosaic Idealize.ShloMosaic.TcCoe

section terms
variable {F : FTy → Type} [FloatOps F]

/-- The chunk of each position: the position divided by 64, rounded down. -/
def chunkT : IVec S8192 32 :=
  select (andi (cmpi .ne (signi (iotaInDim S8192 32 0)) (broadcastInDim S8192 ![] bcast_S_S8192 (signi (id (constantI S_ 32 64#32))))) (cmpi .ne (Host.remsi (iotaInDim S8192 32 0) (broadcastInDim S8192 ![] bcast_S_S8192 (id (constantI S_ 32 64#32)))) (broadcastInDim S8192 ![] bcast_S_S8192 (constantI S_ 32 0#32)))) (subi (Host.divsi (iotaInDim S8192 32 0) (broadcastInDim S8192 ![] bcast_S_S8192 (id (constantI S_ 32 64#32)))) (broadcastInDim S8192 ![] bcast_S_S8192 (constantI S_ 32 1#32))) (Host.divsi (iotaInDim S8192 32 0) (broadcastInDim S8192 ![] bcast_S_S8192 (id (constantI S_ 32 64#32))))

/-- Which key each row may see. -/
def okT : IVec S8192x8192 1 :=
  cmpi .sle (broadcastInDim S8192x8192 ![0, 1] bcast_S1x8192_S8192x8192_0_1 (broadcastInDim S1x8192 ![1] bcast_S8192_S1x8192_1 chunkT)) (broadcastInDim S8192x8192 ![0, 1] bcast_S8192x1_S8192x8192_0_1 (broadcastInDim S8192x1 ![0] bcast_S8192_S8192x1_0 chunkT))

/-- The same for every head. -/
def okB : IVec S16x8192x8192 1 := broadcastInDim S16x8192x8192 ![1, 2] bcast_S8192x8192_S16x8192x8192_1_2 okT

/-- The scaled scores before the mask. -/
def scT (x0 x2 : FVec F S8192x16x128 .f32) (x1 : FVec F S8192x16x64 .f32) (x3 : FVec F S8192x64 .f32) : FVec F S16x8192x8192 .f32 :=
  mulf (addf (Host.dotGeneral dot_S8192x16x128_S8192x16x128_S16x8192x8192_2_2_0_0_1_1 none x0 x2) (transpose S16x8192x8192 [2, 1, 0] (Host.dotGeneral dot_S8192x64_S8192x16x64_S8192x8192x16_1_2_0_01_n_n none x3 x1) transposes_S8192x8192x16_S16x8192x8192_2_1_0)) (broadcastInDim S16x8192x8192 ![] bcast_S_S16x8192x8192 (constant S_ .f32 0x3D93CD3A#32))

/-- The masked scores. -/
def smT (s : FVec F S16x8192x8192 .f32) : FVec F S16x8192x8192 .f32 :=
  select okB s (broadcastInDim S16x8192x8192 ![] bcast_S_S16x8192x8192 (id (constant S_ .f32 0xFF800000#32)))

/-- The maximum of each row. -/
def mxT (s : FVec F S16x8192x8192 .f32) : FVec F S16x8192 .f32 :=
  Host.reduce FloatOps.maximumf s (constant S_ .f32 0xFF800000#32) reducesTo_S16x8192x8192_S16x8192_d2 h_S_

/-- The maximum of each row, not below minus infinity. -/
def mx2T (x : FVec F S16x8192 .f32) : FVec F S16x8192 .f32 :=
  maximumf (broadcastInDim S16x8192 ![] bcast_S_S16x8192 (constant S_ .f32 0xFF800000#32)) x

/-- A row's number as a column. -/
def upT (x : FVec F S16x8192 .f32) : FVec F S16x8192x1 .f32 := broadcastInDim S16x8192x1 ![0, 1] bcast_S16x8192_S16x8192x1_0_1 x

/-- A column over all keys. -/
def outT (x : FVec F S16x8192x1 .f32) : FVec F S16x8192x8192 .f32 :=
  broadcastInDim S16x8192x8192 ![0, 1, 2] bcast_S16x8192x1_S16x8192x8192_0_1_2 x

/-- The exponentials. -/
def exT (s : FVec F S16x8192x8192 .f32) (x : FVec F S16x8192x1 .f32) : FVec F S16x8192x8192 .f32 := Host.exp (subf s (outT x))

/-- The sum of each row. -/
def suT (e : FVec F S16x8192x8192 .f32) : FVec F S16x8192 .f32 :=
  Host.reduceAdd e (constant S_ .f32 0x00000000#32) reducesTo_S16x8192x8192_S16x8192_d2 h_S_

/-- The probabilities. -/
def prT (e : FVec F S16x8192x8192 .f32) (l : FVec F S16x8192x1 .f32) : FVec F S16x8192x8192 .f32 := Host.divf e (outT l)

/-- The output's gradient with the head first. -/
def gtT (x5 : FVec F S8192x16x128 .f32) : FVec F S16x128x8192 .f32 := transpose S16x128x8192 [1, 2, 0] x5 transposes_S8192x16x128_S16x128x8192_1_2_0

/-- The probabilities' gradient. -/
def dpT (x4 x5 : FVec F S8192x16x128 .f32) : FVec F S16x8192x8192 .f32 :=
  Host.dotGeneral dot_S16x128x8192_S8192x16x128_S16x8192x8192_1_2_2_0_0_1 none (gtT x5) x4

/-- The denominator's gradient. -/
def dlT (dp e : FVec F S16x8192x8192 .f32) (l : FVec F S16x8192x1 .f32) : FVec F S16x8192 .f32 :=
  Host.reduceAdd (Host.negf (shapeCast S16x8192x1 (suT (mulf (mulf dp (outT (Host.divf (broadcastInDim S16x8192x1 ![] bcast_S_S16x8192x1 (constant S_ .f32 0x3F800000#32)) (mulf l l)))) e)) shapeCasts_S16x8192_S16x8192x1)) (constant S_ .f32 0x00000000#32) reducesTo_S16x8192x1_S16x8192_d2 h_S_

/-- The scores' gradient, scaled. -/
def dsT (dp e : FVec F S16x8192x8192 .f32) (l : FVec F S16x8192x1 .f32) (dl : FVec F S16x8192 .f32) : FVec F S16x8192x8192 .f32 :=
  mulf (select okB (mulf (addf (Host.divf dp (outT l)) (broadcastInDim S16x8192x8192 ![0, 1] bcast_S16x8192_S16x8192x8192_0_1 dl)) e) (broadcastInDim S16x8192x8192 ![] bcast_S_S16x8192x8192 (constant S_ .f32 0x00000000#32))) (broadcastInDim S16x8192x8192 ![] bcast_S_S16x8192x8192 (constant S_ .f32 0x3D93CD3A#32))

/-- The values' gradient from the probabilities. -/
def dvT (p : FVec F S16x8192x8192 .f32) (x5 : FVec F S8192x16x128 .f32) : FVec F S8192x16x128 .f32 :=
  transpose S8192x16x128 [2, 0, 1] (Host.dotGeneral dot_S16x128x8192_S16x8192x8192_S16x128x8192_2_1_1_2_0_0 none (gtT x5) p) transposes_S16x128x8192_S8192x16x128_2_0_1

/-- The query's gradient, first part, from the scores' gradient. -/
def dqnT (d : FVec F S16x8192x8192 .f32) (x2 : FVec F S8192x16x128 .f32) : FVec F S8192x16x128 .f32 :=
  transpose S8192x16x128 [1, 0, 2] (Host.dotGeneral dot_S16x8192x8192_S8192x16x128_S16x8192x128_2_0_1_2_0_1 none d x2) transposes_S16x8192x128_S8192x16x128_1_0_2

/-- The key's gradient, first part. -/
def dknT (d : FVec F S16x8192x8192 .f32) (x0 : FVec F S8192x16x128 .f32) : FVec F S8192x16x128 .f32 :=
  transpose S8192x16x128 [1, 0, 2] (Host.dotGeneral dot_S16x8192x8192_S8192x16x128_S16x8192x128_1_0_2_2_0_1 none d x0) transposes_S16x8192x128_S8192x16x128_1_0_2

/-- The scores' gradient with the head last. -/
def tdT (d : FVec F S16x8192x8192 .f32) : FVec F S8192x8192x16 .f32 := transpose S8192x8192x16 [2, 1, 0] d transposes_S16x8192x8192_S8192x8192x16_2_1_0

/-- The query's gradient, second part. -/
def dqrT (d : FVec F S16x8192x8192 .f32) (x3 : FVec F S8192x64 .f32) : FVec F S8192x16x64 .f32 :=
  Host.dotGeneral dot_S8192x8192x16_S8192x64_S8192x16x64_0_0_12_1_n_n none (tdT d) x3

/-- The key's gradient, second part, summed over heads. -/
def dkrT (d : FVec F S16x8192x8192 .f32) (x1 : FVec F S8192x16x64 .f32) : FVec F S8192x64 .f32 :=
  Host.dotGeneral dot_S8192x8192x16_S8192x16x64_S8192x64_12_01_0_2_n_n none (tdT d) x1

end terms

section reads

/-- A choice by a bit. -/
theorem select_eq {α : Type} (b : BitVec 1) (x y : α) : Scalar.select b x y = if b = 1#1 then x else y := by
  by_cases h : b = 1#1
  · rw [h, if_pos rfl]
    rfl
  · have : b = 0#1 := by
      revert b
      decide
    rw [this]
    rfl

/-- The sign of a word that is no larger than 8191 and of 64 differ only at zero, where the remainder is zero. -/
theorem floor_word (n : ℕ) (hn : n < 8192) (q : BitVec 32) (y : BitVec 32) (hy : y = 1) :
    Scalar.select (IntOp.andi (IntOp.cmpi .ne (if BitVec.ofNat 32 n = 0 then (0 : BitVec 32) else if (BitVec.ofNat 32 n).msb = true then -1 else 1) y)
      (IntOp.cmpi .ne (BitVec.ofNat 32 (n % 64)) 0#32)) (IntOp.subi q 1#32) q = q := by
  have hm : (BitVec.ofNat 32 n).msb = false := by
    rw [BitVec.msb_eq_decide, BitVec.toNat_ofNat]
    exact decide_eq_false (by omega)
  rw [select_eq, if_neg]
  rw [hm, hy]
  by_cases h0 : n = 0
  · subst h0
    decide
  · have h1 : (BitVec.ofNat 32 n) ≠ 0 := fun h => h0 (by
      have := congrArg BitVec.toNat h
      rw [BitVec.toNat_ofNat, Nat.mod_eq_of_lt (by omega)] at this
      exact this)
    rw [if_neg h1, if_neg Bool.false_ne_true]
    have h3 : IntOp.cmpi .ne (1 : BitVec 32) 1 = 0#1 := by decide
    have h4 : ∀ b : BitVec 1, IntOp.andi 0#1 b ≠ 1#1 := by decide
    rw [h3]
    exact h4 _

theorem chunkT_apply (r : Fin 8192) : chunkT (ix1 r) = BitVec.ofNat 32 (r.val / 64) := by
  have e : (id (constantI S_ 32 64#32) ix0 : BitVec 32) = BitVec.ofNat 32 64 := rfl
  have hr := r.isLt
  pointwise [chunkT]
  rw [e, Idealize.ShloMosaic.Routing.divsi_word .host (by omega) (by omega) (by omega), Idealize.ShloMosaic.Routing.remsi_word .host (by omega) (by omega) (by omega)]
  exact floor_word r.val hr _ _ (by decide)

theorem okT_apply (r c : Fin 8192) : okT (ix2 r c) = 1#1 ↔ c.val / 64 ≤ r.val / 64 := by
  have hr := r.isLt
  have hc := c.isLt
  pointwise [okT]
  rw [chunkT_apply, chunkT_apply]
  have e : ∀ n : ℕ, n < 2 ^ 31 → (BitVec.ofNat 32 n).toInt = n := fun n hn => by
    rw [BitVec.toInt_eq_toNat_of_lt] <;> rw [BitVec.toNat_ofNat] <;> omega
  show BitVec.ofBool ((BitVec.ofNat 32 (c.val / 64)).sle (BitVec.ofNat 32 (r.val / 64))) = 1#1 ↔ _
  rw [show ∀ b : Bool, (BitVec.ofBool b = 1#1 ↔ b = true) from by decide, BitVec.sle_iff_toInt_le, e _ (by omega), e _ (by omega)]
  omega

variable (s e p d dp : FVec Ideal S16x8192x8192 .f32) (x0 x2 x4 x5 : FVec Ideal S8192x16x128 .f32) (x1 : FVec Ideal S8192x16x64 .f32) (x3 : FVec Ideal S8192x64 .f32)
  (l : FVec Ideal S16x8192x1 .f32) (dl x : FVec Ideal S16x8192 .f32) (h : Fin 16) (r c : Fin 8192)

theorem scT_apply : scT x0 x2 x1 x3 (ix3 h r c)
    = (∑ k : Fin 128, x0 (ix3 r h k) * x2 (ix3 c h k) + ∑ k : Fin 64, x3 (ix2 c k) * x1 (ix3 r h k)) * Ideal.ofBits .f32 0x3D93CD3A#32 := by
  pointwise [scT]

theorem smT_apply : smT s (ix3 h r c) = if okT (ix2 r c) = 1#1 then s (ix3 h r c) else Ideal.ofBits .f32 0xFF800000#32 := by
  pointwise [smT, okB]
  exact select_eq _ _ _

theorem mxT_apply : mxT s (ix2 h r) = Finset.fold max (Ideal.ofBits .f32 0xFF800000#32) (fun k : Fin 8192 => s (ix3 h r k)) Finset.univ := by
  pointwise [mxT]

theorem mx2T_apply : mx2T x (ix2 h r) = max (Ideal.ofBits FTy.f32 0xFF800000#32 : EReal) (x (ix2 h r)) := by
  pointwise [mx2T]

theorem exT_apply : exT s l (ix3 h r c) = Ideal.exp (s (ix3 h r c) - l (ix3 h r 0)) := by
  pointwise [exT, outT]

theorem suT_apply : suT e (ix2 h r) = ∑ k : Fin 8192, e (ix3 h r k) := by
  pointwise [suT]

theorem upT_apply : upT x (ix3 h r 0) = x (ix2 h r) := by
  pointwise [upT]

theorem prT_apply : prT e l (ix3 h r c) = Ideal.div (e (ix3 h r c)) (l (ix3 h r 0)) := by
  pointwise [prT, outT]

theorem dpT_apply : dpT x4 x5 (ix3 h r c) = ∑ k : Fin 128, x5 (ix3 r h k) * x4 (ix3 c h k) := by
  pointwise [dpT, gtT]

theorem dlT_apply : dlT dp e l (ix2 h r)
    = -∑ k : Fin 8192, dp (ix3 h r k) * Ideal.div 1 (l (ix3 h r 0) * l (ix3 h r 0)) * e (ix3 h r k) := by
  pointwise [dlT, suT, outT]
  simp

theorem dsT_apply : dsT dp e l dl (ix3 h r c) = if okT (ix2 r c) = 1#1 then
      (Ideal.div (dp (ix3 h r c)) (l (ix3 h r 0)) + dl (ix2 h r)) * e (ix3 h r c) * Ideal.ofBits .f32 0x3D93CD3A#32 else 0 := by
  pointwise [dsT, okB, outT]
  exact select_eq _ _ _

theorem dvT_apply (j : Fin 128) : dvT p x5 (ix3 c h j) = ∑ k : Fin 8192, x5 (ix3 k h j) * p (ix3 h k c) := by
  pointwise [dvT, gtT]

theorem dqnT_apply (j : Fin 128) : dqnT d x2 (ix3 r h j) = ∑ k : Fin 8192, d (ix3 h r k) * x2 (ix3 k h j) := by
  pointwise [dqnT]

theorem dknT_apply (j : Fin 128) : dknT d x0 (ix3 c h j) = ∑ k : Fin 8192, d (ix3 h k c) * x0 (ix3 k h j) := by
  pointwise [dknT]

theorem dqrT_apply (j : Fin 64) : dqrT d x3 (ix3 r h j) = ∑ k : Fin 8192, d (ix3 h r k) * x3 (ix2 k j) := by
  pointwise [dqrT, tdT]

theorem dkrT_apply (j : Fin 64) : dkrT d x1 (ix2 c j) = ∑ k : Fin 8192, ∑ h : Fin 16, d (ix3 h k c) * x1 (ix3 k h j) := by
  pointwise [dkrT, tdT]

end reads

end Cert.Attn
-- ==== Proof.HostK.lean ====
module

public import Idealize.ShloMosaic.Lib.StableHlo.RunRead
public import proofs.«01_k».proof.Proof.Run
public import proofs.«01_k».proof.Proof.Terms

/-!
The kernel program's host operations: the arrays that the call reads, and what is made of the arrays that it writes.
-/

@[expose] public section

set_option maxRecDepth 16384
set_option maxHeartbeats 1000000

noncomputable section

namespace Cert.KernelIdeal.Attn

open Cert.KernelIdeal Cert.KernelIdeal.Gen Cert.Attn
open Idealize.ShloMosaic Idealize.ShloMosaic.TcCoe

section terms
variable {F : FTy → Type} [FloatOps F]

/-- The natural logarithm of two. -/
def ln2T : FVec F S_ .f32 := Host.log (constant S_ .f32 0x40000000#32)

/-- One over the logarithm of two. -/
def rlnT : FVec F S_ .f32 := Host.divf (constant S_ .f32 0x3F800000#32) ln2T

/-- The rows' log sum of exponentials, to the base two, on 128 lanes. -/
def klT (x l : FVec F S16x8192x1 .f32) : FVec F S16x8192x128 .f32 :=
  broadcastInDim S16x8192x128 ![0, 1, 2] bcast_S16x8192x1_S16x8192x128_0_1_2 (mulf (addf x (Host.log l)) (broadcastInDim S16x8192x1 ![] bcast_S_S16x8192x1 rlnT))

/-- The queries: both parts side by side, scaled, the head first, padded to 256 lanes. -/
def kqT (x0 : FVec F S8192x16x128 .f32) (x1 : FVec F S8192x16x64 .f32) : FVec F S16x8192x256 .bf16 :=
  truncf .bf16 (pad S16x8192x256 ![0, 0, 0] ![0, 0, 64] ![0, 0, 0]
    (transpose S16x8192x192 [1, 0, 2] (mulf (mulf (concatenate S8192x16x192 2 [⟨S8192x16x128, x0⟩, ⟨S8192x16x64, x1⟩] concatenates_S8192x16x128_S8192x16x64_S8192x16x192_d2) (broadcastInDim S8192x16x192 ![] bcast_S_S8192x16x192 (constant S_ .f32 0x3D93CD3A#32))) (broadcastInDim S8192x16x192 ![] bcast_S_S8192x16x192 rlnT)) transposes_S8192x16x192_S16x8192x192_1_0_2)
    (sitofp .f32 (constantI S_ 32 0#32)) pads_S16x8192x192_S16x8192x256_000_000_0640 h_S_) bitsLt_bf16_f32

/-- The keys: both parts side by side, the head first, padded to 256 lanes. -/
def kkT (x2 : FVec F S8192x16x128 .f32) (x3 : FVec F S8192x64 .f32) : FVec F S16x8192x256 .bf16 :=
  truncf .bf16 (pad S16x8192x256 ![0, 0, 0] ![0, 0, 64] ![0, 0, 0]
    (transpose S16x8192x192 [1, 0, 2] (concatenate S8192x16x192 2 [⟨S8192x16x128, x2⟩, ⟨S8192x16x64, broadcastInDim S8192x16x64 ![0, 1, 2] bcast_S8192x1x64_S8192x16x64_0_1_2 (broadcastInDim S8192x1x64 ![0, 2] bcast_S8192x64_S8192x1x64_0_2 x3)⟩] concatenates_S8192x16x128_S8192x16x64_S8192x16x192_d2) transposes_S8192x16x192_S16x8192x192_1_0_2)
    (sitofp .f32 (constantI S_ 32 0#32)) pads_S16x8192x192_S16x8192x256_000_000_0640 h_S_) bitsLt_bf16_f32

/-- The keys' first part and the values side by side, flattened. -/
def kvT (x2 x4 : FVec F S8192x16x128 .f32) : FVec F S8192x4096 .bf16 :=
  truncf .bf16 (shapeCast S8192x4096 (concatenate S8192x16x256 2 [⟨S8192x16x128, x2⟩, ⟨S8192x16x128, x4⟩] concatenates_S8192x16x128_S8192x16x128_S8192x16x256_d2) shapeCasts_S8192x16x256_S8192x4096) bitsLt_bf16_f32

/-- The attention's output, flattened. -/
def koT (x4 : FVec F S8192x16x128 .f32) (p : FVec F S16x8192x8192 .f32) : FVec F S8192x2048 .bf16 :=
  truncf .bf16 (shapeCast S8192x2048 (transpose S8192x16x128 [2, 0, 1] (Host.dotGeneral dot_S8192x16x128_S16x8192x8192_S16x128x8192_0_2_2_1_1_0 none x4 p) transposes_S16x128x8192_S8192x16x128_2_0_1) shapeCasts_S8192x16x128_S8192x2048) bitsLt_bf16_f32

/-- The output's gradient, flattened. -/
def kgT (x5 : FVec F S8192x16x128 .f32) : FVec F S8192x2048 .bf16 :=
  truncf .bf16 (shapeCast S8192x2048 x5 shapeCasts_S8192x16x128_S8192x2048) bitsLt_bf16_f32

/-- The query's gradient as the call leaves it, scaled, the head second. -/
def tqT (q : FVec F S16x8192x256 .bf16) : FVec F S8192x16x256 .f32 :=
  mulf (extf .f32 (transpose S8192x16x256 [1, 0, 2] q transposes_S16x8192x256_S8192x16x256_1_0_2) bitsLt_bf16_f32) (broadcastInDim S8192x16x256 ![] bcast_S_S8192x16x256 (constant S_ .f32 0x3D93CD3A#32))

/-- The key's gradient as the call leaves it, times the logarithm of two, the head second. -/
def tkT (q : FVec F S16x8192x256 .bf16) (l : FVec F S_ .f32) : FVec F S8192x16x256 .f32 :=
  mulf (extf .f32 (transpose S8192x16x256 [1, 0, 2] q transposes_S16x8192x256_S8192x16x256_1_0_2) bitsLt_bf16_f32) (broadcastInDim S8192x16x256 ![] bcast_S_S8192x16x256 l)

/-- The first 128 lanes. -/
def loT (q : FVec F S8192x16x256 .f32) : FVec F S8192x16x128 .f32 := extractStridedSlice S8192x16x128 ![0, 0, 0] q slices_S8192x16x256_S8192x16x128_0_0_0

/-- The next 64 lanes. -/
def hiT (q : FVec F S8192x16x256 .f32) : FVec F S8192x16x64 .f32 := extractStridedSlice S8192x16x64 ![0, 0, 128] q slices_S8192x16x256_S8192x16x64_0_0_128

/-- The sum over the heads. -/
def ovT (q : FVec F S8192x16x64 .f32) : FVec F S8192x64 .f32 :=
  Host.reduceAdd q (constant S_ .f32 0x00000000#32) reducesTo_S8192x16x64_S8192x64_d1 h_S_

/-- The value's gradient as the call leaves it, the head second. -/
def tvT (q : FVec F S16x8192x128 .bf16) : FVec F S8192x16x128 .f32 :=
  extf .f32 (transpose S8192x16x128 [1, 0, 2] q transposes_S16x8192x128_S8192x16x128_1_0_2) bitsLt_bf16_f32

end terms

section reads
variable (s e p d dp : FVec Ideal S16x8192x8192 .f32) (x0 x2 x4 x5 : FVec Ideal S8192x16x128 .f32) (x1 : FVec Ideal S8192x16x64 .f32) (x3 : FVec Ideal S8192x64 .f32)
  (l x : FVec Ideal S16x8192x1 .f32) (q : FVec Ideal S16x8192x256 .bf16) (w : FVec Ideal S_ .f32) (v : FVec Ideal S16x8192x128 .bf16)
  (h : Fin 16) (r c : Fin 8192)

theorem klT_apply (j : Fin 128) : klT x l (ix3 h r j)
    = (x (ix3 h r 0) + Ideal.log (l (ix3 h r 0))) * Ideal.div 1 (Ideal.log (Ideal.ofBits .f32 0x40000000#32)) := by
  pointwise [klT, rlnT, ln2T]

/-- A query's entry: of the first part, of the second, or zero. -/
theorem kqT_apply (j : Fin 256) : kqT x0 x1 (ix3 h r j)
    = if _ : j.val < 192 then
        (if _ : j.val < 128 then x0 (ix3 r h ⟨j.val, by omega⟩) else x1 (ix3 r h ⟨j.val - 128, by omega⟩)) * Ideal.ofBits .f32 0x3D93CD3A#32
          * Ideal.div 1 (Ideal.log (Ideal.ofBits .f32 0x40000000#32))
      else (FloatOps.sitofp .f32 (0#32 : BitVec 32) : Ideal .f32) := by
  pointwise [kqT, rlnT, ln2T]

theorem kkT_apply (j : Fin 256) : kkT x2 x3 (ix3 h r j)
    = if _ : j.val < 192 then
        (if _ : j.val < 128 then x2 (ix3 r h ⟨j.val, by omega⟩) else x3 (ix2 r ⟨j.val - 128, by omega⟩))
      else (FloatOps.sitofp .f32 (0#32 : BitVec 32) : Ideal .f32) := by
  pointwise [kkT]

theorem kvT_apply (j : Fin 4096) (d : Fin 128) (hj : j.val = 256 * h.val + 128 + d.val) : kvT x2 x4 (ix2 r j) = x4 (ix3 r h d) := by
  have hd := d.isLt
  pointwise [kvT]
  rw [dif_neg (by omega)]
  congr 2 <;> exact Fin.ext (by simp only; omega)

theorem koT_apply (j : Fin 2048) (d : Fin 128) (hj : j.val = 128 * h.val + d.val) :
    koT x4 p (ix2 r j) = ∑ k : Fin 8192, x4 (ix3 k h d) * p (ix3 h r k) := by
  have hd := d.isLt
  have e1 : ∀ hh, (⟨j.val / 128, hh⟩ : Fin 16) = h := fun _ => Fin.ext (by simp only; omega)
  have e2 : ∀ hh, (⟨j.val % 128, hh⟩ : Fin 128) = d := fun _ => Fin.ext (by simp only; omega)
  pointwise [koT]
  simp only [e1, e2]

theorem kgT_apply (j : Fin 2048) (d : Fin 128) (hj : j.val = 128 * h.val + d.val) : kgT x5 (ix2 r j) = x5 (ix3 r h d) := by
  have hd := d.isLt
  have e1 : ∀ hh, (⟨j.val / 128, hh⟩ : Fin 16) = h := fun _ => Fin.ext (by simp only; omega)
  have e2 : ∀ hh, (⟨j.val % 128, hh⟩ : Fin 128) = d := fun _ => Fin.ext (by simp only; omega)
  pointwise [kgT]
  simp only [e1, e2]

theorem tqT_lo (j : Fin 128) : loT (tqT q) (ix3 r h j) = q (ix3 h r ⟨j.val, by omega⟩) * Ideal.ofBits .f32 0x3D93CD3A#32 := by
  pointwise [loT, tqT]

theorem tqT_hi (j : Fin 64) : hiT (tqT q) (ix3 r h j) = q (ix3 h r ⟨128 + j.val, by omega⟩) * Ideal.ofBits .f32 0x3D93CD3A#32 := by
  pointwise [hiT, tqT]

theorem tkT_lo (j : Fin 128) : loT (tkT q w) (ix3 r h j) = q (ix3 h r ⟨j.val, by omega⟩) * w ix0 := by
  pointwise [loT, tkT]

theorem tkT_hi (j : Fin 64) : ovT (hiT (tkT q w)) (ix2 r j) = ∑ h : Fin 16, q (ix3 h r ⟨128 + j.val, by omega⟩) * w ix0 := by
  pointwise [hiT, ovT, tkT]

theorem tvT_apply (j : Fin 128) : tvT v (ix3 r h j) = v (ix3 h r j) := by
  pointwise [tvT]

theorem ln2T_apply : (ln2T : FVec Ideal S_ .f32) ix0 = Ideal.log (Ideal.ofBits .f32 0x40000000#32) := by
  pointwise [ln2T]

end reads

end Cert.KernelIdeal.Attn
-- ==== Proof.WireK.lean ====
module

public import Idealize.ShloMosaic.Lib.Claim
public import proofs.«01_k».proof.Proof.HostK

/-!
What the kernel program's buffers hold before the call, and what its results are made of after it, by the named pieces.
-/

@[expose] public section

set_option maxRecDepth 16384
set_option maxHeartbeats 1000000

noncomputable section

namespace Cert.KernelIdeal.Attn

open Cert.KernelIdeal Cert.KernelIdeal.Gen Cert.Attn
open Idealize.ShloMosaic Idealize.ShloMosaic.TcCoe

variable {F : FTy → Type} [FloatOps F] (m : (ℓ : Loc nD τ sig) → Buf (Elt F) ℓ) (c : Dev nD)

/-- The masked scores of the arguments. -/
abbrev SK : FVec F S16x8192x8192 .f32 :=
  smT (scT (m ((c : Thread nD τ).loc main_arg0)) (m ((c : Thread nD τ).loc main_arg2)) (m ((c : Thread nD τ).loc main_arg1)) (m ((c : Thread nD τ).loc main_arg3)))

theorem V_q : Gen.V m c main_v40 = kqT (m ((c : Thread nD τ).loc main_arg0)) (m ((c : Thread nD τ).loc main_arg1)) := by
  unfold_abbrev_sides
  after_reads_simp
  rfl

theorem V_k : Gen.V m c main_v46 = kkT (m ((c : Thread nD τ).loc main_arg2)) (m ((c : Thread nD τ).loc main_arg3)) := by
  unfold_abbrev_sides
  after_reads_simp
  rfl

theorem V_v : Gen.V m c main_v49 = kvT (m ((c : Thread nD τ).loc main_arg2)) (m ((c : Thread nD τ).loc main_arg4)) := by
  unfold_abbrev_sides
  after_reads_simp
  rfl

theorem V_g : Gen.V m c main_v52 = kgT (m ((c : Thread nD τ).loc main_arg5)) := by
  unfold_abbrev_sides
  after_reads_simp
  rfl

theorem V_ln2 : Gen.V m c main_v0 = ln2T := by
  unfold_abbrev_sides
  after_reads_simp
  rfl

theorem V_o : Gen.V m c main_v50
    = koT (m ((c : Thread nD τ).loc main_arg4)) (prT (exT (SK m c) (upT (mxT (SK m c)))) (upT (suT (exT (SK m c) (upT (mxT (SK m c))))))) := by
  unfold_abbrev_sides
  after_reads_simp
  rfl

theorem V_l : Gen.V m c main_v32
    = klT (upT (mxT (SK m c))) (upT (suT (exT (SK m c) (upT (mxT (SK m c)))))) := by
  unfold_abbrev_sides
  after_reads_simp
  rfl

/-! ### After the call -/

section tail
variable (W : Valuation τ sig (Elt F))

theorem T_dqn : StableHlo.after hostOps1 W (Proc.devRef .tc main_v62) = loT (tqT (W (Proc.devRef .tc main_v53_0))) := by
  after_reads_simp
  rfl

theorem T_dqr : StableHlo.after hostOps1 W (Proc.devRef .tc main_v63) = hiT (tqT (W (Proc.devRef .tc main_v53_0))) := by
  after_reads_simp
  rfl

theorem T_dkn : StableHlo.after hostOps1 W (Proc.devRef .tc main_v64) = loT (tkT (W (Proc.devRef .tc main_v53_1)) (W (Proc.devRef .tc main_v0))) := by
  after_reads_simp
  rfl

theorem T_dkr : StableHlo.after hostOps1 W (Proc.devRef .tc main_v66) = ovT (hiT (tkT (W (Proc.devRef .tc main_v53_1)) (W (Proc.devRef .tc main_v0)))) := by
  after_reads_simp
  rfl

theorem T_dv : StableHlo.after hostOps1 W (Proc.devRef .tc main_v68) = tvT (W (Proc.devRef .tc main_v53_2)) := by
  after_reads_simp
  rfl

end tail

end Cert.KernelIdeal.Attn
-- ==== Proof.Blk.lean ====
module

public import proofs.«01_k».proof.Proof.Parts
public import Idealize.ShloMosaic.Lib.Pointwise

/-! One key block's step, read element by element over the reals. -/

@[expose] public section

set_option maxRecDepth 16384

noncomputable section

namespace Cert.KernelIdeal.Attn

open Cert.KernelIdeal
open Idealize.ShloMosaic Idealize.ShloMosaic.TcCoe

theorem chunk_of : ∀ c : Fin 1024, IntOp.shrsi .vector (BitVec.ofNat 32 c.val) 6#32 = BitVec.ofNat 32 (c.val / 64) := by decide +kernel

theorem chunk_le : ∀ a b : Fin 16, IntOp.cmpi .sle (BitVec.ofNat 32 a.val) (BitVec.ofNat 32 b.val) = if a.val ≤ b.val then 1#1 else 0#1 := by decide +kernel

/-- The mask's condition: the key's chunk is not later than the row's. -/
theorem chunk_cmp (c r : ℕ) (hc : c < 1024) (hr : r < 1024) :
    IntOp.cmpi .sle (IntOp.shrsi .vector (BitVec.ofNat 32 c) 6#32) (IntOp.shrsi .vector (BitVec.ofNat 32 r) 6#32)
      = if c / 64 ≤ r / 64 then 1#1 else 0#1 := by
  rw [chunk_of ⟨c, hc⟩, chunk_of ⟨r, hr⟩]
  exact chunk_le ⟨c / 64, by omega⟩ ⟨r / 64, by omega⟩

/-- The lane that holds a row's number for column `c`. -/
abbrev lane (c : Fin 512) : Fin 128 := ⟨c.val % 128, Nat.mod_lt _ (by decide)⟩

/-! ### Against all the rows -/

theorem scB_apply (q : Vec Ideal S1x1024x256 .bf16) (k : Vec Ideal S1x512x256 .bf16) (r : Fin 1024) (c : Fin 512) :
    scB q k (ix2 r c) = ∑ j : Fin 256, q (ix3 0 r j) * k (ix3 0 c j) := by
  pointwise [scB, qB, kM]

theorem gvB_apply (g : Vec Ideal S1024x128 .bf16) (v : Vec Ideal S512x128 .bf16) (r : Fin 1024) (c : Fin 512) :
    gvB g v (ix2 r c) = ∑ d : Fin 128, g (ix2 r d) * v (ix2 c d) := by
  pointwise [gvB, gB]

theorem maskB_apply (s : FVec Ideal S1024x512 .f32) (r : Fin 1024) (c : Fin 512) :
    maskB s (ix2 r c) = if c.val / 64 ≤ r.val / 64 then s (ix2 r c) else (⊥ : EReal) := by
  pointwise [maskB]
  rw [chunk_cmp c r (by omega) (by omega)]
  split_ifs <;> rfl

theorem pB_apply (s : FVec Ideal S1024x512 .f32) (l : Vec Ideal S1x1024x128 .f32) (r : Fin 1024) (c : Fin 512) :
    pB s l (ix2 r c) = Ideal.exp2 (s (ix2 r c) - l (ix3 0 r (lane c))) := by
  pointwise [pB, wB]
  split_ifs <;> exact congrArg₂ (fun x y => Ideal.exp2 (s (ix2 r x) - l (ix3 0 r y))) (Fin.ext (by first | rfl | (simp only []; omega))) (Fin.ext (by first | rfl | (simp only []; omega)))

theorem dsB_apply (s x : FVec Ideal S1024x512 .f32) (l : Vec Ideal S1x1024x128 .f32) (dl : Vec Ideal S1024x128 .f32) (r : Fin 1024) (c : Fin 512) :
    dsB s x l dl (ix2 r c) = Ideal.exp2 (s (ix2 r c) - l (ix3 0 r (lane c))) * (x (ix2 r c) - dl (ix2 r (lane c))) := by
  pointwise [dsB, uB, wB]
  split_ifs <;> exact congrArg₂ (fun y z => Ideal.exp2 (s (ix2 r y) - l (ix3 0 r z)) * (x (ix2 r y) - dl (ix2 r z))) (Fin.ext (by first | rfl | (simp only []; omega))) (Fin.ext (by first | rfl | (simp only []; omega)))

theorem dvB_apply (p : FVec Ideal S1024x512 .bf16) (g : Vec Ideal S1024x128 .bf16) (c : Fin 512) (d : Fin 128) :
    dvB p g (ix2 c d) = ∑ r : Fin 1024, p (ix2 r c) * g (ix2 r d) := by
  pointwise [dvB, gB]

theorem dkB_apply (x : FVec Ideal S1024x512 .bf16) (q : Vec Ideal S1x1024x256 .bf16) (c : Fin 512) (j : Fin 256) :
    dkB x q (ix2 c j) = ∑ r : Fin 1024, x (ix2 r c) * q (ix3 0 r j) := by
  pointwise [dkB, qB]

theorem dqB_apply (x : FVec Ideal S1024x512 .bf16) (k : Vec Ideal S1x512x256 .bf16) (w : Vec Ideal S1024x256 .f32) (r : Fin 1024) (j : Fin 256) :
    dqB x k w (ix2 r j) = w (ix2 r j) + ∑ c : Fin 512, x (ix2 r c) * k (ix3 0 c j) := by
  pointwise [dqB, kM]

/-! ### Against the second half of the rows -/

theorem scH_apply (q : Vec Ideal S1x512x256 .bf16) (k : Vec Ideal S1x512x256 .bf16) (r : Fin 512) (c : Fin 512) :
    scH q k (ix2 r c) = ∑ j : Fin 256, q (ix3 0 r j) * k (ix3 0 c j) := by
  pointwise [scH, qH, kM]

theorem gvH_apply (g : Vec Ideal S512x128 .bf16) (v : Vec Ideal S512x128 .bf16) (r : Fin 512) (c : Fin 512) :
    gvH g v (ix2 r c) = ∑ d : Fin 128, g (ix2 r d) * v (ix2 c d) := by
  pointwise [gvH, gH]

theorem maskH_apply (s : FVec Ideal S512x512 .f32) (r : Fin 512) (c : Fin 512) :
    maskH s (ix2 r c) = if c.val / 64 ≤ r.val / 64 then s (ix2 r c) else (⊥ : EReal) := by
  pointwise [maskH]
  rw [chunk_cmp c r (by omega) (by omega)]
  split_ifs <;> rfl

theorem pH_apply (s : FVec Ideal S512x512 .f32) (l : Vec Ideal S1x512x128 .f32) (r : Fin 512) (c : Fin 512) :
    pH s l (ix2 r c) = Ideal.exp2 (s (ix2 r c) - l (ix3 0 r (lane c))) := by
  pointwise [pH, wH]
  split_ifs <;> exact congrArg₂ (fun x y => Ideal.exp2 (s (ix2 r x) - l (ix3 0 r y))) (Fin.ext (by first | rfl | (simp only []; omega))) (Fin.ext (by first | rfl | (simp only []; omega)))

theorem dsH_apply (s x : FVec Ideal S512x512 .f32) (l : Vec Ideal S1x512x128 .f32) (dl : Vec Ideal S512x128 .f32) (r : Fin 512) (c : Fin 512) :
    dsH s x l dl (ix2 r c) = Ideal.exp2 (s (ix2 r c) - l (ix3 0 r (lane c))) * (x (ix2 r c) - dl (ix2 r (lane c))) := by
  pointwise [dsH, uH, wH]
  split_ifs <;> exact congrArg₂ (fun y z => Ideal.exp2 (s (ix2 r y) - l (ix3 0 r z)) * (x (ix2 r y) - dl (ix2 r z))) (Fin.ext (by first | rfl | (simp only []; omega))) (Fin.ext (by first | rfl | (simp only []; omega)))

theorem dvH_apply (p : FVec Ideal S512x512 .bf16) (g : Vec Ideal S512x128 .bf16) (c : Fin 512) (d : Fin 128) :
    dvH p g (ix2 c d) = ∑ r : Fin 512, p (ix2 r c) * g (ix2 r d) := by
  pointwise [dvH, gH]

theorem dkH_apply (x : FVec Ideal S512x512 .bf16) (q : Vec Ideal S1x512x256 .bf16) (c : Fin 512) (j : Fin 256) :
    dkH x q (ix2 c j) = ∑ r : Fin 512, x (ix2 r c) * q (ix3 0 r j) := by
  pointwise [dkH, qH]

theorem dqH_apply (x : FVec Ideal S512x512 .bf16) (k : Vec Ideal S1x512x256 .bf16) (w : Vec Ideal S512x256 .f32) (r : Fin 512) (j : Fin 256) :
    dqH x k w (ix2 r j) = w (ix2 r j) + ∑ c : Fin 512, x (ix2 r c) * k (ix3 0 c j) := by
  pointwise [dqH, kM]

theorem deltaOf_apply (g o : Vec Ideal S1024x128 .bf16) (r : Fin 1024) (d : Fin 128) :
    deltaOf g o (ix2 r d) = ∑ e : Fin 128, g (ix2 r e) * o (ix2 r e) := by
  pointwise [deltaOf]

theorem zeroQ_apply (r : Fin 1024) (j : Fin 256) : zeroQ (F := Ideal) (ix2 r j) = 0 := by
  pointwise [zeroQ]

theorem stK_apply (x : FVec Ideal S512x256 .f32) (c : Fin 512) (j : Fin 256) : stK x (ix2 c j) = x (ix2 c j) := by
  pointwise [stK]

theorem stV_apply (x : FVec Ideal S512x128 .f32) (c : Fin 512) (d : Fin 128) : stV x (ix2 c d) = x (ix2 c d) := by
  pointwise [stV]

/-! ### The blocks read of a point's inputs -/

section
variable (X : Inp Ideal)

theorem kb_apply (t : ℕ) (ht : t < 16) (c : Fin 512) (j : Fin 256) : X.kb t (ix3 0 c j) = X.k (ix3 0 ⟨512 * t + c.val, by omega⟩ j) := by
  refine congrArg X.k (funext fun a => Fin.ext ?_)
  fin_cases a
  · rfl
  · show 512 * (t % 16) + 1 * c.val = 512 * t + c.val
    omega
  · show 0 + 1 * j.val = j.val
    omega

theorem vb_apply (t : ℕ) (ht : t < 16) (c : Fin 512) (d : Fin 128) : X.vb t (ix2 c d) = X.v (ix2 ⟨512 * t + c.val, by omega⟩ d) := by
  refine congrArg X.v (funext fun a => Fin.ext ?_)
  fin_cases a
  · show 512 * (t % 16) + 1 * c.val = 512 * t + c.val
    omega
  · show 0 + 1 * d.val = d.val
    omega

theorem qh_apply (r : Fin 512) (j : Fin 256) : X.qh (ix3 0 r j) = X.q (ix3 0 ⟨512 + r.val, by omega⟩ j) := by
  refine congrArg X.q (funext fun a => Fin.ext ?_)
  fin_cases a
  · rfl
  · show 512 + 1 * r.val = 512 + r.val
    omega
  · show 0 + 1 * j.val = j.val
    omega

theorem gh_apply (r : Fin 512) (d : Fin 128) : X.gh (ix2 r d) = X.g (ix2 ⟨512 + r.val, by omega⟩ d) := by
  refine congrArg X.g (funext fun a => Fin.ext ?_)
  fin_cases a
  · show 512 + 1 * r.val = 512 + r.val
    omega
  · show 0 + 1 * d.val = d.val
    omega

theorem lh_apply (r : Fin 512) (d : Fin 128) : X.lh (ix3 0 r d) = X.l (ix3 0 ⟨512 + r.val, by omega⟩ d) := by
  refine congrArg X.l (funext fun a => Fin.ext ?_)
  fin_cases a
  · rfl
  · show 512 + 1 * r.val = 512 + r.val
    omega
  · show 0 + 1 * d.val = d.val
    omega

theorem dh_apply (r : Fin 512) (d : Fin 128) : X.dh (ix2 r d) = X.dl (ix2 ⟨512 + r.val, by omega⟩ d) := by
  refine congrArg X.dl (funext fun a => Fin.ext ?_)
  fin_cases a
  · show 512 + 1 * r.val = 512 + r.val
    omega
  · show 0 + 1 * d.val = d.val
    omega

end

end Cert.KernelIdeal.Attn
-- ==== Proof.HeadSum.lean ====
module

public import proofs.«01_k».proof.Proof.Blk

/-! One head's gradients over the reals: what the block accumulators hold, as sums over query rows or over keys. -/

@[expose] public section

set_option maxRecDepth 16384

noncomputable section

namespace Cert.KernelIdeal.Attn

open Cert.KernelIdeal
open Idealize.ShloMosaic Idealize.ShloMosaic.TcCoe

/-- A finite sum of reals, read as an extended real. -/
theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- A sum of products of numbers that are real. -/
theorem sum_mul_coe {ι : Type*} [Fintype ι] (a b : ι → EReal) (x y : ι → ℝ) (ha : ∀ i, a i = x i) (hb : ∀ i, b i = y i) :
    ∑ i, a i * b i = ((∑ i, x i * y i : ℝ) : EReal) := by
  rw [coe_sum]
  exact Finset.sum_congr rfl fun i _ => by rw [ha, hb, EReal.coe_mul]

/-- One head's numbers: queries and keys as the products take them, values, output gradient, log-sums and deltas. -/
structure Head where
  Q : ℕ → ℕ → ℝ
  K : ℕ → ℕ → ℝ
  V : ℕ → ℕ → ℝ
  G : ℕ → ℕ → ℝ
  L : ℕ → ℝ
  D : ℕ → ℝ

namespace Head
variable (A : Head)

/-- The score of row `r` and key `c`. -/
def sc (r c : ℕ) : ℝ := ∑ j : Fin 256, A.Q r j * A.K c j

/-- The product of row `r`'s output gradient and the value of key `c`. -/
def gv (r c : ℕ) : ℝ := ∑ d : Fin 128, A.G r d * A.V c d

/-- The weight of key `c` in row `r`: none for the keys of later chunks. -/
def p (r c : ℕ) : ℝ := if c / 64 ≤ r / 64 then Real.rpow 2 (A.sc r c - A.L r) else 0

/-- The gradient of the score of row `r` and key `c`. -/
def ds (r c : ℕ) : ℝ := A.p r c * (A.gv r c - A.D r)

theorem p_later (r c : ℕ) (h : r / 64 < c / 64) : A.p r c = 0 := if_neg (by omega)

theorem ds_later (r c : ℕ) (h : r / 64 < c / 64) : A.ds r c = 0 := by rw [ds, A.p_later r c h, zero_mul]

end Head

/-- The point of query block `i` reads head `A`. -/
structure Reads (A : Head) (X : Inp Ideal) (i : ℕ) : Prop where
  q : ∀ (r : Fin 1024) (j : Fin 256), X.q (ix3 0 r j) = ((A.Q (1024 * i + r) j : ℝ) : EReal)
  k : ∀ (c : Fin 8192) (j : Fin 256), X.k (ix3 0 c j) = ((A.K c j : ℝ) : EReal)
  v : ∀ (c : Fin 8192) (d : Fin 128), X.v (ix2 c d) = ((A.V c d : ℝ) : EReal)
  g : ∀ (r : Fin 1024) (d : Fin 128), X.g (ix2 r d) = ((A.G (1024 * i + r) d : ℝ) : EReal)
  l : ∀ (r : Fin 1024) (d : Fin 128), X.l (ix3 0 r d) = ((A.L (1024 * i + r) : ℝ) : EReal)
  dl : ∀ (r : Fin 1024) (d : Fin 128), X.dl (ix2 r d) = ((A.D (1024 * i + r) : ℝ) : EReal)

namespace Reads
variable {A : Head} {X : Inp Ideal} {i : ℕ} (H : Reads A X i)
include H

theorem sc (t : ℕ) (ht : t < 16) (r : Fin 1024) (c : Fin 512) :
    scB X.q (X.kb t) (ix2 r c) = ((A.sc (1024 * i + r) (512 * t + c) : ℝ) : EReal) := by
  rw [scB_apply]
  exact sum_mul_coe _ _ _ _ (fun j => H.q r j) fun j => by rw [kb_apply X t ht, H.k]

theorem gv (t : ℕ) (ht : t < 16) (r : Fin 1024) (c : Fin 512) :
    gvB X.g (X.vb t) (ix2 r c) = ((A.gv (1024 * i + r) (512 * t + c) : ℝ) : EReal) := by
  rw [gvB_apply]
  exact sum_mul_coe _ _ _ _ (fun j => H.g r j) fun j => by rw [vb_apply X t ht, H.v]

theorem scH (t : ℕ) (ht : t < 16) (r c : Fin 512) :
    Attn.scH X.qh (X.kb t) (ix2 r c) = ((A.sc (1024 * i + (512 + r)) (512 * t + c) : ℝ) : EReal) := by
  rw [scH_apply]
  exact sum_mul_coe _ _ _ _ (fun j => by rw [qh_apply, H.q]) fun j => by rw [kb_apply X t ht, H.k]

theorem gvH (t : ℕ) (ht : t < 16) (r c : Fin 512) :
    Attn.gvH X.gh (X.vb t) (ix2 r c) = ((A.gv (1024 * i + (512 + r)) (512 * t + c) : ℝ) : EReal) := by
  rw [gvH_apply]
  exact sum_mul_coe _ _ _ _ (fun j => by rw [gh_apply, H.g]) fun j => by rw [vb_apply X t ht, H.v]

/-- A full block's weights. -/
theorem pFull (t : ℕ) (ht : t < 16) (hi : t < 2 * i) (r : Fin 1024) (c : Fin 512) :
    pB (scB X.q (X.kb t)) X.l (ix2 r c) = ((A.p (1024 * i + r) (512 * t + c) : ℝ) : EReal) := by
  rw [pB_apply, H.sc t ht, H.l, ← EReal.coe_sub, Ideal.exp2_coe, Head.p, if_pos (by omega)]

/-- The first diagonal block's weights. -/
theorem pFirst (hi : i < 8) (r : Fin 1024) (c : Fin 512) :
    pB (maskB (scB X.q (X.kb (2 * i)))) X.l (ix2 r c) = ((A.p (1024 * i + r) (512 * (2 * i) + c) : ℝ) : EReal) := by
  rw [pB_apply, maskB_apply, H.sc _ (by omega), H.l, Head.p]
  by_cases h : c.val / 64 ≤ r.val / 64
  · rw [if_pos h, if_pos (by omega), ← EReal.coe_sub, Ideal.exp2_coe]
  · rw [if_neg h, if_neg (by omega), EReal.bot_sub, Ideal.exp2_bot, EReal.coe_zero]

/-- The second diagonal block's weights. -/
theorem pSecond (hi : i < 8) (r c : Fin 512) :
    pH (maskH (Attn.scH X.qh (X.kb (2 * i + 1)))) X.lh (ix2 r c) = ((A.p (1024 * i + (512 + r)) (512 * (2 * i + 1) + c) : ℝ) : EReal) := by
  rw [pH_apply, maskH_apply, H.scH _ (by omega), lh_apply, H.l, Head.p]
  by_cases h : c.val / 64 ≤ r.val / 64
  · rw [if_pos h, if_pos (by omega), ← EReal.coe_sub, Ideal.exp2_coe]
  · rw [if_neg h, if_neg (by omega), EReal.bot_sub, Ideal.exp2_bot, EReal.coe_zero]

/-- A full block's score gradients. -/
theorem dsFull (t : ℕ) (ht : t < 16) (hi : t < 2 * i) (r : Fin 1024) (c : Fin 512) :
    dsAt X t (ix2 r c) = ((A.ds (1024 * i + r) (512 * t + c) : ℝ) : EReal) := by
  have e := H.pFull t ht hi r c
  rw [pB_apply] at e
  rw [dsAt, dsB_apply, e, H.gv t ht, H.dl, Head.ds, EReal.coe_mul, EReal.coe_sub]

theorem dsFirst (hi : i < 8) (r : Fin 1024) (c : Fin 512) :
    dsD0 X (2 * i) (ix2 r c) = ((A.ds (1024 * i + r) (512 * (2 * i) + c) : ℝ) : EReal) := by
  have e := H.pFirst hi r c
  rw [pB_apply] at e
  rw [dsD0, dsB_apply, e, H.gv _ (by omega), H.dl, Head.ds, EReal.coe_mul, EReal.coe_sub]

theorem dsSecond (hi : i < 8) (r c : Fin 512) :
    dsD1 X (2 * i + 1) (ix2 r c) = ((A.ds (1024 * i + (512 + r)) (512 * (2 * i + 1) + c) : ℝ) : EReal) := by
  have e := H.pSecond hi r c
  rw [pH_apply] at e
  rw [dsD1, dsH_apply, e, H.gvH _ (by omega), dh_apply, H.dl, Head.ds, EReal.coe_mul, EReal.coe_sub]

end Reads

/-- A sum over the rows below `a + b`, the last `b` by their own number. -/
theorem sum_below (f : ℕ → ℝ) (a b : ℕ) : ∑ r ∈ Finset.range (a + b), f r = ∑ r ∈ Finset.range a, f r + ∑ r : Fin b, f (a + r) := by
  rw [Finset.sum_range_add, Finset.sum_range fun x => f (a + x)]

theorem sum_below_zero (f : ℕ → ℝ) (a b : ℕ) (h : ∀ r, r < a → f r = 0) :
    ∑ r ∈ Finset.range (a + b), f r = ∑ r : Fin b, f (a + r) := by
  rw [sum_below, Finset.sum_eq_zero (fun r hr => h r (Finset.mem_range.1 hr)), zero_add]

/-- The values' gradient after the query blocks below `n`: the sum over their rows. -/
theorem vpart_sum {A : Head} {Xs : ℕ → Inp Ideal} (H : ∀ n, n < 8 → Reads A (Xs n) n) (t : ℕ) (ht : t < 16) (c : Fin 512) (d : Fin 128) :
    ∀ n, n ≤ 8 → t < 2 * n → vpart Xs t n (ix2 c d) = ((∑ r ∈ Finset.range (1024 * n), A.p r (512 * t + c) * A.G r d : ℝ) : EReal)
  | 0, _, h => absurd h (by omega)
  | n + 1, hn, h => by
    have Hn := H n (by omega)
    unfold vpart
    by_cases h1 : t < 2 * n
    · rw [if_pos h1, stV_apply, show (addf (vpart Xs t n) (dvB (pB (scB (Xs n).q ((Xs n).kb t)) (Xs n).l) (Xs n).g) : FVec Ideal S512x128 .f32) (ix2 c d)
          = vpart Xs t n (ix2 c d) + dvB (pB (scB (Xs n).q ((Xs n).kb t)) (Xs n).l) (Xs n).g (ix2 c d) from rfl,
        vpart_sum H t ht c d n (by omega) h1, dvB_apply,
        sum_mul_coe _ _ _ _ (fun r => Hn.pFull t ht h1 r c) (fun r => Hn.g r d), ← EReal.coe_add,
        show 1024 * (n + 1) = 1024 * n + 1024 by ring, sum_below]
    · rw [if_neg h1]
      by_cases h2 : t = 2 * n
      · subst h2
        rw [if_pos rfl, stV_apply, dvB_apply, sum_mul_coe _ _ _ _ (fun r => Hn.pFirst (by omega) r c) (fun r => Hn.g r d),
          show 1024 * (n + 1) = 1024 * n + 1024 by ring, sum_below_zero]
        exact fun r hr => by rw [A.p_later _ _ (by omega), zero_mul]
      · obtain rfl : t = 2 * n + 1 := by omega
        rw [if_neg h2, stV_apply, dvH_apply, sum_mul_coe _ _ _ _ (fun r => Hn.pSecond (by omega) r c) (fun r => by rw [gh_apply, Hn.g]),
          show 1024 * (n + 1) = 1024 * n + 512 + 512 by ring, sum_below_zero]
        · exact congrArg _ (Finset.sum_congr rfl fun r _ => by simp only [Nat.add_assoc])
        · exact fun r hr => by rw [A.p_later _ _ (by omega), zero_mul]

/-- The keys' gradient after the query blocks below `n`: the sum over their rows. -/
theorem kpart_sum {A : Head} {Xs : ℕ → Inp Ideal} (H : ∀ n, n < 8 → Reads A (Xs n) n) (t : ℕ) (ht : t < 16) (c : Fin 512) (j : Fin 256) :
    ∀ n, n ≤ 8 → t < 2 * n → kpart Xs t n (ix2 c j) = ((∑ r ∈ Finset.range (1024 * n), A.ds r (512 * t + c) * A.Q r j : ℝ) : EReal)
  | 0, _, h => absurd h (by omega)
  | n + 1, hn, h => by
    have Hn := H n (by omega)
    unfold kpart
    by_cases h1 : t < 2 * n
    · rw [if_pos h1, stK_apply, show (addf (kpart Xs t n) (dkB (dsAt (Xs n) t) (Xs n).q) : FVec Ideal S512x256 .f32) (ix2 c j)
          = kpart Xs t n (ix2 c j) + dkB (dsAt (Xs n) t) (Xs n).q (ix2 c j) from rfl,
        kpart_sum H t ht c j n (by omega) h1, dkB_apply,
        sum_mul_coe _ _ _ _ (fun r => Hn.dsFull t ht h1 r c) (fun r => Hn.q r j), ← EReal.coe_add,
        show 1024 * (n + 1) = 1024 * n + 1024 by ring, sum_below]
    · rw [if_neg h1]
      by_cases h2 : t = 2 * n
      · subst h2
        rw [if_pos rfl, stK_apply, dkB_apply, sum_mul_coe _ _ _ _ (fun r => Hn.dsFirst (by omega) r c) (fun r => Hn.q r j),
          show 1024 * (n + 1) = 1024 * n + 1024 by ring, sum_below_zero]
        exact fun r hr => by rw [A.ds_later _ _ (by omega), zero_mul]
      · obtain rfl : t = 2 * n + 1 := by omega
        rw [if_neg h2, stK_apply, dkH_apply, sum_mul_coe _ _ _ _ (fun r => Hn.dsSecond (by omega) r c) (fun r => by rw [qh_apply, Hn.q]),
          show 1024 * (n + 1) = 1024 * n + 512 + 512 by ring, sum_below_zero]
        · exact congrArg _ (Finset.sum_congr rfl fun r _ => by simp only [Nat.add_assoc])
        · exact fun r hr => by rw [A.ds_later _ _ (by omega), zero_mul]

section
variable {A : Head} {X : Inp Ideal} {i : ℕ} (H : Reads A X i)
include H

/-- The queries' gradient after the full key blocks below `n`: the sum over their keys. -/
theorem dqFulls_sum (hi : i < 8) (r : Fin 1024) (j : Fin 256) :
    ∀ n, n ≤ 2 * i → dqFulls X n (ix2 r j) = ((∑ c ∈ Finset.range (512 * n), A.ds (1024 * i + r) c * A.K c j : ℝ) : EReal)
  | 0, _ => by rw [show dqFulls X 0 = zeroQ from rfl, zeroQ_apply]; simp
  | n + 1, hn => by
    rw [show dqFulls X (n + 1) = dqB (dsAt X n) (X.kb n) (dqFulls X n) from rfl, dqB_apply, dqFulls_sum hi r j n (by omega),
      sum_mul_coe _ _ _ _ (fun c => H.dsFull n (by omega) (by omega) r c) (fun c => by rw [kb_apply X n (by omega), H.k]), ← EReal.coe_add,
      show 512 * (n + 1) = 512 * n + 512 by ring, sum_below]

theorem dqDiag_sum (hi : i < 8) (r : Fin 1024) (j : Fin 256) :
    dqDiag X i (ix2 r j) = ((∑ c ∈ Finset.range (1024 * i + 512), A.ds (1024 * i + r) c * A.K c j : ℝ) : EReal) := by
  rw [dqDiag, dqB_apply, dqFulls_sum H hi r j (2 * i) le_rfl,
    sum_mul_coe _ _ _ _ (fun c => H.dsFirst hi r c) (fun c => by rw [kb_apply X (2 * i) (by omega), H.k]), ← EReal.coe_add,
    show 1024 * i + 512 = 512 * (2 * i) + 512 by ring, sum_below]

end

end Cert.KernelIdeal.Attn
-- ==== Proof.HeadRes.lean ====
module

public import proofs.«01_k».proof.Proof.HeadSum
public import proofs.«01_k».proof.Proof.Run

/-! One head's three result blocks, as sums over all query rows or all keys. -/

@[expose] public section

set_option maxRecDepth 16384

noncomputable section

namespace Cert.KernelIdeal.Attn

open Cert.KernelIdeal
open Idealize.ShloMosaic Idealize.ShloMosaic.TcCoe

section
variable {A : Head} {X : Inp Ideal} {i : ℕ} (H : Reads A X i)
include H

/-- The queries' gradient of a query block: the sum over all keys. -/
theorem dqPoint_sum (hi : i < 8) (r : Fin 1024) (j : Fin 256) :
    dqPoint X i (ix2 r j) = ((∑ c ∈ Finset.range 8192, A.ds (1024 * i + r) c * A.K c j : ℝ) : EReal) := by
  have tail : ∀ n, n ≤ 8192 → (∀ c, n ≤ c → A.ds (1024 * i + r) c = 0) →
      ∑ c ∈ Finset.range n, A.ds (1024 * i + r) c * A.K c j = ∑ c ∈ Finset.range 8192, A.ds (1024 * i + r) c * A.K c j := fun n hn h =>
    Finset.sum_subset (fun x hx => Finset.mem_range.2 (lt_of_lt_of_le (Finset.mem_range.1 hx) hn)) fun x _ hx => by
      rw [h x (by simpa using hx), zero_mul]
  by_cases h : r.val < 512
  · rw [show dqPoint X i (ix2 r j) = dqDiag X i (ix2 r j) from dif_neg (fun hh => absurd (hh 0).1 (by show ¬ 512 ≤ r.val; omega)), dqDiag_sum H hi,
      tail _ (by omega) fun c hc => A.ds_later _ _ (by omega)]
  · obtain ⟨s, rfl⟩ : ∃ s : Fin 512, r = ⟨512 + s.val, Nat.add_lt_add_left s.isLt 512⟩ := ⟨⟨r.val - 512, by omega⟩, Fin.ext (by show r.val = 512 + (r.val - 512); omega)⟩
    have at_row : ∀ x : Vec Ideal S1024x256 .f32, x (ix2 ⟨512 + s.val, by omega⟩ j)
        = (VecWindow.window x ![512, 0] S512x256.size Gen.inb_S1024x256_S512x256_512_0 : FVec Ideal S512x256 .f32) (ix2 s j) := fun x =>
      congrArg x (funext fun a => Fin.ext (by
        fin_cases a
        · show 512 + s.val = 512 + 1 * s.val
          omega
        · show j.val = 0 + 1 * j.val
          omega))
    rw [at_row (dqPoint X i), dqPoint, VecWindow.window_put_same, dqH_apply, ← at_row (dqDiag X i), dqDiag_sum H hi,
      sum_mul_coe _ _ _ _ (fun c => H.dsSecond hi s c) (fun c => by rw [kb_apply X (2 * i + 1) (by omega), H.k]), ← EReal.coe_add, ← tail (1024 * (i + 1)) (by omega) fun c hc => A.ds_later _ _ (by show (1024 * i + (512 + s.val)) / 64 < c / 64; omega),
      show 1024 * (i + 1) = 1024 * i + 512 + 512 by ring, sum_below]
    have e : 512 * (2 * i + 1) = 1024 * i + 512 := by ring
    simp only [e, sum_below]

end

/-- The values' gradient of a head: the sum over all query rows. -/
theorem stackV_sum {A : Head} {Xs : ℕ → Inp Ideal} (H : ∀ n, n < 8 → Reads A (Xs n) n) (c : Fin 8192) (d : Fin 128) :
    stackV (fun u => vpart Xs u 8) (ix2 c d) = ((∑ r ∈ Finset.range 8192, A.p r c * A.G r d : ℝ) : EReal) := by
  have e : stackV (fun u => vpart Xs u 8) (ix2 c d) = vpart Xs (c.val / 512) 8 (ix2 ⟨c.val % 512, Nat.mod_lt _ (by decide)⟩ d) :=
    congrArg (vpart Xs (c.val / 512) 8) (funext fun a => by fin_cases a <;> rfl)
  rw [e, vpart_sum H _ (by omega) _ _ 8 le_rfl (by omega)]
  exact congrArg _ (Finset.sum_congr rfl fun r _ => by rw [show 512 * (c.val / 512) + c.val % 512 = c.val by omega])

/-- The keys' gradient of a head: the sum over all query rows. -/
theorem stackK_sum {A : Head} {Xs : ℕ → Inp Ideal} (H : ∀ n, n < 8 → Reads A (Xs n) n) (c : Fin 8192) (j : Fin 256) :
    stackK (fun u => kpart Xs u 8) (ix2 c j) = ((∑ r ∈ Finset.range 8192, A.ds r c * A.Q r j : ℝ) : EReal) := by
  have e : stackK (fun u => kpart Xs u 8) (ix2 c j) = kpart Xs (c.val / 512) 8 (ix2 ⟨c.val % 512, Nat.mod_lt _ (by decide)⟩ j) :=
    congrArg (kpart Xs (c.val / 512) 8) (funext fun a => by fin_cases a <;> rfl)
  rw [e, kpart_sum H _ (by omega) _ _ 8 le_rfl (by omega)]
  exact congrArg _ (Finset.sum_congr rfl fun r _ => by rw [show 512 * (c.val / 512) + c.val % 512 = c.val by omega])

theorem pay6_apply (x : Vec Ideal S1024x256 .f32) (r : Fin 1024) (j : Fin 256) : Gen.k0_pay6 x (ix3 0 r j) = x (ix2 r j) := by
  pointwise [Gen.k0_pay6]

theorem pay7_apply (x : Vec Ideal S8192x256 .f32) (r : Fin 8192) (j : Fin 256) : Gen.k0_pay7 x (ix3 0 r j) = x (ix2 r j) := by
  pointwise [Gen.k0_pay7]

theorem pay8_apply (x : Vec Ideal S8192x128 .f32) (r : Fin 8192) (j : Fin 128) : Gen.k0_pay8 x (ix3 0 r j) = x (ix2 r j) := by
  pointwise [Gen.k0_pay8]

end Cert.KernelIdeal.Attn
-- ==== Proof.Model.lean ====
module

public import proofs.«01_k».proof.Proof.HeadRes

/-!
The attention's gradients over the real numbers: what the kernel's weights and score gradients are, by the softmax.
-/

@[expose] public section

set_option maxHeartbeats 400000

noncomputable section

namespace Cert.Attn

open Cert.KernelIdeal.Attn

/-- The real numbers of the arguments, the scale and the rows' maxima. -/
structure Nums where
  a0 : ℕ → Fin 16 → ℕ → ℝ
  a1 : ℕ → Fin 16 → ℕ → ℝ
  a2 : ℕ → Fin 16 → ℕ → ℝ
  a3 : ℕ → ℕ → ℝ
  a4 : ℕ → Fin 16 → ℕ → ℝ
  a5 : ℕ → Fin 16 → ℕ → ℝ
  σ : ℝ
  M : Fin 16 → ℕ → ℝ

namespace Nums
variable (N : Nums) (h : Fin 16)

/-- The scaled score of row `r` and key `c`. -/
def S (r c : ℕ) : ℝ := (∑ k : Fin 128, N.a0 r h k * N.a2 c h k + ∑ k : Fin 64, N.a3 c k * N.a1 r h k) * N.σ

/-- The exponential, none for the keys of later chunks. -/
def E (r c : ℕ) : ℝ := if c / 64 ≤ r / 64 then Real.exp (N.S h r c - N.M h r) else 0

/-- The denominator of a row. -/
def l (r : ℕ) : ℝ := ∑ k : Fin 8192, N.E h r k

/-- The probability. -/
def P (r c : ℕ) : ℝ := N.E h r c / N.l h r

/-- The probabilities' gradient. -/
def dP (r c : ℕ) : ℝ := ∑ k : Fin 128, N.a5 r h k * N.a4 c h k

/-- The head as the kernel reads it. -/
def head : Head where
  Q r j := if j < 192 then (if j < 128 then N.a0 r h j else N.a1 r h (j - 128)) * N.σ * (1 / Real.log 2) else 0
  K c j := if j < 192 then (if j < 128 then N.a2 c h j else N.a3 c (j - 128)) else 0
  V c d := N.a4 c h d
  G r d := N.a5 r h d
  L r := (N.M h r + Real.log (N.l h r)) * (1 / Real.log 2)
  D r := ∑ d : Fin 128, N.a5 r h d * ∑ k : Fin 8192, N.a4 k h d * N.P h r k

theorem E_nonneg (r c : ℕ) : 0 ≤ N.E h r c := by
  unfold E
  split
  · exact (Real.exp_pos _).le
  · exact le_refl _

theorem l_pos (r : ℕ) (hr : r < 8192) : 0 < N.l h r :=
  Finset.sum_pos' (fun k _ => N.E_nonneg h r k) ⟨⟨r, hr⟩, Finset.mem_univ _, by
    show 0 < N.E h r r
    unfold E
    rw [if_pos (le_refl _)]
    exact Real.exp_pos _⟩

theorem log_two : Real.log 2 ≠ 0 := (Real.log_pos one_lt_two).ne'

/-- A sum over 256 lanes, of which the last 64 hold nothing. -/
theorem sum_lanes (f : ℕ → ℝ) (hf : ∀ j, 192 ≤ j → f j = 0) : ∑ j : Fin 256, f j = ∑ j : Fin 128, f j + ∑ j : Fin 64, f (128 + j) := by
  rw [Fin.sum_univ_eq_sum_range, Fin.sum_univ_eq_sum_range, Fin.sum_univ_eq_sum_range (fun j => f (128 + j)), show (256 : ℕ) = 128 + 64 + 64 from rfl,
    Finset.sum_range_add, Finset.sum_range_add, Finset.sum_eq_zero (s := Finset.range 64) (f := fun x => f (128 + 64 + x)) fun x _ => hf _ (by omega), add_zero]

theorem sc_eq (r c : ℕ) : (N.head h).sc r c = N.S h r c * (1 / Real.log 2) := by
  have e : (N.head h).sc r c = ∑ j : Fin 256, (fun j : ℕ => (N.head h).Q r j * (N.head h).K c j) j := rfl
  rw [e, sum_lanes (fun j : ℕ => (N.head h).Q r j * (N.head h).K c j) fun j hj => by simp only [head]; rw [if_neg (by omega), zero_mul], S, add_mul, add_mul, Finset.sum_mul, Finset.sum_mul, Finset.sum_mul, Finset.sum_mul]
  refine congrArg₂ (· + ·) (Finset.sum_congr rfl fun j _ => ?_) (Finset.sum_congr rfl fun j _ => ?_)
  · have := j.isLt
    simp only [head]
    rw [if_pos (by omega), if_pos (by omega), if_pos (by omega), if_pos (by omega)]
    ring
  · have := j.isLt
    simp only [head]
    rw [if_pos (by omega), if_neg (by omega), if_pos (by omega), if_neg (by omega), Nat.add_sub_cancel_left]
    ring

/-- The kernel's weights are the probabilities. -/
theorem p_eq (r c : ℕ) (hr : r < 8192) : (N.head h).p r c = N.P h r c := by
  have hl := N.l_pos h r hr
  unfold Head.p P E
  split
  · rw [sc_eq]
    show (2 : ℝ) ^ (N.S h r c * (1 / Real.log 2) - (N.M h r + Real.log (N.l h r)) * (1 / Real.log 2)) = _
    rw [Real.rpow_def_of_pos two_pos, show Real.log 2 * (N.S h r c * (1 / Real.log 2) - (N.M h r + Real.log (N.l h r)) * (1 / Real.log 2)) = N.S h r c - N.M h r - Real.log (N.l h r) by
      field_simp [log_two]; ring, Real.exp_sub, Real.exp_log hl]
  · rw [zero_div]

theorem gv_eq (r c : ℕ) : (N.head h).gv r c = N.dP h r c := rfl

theorem D_eq (r : ℕ) : (N.head h).D r = ∑ k : Fin 8192, N.P h r k * N.dP h r k := by
  show ∑ d : Fin 128, N.a5 r h d * ∑ k : Fin 8192, N.a4 k h d * N.P h r k = _
  simp only [dP, Finset.mul_sum]
  rw [Finset.sum_comm]
  exact Finset.sum_congr rfl fun k _ => Finset.sum_congr rfl fun d _ => by ring

/-- The reference's score gradient is the scale times the kernel's. -/
theorem ds_eq (r c : ℕ) (hr : r < 8192) :
    (N.dP h r c * (1 / N.l h r) + -∑ k : Fin 8192, N.dP h r k * (1 / (N.l h r * N.l h r)) * N.E h r k) * N.E h r c * N.σ = (N.head h).ds r c * N.σ := by
  have hl := (N.l_pos h r hr).ne'
  have e : ∑ k : Fin 8192, N.dP h r k * (1 / (N.l h r * N.l h r)) * N.E h r k = (1 / N.l h r) * ∑ k : Fin 8192, N.P h r k * N.dP h r k := by
    rw [Finset.mul_sum]
    refine Finset.sum_congr rfl fun k _ => ?_
    unfold P
    field_simp
  rw [Head.ds, p_eq _ _ _ _ hr, gv_eq, D_eq, e]
  generalize ∑ k : Fin 8192, N.P h r k * N.dP h r k = X
  unfold P
  field_simp
  ring

end Nums

end Cert.Attn
-- ==== Proof.WireR.lean ====
module

public import proofs.«01_k».proof.Proof.Terms

/-!
The reference's results by the named pieces.
-/

@[expose] public section

set_option maxRecDepth 16384
set_option maxHeartbeats 1000000

noncomputable section

namespace Cert.Attn

open Cert.ReferenceIdeal Cert.ReferenceIdeal.Gen Idealize.ShloMosaic Idealize.ShloMosaic.TcCoe

section terms
variable {F : FTy → Type} [FloatOps F] (x0 x2 x4 x5 : FVec F S8192x16x128 .f32) (x1 : FVec F S8192x16x64 .f32) (x3 : FVec F S8192x64 .f32)

/-- The masked scores. -/
def SR : FVec F S16x8192x8192 .f32 := smT (scT x0 x2 x1 x3)

/-- The exponentials. -/
def ER : FVec F S16x8192x8192 .f32 := exT (SR x0 x2 x1 x3) (upT (mx2T (mxT (SR x0 x2 x1 x3))))

/-- The denominators. -/
def LR : FVec F S16x8192x1 .f32 := upT (suT (ER x0 x2 x1 x3))

/-- The scores' gradient. -/
def DR : FVec F S16x8192x8192 .f32 :=
  dsT (dpT x4 x5) (ER x0 x2 x1 x3) (LR x0 x2 x1 x3) (dlT (dpT x4 x5) (ER x0 x2 x1 x3) (LR x0 x2 x1 x3))

end terms

variable {F : FTy → Type} [FloatOps F] (m : (ℓ : Loc nD τ sig) → Buf (Elt F) ℓ) (c : Dev nD)

theorem res_dqn : Cert.ReferenceIdeal.Value.res_main_v69 m c
    = dqnT (DR (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg1)) (m ((c.tc : Thread nD τ).loc main_arg3))) (m ((c.tc : Thread nD τ).loc main_arg2)) := rfl

theorem res_dqr : Cert.ReferenceIdeal.Value.res_main_v64 m c
    = dqrT (DR (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg1)) (m ((c.tc : Thread nD τ).loc main_arg3))) (m ((c.tc : Thread nD τ).loc main_arg3)) := rfl

theorem res_dkn : Cert.ReferenceIdeal.Value.res_main_v67 m c
    = dknT (DR (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg1)) (m ((c.tc : Thread nD τ).loc main_arg3))) (m ((c.tc : Thread nD τ).loc main_arg0)) := rfl

theorem res_dkr : Cert.ReferenceIdeal.Value.res_main_v65 m c
    = dkrT (DR (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg1)) (m ((c.tc : Thread nD τ).loc main_arg3))) (m ((c.tc : Thread nD τ).loc main_arg1)) := rfl

theorem res_dv : Cert.ReferenceIdeal.Value.res_main_v47 m c
    = dvT (prT (ER (m ((c.tc : Thread nD τ).loc main_arg0)) (m ((c.tc : Thread nD τ).loc main_arg2)) (m ((c.tc : Thread nD τ).loc main_arg1)) (m ((c.tc : Thread nD τ).loc main_arg3)))
        (LR (m ((c.tc : Thread nD τ).loc main_arg0)) (m ((c.tc : Thread nD τ).loc main_arg2)) (m ((c.tc : Thread nD τ).loc main_arg1)) (m ((c.tc : Thread nD τ).loc main_arg3)))) (m ((c.tc : Thread nD τ).loc main_arg5)) := rfl

end Cert.Attn
-- ==== Proof.Values.lean ====
module

public import Idealize.ShloMosaic.Lib.IdealHost
public import proofs.«01_k».proof.Proof.Model
public import proofs.«01_k».proof.Proof.WireR

/-!
The named pieces at real arguments: every entry is a real number of the model.
-/

@[expose] public section

set_option maxRecDepth 16384
set_option maxHeartbeats 400000

noncomputable section

namespace Cert.Attn

open Cert.ReferenceIdeal Idealize.ShloMosaic Idealize.ShloMosaic.TcCoe
open Cert.KernelIdeal.Attn (coe_sum sum_mul_coe)

theorem ninf_eq : Ideal.ofBits .f32 0xFF800000#32 = ⊥ := by simp [Ideal.ofBits, Ideal.ieee]

theorem pinf_eq : Ideal.ofBits .f32 0x7F800000#32 = ⊤ := by simp [Ideal.ofBits, Ideal.ieee]

theorem two_eq : Ideal.ofBits .f32 0x40000000#32 = ((2 : ℝ) : EReal) := by
  simp only [Ideal.ofBits, Ideal.ieee]
  simp
  rw [← EReal.coe_mul]
  norm_num

theorem scale_eq : ∃ s : ℝ, Ideal.ofBits .f32 0x3D93CD3A#32 = (s : EReal) := by
  simp only [Ideal.ofBits, Ideal.ieee]
  simp
  exact ⟨_, (EReal.coe_mul _ _).symm⟩

/-- The arrays hold the model's numbers. -/
structure Is (N : Nums) (x0 x2 x4 x5 : FVec Ideal S8192x16x128 .f32) (x1 : FVec Ideal S8192x16x64 .f32) (x3 : FVec Ideal S8192x64 .f32) : Prop where
  h0 : ∀ (r : Fin 8192) h (d : Fin 128), x0 (ix3 r h d) = ((N.a0 r h d : ℝ) : EReal)
  h1 : ∀ (r : Fin 8192) h (d : Fin 64), x1 (ix3 r h d) = ((N.a1 r h d : ℝ) : EReal)
  h2 : ∀ (r : Fin 8192) h (d : Fin 128), x2 (ix3 r h d) = ((N.a2 r h d : ℝ) : EReal)
  h3 : ∀ (r : Fin 8192) (d : Fin 64), x3 (ix2 r d) = ((N.a3 r d : ℝ) : EReal)
  h4 : ∀ (r : Fin 8192) h (d : Fin 128), x4 (ix3 r h d) = ((N.a4 r h d : ℝ) : EReal)
  h5 : ∀ (r : Fin 8192) h (d : Fin 128), x5 (ix3 r h d) = ((N.a5 r h d : ℝ) : EReal)
  hs : Ideal.ofBits .f32 0x3D93CD3A#32 = ((N.σ : ℝ) : EReal)

/-- A maximum of numbers below plus infinity, one of them above minus infinity, is real. -/
theorem fold_max_real {n : ℕ} (f : Fin n → EReal) (ht : ∀ k, f k ≠ ⊤) (k : Fin n) (hk : f k ≠ ⊥) :
    ((Finset.fold max ⊥ f Finset.univ).toReal : EReal) = Finset.fold max ⊥ f Finset.univ := by
  refine EReal.coe_toReal (fun h => ?_) (fun h => ?_)
  · have : Finset.fold max ⊥ f Finset.univ < ⊤ := (Finset.fold_max_lt _).2 ⟨bot_lt_top, fun x _ => lt_top_iff_ne_top.2 (ht x)⟩
    exact this.ne h
  · have : f k ≤ Finset.fold max ⊥ f Finset.univ := (Finset.le_fold_max _).2 (Or.inr ⟨k, Finset.mem_univ _, le_refl _⟩)
    rw [h] at this
    exact hk (le_bot_iff.1 this)

namespace Is
variable {N : Nums} {x0 x2 x4 x5 : FVec Ideal S8192x16x128 .f32} {x1 : FVec Ideal S8192x16x64 .f32} {x3 : FVec Ideal S8192x64 .f32}
  (I : Is N x0 x2 x4 x5 x1 x3) (h : Fin 16) (r c : Fin 8192)
include I

theorem sc : scT x0 x2 x1 x3 (ix3 h r c) = ((N.S h r c : ℝ) : EReal) := by
  rw [scT_apply, sum_mul_coe _ _ _ _ (fun k => I.h0 r h k) (fun k => I.h2 c h k), sum_mul_coe _ _ _ _ (fun k => I.h3 c k) (fun k => I.h1 r h k), I.hs,
    ← EReal.coe_add, ← EReal.coe_mul]
  rfl

theorem sm : SR x0 x2 x1 x3 (ix3 h r c) = if c.val / 64 ≤ r.val / 64 then ((N.S h r c : ℝ) : EReal) else ⊥ := by
  rw [SR, smT_apply, I.sc, ninf_eq]
  simp only [okT_apply]

/-- The row's maximum is real. -/
theorem mx_real : ((mxT (SR x0 x2 x1 x3) (ix2 h r)).toReal : EReal) = mxT (SR x0 x2 x1 x3) (ix2 h r) := by
  rw [mxT_apply, ninf_eq]
  refine fold_max_real _ (fun k => ?_) r ?_
  · rw [I.sm]
    split
    · exact EReal.coe_ne_top _
    · exact bot_ne_top
  · rw [I.sm, if_pos (le_refl _)]
    exact EReal.coe_ne_bot _

variable (x : FVec Ideal S16x8192 .f32) (hx : ∀ (h : Fin 16) (r : Fin 8192), x (ix2 h r) = ((N.M h r : ℝ) : EReal))
include hx

theorem ex : exT (SR x0 x2 x1 x3) (upT x) (ix3 h r c) = ((N.E h r c : ℝ) : EReal) := by
  rw [exT_apply, upT_apply, hx, I.sm, Nums.E]
  split
  · rw [← EReal.coe_sub, Ideal.exp_coe]
  · rw [EReal.bot_sub, Ideal.exp_bot, EReal.coe_zero]

theorem su : suT (exT (SR x0 x2 x1 x3) (upT x)) (ix2 h r) = ((N.l h r : ℝ) : EReal) := by
  rw [suT_apply, Nums.l, coe_sum]
  exact Finset.sum_congr rfl fun k _ => I.ex h r k x hx

theorem pr : prT (exT (SR x0 x2 x1 x3) (upT x)) (upT (suT (exT (SR x0 x2 x1 x3) (upT x)))) (ix3 h r c) = ((N.P h r c : ℝ) : EReal) := by
  rw [prT_apply, I.ex h r c x hx, upT_apply, I.su h r x hx, Ideal.div_coe (N.l_pos h r r.isLt).ne', ← EReal.coe_mul, Nums.P, mul_one_div]

end Is

/-! ### The reference's results -/

namespace Is
variable {N : Nums} {x0 x2 x4 x5 : FVec Ideal S8192x16x128 .f32} {x1 : FVec Ideal S8192x16x64 .f32} {x3 : FVec Ideal S8192x64 .f32}
  (I : Is N x0 x2 x4 x5 x1 x3) (hM : ∀ (h : Fin 16) (r : Fin 8192), mxT (SR x0 x2 x1 x3) (ix2 h r) = ((N.M h r : ℝ) : EReal)) (h : Fin 16) (r c : Fin 8192)

include hM in
theorem mx2 (h : Fin 16) (r : Fin 8192) : mx2T (mxT (SR x0 x2 x1 x3)) (ix2 h r) = ((N.M h r : ℝ) : EReal) := by
  rw [mx2T_apply, ninf_eq, max_eq_right bot_le, hM]

include I

theorem dp : dpT x4 x5 (ix3 h r c) = ((N.dP h r c : ℝ) : EReal) := by
  rw [dpT_apply]
  exact sum_mul_coe _ _ _ _ (fun k => I.h5 r h k) (fun k => I.h4 c h k)

include hM

theorem er : ER x0 x2 x1 x3 (ix3 h r c) = ((N.E h r c : ℝ) : EReal) := I.ex h r c _ (mx2 hM)

theorem lr : LR x0 x2 x1 x3 (ix3 h r 0) = ((N.l h r : ℝ) : EReal) := by
  rw [LR, upT_apply]
  exact I.su h r _ (mx2 hM)

theorem dl : dlT (dpT x4 x5) (ER x0 x2 x1 x3) (LR x0 x2 x1 x3) (ix2 h r)
    = ((-∑ k : Fin 8192, N.dP h r k * (1 / (N.l h r * N.l h r)) * N.E h r k : ℝ) : EReal) := by
  have hl := (N.l_pos h r r.isLt).ne'
  rw [dlT_apply, I.lr hM, EReal.coe_neg, coe_sum]
  refine congrArg Neg.neg (Finset.sum_congr rfl fun k _ => ?_)
  rw [I.dp, I.er hM, ← EReal.coe_mul, Ideal.div_coe (mul_ne_zero hl hl), one_mul, ← EReal.coe_mul, ← EReal.coe_mul]

/-- The reference's score gradient. -/
theorem dr : DR x0 x2 x4 x5 x1 x3 (ix3 h r c) = (((N.head h).ds r c * N.σ : ℝ) : EReal) := by
  have hl := (N.l_pos h r r.isLt).ne'
  rw [DR, dsT_apply, I.dl hM, I.dp, I.er hM, I.lr hM, I.hs, Ideal.div_coe hl, ← EReal.coe_mul, ← EReal.coe_add, ← EReal.coe_mul, ← EReal.coe_mul, N.ds_eq h r c r.isLt]
  by_cases hc : c.val / 64 ≤ r.val / 64
  · rw [if_pos ((okT_apply r c).2 hc)]
  · rw [if_neg fun hh => hc ((okT_apply r c).1 hh), (N.head h).ds_later r c (by omega), zero_mul, EReal.coe_zero]

theorem r_dv (j : Fin 128) : dvT (prT (ER x0 x2 x1 x3) (LR x0 x2 x1 x3)) x5 (ix3 c h j) = ((∑ k : Fin 8192, N.a5 k h j * N.P h k c : ℝ) : EReal) := by
  rw [dvT_apply]
  exact sum_mul_coe _ _ _ _ (fun k => I.h5 k h j) (fun k => I.pr h k c _ (mx2 hM))

theorem r_dqn (j : Fin 128) : dqnT (DR x0 x2 x4 x5 x1 x3) x2 (ix3 r h j) = ((∑ k : Fin 8192, (N.head h).ds r k * N.σ * N.a2 k h j : ℝ) : EReal) := by
  rw [dqnT_apply]
  exact sum_mul_coe _ _ _ _ (fun k => I.dr hM h r k) (fun k => I.h2 k h j)

theorem r_dqr (j : Fin 64) : dqrT (DR x0 x2 x4 x5 x1 x3) x3 (ix3 r h j) = ((∑ k : Fin 8192, (N.head h).ds r k * N.σ * N.a3 k j : ℝ) : EReal) := by
  rw [dqrT_apply]
  exact sum_mul_coe _ _ _ _ (fun k => I.dr hM h r k) (fun k => I.h3 k j)

theorem r_dkn (j : Fin 128) : dknT (DR x0 x2 x4 x5 x1 x3) x0 (ix3 c h j) = ((∑ k : Fin 8192, (N.head h).ds k c * N.σ * N.a0 k h j : ℝ) : EReal) := by
  rw [dknT_apply]
  exact sum_mul_coe _ _ _ _ (fun k => I.dr hM h k c) (fun k => I.h0 k h j)

theorem r_dkr (j : Fin 64) : dkrT (DR x0 x2 x4 x5 x1 x3) x1 (ix2 c j) = ((∑ k : Fin 8192, ∑ h : Fin 16, (N.head h).ds k c * N.σ * N.a1 k h j : ℝ) : EReal) := by
  rw [dkrT_apply, coe_sum]
  exact Finset.sum_congr rfl fun k _ => sum_mul_coe _ _ _ _ (fun h => I.dr hM h k c) (fun h => I.h1 k h j)

end Is

end Cert.Attn
-- ==== Proof.ReadsK.lean ====
module

public import proofs.«01_k».proof.Proof.Entry
public import proofs.«01_k».proof.Proof.WireK
public import proofs.«01_k».proof.Proof.Values

/-!
What the points read, at real arguments: one head of the model.
-/

@[expose] public section

set_option maxRecDepth 16384
set_option maxHeartbeats 400000

noncomputable section

namespace Cert.KernelIdeal.Attn

open Cert.KernelIdeal Cert.KernelIdeal.Gen Cert.Attn
open Idealize.ShloMosaic Idealize.ShloMosaic.TcCoe

theorem pad_zero : (FloatOps.sitofp .f32 (0#32 : BitVec 32) : Ideal .f32) = (0 : EReal) := by
  show (((0#32 : BitVec 32).toInt : ℝ) : EReal) = 0
  simp

/-- The launch memory holds the model's numbers. -/
def Holds (N : Nums) (m : (ℓ : Loc nD τ sig) → Buf (Elt Ideal) ℓ) (c : Dev nD) : Prop :=
  Is N (m ((c : Thread nD τ).loc main_arg0)) (m ((c : Thread nD τ).loc main_arg2)) (m ((c : Thread nD τ).loc main_arg4))
      (m ((c : Thread nD τ).loc main_arg5)) (m ((c : Thread nD τ).loc main_arg1)) (m ((c : Thread nD τ).loc main_arg3))
    ∧ ∀ (h : Fin 16) (r : Fin 8192), mxT (SK m c) (ix2 h r) = ((N.M h r : ℝ) : EReal)

variable {N : Nums} {m : (ℓ : Loc nD τ sig) → Buf (Elt Ideal) ℓ} {c : Dev nD} (H : Holds N m c)
include H

theorem ent_q (h : Fin 16) (r : Fin 8192) (j : Fin 256) : Gen.V m c main_v40 (ix3 h r j) = (((N.head h).Q r j : ℝ) : EReal) := by
  have I := H.1
  rw [V_q, kqT_apply, two_eq, Ideal.log_coe, if_neg (by norm_num), Ideal.div_coe Nums.log_two, one_mul, I.hs]
  show _ = ((if j.val < 192 then (if j.val < 128 then N.a0 r h j else N.a1 r h (j - 128)) * N.σ * (1 / Real.log 2) else 0 : ℝ) : EReal)
  by_cases h1 : j.val < 192
  · rw [dif_pos h1, if_pos h1, EReal.coe_mul, EReal.coe_mul]
    by_cases h2 : j.val < 128
    · rw [dif_pos h2, if_pos h2, I.h0]
    · rw [dif_neg h2, if_neg h2, I.h1]
  · rw [dif_neg h1, if_neg h1, pad_zero, EReal.coe_zero]

theorem ent_k (h : Fin 16) (r : Fin 8192) (j : Fin 256) : Gen.V m c main_v46 (ix3 h r j) = (((N.head h).K r j : ℝ) : EReal) := by
  have I := H.1
  rw [V_k, kkT_apply]
  show _ = ((if j.val < 192 then (if j.val < 128 then N.a2 r h j else N.a3 r (j - 128)) else 0 : ℝ) : EReal)
  by_cases h1 : j.val < 192
  · rw [dif_pos h1, if_pos h1]
    by_cases h2 : j.val < 128
    · rw [dif_pos h2, if_pos h2, I.h2]
    · rw [dif_neg h2, if_neg h2, I.h3]
  · rw [dif_neg h1, if_neg h1, pad_zero, EReal.coe_zero]

theorem ent_v (h : Fin 16) (r : Fin 8192) (d : Fin 128) (J : Fin 4096) (hJ : J.val = 256 * h.val + 128 + d.val) :
    Gen.V m c main_v49 (ix2 r J) = (((N.head h).V r d : ℝ) : EReal) := by
  rw [V_v, kvT_apply _ _ h r J d hJ, H.1.h4]
  rfl

theorem ent_g (h : Fin 16) (r : Fin 8192) (d : Fin 128) (J : Fin 2048) (hJ : J.val = 128 * h.val + d.val) :
    Gen.V m c main_v52 (ix2 r J) = (((N.head h).G r d : ℝ) : EReal) := by
  rw [V_g, kgT_apply _ h r J d hJ, H.1.h5]
  rfl

theorem ent_o (h : Fin 16) (r : Fin 8192) (d : Fin 128) (J : Fin 2048) (hJ : J.val = 128 * h.val + d.val) :
    Gen.V m c main_v50 (ix2 r J) = ((∑ k : Fin 8192, N.a4 k h d * N.P h r k : ℝ) : EReal) := by
  rw [V_o, koT_apply _ _ h r J d hJ]
  exact sum_mul_coe _ _ _ _ (fun k => H.1.h4 k h d) (fun k => H.1.pr h r k _ H.2)

theorem ent_l (h : Fin 16) (r : Fin 8192) (d : Fin 128) : Gen.V m c main_v32 (ix3 h r d) = (((N.head h).L r : ℝ) : EReal) := by
  have hs : suT (exT (SK m c) (upT (mxT (SK m c)))) (ix2 h r) = ((N.l h r : ℝ) : EReal) := H.1.su h r _ H.2
  rw [V_l, klT_apply, upT_apply, upT_apply, H.2, two_eq, Ideal.log_coe, if_neg (by norm_num), Ideal.div_coe Nums.log_two, one_mul]
  rw [hs, Ideal.log_coe, if_neg (not_le.2 (N.l_pos h r r.isLt)), ← EReal.coe_add, ← EReal.coe_mul]
  rfl

/-- The row of the whole array that a block's row is. -/
def rowOf (t : Fin cfg0.N) (r : Fin 1024) : Fin 8192 := ⟨1024 * (t.val % 8) + r, by omega⟩

section
variable (t : Fin cfg0.N) (h : Fin 16) (hh : t.val / 8 = h.val)

include hh

theorem rd_q (r : Fin 1024) (j : Fin 256) : (Gen.iblk m c 0 t : FVec Ideal S1x1024x256 .bf16) (ix3 0 r j) = (((N.head h).Q (rowOf t r).val j : ℝ) : EReal) := by
  rw [blk_q m c t h (rowOf t r) r j hh rfl]
  exact ent_q H h _ j

theorem rd_k (r : Fin 8192) (j : Fin 256) : (Gen.iblk m c 1 t : FVec Ideal S1x8192x256 .bf16) (ix3 0 r j) = (((N.head h).K r j : ℝ) : EReal) := by
  rw [blk_k m c t h r j hh]
  exact ent_k H h _ j

theorem rd_v (r : Fin 8192) (d : Fin 128) : (Gen.iblk m c 2 t : FVec Ideal S8192x128 .bf16) (ix2 r d) = (((N.head h).V r d : ℝ) : EReal) := by
  rw [blk_v m c t h r d ⟨256 * h.val + 128 + d.val, by omega⟩ hh rfl]
  exact ent_v H h r d _ rfl

theorem rd_g (r : Fin 1024) (d : Fin 128) : (Gen.iblk m c 4 t : FVec Ideal S1024x128 .bf16) (ix2 r d) = (((N.head h).G (rowOf t r).val d : ℝ) : EReal) := by
  rw [blk_g m c t h (rowOf t r) r d ⟨128 * h.val + d.val, by omega⟩ hh rfl rfl]
  exact ent_g H h _ d _ rfl

theorem rd_o (r : Fin 1024) (d : Fin 128) : (Gen.iblk m c 3 t : FVec Ideal S1024x128 .bf16) (ix2 r d)
    = ((∑ k : Fin 8192, N.a4 k h d * N.P h (rowOf t r).val k : ℝ) : EReal) := by
  rw [blk_o m c t h (rowOf t r) r d ⟨128 * h.val + d.val, by omega⟩ hh rfl rfl]
  exact ent_o H h _ d _ rfl

theorem rd_l (r : Fin 1024) (d : Fin 128) : (Gen.iblk m c 5 t : FVec Ideal S1x1024x128 .f32) (ix3 0 r d) = (((N.head h).L (rowOf t r).val : ℝ) : EReal) := by
  rw [blk_l m c t h (rowOf t r) r d hh rfl]
  exact ent_l H h _ d

theorem rd_d (r : Fin 1024) (d : Fin 128) : deltaOf (Gen.iblk m c 4 t : FVec Ideal S1024x128 .bf16) (Gen.iblk m c 3 t : FVec Ideal S1024x128 .bf16) (ix2 r d) = (((N.head h).D (rowOf t r).val : ℝ) : EReal) := by
  rw [deltaOf_apply]
  exact sum_mul_coe _ _ _ _ (fun e => rd_g H t h hh r e) (fun e => rd_o H t h hh r e)

/-- A point reads its head of the model. -/
theorem reads : Reads (N.head h) (Xin m c t) (t.val % 8) := by
  unfold Xin
  refine ⟨fun r j => ?_, fun r j => ?_, fun r d => ?_, fun r d => ?_, fun r d => ?_, fun r d => ?_⟩ <;> dsimp only
  · rw [rd_q H t h hh r j, rowOf]
  · rw [rd_k H t h hh r j]
  · rw [rd_v H t h hh r d]
  · rw [rd_g H t h hh r d, rowOf]
  · rw [rd_l H t h hh r d, rowOf]
  · rw [rd_d H t h hh r d, rowOf]

end

end Cert.KernelIdeal.Attn
-- ==== Proof.Result.lean ====
module

public import proofs.«01_k».proof.Proof.ReadsK
public import proofs.«01_k».proof.Proof.HeadRes
public import proofs.«01_k».proof.Proof.WireR

/-!
The kernel program's results, at real arguments, are the reference's.
-/

@[expose] public section

set_option maxRecDepth 16384
set_option maxHeartbeats 400000

noncomputable section

namespace Cert.Attn

namespace Nums
variable (N : Nums) (h : Fin 16)

theorem Q_lo (r : ℕ) (j : Fin 128) : (N.head h).Q r j = N.a0 r h j * N.σ * (1 / Real.log 2) := by
  have := j.isLt
  simp only [head]
  rw [if_pos (by omega), if_pos (by omega)]

theorem Q_hi (r : ℕ) (j : Fin 64) : (N.head h).Q r (128 + j.val) = N.a1 r h j * N.σ * (1 / Real.log 2) := by
  have := j.isLt
  simp only [head]
  rw [if_pos (by omega), if_neg (by omega), Nat.add_sub_cancel_left]

theorem K_lo (c : ℕ) (j : Fin 128) : (N.head h).K c j = N.a2 c h j := by
  have := j.isLt
  simp only [head]
  rw [if_pos (by omega), if_pos (by omega)]

theorem K_hi (c : ℕ) (j : Fin 64) : (N.head h).K c (128 + j.val) = N.a3 c j := by
  have := j.isLt
  simp only [head]
  rw [if_pos (by omega), if_neg (by omega), Nat.add_sub_cancel_left]

theorem dqn_eq (r : ℕ) (j : Fin 128) : (∑ c ∈ Finset.range 8192, (N.head h).ds r c * (N.head h).K c j) * N.σ
    = ∑ k : Fin 8192, (N.head h).ds r k * N.σ * N.a2 k h j := by
  rw [Finset.sum_range, Finset.sum_mul]
  exact Finset.sum_congr rfl fun k _ => by rw [K_lo]; ring

theorem dqr_eq (r : ℕ) (j : Fin 64) : (∑ c ∈ Finset.range 8192, (N.head h).ds r c * (N.head h).K c (128 + j.val)) * N.σ
    = ∑ k : Fin 8192, (N.head h).ds r k * N.σ * N.a3 k j := by
  rw [Finset.sum_range, Finset.sum_mul]
  exact Finset.sum_congr rfl fun k _ => by rw [K_hi]; ring

theorem dkn_eq (c : ℕ) (j : Fin 128) : (∑ r ∈ Finset.range 8192, (N.head h).ds r c * (N.head h).Q r j) * Real.log 2
    = ∑ k : Fin 8192, (N.head h).ds k c * N.σ * N.a0 k h j := by
  rw [Finset.sum_range, Finset.sum_mul]
  exact Finset.sum_congr rfl fun k _ => by rw [Q_lo]; field_simp [log_two]

theorem dkr_eq (c : ℕ) (j : Fin 64) : ∑ h : Fin 16, (∑ r ∈ Finset.range 8192, (N.head h).ds r c * (N.head h).Q r (128 + j.val)) * Real.log 2
    = ∑ k : Fin 8192, ∑ h : Fin 16, (N.head h).ds k c * N.σ * N.a1 k h j := by
  rw [Finset.sum_comm]
  refine Finset.sum_congr rfl fun h _ => ?_
  rw [Finset.sum_range, Finset.sum_mul]
  exact Finset.sum_congr rfl fun k _ => by rw [Q_hi]; field_simp [log_two]

theorem dv_eq (c : ℕ) (d : Fin 128) : ∑ r ∈ Finset.range 8192, (N.head h).p r c * (N.head h).G r d
    = ∑ k : Fin 8192, N.a5 k h d * N.P h k c := by
  rw [Finset.sum_range]
  exact Finset.sum_congr rfl fun k _ => by rw [N.p_eq h k c k.isLt, mul_comm]; rfl

end Nums

end Cert.Attn

namespace Cert.KernelIdeal.Attn

open Cert.KernelIdeal Cert.KernelIdeal.Gen Cert.Attn
open Idealize.ShloMosaic Idealize.ShloMosaic.TcCoe

/-- The queries' gradient the call leaves. -/
def gQ (N : Nums) : FVec Ideal S16x8192x256 .bf16 := fun i =>
  ((∑ c ∈ Finset.range 8192, (N.head (i 0)).ds (i 1).val c * (N.head (i 0)).K c (i 2).val : ℝ) : EReal)

/-- The keys' gradient the call leaves. -/
def gK (N : Nums) : FVec Ideal S16x8192x256 .bf16 := fun i =>
  ((∑ r ∈ Finset.range 8192, (N.head (i 0)).ds r (i 1).val * (N.head (i 0)).Q r (i 2).val : ℝ) : EReal)

/-- The values' gradient the call leaves. -/
def gV (N : Nums) : FVec Ideal S16x8192x128 .bf16 := fun i =>
  ((∑ r ∈ Finset.range 8192, (N.head (i 0)).p r (i 1).val * (N.head (i 0)).G r (i 2).val : ℝ) : EReal)

theorem gQ_apply (N : Nums) (h : Fin 16) (r : Fin 8192) (j : Fin 256) :
    gQ N (ix3 h r j) = ((∑ c ∈ Finset.range 8192, (N.head h).ds r c * (N.head h).K c j : ℝ) : EReal) := rfl
theorem gK_apply (N : Nums) (h : Fin 16) (r : Fin 8192) (j : Fin 256) :
    gK N (ix3 h r j) = ((∑ k ∈ Finset.range 8192, (N.head h).ds k r * (N.head h).Q k j : ℝ) : EReal) := rfl
theorem gV_apply (N : Nums) (h : Fin 16) (r : Fin 8192) (j : Fin 128) :
    gV N (ix3 h r j) = ((∑ k ∈ Finset.range 8192, (N.head h).p k r * (N.head h).G k j : ℝ) : EReal) := rfl

variable {N : Nums} {m : (ℓ : Loc nD τ sig) → Buf (Elt Ideal) ℓ} {c : Dev nD} (H : Holds N m c)
include H

/-- The points of a head read it. -/
theorem reads_hd (t : Fin cfg0.N) (h : Fin 16) (hh : t.val / 8 = h.val) (n : ℕ) (hn : n < 8) : Reads (N.head h) (hd m c t.val n) n := by
  have ht : t.val < 128 := t.isLt
  have e : (point (8 * (t.val / 8) + n)).val = 8 * (t.val / 8) + n := by
    show (8 * (t.val / 8) + n) % 128 = _
    omega
  have R := reads H (point (8 * (t.val / 8) + n)) h (by rw [e]; omega)
  rw [e, show (8 * (t.val / 8) + n) % 8 = n by omega] at R
  exact R

theorem arr_q : (dats m 0 c).arrAt 6 cfg0.N = gQ N :=
  arr_dq m c (gQ N) fun t h R r j hh hR => by
    rw [oQ, pay6_apply, dqPoint_sum (reads H t h hh) (Nat.mod_lt _ (by decide)), gQ_apply, hR]

theorem arr_k : (dats m 0 c).arrAt 7 cfg0.N = gK N :=
  arr_dk m c (gK N) fun t h R j hh _ => by
    rw [oK, pay7_apply, stackK_sum (reads_hd H t h hh), gK_apply]

theorem arr_v : (dats m 0 c).arrAt 8 cfg0.N = gV N :=
  arr_dv m c (gV N) fun t h R j hh _ => by
    rw [oV, pay8_apply, stackV_sum (reads_hd H t h hh), gV_apply]

omit H
variable (m c)

/-- What the buffers hold as the call returns. -/
def W1 : Valuation τ sig (Elt Ideal) := Pipeline.withArrays spec0 c (Gen.V0 m c) (fun w => (dats m 0 c).arrAt w cfg0.N)

theorem tail_eq (b : Ref sig .tc) : Pipeline.afterTail₀ cfgs (dats m) 0 (Gen.V0 m) [Gen.hostOps1] c b = StableHlo.after hostOps1 (W1 m c) (Proc.devRef .tc b) := by
  unfold Pipeline.afterTail₀
  rfl

theorem arrays_apart : Function.Injective (Pipeline.arrRef spec0) := by decide

variable {m c}
include H

theorem W1_q : W1 m c (Proc.devRef .tc main_v53_0) = gQ N :=
  (Pipeline.withArrays_arr spec0 arrays_apart c (Gen.V0 m c) _ 6).trans (arr_q H)

theorem W1_k : W1 m c (Proc.devRef .tc main_v53_1) = gK N :=
  (Pipeline.withArrays_arr spec0 arrays_apart c (Gen.V0 m c) _ 7).trans (arr_k H)

theorem W1_v : W1 m c (Proc.devRef .tc main_v53_2) = gV N :=
  (Pipeline.withArrays_arr spec0 arrays_apart c (Gen.V0 m c) _ 8).trans (arr_v H)

omit H in
theorem W1_l : W1 m c (Proc.devRef .tc main_v0) = (ln2T : FVec Ideal S_ .f32) :=
  (Pipeline.withArrays_of_ne spec0 c (Gen.V0 m c) _ main_v0 (by exact (by decide : ∀ w, Pipeline.arrRef spec0 w ≠ main_v0))).trans (V_ln2 m c)

/-! ### The results -/

omit H in
theorem log2_val : (ln2T : FVec Ideal S_ .f32) ix0 = ((Real.log 2 : ℝ) : EReal) := by
  rw [ln2T_apply, two_eq, Ideal.log_coe, if_neg (by norm_num)]

/-- The queries' gradient, the part without rotation. -/
theorem end_dqn : Pipeline.afterTail₀ cfgs (dats m) 0 (Gen.V0 m) [Gen.hostOps1] c main_v62
    = (dqnT (DR (m ((c : Thread nD τ).loc main_arg0)) (m ((c : Thread nD τ).loc main_arg2)) (m ((c : Thread nD τ).loc main_arg4)) (m ((c : Thread nD τ).loc main_arg5)) (m ((c : Thread nD τ).loc main_arg1)) (m ((c : Thread nD τ).loc main_arg3))) (m ((c : Thread nD τ).loc main_arg2)) : FVec Ideal S8192x16x128 .f32) := by
  rw [tail_eq]
  rw [T_dqn, W1_q H]
  funext i
  obtain ⟨r, h, j, rfl⟩ : ∃ (r : Fin 8192) (h : Fin 16) (j : Fin 128), i = ix3 r h j := ⟨_, _, _, eq_ix3 i⟩
  rw [H.1.r_dqn H.2 h r j, tqT_lo, gQ_apply, H.1.hs, ← EReal.coe_mul]
  exact congrArg _ (N.dqn_eq h r j)

/-- The queries' gradient, the rotated part. -/
theorem end_dqr : Pipeline.afterTail₀ cfgs (dats m) 0 (Gen.V0 m) [Gen.hostOps1] c main_v63
    = (dqrT (DR (m ((c : Thread nD τ).loc main_arg0)) (m ((c : Thread nD τ).loc main_arg2)) (m ((c : Thread nD τ).loc main_arg4)) (m ((c : Thread nD τ).loc main_arg5)) (m ((c : Thread nD τ).loc main_arg1)) (m ((c : Thread nD τ).loc main_arg3))) (m ((c : Thread nD τ).loc main_arg3)) : FVec Ideal S8192x16x64 .f32) := by
  rw [tail_eq]
  rw [T_dqr, W1_q H]
  funext i
  obtain ⟨r, h, j, rfl⟩ : ∃ (r : Fin 8192) (h : Fin 16) (j : Fin 64), i = ix3 r h j := ⟨_, _, _, eq_ix3 i⟩
  rw [H.1.r_dqr H.2 h r j, tqT_hi, gQ_apply, H.1.hs, ← EReal.coe_mul]
  exact congrArg _ (N.dqr_eq h r j)

/-- The keys' gradient, the part without rotation. -/
theorem end_dkn : Pipeline.afterTail₀ cfgs (dats m) 0 (Gen.V0 m) [Gen.hostOps1] c main_v64
    = (dknT (DR (m ((c : Thread nD τ).loc main_arg0)) (m ((c : Thread nD τ).loc main_arg2)) (m ((c : Thread nD τ).loc main_arg4)) (m ((c : Thread nD τ).loc main_arg5)) (m ((c : Thread nD τ).loc main_arg1)) (m ((c : Thread nD τ).loc main_arg3))) (m ((c : Thread nD τ).loc main_arg0)) : FVec Ideal S8192x16x128 .f32) := by
  rw [tail_eq]
  rw [T_dkn, W1_k H, W1_l]
  funext i
  obtain ⟨r, h, j, rfl⟩ : ∃ (r : Fin 8192) (h : Fin 16) (j : Fin 128), i = ix3 r h j := ⟨_, _, _, eq_ix3 i⟩
  rw [H.1.r_dkn H.2 h r j, tkT_lo, gK_apply, log2_val, ← EReal.coe_mul]
  exact congrArg _ (N.dkn_eq h r j)

/-- The keys' gradient, the rotated part, which the heads share. -/
theorem end_dkr : Pipeline.afterTail₀ cfgs (dats m) 0 (Gen.V0 m) [Gen.hostOps1] c main_v66
    = (dkrT (DR (m ((c : Thread nD τ).loc main_arg0)) (m ((c : Thread nD τ).loc main_arg2)) (m ((c : Thread nD τ).loc main_arg4)) (m ((c : Thread nD τ).loc main_arg5)) (m ((c : Thread nD τ).loc main_arg1)) (m ((c : Thread nD τ).loc main_arg3))) (m ((c : Thread nD τ).loc main_arg1)) : FVec Ideal S8192x64 .f32) := by
  rw [tail_eq]
  rw [T_dkr, W1_k H, W1_l]
  funext i
  obtain ⟨r, j, rfl⟩ : ∃ (r : Fin 8192) (j : Fin 64), i = ix2 r j := ⟨_, _, eq_ix2 i⟩
  rw [H.1.r_dkr H.2 r j, tkT_hi, ← N.dkr_eq r j, coe_sum]
  exact Finset.sum_congr rfl fun h _ => by rw [gK_apply, log2_val, ← EReal.coe_mul]

/-- The values' gradient. -/
theorem end_dv : Pipeline.afterTail₀ cfgs (dats m) 0 (Gen.V0 m) [Gen.hostOps1] c main_v68
    = (dvT (prT (ER (m ((c : Thread nD τ).loc main_arg0)) (m ((c : Thread nD τ).loc main_arg2)) (m ((c : Thread nD τ).loc main_arg1)) (m ((c : Thread nD τ).loc main_arg3))) (LR (m ((c : Thread nD τ).loc main_arg0)) (m ((c : Thread nD τ).loc main_arg2)) (m ((c : Thread nD τ).loc main_arg1)) (m ((c : Thread nD τ).loc main_arg3)))) (m ((c : Thread nD τ).loc main_arg5)) : FVec Ideal S8192x16x128 .f32) := by
  rw [tail_eq]
  rw [T_dv, W1_v H]
  funext i
  obtain ⟨r, h, j, rfl⟩ : ∃ (r : Fin 8192) (h : Fin 16) (j : Fin 128), i = ix3 r h j := ⟨_, _, _, eq_ix3 i⟩
  rw [H.1.r_dv H.2 h r j, tvT_apply, gV_apply]
  exact congrArg _ (N.dv_eq h r j)

end Cert.KernelIdeal.Attn
-- ==== Proof.Finite.lean ====
module

public import proofs.«01_k».proof.Proof.Frames
public import proofs.«01_k».proof.Proof.Result

/-! Finite arguments: the model's numbers are theirs, and the two programs' results are equal. -/

@[expose] public section

set_option maxRecDepth 16384
set_option maxHeartbeats 400000

noncomputable section

namespace Cert.Attn

open Idealize.ShloMosaic Idealize.ShloMosaic.TcCoe Idealize.SL.Sem

instance finite_facts : Cert.Pre_finite_arguments.Facts where
  bcast_S_S8192x16x128 := by decide
  bcast_S_S8192x16x64 := by decide
  bcast_S_S8192x64 := by decide

theorem frame_ideal_finite : Cert.quiescent_KernelIdeal_pre_finite_arguments := fun m ρ _ => Cert.KernelIdeal.Attn.frame_main (F := Ideal) m ρ

theorem frame_reference_finite : Cert.quiescent_ReferenceIdeal_pre_finite_arguments := fun m ρ _ =>
  (θ_run Cert.ReferenceIdeal.defs _ _).mono (fun r h => ⟨fun c => (h c).2.2.2.2.2, Idealize.ShloMosaic.sem_eq_zero_of_no_sems (by decide) r.2⟩)
    (Cert.ReferenceIdeal.Value.run (F := Ideal) m ρ)

/-- A number whose absolute value is below plus infinity is real. -/
theorem real_of_abs_lt (x : EReal) (h : max x (-x) < ⊤) : x = ((x.toReal : ℝ) : EReal) := by
  refine (EReal.coe_toReal ?_ ?_).symm
  · rintro rfl
    simp at h
  · rintro rfl
    simp at h

/-- An array that passes the test of the precondition holds real numbers. -/
theorem real_of_finite {S : Shape} (hb : (⟨0, ![]⟩ : Shape).BroadcastsInDim S (![] : Fin 0 → Fin S.rank)) (x : FVec Ideal S .f32)
    (h : cmpf .olt (Host.absf x) (broadcastInDim S ![] hb (constant (⟨0, ![]⟩ : Shape) .f32 0x7F800000#32)) = fun _ => 1#1) (i : S.Idx) :
    x i = (((x i : EReal).toReal : ℝ) : EReal) := by
  have e : Ideal.cmp .olt (max (x i : EReal) (-(x i : EReal))) (Ideal.ofBits FTy.f32 0x7F800000#32) = 1#1 := congrFun h i
  rw [pinf_eq] at e
  exact real_of_abs_lt _ ((Ideal.cmp_olt_eq_one _ _).1 e)

/-- The number below `k` that `n` leaves. -/
def lim (k : ℕ) (hk : 0 < k) (n : ℕ) : Fin k := ⟨n % k, Nat.mod_lt n hk⟩

theorem lim_val {k : ℕ} (hk : 0 < k) (x : Fin k) : lim k hk x.val = x := Fin.ext (Nat.mod_eq_of_lt x.isLt)

section
open Cert.ReferenceIdeal
variable (x0 x2 x4 x5 : FVec Ideal S8192x16x128 .f32) (x1 : FVec Ideal S8192x16x64 .f32) (x3 : FVec Ideal S8192x64 .f32)

/-- The arrays' numbers, with the row maxima `M`. -/
def numsOf (M : Fin 16 → ℕ → ℝ) : Nums where
  a0 r h d := (x0 (ix3 (lim 8192 (by decide) r) h (lim 128 (by decide) d)) : EReal).toReal
  a1 r h d := (x1 (ix3 (lim 8192 (by decide) r) h (lim 64 (by decide) d)) : EReal).toReal
  a2 r h d := (x2 (ix3 (lim 8192 (by decide) r) h (lim 128 (by decide) d)) : EReal).toReal
  a3 r d := (x3 (ix2 (lim 8192 (by decide) r) (lim 64 (by decide) d)) : EReal).toReal
  a4 r h d := (x4 (ix3 (lim 8192 (by decide) r) h (lim 128 (by decide) d)) : EReal).toReal
  a5 r h d := (x5 (ix3 (lim 8192 (by decide) r) h (lim 128 (by decide) d)) : EReal).toReal
  σ := scale_eq.choose
  M := M

/-- The row maxima. -/
def maxOf (h : Fin 16) (r : ℕ) : ℝ := (mxT (SR x0 x2 x1 x3) (ix2 h (lim 8192 (by decide) r)) : EReal).toReal

variable {x0 x2 x4 x5 x1 x3}
variable (f0 : ∀ i, x0 i = (((x0 i : EReal).toReal : ℝ) : EReal)) (f1 : ∀ i, x1 i = (((x1 i : EReal).toReal : ℝ) : EReal))
  (f2 : ∀ i, x2 i = (((x2 i : EReal).toReal : ℝ) : EReal)) (f3 : ∀ i, x3 i = (((x3 i : EReal).toReal : ℝ) : EReal))
  (f4 : ∀ i, x4 i = (((x4 i : EReal).toReal : ℝ) : EReal)) (f5 : ∀ i, x5 i = (((x5 i : EReal).toReal : ℝ) : EReal))
include f0 f1 f2 f3 f4 f5

theorem numsOf_is (M : Fin 16 → ℕ → ℝ) : Is (numsOf x0 x2 x4 x5 x1 x3 M) x0 x2 x4 x5 x1 x3 where
  h0 r h d := by simp only [numsOf, lim_val]; exact f0 _
  h1 r h d := by simp only [numsOf, lim_val]; exact f1 _
  h2 r h d := by simp only [numsOf, lim_val]; exact f2 _
  h3 r d := by simp only [numsOf, lim_val]; exact f3 _
  h4 r h d := by simp only [numsOf, lim_val]; exact f4 _
  h5 r h d := by simp only [numsOf, lim_val]; exact f5 _
  hs := scale_eq.choose_spec

theorem maxOf_is (M : Fin 16 → ℕ → ℝ) (h : Fin 16) (r : Fin 8192) : mxT (SR x0 x2 x1 x3) (ix2 h r) = ((maxOf x0 x2 x1 x3 h r : ℝ) : EReal) := by
  rw [maxOf, lim_val]
  exact ((numsOf_is f0 f1 f2 f3 f4 f5 M).mx_real h r).symm

theorem numsOf_max (h : Fin 16) (r : Fin 8192) : mxT (smT (scT x0 x2 x1 x3)) (ix2 h r) = (((numsOf x0 x2 x4 x5 x1 x3 (maxOf x0 x2 x1 x3)).M h r : ℝ) : EReal) := by
  have e : mxT (smT (scT x0 x2 x1 x3)) (ix2 h r) = mxT (SR x0 x2 x1 x3) (ix2 h r) := by rw [SR]
  rw [e, maxOf_is f0 f1 f2 f3 f4 f5 (fun _ _ => 0) h r, numsOf]

/-- Real arrays are a model's. -/
theorem model_of_real : ∃ N : Nums, Is N x0 x2 x4 x5 x1 x3 ∧ ∀ (h : Fin 16) (r : Fin 8192), mxT (smT (scT x0 x2 x1 x3)) (ix2 h r) = ((N.M h r : ℝ) : EReal) :=
  ⟨numsOf x0 x2 x4 x5 x1 x3 (maxOf x0 x2 x1 x3), numsOf_is f0 f1 f2 f3 f4 f5 _, fun h r => numsOf_max f0 f1 f2 f3 f4 f5 h r⟩

end

end Cert.Attn

namespace Cert.KernelIdeal.Attn

open Cert.KernelIdeal Cert.KernelIdeal.Gen Cert.Attn
open Idealize.ShloMosaic Idealize.ShloMosaic.TcCoe Idealize.SL.Sem

/-- Finite arguments are a model's. -/
theorem holds (m : (ℓ : Loc nD τ sig) → Buf (Elt Ideal) ℓ) (hp : Cert.Pre_KernelIdeal_finite_arguments m) (c : Dev nD) : ∃ N, Holds N m c := by
  obtain ⟨p0, p1, p2, p3, p4, p5⟩ := hp c
  have f0 := real_of_finite Cert.Pre_finite_arguments.Facts.bcast_S_S8192x16x128 _ p0
  have f1 := real_of_finite Cert.Pre_finite_arguments.Facts.bcast_S_S8192x16x64 _ p1
  have f2 := real_of_finite Cert.Pre_finite_arguments.Facts.bcast_S_S8192x16x128 _ p2
  have f3 := real_of_finite Cert.Pre_finite_arguments.Facts.bcast_S_S8192x64 _ p3
  have f4 := real_of_finite Cert.Pre_finite_arguments.Facts.bcast_S_S8192x16x128 _ p4
  have f5 := real_of_finite Cert.Pre_finite_arguments.Facts.bcast_S_S8192x16x128 _ p5
  exact model_of_real f0 f1 f2 f3 f4 f5

def v_dqn (m : (ℓ : Loc nD τ sig) → Buf (Elt Ideal) ℓ) (c : Dev nD) : FVec Ideal S8192x16x128 .f32 := dqnT (DR (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg1)) (m ((c.tc : Thread nD τ).loc main_arg3))) (m ((c.tc : Thread nD τ).loc main_arg2))

def v_dqr (m : (ℓ : Loc nD τ sig) → Buf (Elt Ideal) ℓ) (c : Dev nD) : FVec Ideal S8192x16x64 .f32 := dqrT (DR (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg1)) (m ((c.tc : Thread nD τ).loc main_arg3))) (m ((c.tc : Thread nD τ).loc main_arg3))

def v_dkn (m : (ℓ : Loc nD τ sig) → Buf (Elt Ideal) ℓ) (c : Dev nD) : FVec Ideal S8192x16x128 .f32 := dknT (DR (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg1)) (m ((c.tc : Thread nD τ).loc main_arg3))) (m ((c.tc : Thread nD τ).loc main_arg0))

def v_dkr (m : (ℓ : Loc nD τ sig) → Buf (Elt Ideal) ℓ) (c : Dev nD) : FVec Ideal S8192x64 .f32 := dkrT (DR (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg1)) (m ((c.tc : Thread nD τ).loc main_arg3))) (m ((c.tc : Thread nD τ).loc main_arg1))

def v_dv (m : (ℓ : Loc nD τ sig) → Buf (Elt Ideal) ℓ) (c : Dev nD) : FVec Ideal S8192x16x128 .f32 := dvT (prT (ER (m ((c.tc : Thread nD τ).loc main_arg0)) (m ((c.tc : Thread nD τ).loc main_arg2)) (m ((c.tc : Thread nD τ).loc main_arg1)) (m ((c.tc : Thread nD τ).loc main_arg3))) (LR (m ((c.tc : Thread nD τ).loc main_arg0)) (m ((c.tc : Thread nD τ).loc main_arg2)) (m ((c.tc : Thread nD τ).loc main_arg1)) (m ((c.tc : Thread nD τ).loc main_arg3)))) (m ((c.tc : Thread nD τ).loc main_arg5))

/-- The kernel program ends with the reference's terms. -/
theorem kernel_run (m : (ℓ : Loc nD τ sig) → Buf (Elt Ideal) ℓ) (ρ : Dev nD → PrngReg) (hp : Cert.Pre_KernelIdeal_finite_arguments m) :
    θ_run defs (onTc (τ := τ) (main (F := Ideal))) ⟨m, fun _ => 0, ρ⟩ (fun r => ∀ c : Dev nD,
      r.2.mem ((c.tc : Thread nD τ).loc main_v62) = v_dqn m c
      ∧ r.2.mem ((c.tc : Thread nD τ).loc main_v63) = v_dqr m c
      ∧ r.2.mem ((c.tc : Thread nD τ).loc main_v64) = v_dkn m c
      ∧ r.2.mem ((c.tc : Thread nD τ).loc main_v66) = v_dkr m c
      ∧ r.2.mem ((c.tc : Thread nD τ).loc main_v68) = v_dv m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => by
    obtain ⟨N, H⟩ := holds m hp c
    exact ⟨((h.1 c).2 main_v62 (Pipeline.mem_restRefs_of main_v62 (by decide) (by decide))).trans (end_dqn H),
      ((h.1 c).2 main_v63 (Pipeline.mem_restRefs_of main_v63 (by decide) (by decide))).trans (end_dqr H),
      ((h.1 c).2 main_v64 (Pipeline.mem_restRefs_of main_v64 (by decide) (by decide))).trans (end_dkn H),
      ((h.1 c).2 main_v66 (Pipeline.mem_restRefs_of main_v66 (by decide) (by decide))).trans (end_dkr H),
      ((h.1 c).2 main_v68 (Pipeline.mem_restRefs_of main_v68 (by decide) (by decide))).trans (end_dv H),
      ((h.1 c).2 main_arg0 (Pipeline.mem_restRefs_of main_arg0 (by decide) (by decide))).trans (Gen.W_main_arg0 m (dats m) c),
      ((h.1 c).2 main_arg1 (Pipeline.mem_restRefs_of main_arg1 (by decide) (by decide))).trans (Gen.W_main_arg1 m (dats m) c),
      ((h.1 c).2 main_arg2 (Pipeline.mem_restRefs_of main_arg2 (by decide) (by decide))).trans (Gen.W_main_arg2 m (dats m) c),
      ((h.1 c).2 main_arg3 (Pipeline.mem_restRefs_of main_arg3 (by decide) (by decide))).trans (Gen.W_main_arg3 m (dats m) c),
      ((h.1 c).2 main_arg4 (Pipeline.mem_restRefs_of main_arg4 (by decide) (by decide))).trans (Gen.W_main_arg4 m (dats m) c),
      ((h.1 c).2 main_arg5 (Pipeline.mem_restRefs_of main_arg5 (by decide) (by decide))).trans (Gen.W_main_arg5 m (dats m) c)⟩)
    (run_main m ρ)

end Cert.KernelIdeal.Attn

namespace Cert.Attn

open Idealize.ShloMosaic Idealize.ShloMosaic.TcCoe Idealize.SL.Sem

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The two programs' arguments agree. -/
def Same : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)

variable {m m' c} (h : Same m m' c)
include h

theorem ref_dqn : Cert.ReferenceIdeal.Value.res_main_v69 m' c = Cert.KernelIdeal.Attn.v_dqn m c := by
  obtain ⟨h0, h1, h2, h3, h4, h5⟩ := h
  rw [res_dqn, h0, h1, h2, h3, h4, h5]
  rfl

theorem ref_dqr : Cert.ReferenceIdeal.Value.res_main_v64 m' c = Cert.KernelIdeal.Attn.v_dqr m c := by
  obtain ⟨h0, h1, h2, h3, h4, h5⟩ := h
  rw [res_dqr, h0, h1, h2, h3, h4, h5]
  rfl

theorem ref_dkn : Cert.ReferenceIdeal.Value.res_main_v67 m' c = Cert.KernelIdeal.Attn.v_dkn m c := by
  obtain ⟨h0, h1, h2, h3, h4, h5⟩ := h
  rw [res_dkn, h0, h1, h2, h3, h4, h5]
  rfl

theorem ref_dkr : Cert.ReferenceIdeal.Value.res_main_v65 m' c = Cert.KernelIdeal.Attn.v_dkr m c := by
  obtain ⟨h0, h1, h2, h3, h4, h5⟩ := h
  rw [res_dkr, h0, h1, h2, h3, h4, h5]
  rfl

theorem ref_dv : Cert.ReferenceIdeal.Value.res_main_v47 m' c = Cert.KernelIdeal.Attn.v_dv m c := by
  obtain ⟨h0, h1, h2, h3, h4, h5⟩ := h
  rw [res_dv, h0, h1, h2, h3, h5]
  rfl

end

/-- On finite arguments the kernel's results are the reference's. -/
theorem algebraic : Cert.algebraic_KernelIdeal_ReferenceIdeal_pre_finite_arguments := fun m g m' g' hp hA =>
  ⟨Cert.KernelIdeal.Attn.v_dqn m, Cert.KernelIdeal.Attn.v_dqr m, Cert.KernelIdeal.Attn.v_dkn m, Cert.KernelIdeal.Attn.v_dkr m, Cert.KernelIdeal.Attn.v_dv m, Cert.KernelIdeal.Attn.kernel_run m g hp,
    (θ_run Cert.ReferenceIdeal.defs _ _).mono (fun _ h c => ⟨(h c).1.trans (ref_dqn (hA c)), (h c).2.1.trans (ref_dqr (hA c)), (h c).2.2.1.trans (ref_dkn (hA c)), (h c).2.2.2.1.trans (ref_dkr (hA c)), (h c).2.2.2.2.1.trans (ref_dv (hA c)), (h c).2.2.2.2.2⟩)
      (Cert.ReferenceIdeal.Value.run (F := Ideal) m' g')⟩

end Cert.Attn
-- ==== Proof.DhSum.lean ====
module

public import Idealize.ShloMosaic.Lib.Claim
public import Idealize.ShloMosaic.Lib.Pointwise
public import Idealize.ShloMosaic.Lib.Pipeline.ValueKit
public import Idealize.ShloMosaic.Lib.StableHlo.RunRead
public import proofs.«01_k».proof.Proof.Gen.Kernel2Ideal.Value

/-! The product with the split projection's columns: what the call reads, what it leaves, and the sum over all the columns. -/

@[expose] public section

set_option maxRecDepth 16384
set_option maxHeartbeats 400000

noncomputable section

namespace Cert.Kernel2Ideal.Dh

open Cert.Kernel2Ideal Cert.Kernel2Ideal.Gen
open Idealize.ShloMosaic Idealize.ShloMosaic.TcCoe

/-! ### The columns -/

/-- The column of the whole projection that is column `k` of the split one. -/
def col (k : ℕ) : ℕ :=
  if k < 4096 then k else if k < 6144 then 5184 + (k - 4096) else if k < 12288 then 9280 + (k - 6144)
  else if k < 14336 then 7232 + (k - 12288) else 4096 + (k - 14336)

theorem col_lt (k : ℕ) (h : k < 15360) : col k < 15424 := by
  unfold col
  split_ifs <;> omega

/-- The split columns and the kept 64 are all the columns. -/
theorem split_sum (B : ℕ → EReal) :
    ∑ k ∈ Finset.range 64, B (5120 + k) + ∑ k ∈ Finset.range 15360, B (col k) = ∑ k ∈ Finset.range 15424, B k := by
  have e0 : ∑ k ∈ Finset.range 4096, B (col k) = ∑ k ∈ Finset.range 4096, B k :=
    Finset.sum_congr rfl fun k hk => by
      have := Finset.mem_range.1 hk
      unfold col
      rw [if_pos this]
  have e1 : ∑ k ∈ Finset.range 2048, B (col (4096 + k)) = ∑ k ∈ Finset.range 2048, B (5184 + k) :=
    Finset.sum_congr rfl fun k hk => by
      have := Finset.mem_range.1 hk
      unfold col
      rw [if_neg (by omega), if_pos (by omega)]
      exact congrArg B (by omega)
  have e2 : ∑ k ∈ Finset.range 6144, B (col (6144 + k)) = ∑ k ∈ Finset.range 6144, B (9280 + k) :=
    Finset.sum_congr rfl fun k hk => by
      have := Finset.mem_range.1 hk
      unfold col
      rw [if_neg (by omega), if_neg (by omega), if_pos (by omega)]
      exact congrArg B (by omega)
  have e3 : ∑ k ∈ Finset.range 2048, B (col (12288 + k)) = ∑ k ∈ Finset.range 2048, B (7232 + k) :=
    Finset.sum_congr rfl fun k hk => by
      have := Finset.mem_range.1 hk
      unfold col
      rw [if_neg (by omega), if_neg (by omega), if_neg (by omega), if_pos (by omega)]
      exact congrArg B (by omega)
  have e4 : ∑ k ∈ Finset.range 1024, B (col (14336 + k)) = ∑ k ∈ Finset.range 1024, B (4096 + k) :=
    Finset.sum_congr rfl fun k hk => by
      have := Finset.mem_range.1 hk
      unfold col
      rw [if_neg (by omega), if_neg (by omega), if_neg (by omega), if_neg (by omega)]
      exact congrArg B (by omega)
  have l : ∑ k ∈ Finset.range 15360, B (col k) = ∑ k ∈ Finset.range 4096, B k + ∑ k ∈ Finset.range 2048, B (5184 + k)
      + ∑ k ∈ Finset.range 6144, B (9280 + k) + ∑ k ∈ Finset.range 2048, B (7232 + k) + ∑ k ∈ Finset.range 1024, B (4096 + k) := by
    rw [← e0, ← e1, ← e2, ← e3, ← e4, ← Finset.sum_range_add, ← Finset.sum_range_add, ← Finset.sum_range_add, ← Finset.sum_range_add]
  have r : ∑ k ∈ Finset.range 15424, B k = ∑ k ∈ Finset.range 4096, B k + ∑ k ∈ Finset.range 1024, B (4096 + k) + ∑ k ∈ Finset.range 64, B (5120 + k)
      + ∑ k ∈ Finset.range 2048, B (5184 + k) + ∑ k ∈ Finset.range 2048, B (7232 + k) + ∑ k ∈ Finset.range 6144, B (9280 + k) := by
    rw [← Finset.sum_range_add, ← Finset.sum_range_add, ← Finset.sum_range_add, ← Finset.sum_range_add, ← Finset.sum_range_add]
  rw [l, r]
  abel

/-- Five blocks of 3072 are 15360. -/
theorem five_sum (A : ℕ → EReal) : ∑ s ∈ Finset.range 5, ∑ k : Fin 3072, A (3072 * s + k) = ∑ k ∈ Finset.range 15360, A k := by
  have e : ∀ s, ∑ k : Fin 3072, A (3072 * s + k) = ∑ k ∈ Finset.range 3072, A (3072 * s + k) := fun s =>
    Fin.sum_univ_eq_sum_range (fun k => A (3072 * s + k)) 3072
  simp only [e, Finset.sum_range_succ _ 4, Finset.sum_range_succ _ 3, Finset.sum_range_succ _ 2, Finset.sum_range_succ _ 1, Finset.sum_range_one]
  rw [show (15360 : ℕ) = 3072 + 3072 + 3072 + 3072 + 3072 from rfl, Finset.sum_range_add, Finset.sum_range_add, Finset.sum_range_add, Finset.sum_range_add]
  simp only [Nat.mul_zero, Nat.zero_add]

/-! ### What the host prepares -/

section
variable {F : FTy → Type} [FloatOps F] (w : FVec F S2048x15424 .f32) (g : FVec F S8192x15424 .f32)

/-- The split weights, transposed. -/
def wT : FVec F S15360x2048 .bf16 :=
  transpose S15360x2048 [1, 0] (concatenate S2048x15360 1
    [⟨S2048x4096, extractStridedSlice S2048x4096 ![0, 0] (truncf .bf16 w bitsLt_bf16_f32) slices_S2048x15424_S2048x4096_0_0⟩,
      ⟨S2048x2048, extractStridedSlice S2048x2048 ![0, 5184] (truncf .bf16 w bitsLt_bf16_f32) slices_S2048x15424_S2048x2048_0_5184⟩,
      ⟨S2048x6144, extractStridedSlice S2048x6144 ![0, 9280] (truncf .bf16 w bitsLt_bf16_f32) slices_S2048x15424_S2048x6144_0_9280⟩,
      ⟨S2048x2048, extractStridedSlice S2048x2048 ![0, 7232] (truncf .bf16 w bitsLt_bf16_f32) slices_S2048x15424_S2048x2048_0_7232⟩,
      ⟨S2048x1024, extractStridedSlice S2048x1024 ![0, 4096] (truncf .bf16 w bitsLt_bf16_f32) slices_S2048x15424_S2048x1024_0_4096⟩]
    concatenates_S2048x4096_S2048x2048_S2048x6144_S2048x2048_S2048x1024_S2048x15360_d1) transposes_S2048x15360_S15360x2048_1_0

/-- The kept 64 columns of the weights with 64 zero columns, transposed. -/
def wkT : FVec F S128x2048 .bf16 :=
  transpose S128x2048 [1, 0] (concatenate S2048x128 1
    [⟨S2048x64, extractStridedSlice S2048x64 ![0, 5120] (truncf .bf16 w bitsLt_bf16_f32) slices_S2048x15424_S2048x64_0_5120⟩,
      ⟨S2048x64, broadcastInDim S2048x64 ![] bcast_S_S2048x64 (constant S_ .bf16 0x0000#16)⟩]
    concatenates_S2048x64_S2048x64_S2048x128_d1) transposes_S2048x128_S128x2048_1_0

/-- The split gradient. -/
def gT : FVec F S8192x15360 .bf16 :=
  concatenate S8192x15360 1
    [⟨S8192x4096, extractStridedSlice S8192x4096 ![0, 0] (truncf .bf16 g bitsLt_bf16_f32) slices_S8192x15424_S8192x4096_0_0⟩,
      ⟨S8192x2048, extractStridedSlice S8192x2048 ![0, 5184] (truncf .bf16 g bitsLt_bf16_f32) slices_S8192x15424_S8192x2048_0_5184⟩,
      ⟨S8192x6144, extractStridedSlice S8192x6144 ![0, 9280] (truncf .bf16 g bitsLt_bf16_f32) slices_S8192x15424_S8192x6144_0_9280⟩,
      ⟨S8192x2048, extractStridedSlice S8192x2048 ![0, 7232] (truncf .bf16 g bitsLt_bf16_f32) slices_S8192x15424_S8192x2048_0_7232⟩,
      ⟨S8192x1024, extractStridedSlice S8192x1024 ![0, 4096] (truncf .bf16 g bitsLt_bf16_f32) slices_S8192x15424_S8192x1024_0_4096⟩]
    concatenates_S8192x4096_S8192x2048_S8192x6144_S8192x2048_S8192x1024_S8192x15360_d1

/-- The kept 64 columns of the gradient with 64 zero columns. -/
def gkT : FVec F S8192x128 .bf16 :=
  concatenate S8192x128 1
    [⟨S8192x64, extractStridedSlice S8192x64 ![0, 5120] (truncf .bf16 g bitsLt_bf16_f32) slices_S8192x15424_S8192x64_0_5120⟩,
      ⟨S8192x64, broadcastInDim S8192x64 ![] bcast_S_S8192x64 (constant S_ .bf16 0x0000#16)⟩]
    concatenates_S8192x64_S8192x64_S8192x128_d1

variable (m : (ℓ : Loc nD τ sig) → Buf (Elt F) ℓ) (c : Dev nD)

theorem V_g : Gen.V m c main_v16 = gT (m ((c : Thread nD τ).loc main_arg1)) := by
  unfold_abbrev_sides
  after_reads_simp
  rfl

theorem V_w : Gen.V m c main_v20 = wT (m ((c : Thread nD τ).loc main_arg0)) := by
  unfold_abbrev_sides
  after_reads_simp
  rfl

theorem V_gk : Gen.V m c main_v19 = gkT (m ((c : Thread nD τ).loc main_arg1)) := by
  unfold_abbrev_sides
  after_reads_simp
  rfl

theorem V_wk : Gen.V m c main_v21 = wkT (m ((c : Thread nD τ).loc main_arg0)) := by
  unfold_abbrev_sides
  after_reads_simp
  rfl

end

/-! ### The entries -/

section
variable (w : FVec Ideal S2048x15424 .f32) (g : FVec Ideal S8192x15424 .f32) (r : Fin 8192) (d : Fin 2048)

theorem wT_apply (k : Fin 15360) : wT w (ix2 k d) = w (ix2 d ⟨col k, col_lt k k.isLt⟩) := by
  have hk := k.isLt
  pointwise [wT]
  by_cases h0 : k.val < 4096
  · rw [dif_pos h0]
    exact congrArg (fun j => w (ix2 d j)) (Fin.ext (by simp only [col]; split_ifs <;> omega))
  rw [dif_neg h0]
  by_cases h1 : k.val - 4096 < 2048
  · rw [dif_pos h1]
    exact congrArg (fun j => w (ix2 d j)) (Fin.ext (by simp only [col]; split_ifs <;> omega))
  rw [dif_neg h1]
  by_cases h2 : k.val - 4096 - 2048 < 6144
  · rw [dif_pos h2]
    exact congrArg (fun j => w (ix2 d j)) (Fin.ext (by simp only [col]; split_ifs <;> omega))
  rw [dif_neg h2]
  by_cases h3 : k.val - 4096 - 2048 - 6144 < 2048
  · rw [dif_pos h3]
    exact congrArg (fun j => w (ix2 d j)) (Fin.ext (by simp only [col]; split_ifs <;> omega))
  rw [dif_neg h3]
  exact congrArg (fun j => w (ix2 d j)) (Fin.ext (by simp only [col]; split_ifs <;> omega))

theorem gT_apply (k : Fin 15360) : gT g (ix2 r k) = g (ix2 r ⟨col k, col_lt k k.isLt⟩) := by
  have hk := k.isLt
  pointwise [gT]
  by_cases h0 : k.val < 4096
  · rw [dif_pos h0]
    exact congrArg (fun j => g (ix2 r j)) (Fin.ext (by simp only [col]; split_ifs <;> omega))
  rw [dif_neg h0]
  by_cases h1 : k.val - 4096 < 2048
  · rw [dif_pos h1]
    exact congrArg (fun j => g (ix2 r j)) (Fin.ext (by simp only [col]; split_ifs <;> omega))
  rw [dif_neg h1]
  by_cases h2 : k.val - 4096 - 2048 < 6144
  · rw [dif_pos h2]
    exact congrArg (fun j => g (ix2 r j)) (Fin.ext (by simp only [col]; split_ifs <;> omega))
  rw [dif_neg h2]
  by_cases h3 : k.val - 4096 - 2048 - 6144 < 2048
  · rw [dif_pos h3]
    exact congrArg (fun j => g (ix2 r j)) (Fin.ext (by simp only [col]; split_ifs <;> omega))
  rw [dif_neg h3]
  exact congrArg (fun j => g (ix2 r j)) (Fin.ext (by simp only [col]; split_ifs <;> omega))

theorem wkT_lo (k : Fin 128) (h : k.val < 64) : wkT w (ix2 k d) = w (ix2 d ⟨5120 + k.val, by omega⟩) := by
  pointwise [wkT]
  rw [dif_pos h]

theorem gkT_lo (k : Fin 128) (h : k.val < 64) : gkT g (ix2 r k) = g (ix2 r ⟨5120 + k.val, by omega⟩) := by
  pointwise [gkT]
  rw [dif_pos h]

theorem gkT_hi (k : Fin 128) (h : ¬k.val < 64) : gkT g (ix2 r k) = (0 : EReal) := by
  pointwise [gkT]
  rw [dif_neg h]

theorem wkT_hi (k : Fin 128) (h : ¬k.val < 64) : wkT w (ix2 k d) = (0 : EReal) := by
  pointwise [wkT]
  rw [dif_neg h]

end

/-! ### The body -/

section
variable (a : Fin 1024) (b : Fin 1024)

theorem pay1_apply (x : FVec Ideal S1024x128 .bf16) (y : FVec Ideal S128x1024 .bf16) :
    (k0_pay1 (F := Ideal) x y (ix2 a b) : EReal) = ∑ k : Fin 128, (x (ix2 a k) * y (ix2 k b) : EReal) := by
  pointwise [k0_pay1]

theorem pay2_apply (x : FVec Ideal S1024x3072 .bf16) (y : FVec Ideal S3072x1024 .bf16) (z : FVec Ideal S1024x1024 .f32) :
    (k0_pay2 (F := Ideal) x y z (ix2 a b) : EReal) = (z (ix2 a b) : EReal) + ∑ k : Fin 3072, (x (ix2 a k) * y (ix2 k b) : EReal) := by
  pointwise [k0_pay2]

end

end Cert.Kernel2Ideal.Dh
-- ==== Proof.Dh.lean ====
module

public import proofs.«01_k».proof.Defs
public import proofs.«01_k».proof.Proof.Gen.Kernel2
public import proofs.«01_k».proof.Proof.Gen.Reference2Ideal.Run
public import proofs.«01_k».proof.Proof.DhSum
public import Idealize.ShloMosaic.Lib.Quiescent

/-! The call's result is the product with all the columns; the claims of this program. -/

@[expose] public section

set_option maxRecDepth 16384
set_option maxHeartbeats 400000

noncomputable section

namespace Cert.Kernel2Ideal.Dh

open Cert.Kernel2Ideal Cert.Kernel2Ideal.Gen Cert.Kernel2Ideal.Value
open Idealize.ShloMosaic Idealize.ShloMosaic.TcCoe Idealize.SL.Sem

/-! ### The blocks -/

section
variable {F : FTy → Type} [FloatOps F] (m : (ℓ : Loc nD τ sig) → Buf (Elt F) ℓ) (c : Dev nD) (t : Fin cfg0.N)

theorem idx_0 : ∀ t : Fin cfg0.N, (cfg0.win 0).index t = ![t.val / 10, t.val % 5] := by decide +kernel
theorem idx_1 : ∀ t : Fin cfg0.N, (cfg0.win 1).index t = ![t.val % 5, t.val / 5 % 2] := by decide +kernel
theorem idx_2 : ∀ t : Fin cfg0.N, (cfg0.win 2).index t = ![t.val / 10, 0] := by decide +kernel
theorem idx_3 : ∀ t : Fin cfg0.N, (cfg0.win 3).index t = ![0, t.val / 5 % 2] := by decide +kernel

theorem blk_0 (R : Fin 8192) (K : Fin 15360) (r : Fin 1024) (k : Fin 3072) (hR : R.val = 1024 * (t.val / 10) + r.val) (hK : K.val = 3072 * (t.val % 5) + k.val) :
    (Gen.iblk m c 0 t : FVec F S1024x3072 .bf16) (ix2 r k) = Gen.V m c main_v16 (ix2 R K) := by
  have i := idx_0 t
  blk_ext [iblk, i]

theorem blk_1 (D : Fin 2048) (K : Fin 15360) (d : Fin 1024) (k : Fin 3072) (hD : D.val = 1024 * (t.val / 5 % 2) + d.val) (hK : K.val = 3072 * (t.val % 5) + k.val) :
    (Gen.iblk m c 1 t : FVec F S3072x1024 .bf16) (ix2 k d) = Gen.V m c main_v20 (ix2 K D) := by
  have i := idx_1 t
  blk_ext [iblk, i]

theorem blk_2 (R : Fin 8192) (r : Fin 1024) (k : Fin 128) (hR : R.val = 1024 * (t.val / 10) + r.val) :
    (Gen.iblk m c 2 t : FVec F S1024x128 .bf16) (ix2 r k) = Gen.V m c main_v19 (ix2 R k) := by
  have i := idx_2 t
  blk_ext [iblk, i]

theorem blk_3 (D : Fin 2048) (d : Fin 1024) (k : Fin 128) (hD : D.val = 1024 * (t.val / 5 % 2) + d.val) :
    (Gen.iblk m c 3 t : FVec F S128x1024 .bf16) (ix2 k d) = Gen.V m c main_v21 (ix2 k D) := by
  have i := idx_3 t
  blk_ext [iblk, i]

end

/-! ### The result -/

section
variable (m : (ℓ : Loc nD τ sig) → Buf (Elt Ideal) ℓ) (c : Dev nD)

/-- The weights. -/
abbrev wOf : FVec Ideal S2048x15424 .f32 := m ((c : Thread nD τ).loc main_arg0)
/-- The gradient. -/
abbrev gOf : FVec Ideal S8192x15424 .f32 := m ((c : Thread nD τ).loc main_arg1)

/-- One column's product. -/
def B (w : FVec Ideal S2048x15424 .f32) (g : FVec Ideal S8192x15424 .f32) (R : Fin 8192) (D : Fin 2048) (k : ℕ) : EReal :=
  if h : k < 15424 then (g (ix2 R ⟨k, h⟩) * w (ix2 D ⟨k, h⟩) : EReal) else 0

theorem kept (w : FVec Ideal S2048x15424 .f32) (g : FVec Ideal S8192x15424 .f32) (R : Fin 8192) (D : Fin 2048) :
    ∑ k : Fin 128, (gkT g (ix2 R k) * wkT w (ix2 k D) : EReal) = ∑ k ∈ Finset.range 64, B w g R D (5120 + k) := by
  have e : ∀ k : Fin 128, (gkT g (ix2 R k) * wkT w (ix2 k D) : EReal) = (fun n : ℕ => if n < 64 then B w g R D (5120 + n) else 0) k := fun k => by
    by_cases h : k.val < 64
    · rw [gkT_lo _ _ _ h, wkT_lo _ _ _ h]
      simp only [if_pos h, B]
      rw [dif_pos (by omega)]
    · rw [gkT_hi _ _ _ h, zero_mul]
      simp only [if_neg h]
  rw [Finset.sum_congr rfl fun k _ => e k, Fin.sum_univ_eq_sum_range (fun n : ℕ => if n < 64 then B w g R D (5120 + n) else 0) 128,
    show (128 : ℕ) = 64 + 64 from rfl, Finset.sum_range_add]
  rw [Finset.sum_congr rfl fun k hk => if_pos (Finset.mem_range.1 hk),
    Finset.sum_eq_zero (s := Finset.range 64) (f := fun k => if 64 + k < 64 then B w g R D (5120 + (64 + k)) else 0) fun k _ => if_neg (by omega), add_zero]

/-- The blocks of the split arrays that a point reads. -/
def X0 (t : Fin cfg0.N) : FVec Ideal S1024x3072 .bf16 := Gen.iblk m c 0 t
def X1 (t : Fin cfg0.N) : FVec Ideal S3072x1024 .bf16 := Gen.iblk m c 1 t
/-- The blocks of the kept columns that a point reads. -/
def X2 (t : Fin cfg0.N) : FVec Ideal S1024x128 .bf16 := Gen.iblk m c 2 t
def X3 (t : Fin cfg0.N) : FVec Ideal S128x1024 .bf16 := Gen.iblk m c 3 t

theorem term (t : Fin cfg0.N) (R : Fin 8192) (D : Fin 2048) (r d : Fin 1024) (hR : R.val = 1024 * (t.val / 10) + r.val)
    (hD : D.val = 1024 * (t.val / 5 % 2) + d.val) :
    ∑ k : Fin 3072, (X0 m c t (ix2 r k) * X1 m c t (ix2 k d) : EReal)
      = ∑ k : Fin 3072, B (wOf m c) (gOf m c) R D (col (3072 * (t.val % 5) + k)) :=
  Finset.sum_congr rfl fun k _ => by
    have hk := k.isLt
    have hK : 3072 * (t.val % 5) + k.val < 15360 := by omega
    have e0 : X0 m c t (ix2 r k) = _ := blk_0 m c t R ⟨_, hK⟩ r k hR rfl
    have e1 : X1 m c t (ix2 k d) = _ := blk_1 m c t D ⟨_, hK⟩ d k hD rfl
    rw [e0, e1, V_g, V_w, gT_apply, wT_apply, B, dif_pos (col_lt _ hK)]

theorem first (t : Fin cfg0.N) (R : Fin 8192) (D : Fin 2048) (r d : Fin 1024) (hR : R.val = 1024 * (t.val / 10) + r.val)
    (hD : D.val = 1024 * (t.val / 5 % 2) + d.val) :
    (k0_pay1 (F := Ideal) (X2 m c t) (X3 m c t) (ix2 r d) : EReal) = ∑ k ∈ Finset.range 64, B (wOf m c) (gOf m c) R D (5120 + k) := by
  rw [pay1_apply, ← kept]
  refine Finset.sum_congr rfl fun k _ => ?_
  have e0 : X2 m c t (ix2 r k) = _ := blk_2 m c t R r k hR
  have e1 : X3 m c t (ix2 k d) = _ := blk_3 m c t D d k hD
  rw [e0, e1, V_gk, V_wk]

/-- The fold over the first blocks of a run. -/
theorem fold (q : ℕ) (R : Fin 8192) (D : Fin 2048) (r d : Fin 1024) (hR : R.val = 1024 * (q / 2) + r.val) (hD : D.val = 1024 * (q % 2) + d.val) :
    ∀ (j : ℕ) (hj : j < 5) (h : 5 * q + j < cfg0.N),
      (Pipeline.accAt (reset4 m c) (step4 m c) (5 * q) j h (ix2 r d) : EReal)
        = ∑ k ∈ Finset.range 64, B (wOf m c) (gOf m c) R D (5120 + k)
          + ∑ s ∈ Finset.range (j + 1), ∑ k : Fin 3072, B (wOf m c) (gOf m c) R D (col (3072 * s + k)) := by
  intro j
  induction j with
  | zero =>
    intro hj h
    rw [Pipeline.accAt_zero, Finset.sum_range_one]
    refine (pay2_apply r d (X0 m c ⟨5 * q, h⟩) (X1 m c ⟨5 * q, h⟩) (k0_pay1 (X2 m c ⟨5 * q, h⟩) (X3 m c ⟨5 * q, h⟩))).trans ?_
    rw [first m c ⟨5 * q, h⟩ R D r d (by rw [hR]; congr 2; simp only; omega) (by rw [hD]; congr 2; simp only; omega),
      term m c ⟨5 * q, h⟩ R D r d (by rw [hR]; congr 2; simp only; omega) (by rw [hD]; congr 2; simp only; omega),
      show 5 * q % 5 = 0 by omega]
  | succ j ih =>
    intro hj h
    rw [Pipeline.accAt_succ, Finset.sum_range_succ _ (j + 1), ← add_assoc (G := EReal), ← ih (by omega) (Nat.lt_of_succ_lt h)]
    refine (pay2_apply r d (X0 m c ⟨5 * q + (j + 1), h⟩) (X1 m c ⟨5 * q + (j + 1), h⟩) _).trans ?_
    rw [term m c ⟨5 * q + (j + 1), h⟩ R D r d (by rw [hR]; congr 2; simp only; omega) (by rw [hD]; congr 2; simp only; omega),
      show (5 * q + (j + 1)) % 5 = j + 1 by omega]

theorem result (i : S8192x2048.Idx) :
    (G4 m c i : EReal) = ∑ k : Fin 15424, (gOf m c (ix2 (i 0) k) * wOf m c (ix2 (i 1) k) : EReal) := by
  have h0 : (i 0).val < 8192 := (i 0).isLt
  have h1 : (i 1).val < 2048 := (i 1).isLt
  have hq : 5 * run4Of i + 4 < cfg0.N := by
    rw [show cfg0.N = 80 from N_0]
    unfold run4Of
    omega
  have hl : loc4Of i = ix2 ⟨(i 0).val % 1024, Nat.mod_lt _ (by decide)⟩ ⟨(i 1).val % 1024, Nat.mod_lt _ (by decide)⟩ := eq_ix2 _
  unfold G4
  rw [dif_pos hq, hl, fold m c (run4Of i) (i 0) (i 1) _ _ (by unfold run4Of; simp only; omega) (by unfold run4Of; simp only; omega) 4 (by decide) hq,
    five_sum (fun k => B (wOf m c) (gOf m c) (i 0) (i 1) (col k)), split_sum, ← Fin.sum_univ_eq_sum_range]
  refine Finset.sum_congr (M := EReal) rfl fun k _ => ?_
  exact dif_pos k.isLt

end

end Cert.Kernel2Ideal.Dh

namespace Cert.Dh

open Idealize.ShloMosaic Idealize.ShloMosaic.TcCoe Idealize.SL.Sem

theorem frame_ideal2 : Cert.quiescent_Kernel2Ideal := fun m ρ _ => Cert.Kernel2Ideal.Gen.frame (F := Ideal) m ρ

theorem bodies_eq : (Cert.Kernel2.defs₀ (F := Bits)) = (Cert.Kernel2Ideal.defs₀ (F := Bits)) := by
  funext p l a
  match p with
  | .tc =>
    match l, a with
    | ⟨0, _⟩, (t, s) => rfl
  | .scScalar _ => rfl
  | .scVector _ _ => rfl

theorem calls_eq : (Cert.Kernel2.pcfgs (F := Bits)) = (Cert.Kernel2Ideal.pcfgs (F := Bits)) := rfl

/-- On bits the two programs' tables of bodies are one. -/
theorem defs_eq : (Cert.Kernel2.defs (F := Bits)) = (Cert.Kernel2Ideal.defs (F := Bits)) :=
  (congrArg (fun d => Pipeline.defs (Cert.Kernel2.pcfgs (F := Bits)) d) bodies_eq).trans rfl

theorem frame_kernel2 : Cert.quiescent_Kernel2 := fun m ρ _ =>
  (congrArg (fun d => θ_run d (onTc (τ := Cert.Kernel2.τ) (Cert.Kernel2.main (F := Bits))) ⟨m, fun _ => 0, ρ⟩ _) defs_eq).mpr
    (Cert.Kernel2Ideal.Gen.frame (F := Bits) m ρ)

theorem frame_reference2 : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

theorem preserves2 : Cert.preserves_Kernel2_Kernel2Ideal := trivial

theorem dot_eq (g : FVec Ideal Cert.Reference2Ideal.S8192x15424 .f32) (w : FVec Ideal Cert.Reference2Ideal.S2048x15424 .f32) (i : Cert.Reference2Ideal.S8192x2048.Idx) :
    ((Host.dotGeneral Cert.Reference2Ideal.dot_S8192x15424_S2048x15424_S8192x2048_1_1_0_0_n_n none g w : FVec Ideal Cert.Reference2Ideal.S8192x2048 .f32) i : EReal)
      = ∑ k : Fin 15424, (g (ix2 (i 0) k) * w (ix2 (i 1) k) : EReal) := by
  rw [eq_ix2 i]
  pointwise

theorem algebraic2 : Cert.algebraic_Kernel2Ideal_Reference2Ideal := fun m g m' g' _ hA =>
  ⟨fun c => Cert.Kernel2Ideal.Value.G4 m c, Cert.Kernel2Ideal.Value.run (F := Ideal) m g,
    (θ_run Cert.Reference2Ideal.defs _ _).mono (fun _ h c => ⟨(h c).1.trans (by
        obtain ⟨a0, a1⟩ := hA c
        rw [a0, a1]
        funext i
        exact (dot_eq _ _ i).trans (Cert.Kernel2Ideal.Dh.result m c i).symm), (h c).2⟩)
      (Cert.Reference2Ideal.Value.run (F := Ideal) m' g')⟩

end Cert.Dh
-- ==== Proof.Proj.lean ====
module

public import Idealize.ShloMosaic.Lib.Claim
public import Idealize.ShloMosaic.Lib.Pointwise
public import Idealize.ShloMosaic.Lib.Pipeline.ValueKit
public import Idealize.ShloMosaic.Lib.StableHlo.RunRead
public import Idealize.ShloMosaic.Lib.Quiescent
public import proofs.«01_k».proof.Defs
public import proofs.«01_k».proof.Proof.DhSum
public import proofs.«01_k».proof.Proof.Gen.Kernel3
public import proofs.«01_k».proof.Proof.Gen.Kernel3Ideal.Value
public import proofs.«01_k».proof.Proof.Gen.Reference3Ideal.Run

/-! The product that makes the split columns: what the call reads, what it leaves, and its claims. -/

@[expose] public section

set_option maxRecDepth 16384
set_option maxHeartbeats 400000

noncomputable section

namespace Cert.Kernel3Ideal.Proj

open Cert.Kernel3Ideal Cert.Kernel3Ideal.Gen Cert.Kernel3Ideal.Value
open Idealize.ShloMosaic Idealize.ShloMosaic.TcCoe Idealize.SL.Sem
open Cert.Kernel2Ideal.Dh (col col_lt)

/-! ### What the host prepares -/

section
variable {F : FTy → Type} [FloatOps F]

/-- The rows. -/
def hT (h : FVec F S8192x2048 .f32) : FVec F S8192x2048 .bf16 := truncf .bf16 h bitsLt_bf16_f32

/-- The split weights, transposed. -/
def wT (w : FVec F S2048x15424 .f32) : FVec F S15360x2048 .bf16 :=
  transpose S15360x2048 [1, 0] (concatenate S2048x15360 1
    [⟨S2048x4096, extractStridedSlice S2048x4096 ![0, 0] (truncf .bf16 w bitsLt_bf16_f32) slices_S2048x15424_S2048x4096_0_0⟩,
      ⟨S2048x2048, extractStridedSlice S2048x2048 ![0, 5184] (truncf .bf16 w bitsLt_bf16_f32) slices_S2048x15424_S2048x2048_0_5184⟩,
      ⟨S2048x6144, extractStridedSlice S2048x6144 ![0, 9280] (truncf .bf16 w bitsLt_bf16_f32) slices_S2048x15424_S2048x6144_0_9280⟩,
      ⟨S2048x2048, extractStridedSlice S2048x2048 ![0, 7232] (truncf .bf16 w bitsLt_bf16_f32) slices_S2048x15424_S2048x2048_0_7232⟩,
      ⟨S2048x1024, extractStridedSlice S2048x1024 ![0, 4096] (truncf .bf16 w bitsLt_bf16_f32) slices_S2048x15424_S2048x1024_0_4096⟩]
    concatenates_S2048x4096_S2048x2048_S2048x6144_S2048x2048_S2048x1024_S2048x15360_d1) transposes_S2048x15360_S15360x2048_1_0

variable (m : (ℓ : Loc nD τ sig) → Buf (Elt F) ℓ) (c : Dev nD)

theorem V_h : Gen.V m c main_v0 = hT (m ((c : Thread nD τ).loc main_arg0)) := by
  unfold_abbrev_sides
  after_reads_simp
  rfl

theorem V_w : Gen.V m c main_v11 = wT (m ((c : Thread nD τ).loc main_arg1)) := by
  unfold_abbrev_sides
  after_reads_simp
  rfl

end

theorem hT_apply (h : FVec Ideal S8192x2048 .f32) (r : Fin 8192) (k : Fin 2048) : hT h (ix2 r k) = h (ix2 r k) := by
  pointwise [hT]

theorem wT_apply (w : FVec Ideal S2048x15424 .f32) (k : Fin 15360) (d : Fin 2048) : wT w (ix2 k d) = w (ix2 d ⟨col k, col_lt k k.isLt⟩) := by
  have hk := k.isLt
  pointwise [wT]
  by_cases h0 : k.val < 4096
  · rw [dif_pos h0]
    exact congrArg (fun j => w (ix2 d j)) (Fin.ext (by simp only [col]; split_ifs <;> omega))
  rw [dif_neg h0]
  by_cases h1 : k.val - 4096 < 2048
  · rw [dif_pos h1]
    exact congrArg (fun j => w (ix2 d j)) (Fin.ext (by simp only [col]; split_ifs <;> omega))
  rw [dif_neg h1]
  by_cases h2 : k.val - 4096 - 2048 < 6144
  · rw [dif_pos h2]
    exact congrArg (fun j => w (ix2 d j)) (Fin.ext (by simp only [col]; split_ifs <;> omega))
  rw [dif_neg h2]
  by_cases h3 : k.val - 4096 - 2048 - 6144 < 2048
  · rw [dif_pos h3]
    exact congrArg (fun j => w (ix2 d j)) (Fin.ext (by simp only [col]; split_ifs <;> omega))
  rw [dif_neg h3]
  exact congrArg (fun j => w (ix2 d j)) (Fin.ext (by simp only [col]; split_ifs <;> omega))

theorem pay1_apply (x y : FVec Ideal S1024x2048 .bf16) (a b : Fin 1024) :
    (k0_pay1 (F := Ideal) x y (ix2 a b) : EReal) = ∑ k : Fin 2048, (x (ix2 a k) * y (ix2 b k) : EReal) := by
  pointwise [k0_pay1]

/-! ### The blocks -/

section
variable {F : FTy → Type} [FloatOps F] (m : (ℓ : Loc nD τ sig) → Buf (Elt F) ℓ) (c : Dev nD) (t : Fin cfg0.N)

theorem idx_0 : ∀ t : Fin cfg0.N, (cfg0.win 0).index t = ![t.val / 15, 0] := by decide +kernel
theorem idx_1 : ∀ t : Fin cfg0.N, (cfg0.win 1).index t = ![t.val % 15, 0] := by decide +kernel
theorem idx_2 : ∀ t : Fin cfg0.N, win0_2.index t (0 : Fin 2) = t.val / 15 ∧ win0_2.index t (1 : Fin 2) = t.val % 15 :=
  (by decide +kernel : ∀ t : Fin grid0.N, _)
theorem flushes : ∀ t : Fin cfg0.N, (cfg0.win 2).flush t = true := (by decide +kernel : ∀ t : Fin grid0.N, win0_2.flush t = true)

theorem blk_0 (R : Fin 8192) (r : Fin 1024) (k : Fin 2048) (hR : R.val = 1024 * (t.val / 15) + r.val) :
    (Gen.iblk m c 0 t : FVec F S1024x2048 .bf16) (ix2 r k) = Gen.V m c main_v0 (ix2 R k) := by
  have i := idx_0 t
  blk_ext [iblk, i]

theorem blk_1 (K : Fin 15360) (r : Fin 1024) (k : Fin 2048) (hK : K.val = 1024 * (t.val % 15) + r.val) :
    (Gen.iblk m c 1 t : FVec F S1024x2048 .bf16) (ix2 r k) = Gen.V m c main_v11 (ix2 K k) := by
  have i := idx_1 t
  blk_ext [iblk, i]

theorem hz2 : (![0, 0] : Fin 2 → Nat) = fun _ => 0 := funext fun a => by fin_cases a <;> rfl

theorem out_eq (x0 x1 : Vec F S1024x2048 .bf16) : out0_2 x0 x1 = k0_pay1 x0 x1 := by
  unfold out0_2
  rw [View.canon_unit_zero hz2]
  simp only [View.ld_unit_zero (S := S1024x2048) hz2]

end

/-! ### The result -/

section
variable (m : (ℓ : Loc nD τ sig) → Buf (Elt Ideal) ℓ) (ρ : Dev nD → PrngReg) (c : Dev nD)

/-- The rows. -/
abbrev hOf : FVec Ideal S8192x2048 .f32 := m ((c : Thread nD τ).loc main_arg0)
/-- The weights. -/
abbrev wOf : FVec Ideal S2048x15424 .f32 := m ((c : Thread nD τ).loc main_arg1)

/-- One entry of the product. -/
def entry (h : FVec Ideal S8192x2048 .f32) (w : FVec Ideal S2048x15424 .f32) (R : Fin 8192) (K : Fin 15360) : EReal :=
  ∑ k : Fin 2048, (h (ix2 R k) * w (ix2 k ⟨col K, col_lt K K.isLt⟩) : EReal)

/-- The product in the call's order of columns. -/
def G : FVec Ideal S8192x15360 .bf16 := fun i => entry (hOf m c) (wOf m c) (i 0) (i 1)

/-- The blocks that a point reads. -/
def X0 (t : Fin cfg0.N) : FVec Ideal S1024x2048 .bf16 := Gen.iblk m c 0 t
def X1 (t : Fin cfg0.N) : FVec Ideal S1024x2048 .bf16 := Gen.iblk m c 1 t

theorem point (t : Fin cfg0.N) (R : Fin 8192) (K : Fin 15360) (a b : Fin 1024) (hR : R.val = 1024 * (t.val / 15) + a.val)
    (hK : K.val = 1024 * (t.val % 15) + b.val) :
    (k0_pay1 (F := Ideal) (X0 m c t) (X1 m c t) (ix2 a b) : EReal) = entry (hOf m c) (wOf m c) R K := by
  rw [pay1_apply, entry]
  refine Finset.sum_congr (M := EReal) rfl fun k _ => ?_
  have e0 : X0 m c t (ix2 a k) = _ := blk_0 m c t R a k hR
  have e1 : X1 m c t (ix2 b k) = _ := blk_1 m c t K b k hK
  rw [e0, e1, V_h, V_w, hT_apply, wT_apply]

theorem flushed_eq (t : Fin cfg0.N) :
    (dats m 0 c).flushed 2 t = ((cfg0.win 2).blk t).view.read (Elt Ideal) (G m c) := by
  rw [flushed2, out_eq]
  obtain ⟨e0, e1⟩ := idx_2 t
  funext y
  have hb0 : (((cfg0.win 2).blk t).view.emb y 0).val = win0_2.index t (0 : Fin 2) * 1024 + 1 * (y 0).val := rfl
  have hb1 : (((cfg0.win 2).blk t).view.emb y 1).val = win0_2.index t (1 : Fin 2) * 1024 + 1 * (y 1).val := rfl
  have hx : (cfg0.win 2).xinj (grid0.coords t) y = ix2 (⟨(y 0).val, (y 0).isLt⟩ : Fin 1024) (⟨(y 1).val, (y 1).isLt⟩ : Fin 1024) := eq_ix2 _
  show k0_pay1 (F := Ideal) (X0 m c t) (X1 m c t) ((cfg0.win 2).xinj (grid0.coords t) y) = G m c (((cfg0.win 2).blk t).view.emb y)
  rw [hx]
  exact point m c t (((cfg0.win 2).blk t).view.emb y 0) (((cfg0.win 2).blk t).view.emb y 1) _ _ (by rw [hb0, e0]; simp only; omega) (by rw [hb1, e1]; simp only; omega)

/-- An index is in a point's block when each coordinate is in its range. -/
theorem mem_blk (t : Fin cfg0.N) (i : S8192x15360.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v12).slice (win0_2.rect t)).set ↔ _
  rw [View.set_slice_whole, Rect.mem_set_unit]
  exact Iff.rfl

theorem covered (i : S8192x15360.Idx) : ∃ t : Fin cfg0.N, (cfg0.win 2).flush t = true ∧ i ∈ ((cfg0.win 2).blk t).view.set := by
  have h0 : (i 0).val < 8192 := (i 0).isLt
  have h1 : (i 1).val < 15360 := (i 1).isLt
  have ht : 15 * ((i 0).val / 1024) + (i 1).val / 1024 < cfg0.N := by
    rw [show cfg0.N = 120 from N_0]
    omega
  obtain ⟨e0, e1⟩ := idx_2 ⟨_, ht⟩
  simp only at e0 e1
  refine ⟨⟨_, ht⟩, flushes _, ?_⟩
  rw [mem_blk]
  intro a
  match a with
  | ⟨0, _⟩ => show win0_2.index ⟨_, ht⟩ (0 : Fin 2) * 1024 ≤ (i 0).val ∧ (i 0).val < win0_2.index ⟨_, ht⟩ (0 : Fin 2) * 1024 + 1024; omega
  | ⟨1, _⟩ => show win0_2.index ⟨_, ht⟩ (1 : Fin 2) * 1024 ≤ (i 1).val ∧ (i 1).val < win0_2.index ⟨_, ht⟩ (1 : Fin 2) * 1024 + 1024; omega

theorem final : (dats m 0 c).arrAt 2 cfg0.N = G m c :=
  (dats m 0 c).arrAt_eq_of_cover 2 _ (fun t _ => flushed_eq m c t) covered

theorem run : θ_run defs (onTc (τ := τ) (main (F := Ideal))) ⟨m, fun _ => 0, ρ⟩ fun r => ∀ c : Dev nD,
      r.2.mem ((c : Thread nD τ).loc main_v12) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (run_blocks m ρ)

end

end Cert.Kernel3Ideal.Proj

namespace Cert.Reference3Ideal.Fields

open Cert.Reference3Ideal Cert.Reference3Ideal.Gen Idealize.ShloMosaic
open Cert.Kernel2Ideal.Dh (col col_lt)

/-- The columns of a product in the call's order. -/
def fields (x : FVec Ideal S8192x15424 .f32) : FVec Ideal S8192x15360 .bf16 :=
  truncf .bf16 (concatenate S8192x15360 1
    [⟨S8192x4096, extractStridedSlice S8192x4096 ![0, 0] x slices_S8192x15424_S8192x4096_0_0⟩,
      ⟨S8192x2048, extractStridedSlice S8192x2048 ![0, 5184] x slices_S8192x15424_S8192x2048_0_5184⟩,
      ⟨S8192x6144, extractStridedSlice S8192x6144 ![0, 9280] x slices_S8192x15424_S8192x6144_0_9280⟩,
      ⟨S8192x2048, extractStridedSlice S8192x2048 ![0, 7232] x slices_S8192x15424_S8192x2048_0_7232⟩,
      ⟨S8192x1024, extractStridedSlice S8192x1024 ![0, 4096] x slices_S8192x15424_S8192x1024_0_4096⟩]
    concatenates_S8192x4096_S8192x2048_S8192x6144_S8192x2048_S8192x1024_S8192x15360_d1) bitsLt_bf16_f32

theorem fields_apply (x : FVec Ideal S8192x15424 .f32) (r : Fin 8192) (k : Fin 15360) :
    fields x (ix2 r k) = x (ix2 r ⟨col k, col_lt k k.isLt⟩) := by
  have hk := k.isLt
  pointwise [fields]
  by_cases h0 : k.val < 4096
  · rw [dif_pos h0]
    exact congrArg (fun j => x (ix2 r j)) (Fin.ext (by simp only [col]; split_ifs <;> omega))
  rw [dif_neg h0]
  by_cases h1 : k.val - 4096 < 2048
  · rw [dif_pos h1]
    exact congrArg (fun j => x (ix2 r j)) (Fin.ext (by simp only [col]; split_ifs <;> omega))
  rw [dif_neg h1]
  by_cases h2 : k.val - 4096 - 2048 < 6144
  · rw [dif_pos h2]
    exact congrArg (fun j => x (ix2 r j)) (Fin.ext (by simp only [col]; split_ifs <;> omega))
  rw [dif_neg h2]
  by_cases h3 : k.val - 4096 - 2048 - 6144 < 2048
  · rw [dif_pos h3]
    exact congrArg (fun j => x (ix2 r j)) (Fin.ext (by simp only [col]; split_ifs <;> omega))
  rw [dif_neg h3]
  exact congrArg (fun j => x (ix2 r j)) (Fin.ext (by simp only [col]; split_ifs <;> omega))

end Cert.Reference3Ideal.Fields

namespace Cert.Proj

open Idealize.ShloMosaic Idealize.ShloMosaic.TcCoe

theorem dot_eq (h : FVec Ideal Cert.Reference3Ideal.S8192x2048 .f32) (w : FVec Ideal Cert.Reference3Ideal.S2048x15424 .f32) (r : Fin 8192) (j : Fin 15424) :
    ((Host.dotGeneral Cert.Reference3Ideal.dot_S8192x2048_S2048x15424_S8192x15424_1_0_0_1_n_n none h w : FVec Ideal Cert.Reference3Ideal.S8192x15424 .f32) (ix2 r j) : EReal)
      = ∑ k : Fin 2048, (h (ix2 r k) * w (ix2 k j) : EReal) := by
  pointwise

theorem ref_eq (m : (ℓ : Loc Cert.Kernel3Ideal.nD Cert.Kernel3Ideal.τ Cert.Kernel3Ideal.sig) → Buf (Elt Ideal) ℓ) (c : Dev Cert.Kernel3Ideal.nD) :
    Cert.Reference3Ideal.Fields.fields (Host.dotGeneral Cert.Reference3Ideal.dot_S8192x2048_S2048x15424_S8192x15424_1_0_0_1_n_n none
      (Cert.Kernel3Ideal.Proj.hOf m c) (Cert.Kernel3Ideal.Proj.wOf m c)) = Cert.Kernel3Ideal.Proj.G m c := by
  funext i
  refine ((congrArg _ (eq_ix2 i)).trans (Cert.Reference3Ideal.Fields.fields_apply _ (i 0) (i 1))).trans ?_
  exact dot_eq _ _ _ _

end Cert.Proj

namespace Cert.Proj

open Idealize.ShloMosaic Idealize.ShloMosaic.TcCoe Idealize.SL.Sem

theorem frame_ideal3 : Cert.quiescent_Kernel3Ideal := fun m ρ _ => Cert.Kernel3Ideal.Gen.frame (F := Ideal) m ρ

theorem bodies_eq : (Cert.Kernel3.defs₀ (F := Bits)) = (Cert.Kernel3Ideal.defs₀ (F := Bits)) := by
  funext p l a
  match p with
  | .tc =>
    match l, a with
    | ⟨0, _⟩, (t, s) => rfl
  | .scScalar _ => rfl
  | .scVector _ _ => rfl

/-- On bits the two programs' tables of bodies are one. -/
theorem defs_eq : (Cert.Kernel3.defs (F := Bits)) = (Cert.Kernel3Ideal.defs (F := Bits)) :=
  (congrArg (fun d => Pipeline.defs (Cert.Kernel3.pcfgs (F := Bits)) d) bodies_eq).trans rfl

theorem frame_kernel3 : Cert.quiescent_Kernel3 := fun m ρ _ =>
  (congrArg (fun d => θ_run d (onTc (τ := Cert.Kernel3.τ) (Cert.Kernel3.main (F := Bits))) ⟨m, fun _ => 0, ρ⟩ _) defs_eq).mpr
    (Cert.Kernel3Ideal.Gen.frame (F := Bits) m ρ)

theorem frame_reference3 : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

theorem preserves3 : Cert.preserves_Kernel3_Kernel3Ideal := trivial

theorem algebraic3 : Cert.algebraic_Kernel3Ideal_Reference3Ideal := fun m g m' g' _ hA =>
  ⟨fun c => Cert.Kernel3Ideal.Proj.G m c, Cert.Kernel3Ideal.Proj.run m g,
    (θ_run Cert.Reference3Ideal.defs _ _).mono (fun _ h c => ⟨(h c).1.trans (by
        obtain ⟨a0, a1⟩ := hA c
        rw [a0, a1]
        exact ref_eq m c), (h c).2⟩)
      (Cert.Reference3Ideal.Value.run (F := Ideal) m' g')⟩

end Cert.Proj
-- ==== Proof.Dwin.lean ====
module

public import Idealize.ShloMosaic.Lib.Claim
public import Idealize.ShloMosaic.Lib.Pointwise
public import Idealize.ShloMosaic.Lib.Pipeline.ValueKit
public import Idealize.ShloMosaic.Lib.StableHlo.RunRead
public import Idealize.ShloMosaic.Lib.Quiescent
public import proofs.«01_k».proof.Defs
public import proofs.«01_k».proof.Proof.DhSum
public import proofs.«01_k».proof.Proof.Gen.Kernel4
public import proofs.«01_k».proof.Proof.Gen.Kernel4Ideal.Value
public import proofs.«01_k».proof.Proof.Gen.Reference4Ideal.Run

/-! The gradient of the projection's weights: what the call reads, what it leaves, and its claims. -/

@[expose] public section

set_option maxRecDepth 16384
set_option maxHeartbeats 400000

noncomputable section

namespace Cert.Kernel4Ideal.Dwin

open Cert.Kernel4Ideal Cert.Kernel4Ideal.Gen Cert.Kernel4Ideal.Value
open Idealize.ShloMosaic Idealize.ShloMosaic.TcCoe Idealize.ShloMosaic.Tactic Idealize.SL.Sem
open Cert.Kernel2Ideal.Dh (col col_lt)

/-! ### What the host prepares -/

section
variable {F : FTy → Type} [FloatOps F]

/-- The rows. -/
def hT (h : FVec F S8192x2048 .f32) : FVec F S8192x2048 .bf16 := truncf .bf16 h bitsLt_bf16_f32

/-- The split gradient. -/
def gT (g : FVec F S8192x15424 .f32) : FVec F S8192x15360 .bf16 :=
  concatenate S8192x15360 1
    [⟨S8192x4096, extractStridedSlice S8192x4096 ![0, 0] (truncf .bf16 g bitsLt_bf16_f32) slices_S8192x15424_S8192x4096_0_0⟩,
      ⟨S8192x2048, extractStridedSlice S8192x2048 ![0, 5184] (truncf .bf16 g bitsLt_bf16_f32) slices_S8192x15424_S8192x2048_0_5184⟩,
      ⟨S8192x6144, extractStridedSlice S8192x6144 ![0, 9280] (truncf .bf16 g bitsLt_bf16_f32) slices_S8192x15424_S8192x6144_0_9280⟩,
      ⟨S8192x2048, extractStridedSlice S8192x2048 ![0, 7232] (truncf .bf16 g bitsLt_bf16_f32) slices_S8192x15424_S8192x2048_0_7232⟩,
      ⟨S8192x1024, extractStridedSlice S8192x1024 ![0, 4096] (truncf .bf16 g bitsLt_bf16_f32) slices_S8192x15424_S8192x1024_0_4096⟩]
    concatenates_S8192x4096_S8192x2048_S8192x6144_S8192x2048_S8192x1024_S8192x15360_d1

variable (m : (ℓ : Loc nD τ sig) → Buf (Elt F) ℓ) (c : Dev nD)

theorem V_h : Gen.V m c main_v0 = hT (m ((c : Thread nD τ).loc main_arg0)) := by
  unfold_abbrev_sides
  after_reads_simp
  rfl

theorem V_g : Gen.V m c main_v7 = gT (m ((c : Thread nD τ).loc main_arg1)) := by
  unfold_abbrev_sides
  after_reads_simp
  rfl

end

theorem hT_apply (h : FVec Ideal S8192x2048 .f32) (r : Fin 8192) (k : Fin 2048) : hT h (ix2 r k) = h (ix2 r k) := by
  pointwise [hT]

theorem gT_apply (g : FVec Ideal S8192x15424 .f32) (r : Fin 8192) (k : Fin 15360) : gT g (ix2 r k) = g (ix2 r ⟨col k, col_lt k k.isLt⟩) := by
  have hk := k.isLt
  pointwise [gT]
  by_cases h0 : k.val < 4096
  · rw [dif_pos h0]
    exact congrArg (fun j => g (ix2 r j)) (Fin.ext (by simp only [col]; split_ifs <;> omega))
  rw [dif_neg h0]
  by_cases h1 : k.val - 4096 < 2048
  · rw [dif_pos h1]
    exact congrArg (fun j => g (ix2 r j)) (Fin.ext (by simp only [col]; split_ifs <;> omega))
  rw [dif_neg h1]
  by_cases h2 : k.val - 4096 - 2048 < 6144
  · rw [dif_pos h2]
    exact congrArg (fun j => g (ix2 r j)) (Fin.ext (by simp only [col]; split_ifs <;> omega))
  rw [dif_neg h2]
  by_cases h3 : k.val - 4096 - 2048 - 6144 < 2048
  · rw [dif_pos h3]
    exact congrArg (fun j => g (ix2 r j)) (Fin.ext (by simp only [col]; split_ifs <;> omega))
  rw [dif_neg h3]
  exact congrArg (fun j => g (ix2 r j)) (Fin.ext (by simp only [col]; split_ifs <;> omega))

theorem pay1_apply (a b : Fin 1024) : (k0_pay1 (F := Ideal) (ix2 a b) : EReal) = 0 := by
  pointwise [k0_pay1]

theorem pay2_apply (x y : FVec Ideal S4096x1024 .bf16) (z : FVec Ideal S1024x1024 .f32) (a b : Fin 1024) :
    (k0_pay2 (F := Ideal) x y z (ix2 a b) : EReal) = (z (ix2 a b) : EReal) + ∑ k : Fin 4096, (x (ix2 k a) * y (ix2 k b) : EReal) := by
  pointwise [k0_pay2]

theorem pay3_apply (z : FVec Ideal S1024x1024 .f32) (a b : Fin 1024) : (k0_pay3 (F := Ideal) z (ix2 a b) : EReal) = (z (ix2 a b) : EReal) := by
  pointwise [k0_pay3]

/-! ### The blocks -/

section
variable {F : FTy → Type} [FloatOps F] (m : (ℓ : Loc nD τ sig) → Buf (Elt F) ℓ) (c : Dev nD) (t : Fin cfg0.N)

theorem idx_0 : ∀ t : Fin cfg0.N, (cfg0.win 0).index t = ![t.val % 2, t.val / 30] := by decide +kernel
theorem idx_1 : ∀ t : Fin cfg0.N, (cfg0.win 1).index t = ![t.val % 2, t.val / 2 % 15] := by decide +kernel

theorem blk_0 (R : Fin 8192) (D : Fin 2048) (r : Fin 4096) (d : Fin 1024) (hR : R.val = 4096 * (t.val % 2) + r.val) (hD : D.val = 1024 * (t.val / 30) + d.val) :
    (Gen.iblk m c 0 t : FVec F S4096x1024 .bf16) (ix2 r d) = Gen.V m c main_v0 (ix2 R D) := by
  have i := idx_0 t
  blk_ext [iblk, i]

theorem blk_1 (R : Fin 8192) (K : Fin 15360) (r : Fin 4096) (k : Fin 1024) (hR : R.val = 4096 * (t.val % 2) + r.val) (hK : K.val = 1024 * (t.val / 2 % 15) + k.val) :
    (Gen.iblk m c 1 t : FVec F S4096x1024 .bf16) (ix2 r k) = Gen.V m c main_v7 (ix2 R K) := by
  have i := idx_1 t
  blk_ext [iblk, i]

theorem hz2 : (![0, 0] : Fin 2 → Nat) = fun _ => 0 := funext fun a => by fin_cases a <;> rfl

/-- What the first point of a pair leaves in the accumulator. -/
theorem sout_A_eq (i : grid0.Coords) (arg3 : Memref sig .tc .vmem S4096x1024 .bf16) (harg3 : arg3.IsWhole) (arg4 : Memref sig .tc .vmem S4096x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i)
    (x0 : Vec F S4096x1024 .bf16) (x1 : Vec F S4096x1024 .bf16) :
    sout0_A_0 c i arg3 harg3 arg4 harg4 arg5 harg5 arg6 harg6 hc0 hc1 x0 x1 = k0_pay2 x0 x1 k0_pay1 := by
  unfold sout0_A_0
  rw [View.read_writes_eq_canon _ _ _ (scover0_A_0 c i arg3 harg3 arg4 harg4 arg5 harg5 arg6 harg6 hc0 hc1 x0 x1)]
  unfold kernelRun0_A
  dsimp only
  try sl_unfold_words
  rw [View.canon_cons_unit_zero (S := S1024x1024) hz2, View.readCov_unit_zero (S := S1024x1024) _ hz2]
  simp only [View.readAt_eq_ld, harg3.read_unread, harg4.read_unread, View.ld_unit_zero (S := S4096x1024) hz2, View.ld_unit_zero (S := S1024x1024) hz2]

/-- What the second point of a pair leaves in the output's block. -/
theorem out_B_eq (i : grid0.Coords) (arg3 : Memref sig .tc .vmem S4096x1024 .bf16) (harg3 : arg3.IsWhole) (arg4 : Memref sig .tc .vmem S4096x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 : Vec F S4096x1024 .bf16) (x1 : Vec F S4096x1024 .bf16) (xs : Vec F S1024x1024 .f32) :
    out0_B_2 c i arg3 harg3 arg4 harg4 arg5 harg5 arg6 harg6 hc0 hc1 x0 x1 xs = k0_pay3 (k0_pay2 x0 x1 xs) := by
  unfold out0_B_2
  rw [View.read_writes_eq_canon _ _ _ (cover0_B_2 c i arg3 harg3 arg4 harg4 arg5 harg5 arg6 harg6 hc0 hc1 x0 x1 xs)]
  unfold kernelRun0_B
  dsimp only
  try sl_unfold_words
  rw [View.canon_unit_zero hz2, View.readCov_unit_zero (S := S1024x1024) _ hz2]
  simp only [View.readAt_eq_ld, harg3.read_unread, harg4.read_unread, harg6.read_unread, View.ld_unit_zero (S := S4096x1024) hz2, View.ld_unit_zero (S := S1024x1024) hz2]

/-- What a pair of points leaves in the output's block. -/
theorem pair (s t : Fin cfg0.N) (h : s.val = t.val - 1) (ht : t.val % 2 = 1) :
    (outsAt0 m c t.val t.isLt).1 = k0_pay3 (k0_pay2 (iblk m c 0 t) (iblk m c 1 t) (k0_pay2 (iblk m c 0 s) (iblk m c 1 s) k0_pay1)) := by
  have e : (outsAt0 m c s.val s.isLt).2 = k0_pay2 (iblk m c 0 s) (iblk m c 1 s) k0_pay1 := by
    rw [outsAt0_A m c s (by omega) (by omega)]
    dsimp only
    rw [sout_A_eq]
  rw [outsAt0_B m c t (by omega) ht]
  dsimp only
  rw [out_B_eq, ← e]
  simp only [h]

end

/-! ### The result -/

section
variable (m : (ℓ : Loc nD τ sig) → Buf (Elt Ideal) ℓ) (c : Dev nD)

/-- The rows. -/
abbrev hOf : FVec Ideal S8192x2048 .f32 := m ((c : Thread nD τ).loc main_arg0)
/-- The gradient. -/
abbrev gOf : FVec Ideal S8192x15424 .f32 := m ((c : Thread nD τ).loc main_arg1)

/-- One row's product. -/
def B (h : FVec Ideal S8192x2048 .f32) (g : FVec Ideal S8192x15424 .f32) (D : Fin 2048) (K : Fin 15360) (n : ℕ) : EReal :=
  if q : n < 8192 then (h (ix2 ⟨n, q⟩ D) * g (ix2 ⟨n, q⟩ ⟨col K, col_lt K K.isLt⟩) : EReal) else 0

/-- The blocks that a point reads. -/
def X0 (t : Fin cfg0.N) : FVec Ideal S4096x1024 .bf16 := Gen.iblk m c 0 t
def X1 (t : Fin cfg0.N) : FVec Ideal S4096x1024 .bf16 := Gen.iblk m c 1 t

theorem term (t : Fin cfg0.N) (D : Fin 2048) (K : Fin 15360) (a b : Fin 1024) (hD : D.val = 1024 * (t.val / 30) + a.val)
    (hK : K.val = 1024 * (t.val / 2 % 15) + b.val) :
    ∑ k : Fin 4096, (X0 m c t (ix2 k a) * X1 m c t (ix2 k b) : EReal)
      = ∑ k ∈ Finset.range 4096, B (hOf m c) (gOf m c) D K (4096 * (t.val % 2) + k) := by
  rw [← Fin.sum_univ_eq_sum_range (fun k => B (hOf m c) (gOf m c) D K (4096 * (t.val % 2) + k)) 4096]
  refine Finset.sum_congr (M := EReal) rfl fun k _ => ?_
  have hk := k.isLt
  have hR : 4096 * (t.val % 2) + k.val < 8192 := by omega
  have e0 : X0 m c t (ix2 k a) = _ := blk_0 m c t ⟨_, hR⟩ D k a rfl hD
  have e1 : X1 m c t (ix2 k b) = _ := blk_1 m c t ⟨_, hR⟩ K k b rfl hK
  rw [e0, e1, V_h, V_g, hT_apply, gT_apply, B, dif_pos hR]

theorem result (i : S2048x15360.Idx) :
    (G2 m c i : EReal) = ∑ k : Fin 8192, (hOf m c (ix2 k (i 0)) * gOf m c (ix2 k ⟨col (i 1).val, col_lt _ (i 1).isLt⟩) : EReal) := by
  have h0 : (i 0).val < 2048 := (i 0).isLt
  have h1 : (i 1).val < 15360 := (i 1).isLt
  have hp : pt2Of i < cfg0.N := by
    rw [show cfg0.N = 60 from N_0]
    unfold pt2Of run2Of
    omega
  have hs : pt2Of i - 1 < cfg0.N := by omega
  have hl : loc2Of i = ix2 ⟨(i 0).val % 1024, Nat.mod_lt _ (by decide)⟩ ⟨(i 1).val % 1024, Nat.mod_lt _ (by decide)⟩ := eq_ix2 _
  have q : pt2Of i = 2 * (15 * ((i 0).val / 1024) + (i 1).val / 1024) + 1 := by
    unfold pt2Of run2Of
    omega
  unfold G2
  rw [dif_pos hp, ← outsAt0_sweep m c (pt2Of i) hp, hl, pair m c ⟨pt2Of i - 1, hs⟩ ⟨pt2Of i, hp⟩ rfl (by simp only [q]; omega)]
  refine (pay3_apply _ _ _).trans ?_
  refine (pay2_apply (X0 m c ⟨pt2Of i, hp⟩) (X1 m c ⟨pt2Of i, hp⟩) _ _ _).trans ?_
  refine (congrArg (· + _) (pay2_apply (X0 m c ⟨pt2Of i - 1, hs⟩) (X1 m c ⟨pt2Of i - 1, hs⟩) _ _ _)).trans ?_
  rw [pay1_apply, zero_add, term m c ⟨pt2Of i, hp⟩ (i 0) (i 1) _ _ (by simp only [q]; omega) (by simp only [q]; omega),
    term m c ⟨pt2Of i - 1, hs⟩ (i 0) (i 1) _ _ (by simp only [q]; omega) (by simp only [q]; omega),
    show pt2Of i % 2 = 1 by omega, show (pt2Of i - 1) % 2 = 0 by omega]
  simp only [Nat.mul_zero, Nat.zero_add, Nat.mul_one]
  rw [← Finset.sum_range_add, ← Fin.sum_univ_eq_sum_range]
  refine Finset.sum_congr (M := EReal) rfl fun k _ => ?_
  exact dif_pos k.isLt

end

end Cert.Kernel4Ideal.Dwin

namespace Cert.Reference4Ideal.Fields

open Cert.Reference4Ideal Cert.Reference4Ideal.Gen Idealize.ShloMosaic
open Cert.Kernel2Ideal.Dh (col col_lt)

/-- The columns of a product in the call's order. -/
def fields (x : FVec Ideal S2048x15424 .f32) : FVec Ideal S2048x15360 .bf16 :=
  truncf .bf16 (concatenate S2048x15360 1
    [⟨S2048x4096, extractStridedSlice S2048x4096 ![0, 0] x slices_S2048x15424_S2048x4096_0_0⟩,
      ⟨S2048x2048, extractStridedSlice S2048x2048 ![0, 5184] x slices_S2048x15424_S2048x2048_0_5184⟩,
      ⟨S2048x6144, extractStridedSlice S2048x6144 ![0, 9280] x slices_S2048x15424_S2048x6144_0_9280⟩,
      ⟨S2048x2048, extractStridedSlice S2048x2048 ![0, 7232] x slices_S2048x15424_S2048x2048_0_7232⟩,
      ⟨S2048x1024, extractStridedSlice S2048x1024 ![0, 4096] x slices_S2048x15424_S2048x1024_0_4096⟩]
    concatenates_S2048x4096_S2048x2048_S2048x6144_S2048x2048_S2048x1024_S2048x15360_d1) bitsLt_bf16_f32

theorem fields_apply (x : FVec Ideal S2048x15424 .f32) (r : Fin 2048) (k : Fin 15360) :
    fields x (ix2 r k) = x (ix2 r ⟨col k, col_lt k k.isLt⟩) := by
  have hk := k.isLt
  pointwise [fields]
  by_cases h0 : k.val < 4096
  · rw [dif_pos h0]
    exact congrArg (fun j => x (ix2 r j)) (Fin.ext (by simp only [col]; split_ifs <;> omega))
  rw [dif_neg h0]
  by_cases h1 : k.val - 4096 < 2048
  · rw [dif_pos h1]
    exact congrArg (fun j => x (ix2 r j)) (Fin.ext (by simp only [col]; split_ifs <;> omega))
  rw [dif_neg h1]
  by_cases h2 : k.val - 4096 - 2048 < 6144
  · rw [dif_pos h2]
    exact congrArg (fun j => x (ix2 r j)) (Fin.ext (by simp only [col]; split_ifs <;> omega))
  rw [dif_neg h2]
  by_cases h3 : k.val - 4096 - 2048 - 6144 < 2048
  · rw [dif_pos h3]
    exact congrArg (fun j => x (ix2 r j)) (Fin.ext (by simp only [col]; split_ifs <;> omega))
  rw [dif_neg h3]
  exact congrArg (fun j => x (ix2 r j)) (Fin.ext (by simp only [col]; split_ifs <;> omega))

end Cert.Reference4Ideal.Fields

namespace Cert.Dwin

open Idealize.ShloMosaic Idealize.ShloMosaic.TcCoe

/-- The gradient of the weights. -/
abbrev grad (h : FVec Ideal Cert.Reference4Ideal.S8192x2048 .f32) (g : FVec Ideal Cert.Reference4Ideal.S8192x15424 .f32) : FVec Ideal Cert.Reference4Ideal.S2048x15424 .f32 :=
  transpose Cert.Reference4Ideal.S2048x15424 [1, 0] (Host.dotGeneral Cert.Reference4Ideal.dot_S8192x15424_S8192x2048_S15424x2048_0_0_1_1_n_n none g h)
    Cert.Reference4Ideal.Gen.transposes_S15424x2048_S2048x15424_1_0

theorem dot_eq (h : FVec Ideal Cert.Reference4Ideal.S8192x2048 .f32) (g : FVec Ideal Cert.Reference4Ideal.S8192x15424 .f32) (d : Fin 2048) (j : Fin 15424) :
    (grad h g (ix2 d j) : EReal) = ∑ k : Fin 8192, (g (ix2 k j) * h (ix2 k d) : EReal) := by
  pointwise [grad]

theorem ref_eq (m : (ℓ : Loc Cert.Kernel4Ideal.nD Cert.Kernel4Ideal.τ Cert.Kernel4Ideal.sig) → Buf (Elt Ideal) ℓ) (c : Dev Cert.Kernel4Ideal.nD) :
    Cert.Reference4Ideal.Fields.fields (grad (Cert.Kernel4Ideal.Dwin.hOf m c) (Cert.Kernel4Ideal.Dwin.gOf m c)) = Cert.Kernel4Ideal.Value.G2 m c := by
  funext i
  refine ((congrArg _ (eq_ix2 i)).trans (Cert.Reference4Ideal.Fields.fields_apply _ (i 0) (i 1))).trans ?_
  refine (dot_eq _ _ _ _).trans (Eq.trans ?_ (Cert.Kernel4Ideal.Dwin.result m c i).symm)
  exact Finset.sum_congr (M := EReal) rfl fun k _ => mul_comm _ _

end Cert.Dwin

namespace Cert.Dwin

open Idealize.ShloMosaic Idealize.ShloMosaic.TcCoe Idealize.SL.Sem

theorem frame_ideal4 : Cert.quiescent_Kernel4Ideal := fun m ρ _ => Cert.Kernel4Ideal.Gen.frame (F := Ideal) m ρ

theorem bodies_eq : (Cert.Kernel4.defs₀ (F := Bits)) = (Cert.Kernel4Ideal.defs₀ (F := Bits)) := by
  funext p l a
  match p with
  | .tc =>
    match l, a with
    | ⟨0, _⟩, (t, s) => rfl
  | .scScalar _ => rfl
  | .scVector _ _ => rfl

/-- On bits the two programs' tables of bodies are one. -/
theorem defs_eq : (Cert.Kernel4.defs (F := Bits)) = (Cert.Kernel4Ideal.defs (F := Bits)) :=
  (congrArg (fun d => Pipeline.defs (Cert.Kernel4.pcfgs (F := Bits)) d) bodies_eq).trans rfl

theorem frame_kernel4 : Cert.quiescent_Kernel4 := fun m ρ _ =>
  (congrArg (fun d => θ_run d (onTc (τ := Cert.Kernel4.τ) (Cert.Kernel4.main (F := Bits))) ⟨m, fun _ => 0, ρ⟩ _) defs_eq).mpr
    (Cert.Kernel4Ideal.Gen.frame (F := Bits) m ρ)

theorem frame_reference4 : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

theorem preserves4 : Cert.preserves_Kernel4_Kernel4Ideal := trivial

theorem algebraic4 : Cert.algebraic_Kernel4Ideal_Reference4Ideal := fun m g m' g' _ hA =>
  ⟨fun c => Cert.Kernel4Ideal.Value.G2 m c, Cert.Kernel4Ideal.Value.run (F := Ideal) m g,
    (θ_run Cert.Reference4Ideal.defs _ _).mono (fun _ h c => ⟨(h c).1.trans (by
        obtain ⟨a0, a1⟩ := hA c
        rw [a0, a1]
        exact ref_eq m c), (h c).2⟩)
      (Cert.Reference4Ideal.Value.run (F := Ideal) m' g')⟩

end Cert.Dwin
-- ==== Proof.Products.lean ====
module

public import Idealize.ShloMosaic.Lib.Claim
public import Idealize.ShloMosaic.Lib.Pointwise
public import Idealize.ShloMosaic.Lib.Pipeline.ValueKit

/-! Facts about an entry of a product, for arrays of any sizes: what the whole calls that are one product apply. -/

@[expose] public section

noncomputable section

namespace Cert.Products

open Idealize.ShloMosaic

variable {M K N m n : ℕ} {φ ψ χ ω : FTy}

/-- An entry of the product of `a`'s rows and `b`'s columns. -/
def entry (a : FVec Ideal ⟨2, ![M, K]⟩ φ) (b : FVec Ideal ⟨2, ![K, N]⟩ ψ) (r : Fin M) (c : Fin N) : EReal :=
  ∑ k : Fin K, (a (ix2 r k) * b (ix2 k c) : EReal)

/-- An entry of the product of `a`'s rows and `b`'s rows. -/
def entryT (a : FVec Ideal ⟨2, ![M, K]⟩ φ) (b : FVec Ideal ⟨2, ![N, K]⟩ ψ) (r : Fin M) (c : Fin N) : EReal :=
  ∑ k : Fin K, (a (ix2 r k) * b (ix2 c k) : EReal)

/-- An entry of the product of `a`'s columns and `b`'s columns. -/
def entryC (a : FVec Ideal ⟨2, ![K, M]⟩ φ) (b : FVec Ideal ⟨2, ![K, N]⟩ ψ) (r : Fin M) (c : Fin N) : EReal :=
  ∑ k : Fin K, (a (ix2 k r) * b (ix2 k c) : EReal)

theorem zero2 : (![0, 0] : Fin 2 → Nat) = fun _ => 0 := funext fun a => by fin_cases a <;> rfl

/-- Two sums of products are one when their factors are. -/
theorem sum_mul_congr {f g f' g' : Fin K → EReal} (hf : ∀ k, f k = f' k) (hg : ∀ k, g k = g' k) : ∑ k, f k * g k = ∑ k, f' k * g' k :=
  Finset.sum_congr (M := EReal) rfl fun k _ => congrArg₂ (· * ·) (hf k) (hg k)

/-- An entry of a product over two blocks of rows is the sum of the blocks' entries, in the order in which they are added. -/
theorem entryC_halves {H : ℕ} (x₀ x₁ : FVec Ideal ⟨2, ![H, m]⟩ χ) (y₀ y₁ : FVec Ideal ⟨2, ![H, n]⟩ ω)
    (a : FVec Ideal ⟨2, ![H + H, M]⟩ φ) (b : FVec Ideal ⟨2, ![H + H, N]⟩ ψ) (i : Fin m) (j : Fin n) (r : Fin M) (c : Fin N)
    (h₀ : ∀ k, (x₀ (ix2 k i) : EReal) = a (ix2 (Fin.castAdd H k) r)) (h₁ : ∀ k, (x₁ (ix2 k i) : EReal) = a (ix2 (Fin.natAdd H k) r))
    (g₀ : ∀ k, (y₀ (ix2 k j) : EReal) = b (ix2 (Fin.castAdd H k) c)) (g₁ : ∀ k, (y₁ (ix2 k j) : EReal) = b (ix2 (Fin.natAdd H k) c)) :
    0 + entryC x₀ y₀ i j + entryC x₁ y₁ i j = entryC a b r c := by
  unfold entryC
  rw [zero_add]
  refine Eq.trans ?_ (Fin.sum_univ_add (M := EReal) _).symm
  exact congrArg₂ (· + ·) (sum_mul_congr h₀ g₀) (sum_mul_congr h₁ g₁)

theorem entryC_comm (a : FVec Ideal ⟨2, ![K, M]⟩ φ) (b : FVec Ideal ⟨2, ![K, N]⟩ ψ) (r : Fin M) (c : Fin N) : entryC a b r c = entryC b a c r :=
  Finset.sum_congr (M := EReal) rfl fun _ _ => mul_comm _ _

end Cert.Products
-- ==== Proof.Oconv.lean ====
module

public import Idealize.ShloMosaic.Lib.StableHlo.RunRead
public import Idealize.ShloMosaic.Lib.Quiescent
public import proofs.«01_k».proof.Defs
public import proofs.«01_k».proof.Proof.Products
public import proofs.«01_k».proof.Proof.Gen.Kernel5
public import proofs.«01_k».proof.Proof.Gen.Kernel5Ideal.Value
public import proofs.«01_k».proof.Proof.Gen.Reference5Ideal.Run

/-! The convolution's projection: what the call leaves, and its claims. -/

@[expose] public section

set_option maxRecDepth 16384
set_option maxHeartbeats 400000

noncomputable section

namespace Cert.Kernel5Ideal.Oconv

open Cert.Kernel5Ideal Cert.Kernel5Ideal.Gen Cert.Products
open Idealize.ShloMosaic Idealize.ShloMosaic.TcCoe Idealize.SL.Sem

theorem pay1_apply (x y : FVec Ideal S1024x1024 .bf16) (a b : Fin 1024) : (k0_pay1 (F := Ideal) x y (ix2 a b) : EReal) = entryT x y a b := by
  pointwise [k0_pay1, entryT]

variable (m : (ℓ : Loc nD τ sig) → Buf (Elt Ideal) ℓ) (c : Dev nD)

abbrev A : FVec Ideal S8192x1024 .f32 := m ((c : Thread nD τ).loc main_arg0)
abbrev W : FVec Ideal S1024x2048 .f32 := m ((c : Thread nD τ).loc main_arg1)

theorem V_a (r : Fin 8192) (k : Fin 1024) : (Gen.V m c main_v0 : FVec Ideal S8192x1024 .bf16) (ix2 r k) = A m c (ix2 r k) := by
  unfold_abbrev_sides
  after_reads_simp
  pointwise

theorem V_w (k : Fin 1024) (n : Fin 2048) : (Gen.V m c main_v2 : FVec Ideal S2048x1024 .bf16) (ix2 n k) = W m c (ix2 k n) := by
  unfold_abbrev_sides
  after_reads_simp
  pointwise

theorem idx_0 : ∀ t : Fin cfg0.N, (cfg0.win 0).index t = ![t.val / 2, 0] := by decide +kernel
theorem idx_1 : ∀ t : Fin cfg0.N, (cfg0.win 1).index t = ![t.val % 2, 0] := by decide +kernel
theorem idx_2 : ∀ t : Fin cfg0.N, (cfg0.win 2).index t = ![t.val / 2, t.val % 2] := by decide +kernel

/-- The product. -/
def G : FVec Ideal S8192x2048 .bf16 := fun i => entry (A m c) (W m c) (i 0) (i 1)

theorem final : (dats m 0 c).arrAt 2 cfg0.N = G m c := by
  refine (dats m 0 c).arrAt_eq_of_covers 2 _ (by decide +kernel) fun t _ y => ?_
  have e0 := idx_0 t
  have e1 := idx_1 t
  have e2 := idx_2 t
  blk_simp
  rw [after0_2]
  unfold out0_2
  rw [View.canon_unit_zero zero2]
  simp only [View.ld_unit_zero (S := S1024x1024) zero2]
  refine (congrArg _ (eq_ix2 (n0 := 1024) (n1 := 1024) y)).trans ((pay1_apply _ _ _ _).trans ?_)
  show _ = entry (A m c) (W m c) _ _
  refine sum_mul_congr (fun k => ?_) fun k => ?_
  · refine Eq.trans ?_ (V_a m c _ k)
    blk_ext [iblk, e0, e2]
  · refine Eq.trans ?_ (V_w m c k _)
    blk_ext [iblk, e1, e2]

end Cert.Kernel5Ideal.Oconv

namespace Cert.Oconv

open Idealize.ShloMosaic Idealize.ShloMosaic.TcCoe Idealize.SL.Sem

theorem dot_eq (a : FVec Ideal Cert.Reference5Ideal.S8192x1024 .f32) (w : FVec Ideal Cert.Reference5Ideal.S1024x2048 .f32) (i : Cert.Reference5Ideal.S8192x2048.Idx) :
    ((Host.dotGeneral Cert.Reference5Ideal.dot_S8192x1024_S1024x2048_S8192x2048_1_0_0_1_n_n none a w : FVec Ideal Cert.Reference5Ideal.S8192x2048 .f32) i : EReal)
      = Cert.Products.entry a w (i 0) (i 1) := by
  rw [eq_ix2 i]
  pointwise [Cert.Products.entry]

theorem frame_ideal5 : Cert.quiescent_Kernel5Ideal := fun m ρ _ => Cert.Kernel5Ideal.Gen.frame (F := Ideal) m ρ

/-- On bits the two programs' tables of bodies are one. -/
theorem bodies_eq : (Cert.Kernel5.defs₀ (F := Bits)) = (Cert.Kernel5Ideal.defs₀ (F := Bits)) := by
  funext p l a
  match p, l, a with
  | .tc, ⟨0, _⟩, (t, s) => rfl
  | .scScalar _, _, _ => rfl
  | .scVector _ _, _, _ => rfl

theorem frame_kernel5 : Cert.quiescent_Kernel5 := fun m ρ _ =>
  (congrArg (fun d => θ_run (Pipeline.defs (Cert.Kernel5.pcfgs (F := Bits)) d) (onTc (τ := Cert.Kernel5.τ) (Cert.Kernel5.main (F := Bits))) ⟨m, fun _ => 0, ρ⟩ _) bodies_eq).mpr
    (Cert.Kernel5Ideal.Gen.frame (F := Bits) m ρ)

theorem frame_reference5 : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

theorem algebraic5 : Cert.algebraic_Kernel5Ideal_Reference5Ideal := fun m g m' g' _ hA =>
  ⟨fun c => Cert.Kernel5Ideal.Oconv.G m c,
    (θ_run Cert.Kernel5Ideal.defs _ _).mono (fun _ h c => ⟨(h c).1.trans (Cert.Kernel5Ideal.Oconv.final m c), (h c).2⟩)
      (Cert.Kernel5Ideal.Value.run_blocks (F := Ideal) m g),
    (θ_run Cert.Reference5Ideal.defs _ _).mono (fun _ h c => ⟨(h c).1.trans (by
        obtain ⟨a0, a1⟩ := hA c
        rw [a0, a1]
        exact funext fun i => dot_eq _ _ i), (h c).2⟩)
      (Cert.Reference5Ideal.Value.run (F := Ideal) m' g')⟩

end Cert.Oconv
-- ==== Proof.Omla.lean ====
module

public import Idealize.ShloMosaic.Lib.StableHlo.RunRead
public import Idealize.ShloMosaic.Lib.Quiescent
public import proofs.«01_k».proof.Defs
public import proofs.«01_k».proof.Proof.Products
public import proofs.«01_k».proof.Proof.Gen.Kernel6
public import proofs.«01_k».proof.Proof.Gen.Kernel6Ideal.Value
public import proofs.«01_k».proof.Proof.Gen.Reference6Ideal.Run

/-! The attention's output projection: what the call leaves, and its claims. -/

@[expose] public section

set_option maxRecDepth 16384
set_option maxHeartbeats 400000

noncomputable section

namespace Cert.Kernel6Ideal.Omla

open Cert.Kernel6Ideal Cert.Kernel6Ideal.Gen Cert.Products
open Idealize.ShloMosaic Idealize.ShloMosaic.TcCoe Idealize.SL.Sem

theorem pay1_apply (x : FVec Ideal S1024x2048 .bf16) (y : FVec Ideal S2048x1024 .bf16) (a b : Fin 1024) :
    (k0_pay1 (F := Ideal) x y (ix2 a b) : EReal) = entry x y a b := by
  pointwise [k0_pay1, entry]

variable (m : (ℓ : Loc nD τ sig) → Buf (Elt Ideal) ℓ) (c : Dev nD)

abbrev A : FVec Ideal S8192x2048 .f32 := m ((c : Thread nD τ).loc main_arg0)
abbrev W : FVec Ideal S2048x2048 .f32 := m ((c : Thread nD τ).loc main_arg1)

theorem V_a (r : Fin 8192) (k : Fin 2048) : (Gen.V m c main_v0 : FVec Ideal S8192x2048 .bf16) (ix2 r k) = A m c (ix2 r k) := by
  unfold_abbrev_sides
  after_reads_simp
  pointwise

theorem V_w (k n : Fin 2048) : (Gen.V m c main_v1 : FVec Ideal S2048x2048 .bf16) (ix2 k n) = W m c (ix2 k n) := by
  unfold_abbrev_sides
  after_reads_simp
  pointwise

theorem idx_0 : ∀ t : Fin cfg0.N, (cfg0.win 0).index t = ![t.val / 2, 0] := by decide +kernel
theorem idx_1 : ∀ t : Fin cfg0.N, (cfg0.win 1).index t = ![0, t.val % 2] := by decide +kernel
theorem idx_2 : ∀ t : Fin cfg0.N, (cfg0.win 2).index t = ![t.val / 2, t.val % 2] := by decide +kernel

/-- The product. -/
def G : FVec Ideal S8192x2048 .bf16 := fun i => entry (A m c) (W m c) (i 0) (i 1)

theorem final : (dats m 0 c).arrAt 2 cfg0.N = G m c := by
  refine (dats m 0 c).arrAt_eq_of_covers 2 _ (by decide +kernel) fun t _ y => ?_
  have e0 := idx_0 t
  have e1 := idx_1 t
  have e2 := idx_2 t
  blk_simp
  rw [after0_2]
  unfold out0_2
  rw [View.canon_unit_zero zero2]
  simp only [View.ld_unit_zero (S := S1024x2048) zero2, View.ld_unit_zero (S := S2048x1024) zero2]
  refine (congrArg _ (eq_ix2 (n0 := 1024) (n1 := 1024) y)).trans ((pay1_apply _ _ _ _).trans ?_)
  show _ = entry (A m c) (W m c) _ _
  refine sum_mul_congr (fun k => ?_) fun k => ?_
  · refine Eq.trans ?_ (V_a m c _ k)
    blk_ext [iblk, e0, e2]
  · refine Eq.trans ?_ (V_w m c k _)
    blk_ext [iblk, e1, e2]

end Cert.Kernel6Ideal.Omla

namespace Cert.Omla

open Idealize.ShloMosaic Idealize.ShloMosaic.TcCoe Idealize.SL.Sem

theorem dot_eq (a : FVec Ideal Cert.Reference6Ideal.S8192x2048 .f32) (w : FVec Ideal Cert.Reference6Ideal.S2048x2048 .f32) (i : Cert.Reference6Ideal.S8192x2048.Idx) :
    ((Host.dotGeneral Cert.Reference6Ideal.dot_S8192x2048_S2048x2048_S8192x2048_1_0_0_1_n_n none a w : FVec Ideal Cert.Reference6Ideal.S8192x2048 .f32) i : EReal)
      = Cert.Products.entry a w (i 0) (i 1) := by
  rw [eq_ix2 i]
  pointwise [Cert.Products.entry]

theorem frame_ideal6 : Cert.quiescent_Kernel6Ideal := fun m ρ _ => Cert.Kernel6Ideal.Gen.frame (F := Ideal) m ρ

/-- On bits the two programs' tables of bodies are one. -/
theorem bodies_eq : (Cert.Kernel6.defs₀ (F := Bits)) = (Cert.Kernel6Ideal.defs₀ (F := Bits)) := by
  funext p l a
  match p, l, a with
  | .tc, ⟨0, _⟩, (t, s) => rfl
  | .scScalar _, _, _ => rfl
  | .scVector _ _, _, _ => rfl

theorem frame_kernel6 : Cert.quiescent_Kernel6 := fun m ρ _ =>
  (congrArg (fun d => θ_run (Pipeline.defs (Cert.Kernel6.pcfgs (F := Bits)) d) (onTc (τ := Cert.Kernel6.τ) (Cert.Kernel6.main (F := Bits))) ⟨m, fun _ => 0, ρ⟩ _) bodies_eq).mpr
    (Cert.Kernel6Ideal.Gen.frame (F := Bits) m ρ)

theorem frame_reference6 : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)

theorem algebraic6 : Cert.algebraic_Kernel6Ideal_Reference6Ideal := fun m g m' g' _ hA =>
  ⟨fun c => Cert.Kernel6Ideal.Omla.G m c,
    (θ_run Cert.Kernel6Ideal.defs _ _).mono (fun _ h c => ⟨(h c).1.trans (Cert.Kernel6Ideal.Omla.final m c), (h c).2⟩)
      (Cert.Kernel6Ideal.Value.run_blocks (F := Ideal) m g),
    (θ_run Cert.Reference6Ideal.defs _ _).mono (fun _ h c => ⟨(h c).1.trans (by
        obtain ⟨a0, a1⟩ := hA c
        rw [a0, a1]
        exact funext fun i => dot_eq _ _ i), (h c).2⟩)
      (Cert.Reference6Ideal.Value.run (F := Ideal) m' g')⟩

end Cert.Omla
-- ==== Proof.Dmerged.lean ====
module

public import Idealize.ShloMosaic.Lib.StableHlo.RunRead
public import Idealize.ShloMosaic.Lib.Quiescent
public import proofs.«01_k».proof.Defs
public import proofs.«01_k».proof.Proof.Products
public import proofs.«01_k».proof.Proof.Gen.Kernel7
public import proofs.«01_k».proof.Proof.Gen.Kernel7Ideal.Value
public import proofs.«01_k».proof.Proof.Gen.Reference7Ideal.Run

/-! The gradient of an output projection's input: what the call leaves, and its claims. -/

@[expose] public section

set_option maxRecDepth 16384
set_option maxHeartbeats 400000

noncomputable section

namespace Cert.Kernel7Ideal.Dmerged

open Cert.Kernel7Ideal Cert.Kernel7Ideal.Gen Cert.Products
open Idealize.ShloMosaic Idealize.ShloMosaic.TcCoe Idealize.SL.Sem

theorem pay1_apply (x y : FVec Ideal S1024x2048 .bf16) (a b : Fin 1024) : (k0_pay1 (F := Ideal) x y (ix2 a b) : EReal) = entryT x y a b := by
  pointwise [k0_pay1, entryT]

variable (m : (ℓ : Loc nD τ sig) → Buf (Elt Ideal) ℓ) (c : Dev nD)

abbrev W : FVec Ideal S2048x2048 .f32 := m ((c : Thread nD τ).loc main_arg0)
abbrev Ct : FVec Ideal S8192x2048 .f32 := m ((c : Thread nD τ).loc main_arg1)

theorem V_ct (r : Fin 8192) (k : Fin 2048) : (Gen.V m c main_v0 : FVec Ideal S8192x2048 .bf16) (ix2 r k) = Ct m c (ix2 r k) := by
  unfold_abbrev_sides
  after_reads_simp
  pointwise

theorem V_w (n k : Fin 2048) : (Gen.V m c main_v1 : FVec Ideal S2048x2048 .bf16) (ix2 n k) = W m c (ix2 n k) := by
  unfold_abbrev_sides
  after_reads_simp
  pointwise

theorem idx_0 : ∀ t : Fin cfg0.N, (cfg0.win 0).index t = ![t.val / 2, 0] := by decide +kernel
theorem idx_1 : ∀ t : Fin cfg0.N, (cfg0.win 1).index t = ![t.val % 2, 0] := by decide +kernel
theorem idx_2 : ∀ t : Fin cfg0.N, (cfg0.win 2).index t = ![t.val / 2, t.val % 2] := by decide +kernel

/-- The gradient. -/
def G : FVec Ideal S8192x2048 .bf16 := fun i => entryT (Ct m c) (W m c) (i 0) (i 1)

theorem final : (dats m 0 c).arrAt 2 cfg0.N = G m c := by
  refine (dats m 0 c).arrAt_eq_of_covers 2 _ (by decide +kernel) fun t _ y => ?_
  have e0 := idx_0 t
  have e1 := idx_1 t
  have e2 := idx_2 t
  blk_simp
  rw [after0_2]
  unfold out0_2
  rw [View.canon_unit_zero zero2]
  simp only [View.ld_unit_zero (S := S1024x2048) zero2]
  refine (congrArg _ (eq_ix2 (n0 := 1024) (n1 := 1024) y)).trans ((pay1_apply _ _ _ _).trans ?_)
  show _ = entryT (Ct m c) (W m c) _ _
  refine sum_mul_congr (fun k => ?_) fun k => ?_
  · refine Eq.trans ?_ (V_ct m c _ k)
    blk_ext [iblk, e0, e2]
  · refine Eq.trans ?_ (V_w m c _ k)
    blk_ext [iblk, e1, e2]

end Cert.Kernel7Ideal.Dmerged

namespace Cert.Dmerged

open Idealize.ShloMosaic Idealize.ShloMosaic.TcCoe Idealize.SL.Sem

theorem dot_eq (g : FVec Ideal Cert.Reference7Ideal.S8192x2048 .f32) (w : FVec Ideal Cert.Reference7Ideal.S2048x2048 .f32) (i : Cert.Reference7Ideal.S8192x2048.Idx) :
    ((Host.dotGeneral Cert.Reference7Ideal.dot_S8192x2048_S2048x2048_S8192x2048_1_1_0_0_n_n none g w : FVec Ideal Cert.Reference7Ideal.S8192x2048 .f32) i : EReal)
      = Cert.Products.entryT g w (i 0) (i 1) := by
  rw [eq_ix2 i]
  pointwise [Cert.Products.entryT]

theorem frame_ideal7 : Cert.quiescent_Kernel7Ideal := fun m ρ _ => Cert.Kernel7Ideal.Gen.frame (F := Ideal) m ρ

/-- On bits the two programs' tables of bodies are one. -/
theorem bodies_eq : (Cert.Kernel7.defs₀ (F := Bits)) = (Cert.Kernel7Ideal.defs₀ (F := Bits)) := by
  funext p l a
  match p, l, a with
  | .tc, ⟨0, _⟩, (t, s) => rfl
  | .scScalar _, _, _ => rfl
  | .scVector _ _, _, _ => rfl

theorem frame_kernel7 : Cert.quiescent_Kernel7 := fun m ρ _ =>
  (congrArg (fun d => θ_run (Pipeline.defs (Cert.Kernel7.pcfgs (F := Bits)) d) (onTc (τ := Cert.Kernel7.τ) (Cert.Kernel7.main (F := Bits))) ⟨m, fun _ => 0, ρ⟩ _) bodies_eq).mpr
    (Cert.Kernel7Ideal.Gen.frame (F := Bits) m ρ)

theorem frame_reference7 : Cert.quiescent_Reference7Ideal := fun m ρ _ =>
  (θ_run Cert.Reference7Ideal.defs _ _).mono (fun r h => ⟨fun c => (h c).2, Idealize.ShloMosaic.sem_eq_zero_of_no_sems (by decide) r.2⟩)
    (Cert.Reference7Ideal.Value.run (F := Ideal) m ρ)

theorem algebraic7 : Cert.algebraic_Kernel7Ideal_Reference7Ideal := fun m g m' g' _ hA =>
  ⟨fun c => Cert.Kernel7Ideal.Dmerged.G m c,
    (θ_run Cert.Kernel7Ideal.defs _ _).mono (fun _ h c => ⟨(h c).1.trans (Cert.Kernel7Ideal.Dmerged.final m c), (h c).2⟩)
      (Cert.Kernel7Ideal.Value.run_blocks (F := Ideal) m g),
    (θ_run Cert.Reference7Ideal.defs _ _).mono (fun _ h c => ⟨(h c).1.trans (by
        obtain ⟨a0, a1⟩ := hA c
        rw [a0, a1]
        exact funext fun i => dot_eq _ _ i), (h c).2⟩)
      (Cert.Reference7Ideal.Value.run (F := Ideal) m' g')⟩

end Cert.Dmerged
-- ==== Proof.Dwo.lean ====
module

public import Idealize.ShloMosaic.Lib.StableHlo.RunRead
public import Idealize.ShloMosaic.Lib.Quiescent
public import proofs.«01_k».proof.Defs
public import proofs.«01_k».proof.Proof.Products
public import proofs.«01_k».proof.Proof.Gen.Kernel8
public import proofs.«01_k».proof.Proof.Gen.Kernel8Ideal.Value
public import proofs.«01_k».proof.Proof.Gen.Reference8Ideal.Run

/-! The gradient of an output projection's weights: what the call leaves, and its claims. -/

@[expose] public section

set_option maxRecDepth 16384
set_option maxHeartbeats 400000

noncomputable section

namespace Cert.Kernel8Ideal.Dwo

open Cert.Kernel8Ideal Cert.Kernel8Ideal.Gen Cert.Products
open Idealize.ShloMosaic Idealize.ShloMosaic.TcCoe Idealize.SL.Sem

theorem pay1_apply (a b : Fin 1024) : (k0_pay1 (F := Ideal) (ix2 a b) : EReal) = 0 := by
  pointwise [k0_pay1]

theorem pay2_apply (x y : FVec Ideal S4096x1024 .bf16) (z : FVec Ideal S1024x1024 .f32) (a b : Fin 1024) :
    (k0_pay2 (F := Ideal) x y z (ix2 a b) : EReal) = (z (ix2 a b) : EReal) + entryC x y a b := by
  pointwise [k0_pay2, entryC]

theorem pay3_apply (z : FVec Ideal S1024x1024 .f32) (a b : Fin 1024) : (k0_pay3 (F := Ideal) z (ix2 a b) : EReal) = (z (ix2 a b) : EReal) := by
  pointwise [k0_pay3]

/-- What the two points of a pair add up to. -/
theorem pays_apply (x₀ y₀ x₁ y₁ : FVec Ideal S4096x1024 .bf16) (a b : Fin 1024) :
    (k0_pay3 (F := Ideal) (k0_pay2 (F := Ideal) x₁ y₁ (k0_pay2 (F := Ideal) x₀ y₀ (k0_pay1 (F := Ideal)))) (ix2 a b) : EReal)
      = 0 + entryC x₀ y₀ a b + entryC x₁ y₁ a b := by
  rw [pay3_apply, pay2_apply, pay2_apply, pay1_apply]

variable (m : (ℓ : Loc nD τ sig) → Buf (Elt Ideal) ℓ) (c : Dev nD)

abbrev A : FVec Ideal S8192x2048 .f32 := m ((c : Thread nD τ).loc main_arg0)
abbrev Ct : FVec Ideal S8192x2048 .f32 := m ((c : Thread nD τ).loc main_arg1)

theorem V_a (r : Fin 8192) (k : Fin 2048) : (Gen.V m c main_v0 : FVec Ideal S8192x2048 .bf16) (ix2 r k) = A m c (ix2 r k) := by
  unfold_abbrev_sides
  after_reads_simp
  pointwise

theorem V_ct (r : Fin 8192) (k : Fin 2048) : (Gen.V m c main_v1 : FVec Ideal S8192x2048 .bf16) (ix2 r k) = Ct m c (ix2 r k) := by
  unfold_abbrev_sides
  after_reads_simp
  pointwise

theorem idx_0 : ∀ t : Fin cfg0.N, (cfg0.win 0).index t = ![t.val % 2, t.val / 4] := by decide +kernel
theorem idx_1 : ∀ t : Fin cfg0.N, (cfg0.win 1).index t = ![t.val % 2, t.val / 2 % 2] := by decide +kernel
theorem idx_2 : ∀ t : Fin cfg0.N, (cfg0.win 2).index t = ![t.val / 4, t.val / 2 % 2] := by decide +kernel

/-- The blocks that a point reads. -/
def X0 (t : Fin cfg0.N) : FVec Ideal S4096x1024 .bf16 := Gen.iblk m c 0 t
def X1 (t : Fin cfg0.N) : FVec Ideal S4096x1024 .bf16 := Gen.iblk m c 1 t

theorem blk_0 (t : Fin cfg0.N) (R : Fin 8192) (D : Fin 2048) (r : Fin 4096) (d : Fin 1024) (hR : R.val = 4096 * (t.val % 2) + r.val)
    (hD : D.val = 1024 * (t.val / 4) + d.val) : (X0 m c t (ix2 r d) : EReal) = A m c (ix2 R D) := by
  have e := idx_0 t
  refine Eq.trans ?_ (V_a m c R D)
  blk_ext [X0, iblk, e]

theorem blk_1 (t : Fin cfg0.N) (R : Fin 8192) (D : Fin 2048) (r : Fin 4096) (d : Fin 1024) (hR : R.val = 4096 * (t.val % 2) + r.val)
    (hD : D.val = 1024 * (t.val / 2 % 2) + d.val) : (X1 m c t (ix2 r d) : EReal) = Ct m c (ix2 R D) := by
  have e := idx_1 t
  refine Eq.trans ?_ (V_ct m c R D)
  blk_ext [X1, iblk, e]

/-- What a pair of points leaves in the output's block. -/
theorem pair (s t : Fin cfg0.N) (h : s.val = t.val - 1) (ht : t.val % 2 = 1) :
    (outsAt0 m c t.val t.isLt).1 = k0_pay3 (F := Ideal) (k0_pay2 (F := Ideal) (X0 m c t) (X1 m c t) (k0_pay2 (F := Ideal) (X0 m c s) (X1 m c s) (k0_pay1 (F := Ideal)))) := by
  have e : (outsAt0 m c s.val s.isLt).2 = k0_pay2 (F := Ideal) (X0 m c s) (X1 m c s) (k0_pay1 (F := Ideal)) := by
    rw [outsAt0_A m c s (by omega) (by omega)]
    frame_out
    rfl
  rw [outsAt0_B m c t (by omega) ht]
  frame_out
  rw [← e]
  simp only [h]
  exact congrArg (fun z => k0_pay3 (F := Ideal) (k0_pay2 (F := Ideal) (X0 m c t) (X1 m c t) z)) ((Memref.isWhole_whole cc0_scratch0).read_unread _)

/-- The gradient. -/
def G : FVec Ideal S2048x2048 .bf16 := fun i => entryC (A m c) (Ct m c) (i 0) (i 1)

theorem final : (dats m 0 c).arrAt 2 cfg0.N = G m c := by
  refine (dats m 0 c).arrAt_eq_of_covers 2 _ (by decide +kernel) fun t hf y => ?_
  have ht : t.val % 2 = 1 := (flush0_2 t).mp hf
  obtain ⟨s, hs⟩ : ∃ s : Fin cfg0.N, s.val = t.val - 1 := ⟨⟨_, lt_of_le_of_lt (Nat.sub_le _ _) t.isLt⟩, rfl⟩
  have e2 := idx_2 t
  blk_simp
  rw [after0_2, pair m c s t hs ht]
  refine (congrArg _ (eq_ix2 (n0 := 1024) (n1 := 1024) y)).trans ((pays_apply _ _ _ _ _ _).trans ?_)
  show _ = entryC (A m c) (Ct m c) _ _
  refine entryC_halves (H := 4096) _ _ _ _ _ _ _ _ _ _ (fun k => ?_) (fun k => ?_) (fun k => ?_) fun k => ?_
  · exact blk_0 m c _ _ _ _ _ (by simp only [Fin.val_castAdd]; omega) (by blk_simp [e2]; omega)
  · exact blk_0 m c _ _ _ _ _ (by simp only [Fin.val_natAdd]; omega) (by blk_simp [e2]; omega)
  · exact blk_1 m c _ _ _ _ _ (by simp only [Fin.val_castAdd]; omega) (by blk_simp [e2]; omega)
  · exact blk_1 m c _ _ _ _ _ (by simp only [Fin.val_natAdd]; omega) (by blk_simp [e2]; omega)

end Cert.Kernel8Ideal.Dwo

namespace Cert.Dwo

open Idealize.ShloMosaic Idealize.ShloMosaic.TcCoe Idealize.SL.Sem

theorem grad_eq (a g : FVec Ideal Cert.Reference8Ideal.S8192x2048 .f32) (i : Cert.Reference8Ideal.S2048x2048.Idx) :
    (transpose Cert.Reference8Ideal.S2048x2048 [1, 0] (Host.dotGeneral Cert.Reference8Ideal.dot_S8192x2048_S8192x2048_S2048x2048_0_0_1_1_n_n none g a : FVec Ideal Cert.Reference8Ideal.S2048x2048 .f32)
      Cert.Reference8Ideal.Gen.transposes_S2048x2048_S2048x2048_1_0 i : EReal) = Cert.Products.entryC a g (i 0) (i 1) := by
  refine Eq.trans ?_ (Cert.Products.entryC_comm g a (i 1) (i 0))
  rw [eq_ix2 i]
  pointwise [Cert.Products.entryC]

theorem frame_ideal8 : Cert.quiescent_Kernel8Ideal := fun m ρ _ => Cert.Kernel8Ideal.Gen.frame (F := Ideal) m ρ

/-- On bits the two programs' tables of bodies are one. -/
theorem bodies_eq : (Cert.Kernel8.defs₀ (F := Bits)) = (Cert.Kernel8Ideal.defs₀ (F := Bits)) := by
  funext p l a
  match p, l, a with
  | .tc, ⟨0, _⟩, (t, s) => rfl
  | .scScalar _, _, _ => rfl
  | .scVector _ _, _, _ => rfl

theorem frame_kernel8 : Cert.quiescent_Kernel8 := fun m ρ _ =>
  (congrArg (fun d => θ_run (Pipeline.defs (Cert.Kernel8.pcfgs (F := Bits)) d) (onTc (τ := Cert.Kernel8.τ) (Cert.Kernel8.main (F := Bits))) ⟨m, fun _ => 0, ρ⟩ _) bodies_eq).mpr
    (Cert.Kernel8Ideal.Gen.frame (F := Bits) m ρ)

theorem frame_reference8 : Cert.quiescent_Reference8Ideal := fun m ρ _ =>
  (θ_run Cert.Reference8Ideal.defs _ _).mono (fun r h => ⟨fun c => (h c).2, Idealize.ShloMosaic.sem_eq_zero_of_no_sems (by decide) r.2⟩)
    (Cert.Reference8Ideal.Value.run (F := Ideal) m ρ)

theorem algebraic8 : Cert.algebraic_Kernel8Ideal_Reference8Ideal := fun m g m' g' _ hA =>
  ⟨fun c => Cert.Kernel8Ideal.Dwo.G m c,
    (θ_run Cert.Kernel8Ideal.defs _ _).mono (fun _ h c => ⟨(h c).1.trans (Cert.Kernel8Ideal.Dwo.final m c), (h c).2⟩)
      (Cert.Kernel8Ideal.Value.run_blocks (F := Ideal) m g),
    (θ_run Cert.Reference8Ideal.defs _ _).mono (fun _ h c => ⟨(h c).1.trans (by
        obtain ⟨a0, a1⟩ := hA c
        rw [a0, a1]
        exact funext fun i => grad_eq _ _ i), (h c).2⟩)
      (Cert.Reference8Ideal.Value.run (F := Ideal) m' g')⟩

end Cert.Dwo
-- ==== Proof.Dwco.lean ====
module

public import Idealize.ShloMosaic.Lib.StableHlo.RunRead
public import Idealize.ShloMosaic.Lib.Quiescent
public import proofs.«01_k».proof.Defs
public import proofs.«01_k».proof.Proof.Products
public import proofs.«01_k».proof.Proof.Gen.Kernel9
public import proofs.«01_k».proof.Proof.Gen.Kernel9Ideal.Value
public import proofs.«01_k».proof.Proof.Gen.Reference9Ideal.Run

/-! The gradient of the weights of a projection from 1024 columns: what the call leaves, and its claims. -/

@[expose] public section

set_option maxRecDepth 16384
set_option maxHeartbeats 400000

noncomputable section

namespace Cert.Kernel9Ideal.Dwco

open Cert.Kernel9Ideal Cert.Kernel9Ideal.Gen Cert.Products
open Idealize.ShloMosaic Idealize.ShloMosaic.TcCoe Idealize.SL.Sem

/-- What the two points of a pair add up to. -/
theorem pays_apply (x₀ y₀ x₁ y₁ : FVec Ideal S4096x1024 .bf16) (a b : Fin 1024) :
    (k0_pay3 (F := Ideal) (k0_pay2 (F := Ideal) x₁ y₁ (k0_pay2 (F := Ideal) x₀ y₀ (k0_pay1 (F := Ideal)))) (ix2 a b) : EReal)
      = 0 + entryC x₀ y₀ a b + entryC x₁ y₁ a b := by
  pointwise [k0_pay3, k0_pay2, k0_pay1, entryC]

variable (m : (ℓ : Loc nD τ sig) → Buf (Elt Ideal) ℓ) (c : Dev nD)

abbrev A : FVec Ideal S8192x1024 .f32 := m ((c : Thread nD τ).loc main_arg0)
abbrev Ct : FVec Ideal S8192x2048 .f32 := m ((c : Thread nD τ).loc main_arg1)

theorem V_a (r : Fin 8192) (k : Fin 1024) : (Gen.V m c main_v0 : FVec Ideal S8192x1024 .bf16) (ix2 r k) = A m c (ix2 r k) := by
  unfold_abbrev_sides
  after_reads_simp
  pointwise

theorem V_ct (r : Fin 8192) (k : Fin 2048) : (Gen.V m c main_v1 : FVec Ideal S8192x2048 .bf16) (ix2 r k) = Ct m c (ix2 r k) := by
  unfold_abbrev_sides
  after_reads_simp
  pointwise

theorem idx_0 : ∀ t : Fin cfg0.N, (cfg0.win 0).index t = ![t.val % 2, 0] := by decide +kernel
theorem idx_1 : ∀ t : Fin cfg0.N, (cfg0.win 1).index t = ![t.val % 2, t.val / 2] := by decide +kernel
theorem idx_2 : ∀ t : Fin cfg0.N, (cfg0.win 2).index t = ![0, t.val / 2] := by decide +kernel

/-- The blocks that a point reads. -/
def X0 (t : Fin cfg0.N) : FVec Ideal S4096x1024 .bf16 := Gen.iblk m c 0 t
def X1 (t : Fin cfg0.N) : FVec Ideal S4096x1024 .bf16 := Gen.iblk m c 1 t

theorem blk_0 (t : Fin cfg0.N) (R : Fin 8192) (D : Fin 1024) (r : Fin 4096) (d : Fin 1024) (hR : R.val = 4096 * (t.val % 2) + r.val)
    (hD : D.val = d.val) : (X0 m c t (ix2 r d) : EReal) = A m c (ix2 R D) := by
  have e := idx_0 t
  refine Eq.trans ?_ (V_a m c R D)
  blk_ext [X0, iblk, e]

theorem blk_1 (t : Fin cfg0.N) (R : Fin 8192) (D : Fin 2048) (r : Fin 4096) (d : Fin 1024) (hR : R.val = 4096 * (t.val % 2) + r.val)
    (hD : D.val = 1024 * (t.val / 2) + d.val) : (X1 m c t (ix2 r d) : EReal) = Ct m c (ix2 R D) := by
  have e := idx_1 t
  refine Eq.trans ?_ (V_ct m c R D)
  blk_ext [X1, iblk, e]

/-- What a pair of points leaves in the output's block. -/
theorem pair (s t : Fin cfg0.N) (h : s.val = t.val - 1) (ht : t.val % 2 = 1) :
    (outsAt0 m c t.val t.isLt).1 = k0_pay3 (F := Ideal) (k0_pay2 (F := Ideal) (X0 m c t) (X1 m c t) (k0_pay2 (F := Ideal) (X0 m c s) (X1 m c s) (k0_pay1 (F := Ideal)))) := by
  have e : (outsAt0 m c s.val s.isLt).2 = k0_pay2 (F := Ideal) (X0 m c s) (X1 m c s) (k0_pay1 (F := Ideal)) := by
    rw [outsAt0_A m c s (by omega) (by omega)]
    frame_out
    rfl
  rw [outsAt0_B m c t (by omega) ht]
  frame_out
  rw [← e]
  simp only [h]
  exact congrArg (fun z => k0_pay3 (F := Ideal) (k0_pay2 (F := Ideal) (X0 m c t) (X1 m c t) z)) ((Memref.isWhole_whole cc0_scratch0).read_unread _)

/-- The gradient. -/
def G : FVec Ideal S1024x2048 .bf16 := fun i => entryC (A m c) (Ct m c) (i 0) (i 1)

theorem final : (dats m 0 c).arrAt 2 cfg0.N = G m c := by
  refine (dats m 0 c).arrAt_eq_of_covers 2 _ (by decide +kernel) fun t hf y => ?_
  have ht : t.val % 2 = 1 := (flush0_2 t).mp hf
  obtain ⟨s, hs⟩ : ∃ s : Fin cfg0.N, s.val = t.val - 1 := ⟨⟨_, lt_of_le_of_lt (Nat.sub_le _ _) t.isLt⟩, rfl⟩
  have e2 := idx_2 t
  blk_simp
  rw [after0_2, pair m c s t hs ht]
  refine (congrArg _ (eq_ix2 (n0 := 1024) (n1 := 1024) y)).trans ((pays_apply _ _ _ _ _ _).trans ?_)
  show _ = entryC (A m c) (Ct m c) _ _
  refine entryC_halves (H := 4096) _ _ _ _ _ _ _ _ _ _ (fun k => ?_) (fun k => ?_) (fun k => ?_) fun k => ?_
  · exact blk_0 m c _ _ _ _ _ (by simp only [Fin.val_castAdd]; omega) (by blk_simp [e2])
  · exact blk_0 m c _ _ _ _ _ (by simp only [Fin.val_natAdd]; omega) (by blk_simp [e2])
  · exact blk_1 m c _ _ _ _ _ (by simp only [Fin.val_castAdd]; omega) (by blk_simp [e2]; omega)
  · exact blk_1 m c _ _ _ _ _ (by simp only [Fin.val_natAdd]; omega) (by blk_simp [e2]; omega)

end Cert.Kernel9Ideal.Dwco

namespace Cert.Dwco

open Idealize.ShloMosaic Idealize.ShloMosaic.TcCoe Idealize.SL.Sem

theorem grad_eq (a : FVec Ideal Cert.Reference9Ideal.S8192x1024 .f32) (g : FVec Ideal Cert.Reference9Ideal.S8192x2048 .f32) (i : Cert.Reference9Ideal.S1024x2048.Idx) :
    (transpose Cert.Reference9Ideal.S1024x2048 [1, 0] (Host.dotGeneral Cert.Reference9Ideal.dot_S8192x2048_S8192x1024_S2048x1024_0_0_1_1_n_n none g a : FVec Ideal Cert.Reference9Ideal.S2048x1024 .f32)
      Cert.Reference9Ideal.Gen.transposes_S2048x1024_S1024x2048_1_0 i : EReal) = Cert.Products.entryC a g (i 0) (i 1) := by
  refine Eq.trans ?_ (Cert.Products.entryC_comm g a (i 1) (i 0))
  rw [eq_ix2 i]
  pointwise [Cert.Products.entryC]

theorem frame_ideal9 : Cert.quiescent_Kernel9Ideal := fun m ρ _ => Cert.Kernel9Ideal.Gen.frame (F := Ideal) m ρ

/-- On bits the two programs' tables of bodies are one. -/
theorem bodies_eq : (Cert.Kernel9.defs₀ (F := Bits)) = (Cert.Kernel9Ideal.defs₀ (F := Bits)) := by
  funext p l a
  match p, l, a with
  | .tc, ⟨0, _⟩, (t, s) => rfl
  | .scScalar _, _, _ => rfl
  | .scVector _ _, _, _ => rfl

theorem frame_kernel9 : Cert.quiescent_Kernel9 := fun m ρ _ =>
  (congrArg (fun d => θ_run (Pipeline.defs (Cert.Kernel9.pcfgs (F := Bits)) d) (onTc (τ := Cert.Kernel9.τ) (Cert.Kernel9.main (F := Bits))) ⟨m, fun _ => 0, ρ⟩ _) bodies_eq).mpr
    (Cert.Kernel9Ideal.Gen.frame (F := Bits) m ρ)

theorem frame_reference9 : Cert.quiescent_Reference9Ideal := fun m ρ _ =>
  (θ_run Cert.Reference9Ideal.defs _ _).mono (fun r h => ⟨fun c => (h c).2, Idealize.ShloMosaic.sem_eq_zero_of_no_sems (by decide) r.2⟩)
    (Cert.Reference9Ideal.Value.run (F := Ideal) m ρ)

theorem algebraic9 : Cert.algebraic_Kernel9Ideal_Reference9Ideal := fun m g m' g' _ hA =>
  ⟨fun c => Cert.Kernel9Ideal.Dwco.G m c,
    (θ_run Cert.Kernel9Ideal.defs _ _).mono (fun _ h c => ⟨(h c).1.trans (Cert.Kernel9Ideal.Dwco.final m c), (h c).2⟩)
      (Cert.Kernel9Ideal.Value.run_blocks (F := Ideal) m g),
    (θ_run Cert.Reference9Ideal.defs _ _).mono (fun _ h c => ⟨(h c).1.trans (by
        obtain ⟨a0, a1⟩ := hA c
        rw [a0, a1]
        exact funext fun i => grad_eq _ _ i), (h c).2⟩)
      (Cert.Reference9Ideal.Value.run (F := Ideal) m' g')⟩

end Cert.Dwco
-- ==== Proof.Daconv.lean ====
module

public import Idealize.ShloMosaic.Lib.StableHlo.RunRead
public import Idealize.ShloMosaic.Lib.Quiescent
public import proofs.«01_k».proof.Defs
public import proofs.«01_k».proof.Proof.Products
public import proofs.«01_k».proof.Proof.Gen.Kernel10
public import proofs.«01_k».proof.Proof.Gen.Kernel10Ideal.Value
public import proofs.«01_k».proof.Proof.Gen.Reference10Ideal.Run

/-! The gradient of the convolution's output: what the call leaves, and its claims. -/

@[expose] public section

set_option maxRecDepth 16384
set_option maxHeartbeats 400000

noncomputable section

namespace Cert.Kernel10Ideal.Daconv

open Cert.Kernel10Ideal Cert.Kernel10Ideal.Gen Cert.Products
open Idealize.ShloMosaic Idealize.ShloMosaic.TcCoe Idealize.SL.Sem

theorem pay1_apply (x : FVec Ideal S1024x2048 .bf16) (y : FVec Ideal S2048x1024 .bf16) (a b : Fin 1024) :
    (k0_pay1 (F := Ideal) x y (ix2 a b) : EReal) = entry x y a b := by
  pointwise [k0_pay1, entry]

variable (m : (ℓ : Loc nD τ sig) → Buf (Elt Ideal) ℓ) (c : Dev nD)

abbrev W : FVec Ideal S1024x2048 .f32 := m ((c : Thread nD τ).loc main_arg0)
abbrev Ct : FVec Ideal S8192x2048 .f32 := m ((c : Thread nD τ).loc main_arg1)

theorem V_ct (r : Fin 8192) (k : Fin 2048) : (Gen.V m c main_v0 : FVec Ideal S8192x2048 .bf16) (ix2 r k) = Ct m c (ix2 r k) := by
  unfold_abbrev_sides
  after_reads_simp
  pointwise

theorem V_w (n : Fin 1024) (k : Fin 2048) : (Gen.V m c main_v2 : FVec Ideal S2048x1024 .bf16) (ix2 k n) = W m c (ix2 n k) := by
  unfold_abbrev_sides
  after_reads_simp
  pointwise

theorem idx_0 : ∀ t : Fin cfg0.N, (cfg0.win 0).index t = ![t.val, 0] := by decide +kernel
theorem idx_1 : ∀ t : Fin cfg0.N, (cfg0.win 1).index t = ![0, 0] := by decide +kernel
theorem idx_2 : ∀ t : Fin cfg0.N, (cfg0.win 2).index t = ![t.val, 0] := by decide +kernel

/-- The gradient. -/
def G : FVec Ideal S8192x1024 .bf16 := fun i => entryT (Ct m c) (W m c) (i 0) (i 1)

theorem final : (dats m 0 c).arrAt 2 cfg0.N = G m c := by
  refine (dats m 0 c).arrAt_eq_of_covers 2 _ (by decide +kernel) fun t _ y => ?_
  have e0 := idx_0 t
  have e1 := idx_1 t
  have e2 := idx_2 t
  blk_simp
  rw [after0_2]
  unfold out0_2
  rw [View.canon_unit_zero zero2]
  simp only [View.ld_unit_zero (S := S1024x2048) zero2, View.ld_unit_zero (S := S2048x1024) zero2]
  refine (congrArg _ (eq_ix2 (n0 := 1024) (n1 := 1024) y)).trans ((pay1_apply _ _ _ _).trans ?_)
  show _ = entryT (Ct m c) (W m c) _ _
  refine sum_mul_congr (fun k => ?_) fun k => ?_
  · refine Eq.trans ?_ (V_ct m c _ k)
    blk_ext [iblk, e0, e2]
  · refine Eq.trans ?_ (V_w m c _ k)
    blk_ext [iblk, e1, e2]

end Cert.Kernel10Ideal.Daconv

namespace Cert.Daconv

open Idealize.ShloMosaic Idealize.ShloMosaic.TcCoe Idealize.SL.Sem

theorem dot_eq (g : FVec Ideal Cert.Reference10Ideal.S8192x2048 .f32) (w : FVec Ideal Cert.Reference10Ideal.S1024x2048 .f32) (i : Cert.Reference10Ideal.S8192x1024.Idx) :
    ((Host.dotGeneral Cert.Reference10Ideal.dot_S8192x2048_S1024x2048_S8192x1024_1_1_0_0_n_n none g w : FVec Ideal Cert.Reference10Ideal.S8192x1024 .f32) i : EReal)
      = Cert.Products.entryT g w (i 0) (i 1) := by
  rw [eq_ix2 i]
  pointwise [Cert.Products.entryT]

theorem frame_ideal10 : Cert.quiescent_Kernel10Ideal := fun m ρ _ => Cert.Kernel10Ideal.Gen.frame (F := Ideal) m ρ

/-- On bits the two programs' tables of bodies are one. -/
theorem bodies_eq : (Cert.Kernel10.defs₀ (F := Bits)) = (Cert.Kernel10Ideal.defs₀ (F := Bits)) := by
  funext p l a
  match p, l, a with
  | .tc, ⟨0, _⟩, (t, s) => rfl
  | .scScalar _, _, _ => rfl
  | .scVector _ _, _, _ => rfl

theorem frame_kernel10 : Cert.quiescent_Kernel10 := fun m ρ _ =>
  (congrArg (fun d => θ_run (Pipeline.defs (Cert.Kernel10.pcfgs (F := Bits)) d) (onTc (τ := Cert.Kernel10.τ) (Cert.Kernel10.main (F := Bits))) ⟨m, fun _ => 0, ρ⟩ _) bodies_eq).mpr
    (Cert.Kernel10Ideal.Gen.frame (F := Bits) m ρ)

theorem frame_reference10 : Cert.quiescent_Reference10Ideal := fun m ρ _ =>
  (θ_run Cert.Reference10Ideal.defs _ _).mono (fun r h => ⟨fun c => (h c).2, Idealize.ShloMosaic.sem_eq_zero_of_no_sems (by decide) r.2⟩)
    (Cert.Reference10Ideal.Value.run (F := Ideal) m ρ)

theorem algebraic10 : Cert.algebraic_Kernel10Ideal_Reference10Ideal := fun m g m' g' _ hA =>
  ⟨fun c => Cert.Kernel10Ideal.Daconv.G m c,
    (θ_run Cert.Kernel10Ideal.defs _ _).mono (fun _ h c => ⟨(h c).1.trans (Cert.Kernel10Ideal.Daconv.final m c), (h c).2⟩)
      (Cert.Kernel10Ideal.Value.run_blocks (F := Ideal) m g),
    (θ_run Cert.Reference10Ideal.defs _ _).mono (fun _ h c => ⟨(h c).1.trans (by
        obtain ⟨a0, a1⟩ := hA c
        rw [a0, a1]
        exact funext fun i => dot_eq _ _ i), (h c).2⟩)
      (Cert.Reference10Ideal.Value.run (F := Ideal) m' g')⟩

end Cert.Daconv
-- ==== Proof.Kv.lean ====
module

public import Idealize.ShloMosaic.Lib.StableHlo.RunRead
public import Idealize.ShloMosaic.Lib.Quiescent
public import proofs.«01_k».proof.Defs
public import proofs.«01_k».proof.Proof.Products
public import proofs.«01_k».proof.Proof.Gen.Kernel11
public import proofs.«01_k».proof.Proof.Gen.Kernel11Ideal.Value
public import proofs.«01_k».proof.Proof.Gen.Reference11Ideal.Run

/-! The attention's keys and values: what the call leaves, and its claims. -/

@[expose] public section

set_option maxRecDepth 16384
set_option maxHeartbeats 400000

noncomputable section

namespace Cert.Kernel11Ideal.Kv

open Cert.Kernel11Ideal Cert.Kernel11Ideal.Gen Cert.Products
open Idealize.ShloMosaic Idealize.ShloMosaic.TcCoe Idealize.SL.Sem

theorem pay1_apply (x : FVec Ideal S1024x512 .bf16) (y : FVec Ideal S2048x512 .bf16) (a : Fin 1024) (b : Fin 2048) :
    (k0_pay1 (F := Ideal) x y (ix2 a b) : EReal) = entryT x y a b := by
  pointwise [k0_pay1, entryT]

variable (m : (ℓ : Loc nD τ sig) → Buf (Elt Ideal) ℓ) (c : Dev nD)

abbrev A : FVec Ideal S8192x512 .f32 := m ((c : Thread nD τ).loc main_arg0)
abbrev W : FVec Ideal S512x4096 .f32 := m ((c : Thread nD τ).loc main_arg1)

theorem V_a (r : Fin 8192) (k : Fin 512) : (Gen.V m c main_v0 : FVec Ideal S8192x512 .bf16) (ix2 r k) = A m c (ix2 r k) := by
  unfold_abbrev_sides
  after_reads_simp
  pointwise

theorem V_w (k : Fin 512) (n : Fin 4096) : (Gen.V m c main_v2 : FVec Ideal S4096x512 .bf16) (ix2 n k) = W m c (ix2 k n) := by
  unfold_abbrev_sides
  after_reads_simp
  pointwise

theorem idx_0 : ∀ t : Fin cfg0.N, (cfg0.win 0).index t = ![t.val / 2, 0] := by decide +kernel
theorem idx_1 : ∀ t : Fin cfg0.N, (cfg0.win 1).index t = ![t.val % 2, 0] := by decide +kernel
theorem idx_2 : ∀ t : Fin cfg0.N, (cfg0.win 2).index t = ![t.val / 2, t.val % 2] := by decide +kernel

/-- The product. -/
def G : FVec Ideal S8192x4096 .bf16 := fun i => entry (A m c) (W m c) (i 0) (i 1)

theorem final : (dats m 0 c).arrAt 2 cfg0.N = G m c := by
  refine (dats m 0 c).arrAt_eq_of_covers 2 _ (by decide +kernel) fun t _ y => ?_
  have e0 := idx_0 t
  have e1 := idx_1 t
  have e2 := idx_2 t
  blk_simp
  rw [after0_2]
  unfold out0_2
  rw [View.canon_unit_zero zero2]
  simp only [View.ld_unit_zero (S := S1024x512) zero2, View.ld_unit_zero (S := S2048x512) zero2]
  refine (congrArg _ (eq_ix2 (n0 := 1024) (n1 := 2048) y)).trans ((pay1_apply _ _ _ _).trans ?_)
  show _ = entry (A m c) (W m c) _ _
  refine sum_mul_congr (fun k => ?_) fun k => ?_
  · refine Eq.trans ?_ (V_a m c _ k)
    blk_ext [iblk, e0, e2]
  · refine Eq.trans ?_ (V_w m c k _)
    blk_ext [iblk, e1, e2]

end Cert.Kernel11Ideal.Kv

namespace Cert.Kv

open Idealize.ShloMosaic Idealize.ShloMosaic.TcCoe Idealize.SL.Sem

theorem dot_eq (a : FVec Ideal Cert.Reference11Ideal.S8192x512 .f32) (w : FVec Ideal Cert.Reference11Ideal.S512x4096 .f32) (i : Cert.Reference11Ideal.S8192x4096.Idx) :
    ((Host.dotGeneral Cert.Reference11Ideal.dot_S8192x512_S512x4096_S8192x4096_1_0_0_1_n_n none a w : FVec Ideal Cert.Reference11Ideal.S8192x4096 .f32) i : EReal)
      = Cert.Products.entry a w (i 0) (i 1) := by
  rw [eq_ix2 i]
  pointwise [Cert.Products.entry]

theorem frame_ideal11 : Cert.quiescent_Kernel11Ideal := fun m ρ _ => Cert.Kernel11Ideal.Gen.frame (F := Ideal) m ρ

/-- On bits the two programs' tables of bodies are one. -/
theorem bodies_eq : (Cert.Kernel11.defs₀ (F := Bits)) = (Cert.Kernel11Ideal.defs₀ (F := Bits)) := by
  funext p l a
  match p, l, a with
  | .tc, ⟨0, _⟩, (t, s) => rfl
  | .scScalar _, _, _ => rfl
  | .scVector _ _, _, _ => rfl

theorem frame_kernel11 : Cert.quiescent_Kernel11 := fun m ρ _ =>
  (congrArg (fun d => θ_run (Pipeline.defs (Cert.Kernel11.pcfgs (F := Bits)) d) (onTc (τ := Cert.Kernel11.τ) (Cert.Kernel11.main (F := Bits))) ⟨m, fun _ => 0, ρ⟩ _) bodies_eq).mpr
    (Cert.Kernel11Ideal.Gen.frame (F := Bits) m ρ)

theorem frame_reference11 : Cert.quiescent_Reference11Ideal := fun m ρ _ =>
  (θ_run Cert.Reference11Ideal.defs _ _).mono (fun r h => ⟨fun c => (h c).2, Idealize.ShloMosaic.sem_eq_zero_of_no_sems (by decide) r.2⟩)
    (Cert.Reference11Ideal.Value.run (F := Ideal) m ρ)

theorem algebraic11 : Cert.algebraic_Kernel11Ideal_Reference11Ideal := fun m g m' g' _ hA =>
  ⟨fun c => Cert.Kernel11Ideal.Kv.G m c,
    (θ_run Cert.Kernel11Ideal.defs _ _).mono (fun _ h c => ⟨(h c).1.trans (Cert.Kernel11Ideal.Kv.final m c), (h c).2⟩)
      (Cert.Kernel11Ideal.Value.run_blocks (F := Ideal) m g),
    (θ_run Cert.Reference11Ideal.defs _ _).mono (fun _ h c => ⟨(h c).1.trans (by
        obtain ⟨a0, a1⟩ := hA c
        rw [a0, a1]
        exact funext fun i => dot_eq _ _ i), (h c).2⟩)
      (Cert.Reference11Ideal.Value.run (F := Ideal) m' g')⟩

end Cert.Kv
-- ==== Proof.Dwukv.lean ====
module

public import Idealize.ShloMosaic.Lib.StableHlo.RunRead
public import Idealize.ShloMosaic.Lib.Quiescent
public import proofs.«01_k».proof.Defs
public import proofs.«01_k».proof.Proof.Products
public import proofs.«01_k».proof.Proof.Gen.Kernel12
public import proofs.«01_k».proof.Proof.Gen.Kernel12Ideal.Value
public import proofs.«01_k».proof.Proof.Gen.Reference12Ideal.Run

/-! The gradient of the keys' and values' weights: what the call leaves, and its claims. -/

@[expose] public section

set_option maxRecDepth 16384
set_option maxHeartbeats 400000

noncomputable section

namespace Cert.Kernel12Ideal.Dwukv

open Cert.Kernel12Ideal Cert.Kernel12Ideal.Gen Cert.Products
open Idealize.ShloMosaic Idealize.ShloMosaic.TcCoe Idealize.SL.Sem

/-- What the two points of a pair add up to. -/
theorem pays_apply (x₀ x₁ : FVec Ideal S4096x512 .bf16) (y₀ y₁ : FVec Ideal S4096x1024 .bf16) (a : Fin 512) (b : Fin 1024) :
    (k0_pay3 (F := Ideal) (k0_pay2 (F := Ideal) x₁ y₁ (k0_pay2 (F := Ideal) x₀ y₀ (k0_pay1 (F := Ideal)))) (ix2 a b) : EReal)
      = 0 + entryC x₀ y₀ a b + entryC x₁ y₁ a b := by
  pointwise [k0_pay3, k0_pay2, k0_pay1, entryC]

variable (m : (ℓ : Loc nD τ sig) → Buf (Elt Ideal) ℓ) (c : Dev nD)

abbrev A : FVec Ideal S8192x512 .f32 := m ((c : Thread nD τ).loc main_arg0)
abbrev Ct : FVec Ideal S8192x4096 .f32 := m ((c : Thread nD τ).loc main_arg1)

theorem V_a (r : Fin 8192) (k : Fin 512) : (Gen.V m c main_v0 : FVec Ideal S8192x512 .bf16) (ix2 r k) = A m c (ix2 r k) := by
  unfold_abbrev_sides
  after_reads_simp
  pointwise

theorem V_ct (r : Fin 8192) (k : Fin 4096) : (Gen.V m c main_v1 : FVec Ideal S8192x4096 .bf16) (ix2 r k) = Ct m c (ix2 r k) := by
  unfold_abbrev_sides
  after_reads_simp
  pointwise

theorem idx_0 : ∀ t : Fin cfg0.N, (cfg0.win 0).index t = ![t.val % 2, 0] := by decide +kernel
theorem idx_1 : ∀ t : Fin cfg0.N, (cfg0.win 1).index t = ![t.val % 2, t.val / 2] := by decide +kernel
theorem idx_2 : ∀ t : Fin cfg0.N, (cfg0.win 2).index t = ![0, t.val / 2] := by decide +kernel

/-- The blocks that a point reads. -/
def X0 (t : Fin cfg0.N) : FVec Ideal S4096x512 .bf16 := Gen.iblk m c 0 t
def X1 (t : Fin cfg0.N) : FVec Ideal S4096x1024 .bf16 := Gen.iblk m c 1 t

theorem blk_0 (t : Fin cfg0.N) (R : Fin 8192) (D : Fin 512) (r : Fin 4096) (d : Fin 512) (hR : R.val = 4096 * (t.val % 2) + r.val)
    (hD : D.val = d.val) : (X0 m c t (ix2 r d) : EReal) = A m c (ix2 R D) := by
  have e := idx_0 t
  refine Eq.trans ?_ (V_a m c R D)
  blk_ext [X0, iblk, e]

theorem blk_1 (t : Fin cfg0.N) (R : Fin 8192) (D : Fin 4096) (r : Fin 4096) (d : Fin 1024) (hR : R.val = 4096 * (t.val % 2) + r.val)
    (hD : D.val = 1024 * (t.val / 2) + d.val) : (X1 m c t (ix2 r d) : EReal) = Ct m c (ix2 R D) := by
  have e := idx_1 t
  refine Eq.trans ?_ (V_ct m c R D)
  blk_ext [X1, iblk, e]

/-- What a pair of points leaves in the output's block. -/
theorem pair (s t : Fin cfg0.N) (h : s.val = t.val - 1) (ht : t.val % 2 = 1) :
    (outsAt0 m c t.val t.isLt).1 = k0_pay3 (F := Ideal) (k0_pay2 (F := Ideal) (X0 m c t) (X1 m c t) (k0_pay2 (F := Ideal) (X0 m c s) (X1 m c s) (k0_pay1 (F := Ideal)))) := by
  have e : (outsAt0 m c s.val s.isLt).2 = k0_pay2 (F := Ideal) (X0 m c s) (X1 m c s) (k0_pay1 (F := Ideal)) := by
    rw [outsAt0_A m c s (by omega) (by omega)]
    frame_out
    rfl
  rw [outsAt0_B m c t (by omega) ht]
  frame_out
  rw [← e]
  simp only [h]
  exact congrArg (fun z => k0_pay3 (F := Ideal) (k0_pay2 (F := Ideal) (X0 m c t) (X1 m c t) z)) ((Memref.isWhole_whole cc0_scratch0).read_unread _)

/-- The gradient. -/
def G : FVec Ideal S512x4096 .bf16 := fun i => entryC (A m c) (Ct m c) (i 0) (i 1)

theorem final : (dats m 0 c).arrAt 2 cfg0.N = G m c := by
  refine (dats m 0 c).arrAt_eq_of_covers 2 _ (by decide +kernel) fun t hf y => ?_
  have ht : t.val % 2 = 1 := (flush0_2 t).mp hf
  obtain ⟨s, hs⟩ : ∃ s : Fin cfg0.N, s.val = t.val - 1 := ⟨⟨_, lt_of_le_of_lt (Nat.sub_le _ _) t.isLt⟩, rfl⟩
  have e2 := idx_2 t
  blk_simp
  rw [after0_2, pair m c s t hs ht]
  refine (congrArg _ (eq_ix2 (n0 := 512) (n1 := 1024) y)).trans ((pays_apply _ _ _ _ _ _).trans ?_)
  show _ = entryC (A m c) (Ct m c) _ _
  refine entryC_halves (H := 4096) _ _ _ _ _ _ _ _ _ _ (fun k => ?_) (fun k => ?_) (fun k => ?_) fun k => ?_
  · exact blk_0 m c _ _ _ _ _ (by simp only [Fin.val_castAdd]; omega) (by blk_simp [e2])
  · exact blk_0 m c _ _ _ _ _ (by simp only [Fin.val_natAdd]; omega) (by blk_simp [e2])
  · exact blk_1 m c _ _ _ _ _ (by simp only [Fin.val_castAdd]; omega) (by blk_simp [e2]; omega)
  · exact blk_1 m c _ _ _ _ _ (by simp only [Fin.val_natAdd]; omega) (by blk_simp [e2]; omega)

end Cert.Kernel12Ideal.Dwukv

namespace Cert.Dwukv

open Idealize.ShloMosaic Idealize.ShloMosaic.TcCoe Idealize.SL.Sem

theorem grad_eq (a : FVec Ideal Cert.Reference12Ideal.S8192x512 .f32) (g : FVec Ideal Cert.Reference12Ideal.S8192x4096 .f32) (i : Cert.Reference12Ideal.S512x4096.Idx) :
    (transpose Cert.Reference12Ideal.S512x4096 [1, 0] (Host.dotGeneral Cert.Reference12Ideal.dot_S8192x4096_S8192x512_S4096x512_0_0_1_1_n_n none g a : FVec Ideal Cert.Reference12Ideal.S4096x512 .f32)
      Cert.Reference12Ideal.Gen.transposes_S4096x512_S512x4096_1_0 i : EReal) = Cert.Products.entryC a g (i 0) (i 1) := by
  refine Eq.trans ?_ (Cert.Products.entryC_comm g a (i 1) (i 0))
  rw [eq_ix2 i]
  pointwise [Cert.Products.entryC]

theorem frame_ideal12 : Cert.quiescent_Kernel12Ideal := fun m ρ _ => Cert.Kernel12Ideal.Gen.frame (F := Ideal) m ρ

/-- On bits the two programs' tables of bodies are one. -/
theorem bodies_eq : (Cert.Kernel12.defs₀ (F := Bits)) = (Cert.Kernel12Ideal.defs₀ (F := Bits)) := by
  funext p l a
  match p, l, a with
  | .tc, ⟨0, _⟩, (t, s) => rfl
  | .scScalar _, _, _ => rfl
  | .scVector _ _, _, _ => rfl

theorem frame_kernel12 : Cert.quiescent_Kernel12 := fun m ρ _ =>
  (congrArg (fun d => θ_run (Pipeline.defs (Cert.Kernel12.pcfgs (F := Bits)) d) (onTc (τ := Cert.Kernel12.τ) (Cert.Kernel12.main (F := Bits))) ⟨m, fun _ => 0, ρ⟩ _) bodies_eq).mpr
    (Cert.Kernel12Ideal.Gen.frame (F := Bits) m ρ)

theorem frame_reference12 : Cert.quiescent_Reference12Ideal := fun m ρ _ =>
  (θ_run Cert.Reference12Ideal.defs _ _).mono (fun r h => ⟨fun c => (h c).2, Idealize.ShloMosaic.sem_eq_zero_of_no_sems (by decide) r.2⟩)
    (Cert.Reference12Ideal.Value.run (F := Ideal) m ρ)

theorem algebraic12 : Cert.algebraic_Kernel12Ideal_Reference12Ideal := fun m g m' g' _ hA =>
  ⟨fun c => Cert.Kernel12Ideal.Dwukv.G m c,
    (θ_run Cert.Kernel12Ideal.defs _ _).mono (fun _ h c => ⟨(h c).1.trans (Cert.Kernel12Ideal.Dwukv.final m c), (h c).2⟩)
      (Cert.Kernel12Ideal.Value.run_blocks (F := Ideal) m g),
    (θ_run Cert.Reference12Ideal.defs _ _).mono (fun _ h c => ⟨(h c).1.trans (by
        obtain ⟨a0, a1⟩ := hA c
        rw [a0, a1]
        exact funext fun i => grad_eq _ _ i), (h c).2⟩)
      (Cert.Reference12Ideal.Value.run (F := Ideal) m' g')⟩

end Cert.Dwukv
-- ==== Proof.Dckvn.lean ====
module

public import Idealize.ShloMosaic.Lib.StableHlo.RunRead
public import Idealize.ShloMosaic.Lib.Quiescent
public import proofs.«01_k».proof.Defs
public import proofs.«01_k».proof.Proof.Products
public import proofs.«01_k».proof.Proof.Gen.Kernel13
public import proofs.«01_k».proof.Proof.Gen.Kernel13Ideal.Value
public import proofs.«01_k».proof.Proof.Gen.Reference13Ideal.Run

/-! The gradient of the keys' and values' normalised low-rank input: what the call leaves, and its claims. -/

@[expose] public section

set_option maxRecDepth 16384
set_option maxHeartbeats 400000

noncomputable section

namespace Cert.Kernel13Ideal.Dckvn

open Cert.Kernel13Ideal Cert.Kernel13Ideal.Gen Cert.Products
open Idealize.ShloMosaic Idealize.ShloMosaic.TcCoe Idealize.SL.Sem

theorem pay1_apply (x : FVec Ideal S1024x4096 .bf16) (y : FVec Ideal S4096x512 .bf16) (a : Fin 1024) (b : Fin 512) :
    (k0_pay1 (F := Ideal) x y (ix2 a b) : EReal) = entry x y a b := by
  pointwise [k0_pay1, entry]

variable (m : (ℓ : Loc nD τ sig) → Buf (Elt Ideal) ℓ) (c : Dev nD)

abbrev W : FVec Ideal S512x4096 .f32 := m ((c : Thread nD τ).loc main_arg0)
abbrev Ct : FVec Ideal S8192x4096 .f32 := m ((c : Thread nD τ).loc main_arg1)

theorem V_ct (r : Fin 8192) (k : Fin 4096) : (Gen.V m c main_v0 : FVec Ideal S8192x4096 .bf16) (ix2 r k) = Ct m c (ix2 r k) := by
  unfold_abbrev_sides
  after_reads_simp
  pointwise

theorem V_w (n : Fin 512) (k : Fin 4096) : (Gen.V m c main_v2 : FVec Ideal S4096x512 .bf16) (ix2 k n) = W m c (ix2 n k) := by
  unfold_abbrev_sides
  after_reads_simp
  pointwise

theorem idx_0 : ∀ t : Fin cfg0.N, (cfg0.win 0).index t = ![t.val, 0] := by decide +kernel
theorem idx_1 : ∀ t : Fin cfg0.N, (cfg0.win 1).index t = ![0, 0] := by decide +kernel
theorem idx_2 : ∀ t : Fin cfg0.N, (cfg0.win 2).index t = ![t.val, 0] := by decide +kernel

/-- The gradient. -/
def G : FVec Ideal S8192x512 .f32 := fun i => entryT (Ct m c) (W m c) (i 0) (i 1)

theorem final : (dats m 0 c).arrAt 2 cfg0.N = G m c := by
  refine (dats m 0 c).arrAt_eq_of_covers 2 _ (by decide +kernel) fun t _ y => ?_
  have e0 := idx_0 t
  have e1 := idx_1 t
  have e2 := idx_2 t
  blk_simp
  rw [after0_2]
  unfold out0_2
  rw [View.canon_unit_zero zero2]
  simp only [View.ld_unit_zero (S := S1024x4096) zero2, View.ld_unit_zero (S := S4096x512) zero2]
  refine (congrArg _ (eq_ix2 (n0 := 1024) (n1 := 512) y)).trans ((pay1_apply _ _ _ _).trans ?_)
  show _ = entryT (Ct m c) (W m c) _ _
  refine sum_mul_congr (fun k => ?_) fun k => ?_
  · refine Eq.trans ?_ (V_ct m c _ k)
    blk_ext [iblk, e0, e2]
  · refine Eq.trans ?_ (V_w m c _ k)
    blk_ext [iblk, e1, e2]

end Cert.Kernel13Ideal.Dckvn

namespace Cert.Dckvn

open Idealize.ShloMosaic Idealize.ShloMosaic.TcCoe Idealize.SL.Sem

theorem dot_eq (g : FVec Ideal Cert.Reference13Ideal.S8192x4096 .f32) (w : FVec Ideal Cert.Reference13Ideal.S512x4096 .f32) (i : Cert.Reference13Ideal.S8192x512.Idx) :
    ((Host.dotGeneral Cert.Reference13Ideal.dot_S8192x4096_S512x4096_S8192x512_1_1_0_0_n_n none g w : FVec Ideal Cert.Reference13Ideal.S8192x512 .f32) i : EReal)
      = Cert.Products.entryT g w (i 0) (i 1) := by
  rw [eq_ix2 i]
  pointwise [Cert.Products.entryT]

theorem frame_ideal13 : Cert.quiescent_Kernel13Ideal := fun m ρ _ => Cert.Kernel13Ideal.Gen.frame (F := Ideal) m ρ

/-- On bits the two programs' tables of bodies are one. -/
theorem bodies_eq : (Cert.Kernel13.defs₀ (F := Bits)) = (Cert.Kernel13Ideal.defs₀ (F := Bits)) := by
  funext p l a
  match p, l, a with
  | .tc, ⟨0, _⟩, (t, s) => rfl
  | .scScalar _, _, _ => rfl
  | .scVector _ _, _, _ => rfl

theorem frame_kernel13 : Cert.quiescent_Kernel13 := fun m ρ _ =>
  (congrArg (fun d => θ_run (Pipeline.defs (Cert.Kernel13.pcfgs (F := Bits)) d) (onTc (τ := Cert.Kernel13.τ) (Cert.Kernel13.main (F := Bits))) ⟨m, fun _ => 0, ρ⟩ _) bodies_eq).mpr
    (Cert.Kernel13Ideal.Gen.frame (F := Bits) m ρ)

theorem frame_reference13 : Cert.quiescent_Reference13Ideal := fun m ρ _ =>
  (θ_run Cert.Reference13Ideal.defs _ _).mono (fun r h => ⟨fun c => (h c).2, Idealize.ShloMosaic.sem_eq_zero_of_no_sems (by decide) r.2⟩)
    (Cert.Reference13Ideal.Value.run (F := Ideal) m ρ)

theorem algebraic13 : Cert.algebraic_Kernel13Ideal_Reference13Ideal := fun m g m' g' _ hA =>
  ⟨fun c => Cert.Kernel13Ideal.Dckvn.G m c,
    (θ_run Cert.Kernel13Ideal.defs _ _).mono (fun _ h c => ⟨(h c).1.trans (Cert.Kernel13Ideal.Dckvn.final m c), (h c).2⟩)
      (Cert.Kernel13Ideal.Value.run_blocks (F := Ideal) m g),
    (θ_run Cert.Reference13Ideal.defs _ _).mono (fun _ h c => ⟨(h c).1.trans (by
        obtain ⟨a0, a1⟩ := hA c
        rw [a0, a1]
        exact funext fun i => dot_eq _ _ i), (h c).2⟩)
      (Cert.Reference13Ideal.Value.run (F := Ideal) m' g')⟩

end Cert.Dckvn
-- ==== Proof.lean ====
/- The proof of the certificate's claim: each program's frame, the mask's reading as minus infinity, on finite arguments equal gradients of the attention, equal products of the projections, and equal gradients of their inputs and weights. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Frames
public import proofs.«01_k».proof.Proof.Finite
public import proofs.«01_k».proof.Proof.Dh
public import proofs.«01_k».proof.Proof.Proj
public import proofs.«01_k».proof.Proof.Dwin
public import proofs.«01_k».proof.Proof.Oconv
public import proofs.«01_k».proof.Proof.Omla
public import proofs.«01_k».proof.Proof.Dmerged
public import proofs.«01_k».proof.Proof.Dwo
public import proofs.«01_k».proof.Proof.Dwco
public import proofs.«01_k».proof.Proof.Daconv
public import proofs.«01_k».proof.Proof.Kv
public import proofs.«01_k».proof.Proof.Dwukv
public import proofs.«01_k».proof.Proof.Dckvn

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Attn.finite_facts,
    Cert.Attn.frame_kernel, Cert.Attn.frame_ideal, Cert.Attn.frame_ideal_finite, Cert.Attn.frame_reference, Cert.Attn.frame_reference_finite,
    Cert.Dh.frame_kernel2, Cert.Dh.frame_ideal2, Cert.Dh.frame_reference2,
    Cert.Proj.frame_kernel3, Cert.Proj.frame_ideal3, Cert.Proj.frame_reference3,
    Cert.Dwin.frame_kernel4, Cert.Dwin.frame_ideal4, Cert.Dwin.frame_reference4,
    Cert.Oconv.frame_kernel5, Cert.Oconv.frame_ideal5, Cert.Oconv.frame_reference5,
    Cert.Omla.frame_kernel6, Cert.Omla.frame_ideal6, Cert.Omla.frame_reference6,
    Cert.Dmerged.frame_kernel7, Cert.Dmerged.frame_ideal7, Cert.Dmerged.frame_reference7,
    Cert.Dwo.frame_kernel8, Cert.Dwo.frame_ideal8, Cert.Dwo.frame_reference8,
    Cert.Dwco.frame_kernel9, Cert.Dwco.frame_ideal9, Cert.Dwco.frame_reference9,
    Cert.Daconv.frame_kernel10, Cert.Daconv.frame_ideal10, Cert.Daconv.frame_reference10,
    Cert.Kv.frame_kernel11, Cert.Kv.frame_ideal11, Cert.Kv.frame_reference11,
    Cert.Dwukv.frame_kernel12, Cert.Dwukv.frame_ideal12, Cert.Dwukv.frame_reference12,
    Cert.Dckvn.frame_kernel13, Cert.Dckvn.frame_ideal13, Cert.Dckvn.frame_reference13,
    Cert.Attn.preserves, Cert.Attn.algebraic, Cert.Dh.preserves2, Cert.Dh.algebraic2,
    Cert.Proj.preserves3, Cert.Proj.algebraic3, Cert.Dwin.preserves4, Cert.Dwin.algebraic4,
    trivial, Cert.Oconv.algebraic5, trivial, Cert.Omla.algebraic6, trivial, Cert.Dmerged.algebraic7,
    trivial, Cert.Dwo.algebraic8, trivial, Cert.Dwco.algebraic9, trivial, Cert.Daconv.algebraic10,
    trivial, Cert.Kv.algebraic11, trivial, Cert.Dwukv.algebraic12, trivial, Cert.Dckvn.algebraic13⟩

end Cert.Proof
